-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepIdeal_finite_proj [hPre_finite_proj : Cert.Pre_finite_proj.Facts] (m : (ℓ : Loc Cert.PrepIdeal.nD Cert.PrepIdeal.τ Cert.PrepIdeal.sig) → Buf (Elt Ideal) ℓ) : Prop :=
  ∀ c : Dev Cert.PrepIdeal.nD,
    (Cert.Pre_finite_proj.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4))) = (fun _ => 1#1)

def Pre_PrepReferenceIdeal (m : (ℓ : Loc Cert.PrepReferenceIdeal.nD Cert.PrepReferenceIdeal.τ Cert.PrepReferenceIdeal.sig) → Buf (Elt Ideal) ℓ) : Prop :=
  True

def Pre_PrepReferenceIdeal_finite_proj [hPre_finite_proj : Cert.Pre_finite_proj.Facts] (m : (ℓ : Loc Cert.PrepReferenceIdeal.nD Cert.PrepReferenceIdeal.τ Cert.PrepReferenceIdeal.sig) → Buf (Elt Ideal) ℓ) : Prop :=
  ∀ c : Dev Cert.PrepReferenceIdeal.nD,
    (Cert.Pre_finite_proj.fn (F := Ideal) (m ((c.tc : Thread Cert.PrepReferenceIdeal.nD Cert.PrepReferenceIdeal.τ).loc Cert.PrepReferenceIdeal.main_arg0)) (m ((c.tc : Thread Cert.PrepReferenceIdeal.nD Cert.PrepReferenceIdeal.τ).loc Cert.PrepReferenceIdeal.main_arg1)) (m ((c.tc : Thread Cert.PrepReferenceIdeal.nD Cert.PrepReferenceIdeal.τ).loc Cert.PrepReferenceIdeal.main_arg2)) (m ((c.tc : Thread Cert.PrepReferenceIdeal.nD Cert.PrepReferenceIdeal.τ).loc Cert.PrepReferenceIdeal.main_arg3)) (m ((c.tc : Thread Cert.PrepReferenceIdeal.nD Cert.PrepReferenceIdeal.τ).loc Cert.PrepReferenceIdeal.main_arg4))) = (fun _ => 1#1)

def Pre_FfnPrompt (m : (ℓ : Loc Cert.FfnPrompt.nD Cert.FfnPrompt.τ Cert.FfnPrompt.sig) → Buf (Elt Bits) ℓ) : Prop :=
  True

def Pre_FfnPromptIdeal (m : (ℓ : Loc Cert.FfnPromptIdeal.nD Cert.FfnPromptIdeal.τ Cert.FfnPromptIdeal.sig) → Buf (Elt Ideal) ℓ) : Prop :=
  True

def Pre_FfnPromptReferenceIdeal (m : (ℓ : Loc Cert.FfnPromptReferenceIdeal.nD Cert.FfnPromptReferenceIdeal.τ Cert.FfnPromptReferenceIdeal.sig) → Buf (Elt Ideal) ℓ) : Prop :=
  True

def Pre_Mlstm (m : (ℓ : Loc Cert.Mlstm.nD Cert.Mlstm.τ Cert.Mlstm.sig) → Buf (Elt Bits) ℓ) : Prop :=
  True

def Pre_MlstmIdeal (m : (ℓ : Loc Cert.MlstmIdeal.nD Cert.MlstmIdeal.τ Cert.MlstmIdeal.sig) → Buf (Elt Ideal) ℓ) : Prop :=
  True

def Pre_MlstmIdeal_finite_gates [hPre_finite_gates : Cert.Pre_finite_gates.Facts] (m : (ℓ : Loc Cert.MlstmIdeal.nD Cert.MlstmIdeal.τ Cert.MlstmIdeal.sig) → Buf (Elt Ideal) ℓ) : Prop :=
  ∀ c : Dev Cert.MlstmIdeal.nD,
    (Cert.Pre_finite_gates.fn (F := Ideal) (m ((c.tc : Thread Cert.MlstmIdeal.nD Cert.MlstmIdeal.τ).loc Cert.MlstmIdeal.main_arg0)) (m ((c.tc : Thread Cert.MlstmIdeal.nD Cert.MlstmIdeal.τ).loc Cert.MlstmIdeal.main_arg1)) (m ((c.tc : Thread Cert.MlstmIdeal.nD Cert.MlstmIdeal.τ).loc Cert.MlstmIdeal.main_arg2)) (m ((c.tc : Thread Cert.MlstmIdeal.nD Cert.MlstmIdeal.τ).loc Cert.MlstmIdeal.main_arg3))) = (fun _ => 1#1)

def Pre_MlstmReferenceIdeal (m : (ℓ : Loc Cert.MlstmReferenceIdeal.nD Cert.MlstmReferenceIdeal.τ Cert.MlstmReferenceIdeal.sig) → Buf (Elt Ideal) ℓ) : Prop :=
  True

def Pre_MlstmReferenceIdeal_finite_gates [hPre_finite_gates : Cert.Pre_finite_gates.Facts] (m : (ℓ : Loc Cert.MlstmReferenceIdeal.nD Cert.MlstmReferenceIdeal.τ Cert.MlstmReferenceIdeal.sig) → Buf (Elt Ideal) ℓ) : Prop :=
  ∀ c : Dev Cert.MlstmReferenceIdeal.nD,
    (Cert.Pre_finite_gates.fn (F := Ideal) (m ((c.tc : Thread Cert.MlstmReferenceIdeal.nD Cert.MlstmReferenceIdeal.τ).loc Cert.MlstmReferenceIdeal.main_arg0)) (m ((c.tc : Thread Cert.MlstmReferenceIdeal.nD Cert.MlstmReferenceIdeal.τ).loc Cert.MlstmReferenceIdeal.main_arg1)) (m ((c.tc : Thread Cert.MlstmReferenceIdeal.nD Cert.MlstmReferenceIdeal.τ).loc Cert.MlstmReferenceIdeal.main_arg2)) (m ((c.tc : Thread Cert.MlstmReferenceIdeal.nD Cert.MlstmReferenceIdeal.τ).loc Cert.MlstmReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4))
      ∧ r.2.sem = fun _ => 0)

def quiescent_PrepIdeal_pre_finite_proj [hPrepIdeal : Cert.PrepIdeal.Facts] [hPre_finite_proj : Cert.Pre_finite_proj.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal_finite_proj m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4))
      ∧ r.2.sem = fun _ => 0)

def quiescent_PrepReferenceIdeal [hPrepReferenceIdeal : Cert.PrepReferenceIdeal.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2)
      ∧ r.2.mem ((c.tc : Thread Cert.PrepReferenceIdeal.nD Cert.PrepReferenceIdeal.τ).loc Cert.PrepReferenceIdeal.main_arg3) = m ((c.tc : Thread Cert.PrepReferenceIdeal.nD Cert.PrepReferenceIdeal.τ).loc Cert.PrepReferenceIdeal.main_arg3)
      ∧ r.2.mem ((c.tc : Thread Cert.PrepReferenceIdeal.nD Cert.PrepReferenceIdeal.τ).loc Cert.PrepReferenceIdeal.main_arg4) = m ((c.tc : Thread Cert.PrepReferenceIdeal.nD Cert.PrepReferenceIdeal.τ).loc Cert.PrepReferenceIdeal.main_arg4))
      ∧ r.2.sem = fun _ => 0)

def quiescent_PrepReferenceIdeal_pre_finite_proj [hPrepReferenceIdeal : Cert.PrepReferenceIdeal.Facts] [hPre_finite_proj : Cert.Pre_finite_proj.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal_finite_proj m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2)
      ∧ r.2.mem ((c.tc : Thread Cert.PrepReferenceIdeal.nD Cert.PrepReferenceIdeal.τ).loc Cert.PrepReferenceIdeal.main_arg3) = m ((c.tc : Thread Cert.PrepReferenceIdeal.nD Cert.PrepReferenceIdeal.τ).loc Cert.PrepReferenceIdeal.main_arg3)
      ∧ r.2.mem ((c.tc : Thread Cert.PrepReferenceIdeal.nD Cert.PrepReferenceIdeal.τ).loc Cert.PrepReferenceIdeal.main_arg4) = m ((c.tc : Thread Cert.PrepReferenceIdeal.nD Cert.PrepReferenceIdeal.τ).loc Cert.PrepReferenceIdeal.main_arg4))
      ∧ r.2.sem = fun _ => 0)

def quiescent_FfnPrompt [hFfnPrompt : Cert.FfnPrompt.Facts] : Prop :=
  ∀ (m : (ℓ : Loc Cert.FfnPrompt.nD Cert.FfnPrompt.τ Cert.FfnPrompt.sig) → Buf (Elt Bits) ℓ) (g : Dev Cert.FfnPrompt.nD → PrngReg), Pre_FfnPrompt m →
    θ_run (Cert.FfnPrompt.defs (F := Bits)) (onTc (τ := Cert.FfnPrompt.τ) (Cert.FfnPrompt.main (F := Bits))) ⟨m, fun _ => 0, g⟩ (fun r => (∀ c : Dev Cert.FfnPrompt.nD,
      r.2.mem ((c.tc : Thread Cert.FfnPrompt.nD Cert.FfnPrompt.τ).loc Cert.FfnPrompt.main_arg0) = m ((c.tc : Thread Cert.FfnPrompt.nD Cert.FfnPrompt.τ).loc Cert.FfnPrompt.main_arg0)
      ∧ r.2.mem ((c.tc : Thread Cert.FfnPrompt.nD Cert.FfnPrompt.τ).loc Cert.FfnPrompt.main_arg1) = m ((c.tc : Thread Cert.FfnPrompt.nD Cert.FfnPrompt.τ).loc Cert.FfnPrompt.main_arg1)
      ∧ r.2.mem ((c.tc : Thread Cert.FfnPrompt.nD Cert.FfnPrompt.τ).loc Cert.FfnPrompt.main_arg2) = m ((c.tc : Thread Cert.FfnPrompt.nD Cert.FfnPrompt.τ).loc Cert.FfnPrompt.main_arg2)
      ∧ r.2.mem ((c.tc : Thread Cert.FfnPrompt.nD Cert.FfnPrompt.τ).loc Cert.FfnPrompt.main_arg3) = m ((c.tc : Thread Cert.FfnPrompt.nD Cert.FfnPrompt.τ).loc Cert.FfnPrompt.main_arg3)
      ∧ r.2.mem ((c.tc : Thread Cert.FfnPrompt.nD Cert.FfnPrompt.τ).loc Cert.FfnPrompt.main_arg4) = m ((c.tc : Thread Cert.FfnPrompt.nD Cert.FfnPrompt.τ).loc Cert.FfnPrompt.main_arg4)
      ∧ r.2.mem ((c.tc : Thread Cert.FfnPrompt.nD Cert.FfnPrompt.τ).loc Cert.FfnPrompt.main_arg5) = m ((c.tc : Thread Cert.FfnPrompt.nD Cert.FfnPrompt.τ).loc Cert.FfnPrompt.main_arg5))
      ∧ r.2.sem = fun _ => 0)

def quiescent_FfnPromptIdeal [hFfnPromptIdeal : Cert.FfnPromptIdeal.Facts] : Prop :=
  ∀ (m : (ℓ : Loc Cert.FfnPromptIdeal.nD Cert.FfnPromptIdeal.τ Cert.FfnPromptIdeal.sig) → Buf (Elt Ideal) ℓ) (g : Dev Cert.FfnPromptIdeal.nD → PrngReg), Pre_FfnPromptIdeal m →
    θ_run (Cert.FfnPromptIdeal.defs (F := Ideal)) (onTc (τ := Cert.FfnPromptIdeal.τ) (Cert.FfnPromptIdeal.main (F := Ideal))) ⟨m, fun _ => 0, g⟩ (fun r => (∀ c : Dev Cert.FfnPromptIdeal.nD,
      r.2.mem ((c.tc : Thread Cert.FfnPromptIdeal.nD Cert.FfnPromptIdeal.τ).loc Cert.FfnPromptIdeal.main_arg0) = m ((c.tc : Thread Cert.FfnPromptIdeal.nD Cert.FfnPromptIdeal.τ).loc Cert.FfnPromptIdeal.main_arg0)
      ∧ r.2.mem ((c.tc : Thread Cert.FfnPromptIdeal.nD Cert.FfnPromptIdeal.τ).loc Cert.FfnPromptIdeal.main_arg1) = m ((c.tc : Thread Cert.FfnPromptIdeal.nD Cert.FfnPromptIdeal.τ).loc Cert.FfnPromptIdeal.main_arg1)
      ∧ r.2.mem ((c.tc : Thread Cert.FfnPromptIdeal.nD Cert.FfnPromptIdeal.τ).loc Cert.FfnPromptIdeal.main_arg2) = m ((c.tc : Thread Cert.FfnPromptIdeal.nD Cert.FfnPromptIdeal.τ).loc Cert.FfnPromptIdeal.main_arg2)
      ∧ r.2.mem ((c.tc : Thread Cert.FfnPromptIdeal.nD Cert.FfnPromptIdeal.τ).loc Cert.FfnPromptIdeal.main_arg3) = m ((c.tc : Thread Cert.FfnPromptIdeal.nD Cert.FfnPromptIdeal.τ).loc Cert.FfnPromptIdeal.main_arg3)
      ∧ r.2.mem ((c.tc : Thread Cert.FfnPromptIdeal.nD Cert.FfnPromptIdeal.τ).loc Cert.FfnPromptIdeal.main_arg4) = m ((c.tc : Thread Cert.FfnPromptIdeal.nD Cert.FfnPromptIdeal.τ).loc Cert.FfnPromptIdeal.main_arg4)
      ∧ r.2.mem ((c.tc : Thread Cert.FfnPromptIdeal.nD Cert.FfnPromptIdeal.τ).loc Cert.FfnPromptIdeal.main_arg5) = m ((c.tc : Thread Cert.FfnPromptIdeal.nD Cert.FfnPromptIdeal.τ).loc Cert.FfnPromptIdeal.main_arg5))
      ∧ r.2.sem = fun _ => 0)

def quiescent_FfnPromptReferenceIdeal [hFfnPromptReferenceIdeal : Cert.FfnPromptReferenceIdeal.Facts] : Prop :=
  ∀ (m : (ℓ : Loc Cert.FfnPromptReferenceIdeal.nD Cert.FfnPromptReferenceIdeal.τ Cert.FfnPromptReferenceIdeal.sig) → Buf (Elt Ideal) ℓ) (g : Dev Cert.FfnPromptReferenceIdeal.nD → PrngReg), Pre_FfnPromptReferenceIdeal m →
    θ_run (Cert.FfnPromptReferenceIdeal.defs (F := Ideal)) (onTc (τ := Cert.FfnPromptReferenceIdeal.τ) (Cert.FfnPromptReferenceIdeal.main (F := Ideal))) ⟨m, fun _ => 0, g⟩ (fun r => (∀ c : Dev Cert.FfnPromptReferenceIdeal.nD,
      r.2.mem ((c.tc : Thread Cert.FfnPromptReferenceIdeal.nD Cert.FfnPromptReferenceIdeal.τ).loc Cert.FfnPromptReferenceIdeal.main_arg0) = m ((c.tc : Thread Cert.FfnPromptReferenceIdeal.nD Cert.FfnPromptReferenceIdeal.τ).loc Cert.FfnPromptReferenceIdeal.main_arg0)
      ∧ r.2.mem ((c.tc : Thread Cert.FfnPromptReferenceIdeal.nD Cert.FfnPromptReferenceIdeal.τ).loc Cert.FfnPromptReferenceIdeal.main_arg1) = m ((c.tc : Thread Cert.FfnPromptReferenceIdeal.nD Cert.FfnPromptReferenceIdeal.τ).loc Cert.FfnPromptReferenceIdeal.main_arg1)
      ∧ r.2.mem ((c.tc : Thread Cert.FfnPromptReferenceIdeal.nD Cert.FfnPromptReferenceIdeal.τ).loc Cert.FfnPromptReferenceIdeal.main_arg2) = m ((c.tc : Thread Cert.FfnPromptReferenceIdeal.nD Cert.FfnPromptReferenceIdeal.τ).loc Cert.FfnPromptReferenceIdeal.main_arg2)
      ∧ r.2.mem ((c.tc : Thread Cert.FfnPromptReferenceIdeal.nD Cert.FfnPromptReferenceIdeal.τ).loc Cert.FfnPromptReferenceIdeal.main_arg3) = m ((c.tc : Thread Cert.FfnPromptReferenceIdeal.nD Cert.FfnPromptReferenceIdeal.τ).loc Cert.FfnPromptReferenceIdeal.main_arg3)
      ∧ r.2.mem ((c.tc : Thread Cert.FfnPromptReferenceIdeal.nD Cert.FfnPromptReferenceIdeal.τ).loc Cert.FfnPromptReferenceIdeal.main_arg4) = m ((c.tc : Thread Cert.FfnPromptReferenceIdeal.nD Cert.FfnPromptReferenceIdeal.τ).loc Cert.FfnPromptReferenceIdeal.main_arg4)
      ∧ r.2.mem ((c.tc : Thread Cert.FfnPromptReferenceIdeal.nD Cert.FfnPromptReferenceIdeal.τ).loc Cert.FfnPromptReferenceIdeal.main_arg5) = m ((c.tc : Thread Cert.FfnPromptReferenceIdeal.nD Cert.FfnPromptReferenceIdeal.τ).loc Cert.FfnPromptReferenceIdeal.main_arg5))
      ∧ r.2.sem = fun _ => 0)

def quiescent_Mlstm [hMlstm : Cert.Mlstm.Facts] : Prop :=
  ∀ (m : (ℓ : Loc Cert.Mlstm.nD Cert.Mlstm.τ Cert.Mlstm.sig) → Buf (Elt Bits) ℓ) (g : Dev Cert.Mlstm.nD → PrngReg), Pre_Mlstm m →
    θ_run (Cert.Mlstm.defs (F := Bits)) (onTc (τ := Cert.Mlstm.τ) (Cert.Mlstm.main (F := Bits))) ⟨m, fun _ => 0, g⟩ (fun r => (∀ c : Dev Cert.Mlstm.nD,
      r.2.mem ((c.tc : Thread Cert.Mlstm.nD Cert.Mlstm.τ).loc Cert.Mlstm.main_arg0) = m ((c.tc : Thread Cert.Mlstm.nD Cert.Mlstm.τ).loc Cert.Mlstm.main_arg0)
      ∧ r.2.mem ((c.tc : Thread Cert.Mlstm.nD Cert.Mlstm.τ).loc Cert.Mlstm.main_arg1) = m ((c.tc : Thread Cert.Mlstm.nD Cert.Mlstm.τ).loc Cert.Mlstm.main_arg1)
      ∧ r.2.mem ((c.tc : Thread Cert.Mlstm.nD Cert.Mlstm.τ).loc Cert.Mlstm.main_arg2) = m ((c.tc : Thread Cert.Mlstm.nD Cert.Mlstm.τ).loc Cert.Mlstm.main_arg2)
      ∧ r.2.mem ((c.tc : Thread Cert.Mlstm.nD Cert.Mlstm.τ).loc Cert.Mlstm.main_arg3) = m ((c.tc : Thread Cert.Mlstm.nD Cert.Mlstm.τ).loc Cert.Mlstm.main_arg3))
      ∧ r.2.sem = fun _ => 0)

def quiescent_MlstmIdeal [hMlstmIdeal : Cert.MlstmIdeal.Facts] : Prop :=
  ∀ (m : (ℓ : Loc Cert.MlstmIdeal.nD Cert.MlstmIdeal.τ Cert.MlstmIdeal.sig) → Buf (Elt Ideal) ℓ) (g : Dev Cert.MlstmIdeal.nD → PrngReg), Pre_MlstmIdeal m →
    θ_run (Cert.MlstmIdeal.defs (F := Ideal)) (onTc (τ := Cert.MlstmIdeal.τ) (Cert.MlstmIdeal.main (F := Ideal))) ⟨m, fun _ => 0, g⟩ (fun r => (∀ c : Dev Cert.MlstmIdeal.nD,
      r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
      ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
      ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
      ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3))
      ∧ r.2.sem = fun _ => 0)

def quiescent_MlstmIdeal_pre_finite_gates [hMlstmIdeal : Cert.MlstmIdeal.Facts] [hPre_finite_gates : Cert.Pre_finite_gates.Facts] : Prop :=
  ∀ (m : (ℓ : Loc Cert.MlstmIdeal.nD Cert.MlstmIdeal.τ Cert.MlstmIdeal.sig) → Buf (Elt Ideal) ℓ) (g : Dev Cert.MlstmIdeal.nD → PrngReg), Pre_MlstmIdeal_finite_gates m →
    θ_run (Cert.MlstmIdeal.defs (F := Ideal)) (onTc (τ := Cert.MlstmIdeal.τ) (Cert.MlstmIdeal.main (F := Ideal))) ⟨m, fun _ => 0, g⟩ (fun r => (∀ c : Dev Cert.MlstmIdeal.nD,
      r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
      ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
      ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
      ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3))
      ∧ r.2.sem = fun _ => 0)

def quiescent_MlstmReferenceIdeal [hMlstmReferenceIdeal : Cert.MlstmReferenceIdeal.Facts] : Prop :=
  ∀ (m : (ℓ : Loc Cert.MlstmReferenceIdeal.nD Cert.MlstmReferenceIdeal.τ Cert.MlstmReferenceIdeal.sig) → Buf (Elt Ideal) ℓ) (g : Dev Cert.MlstmReferenceIdeal.nD → PrngReg), Pre_MlstmReferenceIdeal m →
    θ_run (Cert.MlstmReferenceIdeal.defs (F := Ideal)) (onTc (τ := Cert.MlstmReferenceIdeal.τ) (Cert.MlstmReferenceIdeal.main (F := Ideal))) ⟨m, fun _ => 0, g⟩ (fun r => (∀ c : Dev Cert.MlstmReferenceIdeal.nD,
      r.2.mem ((c.tc : Thread Cert.MlstmReferenceIdeal.nD Cert.MlstmReferenceIdeal.τ).loc Cert.MlstmReferenceIdeal.main_arg0) = m ((c.tc : Thread Cert.MlstmReferenceIdeal.nD Cert.MlstmReferenceIdeal.τ).loc Cert.MlstmReferenceIdeal.main_arg0)
      ∧ r.2.mem ((c.tc : Thread Cert.MlstmReferenceIdeal.nD Cert.MlstmReferenceIdeal.τ).loc Cert.MlstmReferenceIdeal.main_arg1) = m ((c.tc : Thread Cert.MlstmReferenceIdeal.nD Cert.MlstmReferenceIdeal.τ).loc Cert.MlstmReferenceIdeal.main_arg1)
      ∧ r.2.mem ((c.tc : Thread Cert.MlstmReferenceIdeal.nD Cert.MlstmReferenceIdeal.τ).loc Cert.MlstmReferenceIdeal.main_arg2) = m ((c.tc : Thread Cert.MlstmReferenceIdeal.nD Cert.MlstmReferenceIdeal.τ).loc Cert.MlstmReferenceIdeal.main_arg2)
      ∧ r.2.mem ((c.tc : Thread Cert.MlstmReferenceIdeal.nD Cert.MlstmReferenceIdeal.τ).loc Cert.MlstmReferenceIdeal.main_arg3) = m ((c.tc : Thread Cert.MlstmReferenceIdeal.nD Cert.MlstmReferenceIdeal.τ).loc Cert.MlstmReferenceIdeal.main_arg3))
      ∧ r.2.sem = fun _ => 0)

def quiescent_MlstmReferenceIdeal_pre_finite_gates [hMlstmReferenceIdeal : Cert.MlstmReferenceIdeal.Facts] [hPre_finite_gates : Cert.Pre_finite_gates.Facts] : Prop :=
  ∀ (m : (ℓ : Loc Cert.MlstmReferenceIdeal.nD Cert.MlstmReferenceIdeal.τ Cert.MlstmReferenceIdeal.sig) → Buf (Elt Ideal) ℓ) (g : Dev Cert.MlstmReferenceIdeal.nD → PrngReg), Pre_MlstmReferenceIdeal_finite_gates m →
    θ_run (Cert.MlstmReferenceIdeal.defs (F := Ideal)) (onTc (τ := Cert.MlstmReferenceIdeal.τ) (Cert.MlstmReferenceIdeal.main (F := Ideal))) ⟨m, fun _ => 0, g⟩ (fun r => (∀ c : Dev Cert.MlstmReferenceIdeal.nD,
      r.2.mem ((c.tc : Thread Cert.MlstmReferenceIdeal.nD Cert.MlstmReferenceIdeal.τ).loc Cert.MlstmReferenceIdeal.main_arg0) = m ((c.tc : Thread Cert.MlstmReferenceIdeal.nD Cert.MlstmReferenceIdeal.τ).loc Cert.MlstmReferenceIdeal.main_arg0)
      ∧ r.2.mem ((c.tc : Thread Cert.MlstmReferenceIdeal.nD Cert.MlstmReferenceIdeal.τ).loc Cert.MlstmReferenceIdeal.main_arg1) = m ((c.tc : Thread Cert.MlstmReferenceIdeal.nD Cert.MlstmReferenceIdeal.τ).loc Cert.MlstmReferenceIdeal.main_arg1)
      ∧ r.2.mem ((c.tc : Thread Cert.MlstmReferenceIdeal.nD Cert.MlstmReferenceIdeal.τ).loc Cert.MlstmReferenceIdeal.main_arg2) = m ((c.tc : Thread Cert.MlstmReferenceIdeal.nD Cert.MlstmReferenceIdeal.τ).loc Cert.MlstmReferenceIdeal.main_arg2)
      ∧ r.2.mem ((c.tc : Thread Cert.MlstmReferenceIdeal.nD Cert.MlstmReferenceIdeal.τ).loc Cert.MlstmReferenceIdeal.main_arg3) = m ((c.tc : Thread Cert.MlstmReferenceIdeal.nD Cert.MlstmReferenceIdeal.τ).loc Cert.MlstmReferenceIdeal.main_arg3))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v7)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v7) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v47) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v5)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v5) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v30) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)
      ∧ m' ((c.tc : Thread Cert.InProjReferenceIdeal.nD Cert.InProjReferenceIdeal.τ).loc Cert.InProjReferenceIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v14_0)) (v1 : (c : Dev Cert.InProjIdeal.nD) → Buf (Elt Ideal) ((c.tc : Thread Cert.InProjIdeal.nD Cert.InProjIdeal.τ).loc Cert.InProjIdeal.main_v14_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v14_0) = v0 c
          ∧ r.2.mem ((c.tc : Thread Cert.InProjIdeal.nD Cert.InProjIdeal.τ).loc Cert.InProjIdeal.main_v14_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v37) = v0 c
          ∧ r.2.mem ((c.tc : Thread Cert.InProjReferenceIdeal.nD Cert.InProjReferenceIdeal.τ).loc Cert.InProjReferenceIdeal.main_v36) = v1 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3))

def preserves_Prep_PrepIdeal : Prop :=
  True

def algebraic_PrepIdeal_PrepReferenceIdeal_pre_finite_proj [hPrepIdeal : Cert.PrepIdeal.Facts] [hPrepReferenceIdeal : Cert.PrepReferenceIdeal.Facts] [hPre_finite_proj : Cert.Pre_finite_proj.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepReferenceIdeal.nD Cert.PrepReferenceIdeal.τ Cert.PrepReferenceIdeal.sig) → Buf (Elt Ideal) ℓ) (g' : Dev Cert.PrepReferenceIdeal.nD → PrngReg), Pre_PrepIdeal_finite_proj m →
    (∀ c : Dev Cert.PrepIdeal.nD,
      m' ((c.tc : Thread Cert.PrepReferenceIdeal.nD Cert.PrepReferenceIdeal.τ).loc Cert.PrepReferenceIdeal.main_arg0) = m ((c.tc : Thread Cert.PrepIdeal.nD Cert.PrepIdeal.τ).loc Cert.PrepIdeal.main_arg0)
      ∧ m' ((c.tc : Thread Cert.PrepReferenceIdeal.nD Cert.PrepReferenceIdeal.τ).loc Cert.PrepReferenceIdeal.main_arg1) = m ((c.tc : Thread Cert.PrepIdeal.nD Cert.PrepIdeal.τ).loc Cert.PrepIdeal.main_arg1)
      ∧ m' ((c.tc : Thread Cert.PrepReferenceIdeal.nD Cert.PrepReferenceIdeal.τ).loc Cert.PrepReferenceIdeal.main_arg2) = m ((c.tc : Thread Cert.PrepIdeal.nD Cert.PrepIdeal.τ).loc Cert.PrepIdeal.main_arg2)
      ∧ m' ((c.tc : Thread Cert.PrepReferenceIdeal.nD Cert.PrepReferenceIdeal.τ).loc Cert.PrepReferenceIdeal.main_arg3) = m ((c.tc : Thread Cert.PrepIdeal.nD Cert.PrepIdeal.τ).loc Cert.PrepIdeal.main_arg3)
      ∧ m' ((c.tc : Thread Cert.PrepReferenceIdeal.nD Cert.PrepReferenceIdeal.τ).loc Cert.PrepReferenceIdeal.main_arg4) = m ((c.tc : Thread Cert.PrepIdeal.nD Cert.PrepIdeal.τ).loc Cert.PrepIdeal.main_arg4)) →
    ∃ (v0 : (c : Dev Cert.PrepIdeal.nD) → Buf (Elt Ideal) ((c.tc : Thread Cert.PrepIdeal.nD Cert.PrepIdeal.τ).loc Cert.PrepIdeal.main_v11_0)) (v1 : (c : Dev Cert.PrepIdeal.nD) → Buf (Elt Ideal) ((c.tc : Thread Cert.PrepIdeal.nD Cert.PrepIdeal.τ).loc Cert.PrepIdeal.main_v11_1)) (v2 : (c : Dev Cert.PrepIdeal.nD) → Buf (Elt Ideal) ((c.tc : Thread Cert.PrepIdeal.nD Cert.PrepIdeal.τ).loc Cert.PrepIdeal.main_v11_2)) (v3 : (c : Dev Cert.PrepIdeal.nD) → Buf (Elt Ideal) ((c.tc : Thread Cert.PrepIdeal.nD Cert.PrepIdeal.τ).loc Cert.PrepIdeal.main_v11_3)) (v4 : (c : Dev Cert.PrepIdeal.nD) → Buf (Elt Ideal) ((c.tc : Thread Cert.PrepIdeal.nD Cert.PrepIdeal.τ).loc Cert.PrepIdeal.main_v10)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v11_0) = v0 c
          ∧ r.2.mem ((c.tc : Thread Cert.PrepIdeal.nD Cert.PrepIdeal.τ).loc Cert.PrepIdeal.main_v11_1) = v1 c
          ∧ r.2.mem ((c.tc : Thread Cert.PrepIdeal.nD Cert.PrepIdeal.τ).loc Cert.PrepIdeal.main_v11_2) = v2 c
          ∧ r.2.mem ((c.tc : Thread Cert.PrepIdeal.nD Cert.PrepIdeal.τ).loc Cert.PrepIdeal.main_v11_3) = v3 c
          ∧ r.2.mem ((c.tc : Thread Cert.PrepIdeal.nD Cert.PrepIdeal.τ).loc Cert.PrepIdeal.main_v10) = v4 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4))
      ∧ θ_run (Cert.PrepReferenceIdeal.defs (F := Ideal)) (onTc (τ := Cert.PrepReferenceIdeal.τ) (Cert.PrepReferenceIdeal.main (F := Ideal))) ⟨m', fun _ => 0, g'⟩ (fun r => ∀ c : Dev Cert.PrepReferenceIdeal.nD,
          r.2.mem ((c.tc : Thread Cert.PrepReferenceIdeal.nD Cert.PrepReferenceIdeal.τ).loc Cert.PrepReferenceIdeal.main_v41) = v0 c
          ∧ r.2.mem ((c.tc : Thread Cert.PrepReferenceIdeal.nD Cert.PrepReferenceIdeal.τ).loc Cert.PrepReferenceIdeal.main_v43) = v1 c
          ∧ r.2.mem ((c.tc : Thread Cert.PrepReferenceIdeal.nD Cert.PrepReferenceIdeal.τ).loc Cert.PrepReferenceIdeal.main_v45) = v2 c
          ∧ r.2.mem ((c.tc : Thread Cert.PrepReferenceIdeal.nD Cert.PrepReferenceIdeal.τ).loc Cert.PrepReferenceIdeal.main_v46) = v3 c
          ∧ r.2.mem ((c.tc : Thread Cert.PrepReferenceIdeal.nD Cert.PrepReferenceIdeal.τ).loc Cert.PrepReferenceIdeal.main_v34) = v4 c
          ∧ r.2.mem ((c.tc : Thread Cert.PrepReferenceIdeal.nD Cert.PrepReferenceIdeal.τ).loc Cert.PrepReferenceIdeal.main_arg0) = m' ((c.tc : Thread Cert.PrepReferenceIdeal.nD Cert.PrepReferenceIdeal.τ).loc Cert.PrepReferenceIdeal.main_arg0)
          ∧ r.2.mem ((c.tc : Thread Cert.PrepReferenceIdeal.nD Cert.PrepReferenceIdeal.τ).loc Cert.PrepReferenceIdeal.main_arg1) = m' ((c.tc : Thread Cert.PrepReferenceIdeal.nD Cert.PrepReferenceIdeal.τ).loc Cert.PrepReferenceIdeal.main_arg1)
          ∧ r.2.mem ((c.tc : Thread Cert.PrepReferenceIdeal.nD Cert.PrepReferenceIdeal.τ).loc Cert.PrepReferenceIdeal.main_arg2) = m' ((c.tc : Thread Cert.PrepReferenceIdeal.nD Cert.PrepReferenceIdeal.τ).loc Cert.PrepReferenceIdeal.main_arg2)
          ∧ r.2.mem ((c.tc : Thread Cert.PrepReferenceIdeal.nD Cert.PrepReferenceIdeal.τ).loc Cert.PrepReferenceIdeal.main_arg3) = m' ((c.tc : Thread Cert.PrepReferenceIdeal.nD Cert.PrepReferenceIdeal.τ).loc Cert.PrepReferenceIdeal.main_arg3)
          ∧ r.2.mem ((c.tc : Thread Cert.PrepReferenceIdeal.nD Cert.PrepReferenceIdeal.τ).loc Cert.PrepReferenceIdeal.main_arg4) = m' ((c.tc : Thread Cert.PrepReferenceIdeal.nD Cert.PrepReferenceIdeal.τ).loc Cert.PrepReferenceIdeal.main_arg4))

def preserves_FfnPrompt_FfnPromptIdeal : Prop :=
  True

def algebraic_FfnPromptIdeal_FfnPromptReferenceIdeal [hFfnPromptIdeal : Cert.FfnPromptIdeal.Facts] [hFfnPromptReferenceIdeal : Cert.FfnPromptReferenceIdeal.Facts] : Prop :=
  ∀ (m : (ℓ : Loc Cert.FfnPromptIdeal.nD Cert.FfnPromptIdeal.τ Cert.FfnPromptIdeal.sig) → Buf (Elt Ideal) ℓ) (g : Dev Cert.FfnPromptIdeal.nD → PrngReg)
    (m' : (ℓ : Loc Cert.FfnPromptReferenceIdeal.nD Cert.FfnPromptReferenceIdeal.τ Cert.FfnPromptReferenceIdeal.sig) → Buf (Elt Ideal) ℓ) (g' : Dev Cert.FfnPromptReferenceIdeal.nD → PrngReg), Pre_FfnPromptIdeal m →
    (∀ c : Dev Cert.FfnPromptIdeal.nD,
      m' ((c.tc : Thread Cert.FfnPromptReferenceIdeal.nD Cert.FfnPromptReferenceIdeal.τ).loc Cert.FfnPromptReferenceIdeal.main_arg0) = m ((c.tc : Thread Cert.FfnPromptIdeal.nD Cert.FfnPromptIdeal.τ).loc Cert.FfnPromptIdeal.main_arg0)
      ∧ m' ((c.tc : Thread Cert.FfnPromptReferenceIdeal.nD Cert.FfnPromptReferenceIdeal.τ).loc Cert.FfnPromptReferenceIdeal.main_arg1) = m ((c.tc : Thread Cert.FfnPromptIdeal.nD Cert.FfnPromptIdeal.τ).loc Cert.FfnPromptIdeal.main_arg1)
      ∧ m' ((c.tc : Thread Cert.FfnPromptReferenceIdeal.nD Cert.FfnPromptReferenceIdeal.τ).loc Cert.FfnPromptReferenceIdeal.main_arg2) = m ((c.tc : Thread Cert.FfnPromptIdeal.nD Cert.FfnPromptIdeal.τ).loc Cert.FfnPromptIdeal.main_arg2)
      ∧ m' ((c.tc : Thread Cert.FfnPromptReferenceIdeal.nD Cert.FfnPromptReferenceIdeal.τ).loc Cert.FfnPromptReferenceIdeal.main_arg3) = m ((c.tc : Thread Cert.FfnPromptIdeal.nD Cert.FfnPromptIdeal.τ).loc Cert.FfnPromptIdeal.main_arg3)
      ∧ m' ((c.tc : Thread Cert.FfnPromptReferenceIdeal.nD Cert.FfnPromptReferenceIdeal.τ).loc Cert.FfnPromptReferenceIdeal.main_arg4) = m ((c.tc : Thread Cert.FfnPromptIdeal.nD Cert.FfnPromptIdeal.τ).loc Cert.FfnPromptIdeal.main_arg4)
      ∧ m' ((c.tc : Thread Cert.FfnPromptReferenceIdeal.nD Cert.FfnPromptReferenceIdeal.τ).loc Cert.FfnPromptReferenceIdeal.main_arg5) = m ((c.tc : Thread Cert.FfnPromptIdeal.nD Cert.FfnPromptIdeal.τ).loc Cert.FfnPromptIdeal.main_arg5)) →
    ∃ (v0 : (c : Dev Cert.FfnPromptIdeal.nD) → Buf (Elt Ideal) ((c.tc : Thread Cert.FfnPromptIdeal.nD Cert.FfnPromptIdeal.τ).loc Cert.FfnPromptIdeal.main_v8)),
      θ_run (Cert.FfnPromptIdeal.defs (F := Ideal)) (onTc (τ := Cert.FfnPromptIdeal.τ) (Cert.FfnPromptIdeal.main (F := Ideal))) ⟨m, fun _ => 0, g⟩ (fun r => ∀ c : Dev Cert.FfnPromptIdeal.nD,
          r.2.mem ((c.tc : Thread Cert.FfnPromptIdeal.nD Cert.FfnPromptIdeal.τ).loc Cert.FfnPromptIdeal.main_v8) = v0 c
          ∧ r.2.mem ((c.tc : Thread Cert.FfnPromptIdeal.nD Cert.FfnPromptIdeal.τ).loc Cert.FfnPromptIdeal.main_arg0) = m ((c.tc : Thread Cert.FfnPromptIdeal.nD Cert.FfnPromptIdeal.τ).loc Cert.FfnPromptIdeal.main_arg0)
          ∧ r.2.mem ((c.tc : Thread Cert.FfnPromptIdeal.nD Cert.FfnPromptIdeal.τ).loc Cert.FfnPromptIdeal.main_arg1) = m ((c.tc : Thread Cert.FfnPromptIdeal.nD Cert.FfnPromptIdeal.τ).loc Cert.FfnPromptIdeal.main_arg1)
          ∧ r.2.mem ((c.tc : Thread Cert.FfnPromptIdeal.nD Cert.FfnPromptIdeal.τ).loc Cert.FfnPromptIdeal.main_arg2) = m ((c.tc : Thread Cert.FfnPromptIdeal.nD Cert.FfnPromptIdeal.τ).loc Cert.FfnPromptIdeal.main_arg2)
          ∧ r.2.mem ((c.tc : Thread Cert.FfnPromptIdeal.nD Cert.FfnPromptIdeal.τ).loc Cert.FfnPromptIdeal.main_arg3) = m ((c.tc : Thread Cert.FfnPromptIdeal.nD Cert.FfnPromptIdeal.τ).loc Cert.FfnPromptIdeal.main_arg3)
          ∧ r.2.mem ((c.tc : Thread Cert.FfnPromptIdeal.nD Cert.FfnPromptIdeal.τ).loc Cert.FfnPromptIdeal.main_arg4) = m ((c.tc : Thread Cert.FfnPromptIdeal.nD Cert.FfnPromptIdeal.τ).loc Cert.FfnPromptIdeal.main_arg4)
          ∧ r.2.mem ((c.tc : Thread Cert.FfnPromptIdeal.nD Cert.FfnPromptIdeal.τ).loc Cert.FfnPromptIdeal.main_arg5) = m ((c.tc : Thread Cert.FfnPromptIdeal.nD Cert.FfnPromptIdeal.τ).loc Cert.FfnPromptIdeal.main_arg5))
      ∧ θ_run (Cert.FfnPromptReferenceIdeal.defs (F := Ideal)) (onTc (τ := Cert.FfnPromptReferenceIdeal.τ) (Cert.FfnPromptReferenceIdeal.main (F := Ideal))) ⟨m', fun _ => 0, g'⟩ (fun r => ∀ c : Dev Cert.FfnPromptReferenceIdeal.nD,
          r.2.mem ((c.tc : Thread Cert.FfnPromptReferenceIdeal.nD Cert.FfnPromptReferenceIdeal.τ).loc Cert.FfnPromptReferenceIdeal.main_v48) = v0 c
          ∧ r.2.mem ((c.tc : Thread Cert.FfnPromptReferenceIdeal.nD Cert.FfnPromptReferenceIdeal.τ).loc Cert.FfnPromptReferenceIdeal.main_arg0) = m' ((c.tc : Thread Cert.FfnPromptReferenceIdeal.nD Cert.FfnPromptReferenceIdeal.τ).loc Cert.FfnPromptReferenceIdeal.main_arg0)
          ∧ r.2.mem ((c.tc : Thread Cert.FfnPromptReferenceIdeal.nD Cert.FfnPromptReferenceIdeal.τ).loc Cert.FfnPromptReferenceIdeal.main_arg1) = m' ((c.tc : Thread Cert.FfnPromptReferenceIdeal.nD Cert.FfnPromptReferenceIdeal.τ).loc Cert.FfnPromptReferenceIdeal.main_arg1)
          ∧ r.2.mem ((c.tc : Thread Cert.FfnPromptReferenceIdeal.nD Cert.FfnPromptReferenceIdeal.τ).loc Cert.FfnPromptReferenceIdeal.main_arg2) = m' ((c.tc : Thread Cert.FfnPromptReferenceIdeal.nD Cert.FfnPromptReferenceIdeal.τ).loc Cert.FfnPromptReferenceIdeal.main_arg2)
          ∧ r.2.mem ((c.tc : Thread Cert.FfnPromptReferenceIdeal.nD Cert.FfnPromptReferenceIdeal.τ).loc Cert.FfnPromptReferenceIdeal.main_arg3) = m' ((c.tc : Thread Cert.FfnPromptReferenceIdeal.nD Cert.FfnPromptReferenceIdeal.τ).loc Cert.FfnPromptReferenceIdeal.main_arg3)
          ∧ r.2.mem ((c.tc : Thread Cert.FfnPromptReferenceIdeal.nD Cert.FfnPromptReferenceIdeal.τ).loc Cert.FfnPromptReferenceIdeal.main_arg4) = m' ((c.tc : Thread Cert.FfnPromptReferenceIdeal.nD Cert.FfnPromptReferenceIdeal.τ).loc Cert.FfnPromptReferenceIdeal.main_arg4)
          ∧ r.2.mem ((c.tc : Thread Cert.FfnPromptReferenceIdeal.nD Cert.FfnPromptReferenceIdeal.τ).loc Cert.FfnPromptReferenceIdeal.main_arg5) = m' ((c.tc : Thread Cert.FfnPromptReferenceIdeal.nD Cert.FfnPromptReferenceIdeal.τ).loc Cert.FfnPromptReferenceIdeal.main_arg5))

def preserves_Mlstm_MlstmIdeal : Prop :=
  True

def algebraic_MlstmIdeal_MlstmReferenceIdeal_pre_finite_gates [hMlstmIdeal : Cert.MlstmIdeal.Facts] [hMlstmReferenceIdeal : Cert.MlstmReferenceIdeal.Facts] [hPre_finite_gates : Cert.Pre_finite_gates.Facts] : Prop :=
  ∀ (m : (ℓ : Loc Cert.MlstmIdeal.nD Cert.MlstmIdeal.τ Cert.MlstmIdeal.sig) → Buf (Elt Ideal) ℓ) (g : Dev Cert.MlstmIdeal.nD → PrngReg)
    (m' : (ℓ : Loc Cert.MlstmReferenceIdeal.nD Cert.MlstmReferenceIdeal.τ Cert.MlstmReferenceIdeal.sig) → Buf (Elt Ideal) ℓ) (g' : Dev Cert.MlstmReferenceIdeal.nD → PrngReg), Pre_MlstmIdeal_finite_gates m →
    (∀ c : Dev Cert.MlstmIdeal.nD,
      m' ((c.tc : Thread Cert.MlstmReferenceIdeal.nD Cert.MlstmReferenceIdeal.τ).loc Cert.MlstmReferenceIdeal.main_arg0) = m ((c.tc : Thread Cert.MlstmIdeal.nD Cert.MlstmIdeal.τ).loc Cert.MlstmIdeal.main_arg0)
      ∧ m' ((c.tc : Thread Cert.MlstmReferenceIdeal.nD Cert.MlstmReferenceIdeal.τ).loc Cert.MlstmReferenceIdeal.main_arg1) = m ((c.tc : Thread Cert.MlstmIdeal.nD Cert.MlstmIdeal.τ).loc Cert.MlstmIdeal.main_arg1)
      ∧ m' ((c.tc : Thread Cert.MlstmReferenceIdeal.nD Cert.MlstmReferenceIdeal.τ).loc Cert.MlstmReferenceIdeal.main_arg2) = m ((c.tc : Thread Cert.MlstmIdeal.nD Cert.MlstmIdeal.τ).loc Cert.MlstmIdeal.main_arg2)
      ∧ m' ((c.tc : Thread Cert.MlstmReferenceIdeal.nD Cert.MlstmReferenceIdeal.τ).loc Cert.MlstmReferenceIdeal.main_arg3) = m ((c.tc : Thread Cert.MlstmIdeal.nD Cert.MlstmIdeal.τ).loc Cert.MlstmIdeal.main_arg3)) →
    ∃ (v0 : (c : Dev Cert.MlstmIdeal.nD) → Buf (Elt Ideal) ((c.tc : Thread Cert.MlstmIdeal.nD Cert.MlstmIdeal.τ).loc Cert.MlstmIdeal.main_v5_1)) (v1 : (c : Dev Cert.MlstmIdeal.nD) → Buf (Elt Ideal) ((c.tc : Thread Cert.MlstmIdeal.nD Cert.MlstmIdeal.τ).loc Cert.MlstmIdeal.main_v5_2)) (v2 : (c : Dev Cert.MlstmIdeal.nD) → Buf (Elt Ideal) ((c.tc : Thread Cert.MlstmIdeal.nD Cert.MlstmIdeal.τ).loc Cert.MlstmIdeal.main_v5_3)),
      θ_run (Cert.MlstmIdeal.defs (F := Ideal)) (onTc (τ := Cert.MlstmIdeal.τ) (Cert.MlstmIdeal.main (F := Ideal))) ⟨m, fun _ => 0, g⟩ (fun r => ∀ c : Dev Cert.MlstmIdeal.nD,
          r.2.mem ((c.tc : Thread Cert.MlstmIdeal.nD Cert.MlstmIdeal.τ).loc Cert.MlstmIdeal.main_v5_1) = v0 c
          ∧ r.2.mem ((c.tc : Thread Cert.MlstmIdeal.nD Cert.MlstmIdeal.τ).loc Cert.MlstmIdeal.main_v5_2) = v1 c
          ∧ r.2.mem ((c.tc : Thread Cert.MlstmIdeal.nD Cert.MlstmIdeal.τ).loc Cert.MlstmIdeal.main_v5_3) = v2 c
          ∧ r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
          ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
          ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
          ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3))
      ∧ θ_run (Cert.MlstmReferenceIdeal.defs (F := Ideal)) (onTc (τ := Cert.MlstmReferenceIdeal.τ) (Cert.MlstmReferenceIdeal.main (F := Ideal))) ⟨m', fun _ => 0, g'⟩ (fun r => ∀ c : Dev Cert.MlstmReferenceIdeal.nD,
          r.2.mem ((c.tc : Thread Cert.MlstmReferenceIdeal.nD Cert.MlstmReferenceIdeal.τ).loc Cert.MlstmReferenceIdeal.main_v63) = v0 c
          ∧ r.2.mem ((c.tc : Thread Cert.MlstmReferenceIdeal.nD Cert.MlstmReferenceIdeal.τ).loc Cert.MlstmReferenceIdeal.main_v70) = v1 c
          ∧ r.2.mem ((c.tc : Thread Cert.MlstmReferenceIdeal.nD Cert.MlstmReferenceIdeal.τ).loc Cert.MlstmReferenceIdeal.main_v72) = v2 c
          ∧ r.2.mem ((c.tc : Thread Cert.MlstmReferenceIdeal.nD Cert.MlstmReferenceIdeal.τ).loc Cert.MlstmReferenceIdeal.main_arg0) = m' ((c.tc : Thread Cert.MlstmReferenceIdeal.nD Cert.MlstmReferenceIdeal.τ).loc Cert.MlstmReferenceIdeal.main_arg0)
          ∧ r.2.mem ((c.tc : Thread Cert.MlstmReferenceIdeal.nD Cert.MlstmReferenceIdeal.τ).loc Cert.MlstmReferenceIdeal.main_arg1) = m' ((c.tc : Thread Cert.MlstmReferenceIdeal.nD Cert.MlstmReferenceIdeal.τ).loc Cert.MlstmReferenceIdeal.main_arg1)
          ∧ r.2.mem ((c.tc : Thread Cert.MlstmReferenceIdeal.nD Cert.MlstmReferenceIdeal.τ).loc Cert.MlstmReferenceIdeal.main_arg2) = m' ((c.tc : Thread Cert.MlstmReferenceIdeal.nD Cert.MlstmReferenceIdeal.τ).loc Cert.MlstmReferenceIdeal.main_arg2)
          ∧ r.2.mem ((c.tc : Thread Cert.MlstmReferenceIdeal.nD Cert.MlstmReferenceIdeal.τ).loc Cert.MlstmReferenceIdeal.main_arg3) = m' ((c.tc : Thread Cert.MlstmReferenceIdeal.nD Cert.MlstmReferenceIdeal.τ).loc Cert.MlstmReferenceIdeal.main_arg3))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hMerge : Cert.Merge.Facts) (hMergeIdeal : Cert.MergeIdeal.Facts) (hMergeReferenceIdeal : Cert.MergeReferenceIdeal.Facts) (hInProj : Cert.InProj.Facts) (hInProjIdeal : Cert.InProjIdeal.Facts) (hInProjReferenceIdeal : Cert.InProjReferenceIdeal.Facts) (hPrep : Cert.Prep.Facts) (hPrepIdeal : Cert.PrepIdeal.Facts) (hPrepReferenceIdeal : Cert.PrepReferenceIdeal.Facts) (hFfnPrompt : Cert.FfnPrompt.Facts) (hFfnPromptIdeal : Cert.FfnPromptIdeal.Facts) (hFfnPromptReferenceIdeal : Cert.FfnPromptReferenceIdeal.Facts) (hMlstm : Cert.Mlstm.Facts) (hMlstmIdeal : Cert.MlstmIdeal.Facts) (hMlstmReferenceIdeal : Cert.MlstmReferenceIdeal.Facts) (hPre_finite_scores : Cert.Pre_finite_scores.Facts) (hPre_finite_proj : Cert.Pre_finite_proj.Facts) (hPre_finite_gates : Cert.Pre_finite_gates.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_Prep (hPrep := hPrep)
    ∧ quiescent_PrepIdeal (hPrepIdeal := hPrepIdeal)
    ∧ quiescent_PrepIdeal_pre_finite_proj (hPrepIdeal := hPrepIdeal) (hPre_finite_proj := hPre_finite_proj)
    ∧ quiescent_PrepReferenceIdeal (hPrepReferenceIdeal := hPrepReferenceIdeal)
    ∧ quiescent_PrepReferenceIdeal_pre_finite_proj (hPrepReferenceIdeal := hPrepReferenceIdeal) (hPre_finite_proj := hPre_finite_proj)
    ∧ quiescent_FfnPrompt (hFfnPrompt := hFfnPrompt)
    ∧ quiescent_FfnPromptIdeal (hFfnPromptIdeal := hFfnPromptIdeal)
    ∧ quiescent_FfnPromptReferenceIdeal (hFfnPromptReferenceIdeal := hFfnPromptReferenceIdeal)
    ∧ quiescent_Mlstm (hMlstm := hMlstm)
    ∧ quiescent_MlstmIdeal (hMlstmIdeal := hMlstmIdeal)
    ∧ quiescent_MlstmIdeal_pre_finite_gates (hMlstmIdeal := hMlstmIdeal) (hPre_finite_gates := hPre_finite_gates)
    ∧ quiescent_MlstmReferenceIdeal (hMlstmReferenceIdeal := hMlstmReferenceIdeal)
    ∧ quiescent_MlstmReferenceIdeal_pre_finite_gates (hMlstmReferenceIdeal := hMlstmReferenceIdeal) (hPre_finite_gates := hPre_finite_gates)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Ffn_FfnIdeal
    ∧ algebraic_FfnIdeal_FfnReferenceIdeal (hFfnIdeal := hFfnIdeal) (hFfnReferenceIdeal := hFfnReferenceIdeal)
    ∧ preserves_Merge_MergeIdeal
    ∧ algebraic_MergeIdeal_MergeReferenceIdeal (hMergeIdeal := hMergeIdeal) (hMergeReferenceIdeal := hMergeReferenceIdeal)
    ∧ preserves_InProj_InProjIdeal
    ∧ algebraic_InProjIdeal_InProjReferenceIdeal (hInProjIdeal := hInProjIdeal) (hInProjReferenceIdeal := hInProjReferenceIdeal)
    ∧ preserves_Prep_PrepIdeal
    ∧ algebraic_PrepIdeal_PrepReferenceIdeal_pre_finite_proj (hPrepIdeal := hPrepIdeal) (hPrepReferenceIdeal := hPrepReferenceIdeal) (hPre_finite_proj := hPre_finite_proj)
    ∧ preserves_FfnPrompt_FfnPromptIdeal
    ∧ algebraic_FfnPromptIdeal_FfnPromptReferenceIdeal (hFfnPromptIdeal := hFfnPromptIdeal) (hFfnPromptReferenceIdeal := hFfnPromptReferenceIdeal)
    ∧ preserves_Mlstm_MlstmIdeal
    ∧ algebraic_MlstmIdeal_MlstmReferenceIdeal_pre_finite_gates (hMlstmIdeal := hMlstmIdeal) (hMlstmReferenceIdeal := hMlstmReferenceIdeal) (hPre_finite_gates := hPre_finite_gates)
-- ==== Pre_finite_gates.lean ====
abbrev S16x256x7680 : Shape := ⟨3, ![16, 256, 7680]⟩
abbrev S16x256x1280 : Shape := ⟨3, ![16, 256, 1280]⟩
abbrev S2x2x4 : Shape := ⟨3, ![2, 2, 4]⟩
abbrev S512 : Shape := ⟨1, ![512]⟩
abbrev S16x256x16 : Shape := ⟨3, ![16, 256, 16]⟩
abbrev S_ : Shape := ⟨0, ![]⟩

class Facts : Prop where
  slices_S16x256x1280_S16x256x16_0_0_1024 : S16x256x1280.Slices ![0, 0, 1024] S16x256x16
  bcast_S_S16x256x16 : S_.BroadcastsInDim S16x256x16 (![] : Fin 0 → Fin S16x256x16.rank)
  reducesTo_S16x256x16_S_d0_1_2 : S16x256x16.ReducesTo [0, 1, 2] S_
  h_S_ : 0 < S_.numel
  bcast_S_S2x2x4 : S_.BroadcastsInDim S2x2x4 (![] : Fin 0 → Fin S2x2x4.rank)
  reducesTo_S2x2x4_S_d0_1_2 : S2x2x4.ReducesTo [0, 1, 2] S_

variable [Facts]

def fn {F : FTy → Type} [FloatOps F] (main_arg0 : FVec F S16x256x7680 .bf16) (main_arg1 : FVec F S16x256x1280 .f32) (main_arg2 : FVec F S2x2x4 .f32) (main_arg3 : FVec F S512 .f32) : IVec S_ 1 :=
  let main_v0 : FVec F S16x256x16 .f32 := (extractStridedSlice S16x256x16 ![0, 0, 1024] · slices_S16x256x1280_S16x256x16_0_0_1024) main_arg1
  let main_v1 : FVec F S16x256x16 .f32 := Host.absf main_v0
  let main_cst : FVec F S_ .f32 := constant S_ .f32 0x7F800000#32
  let main_v2 : FVec F S16x256x16 .f32 := broadcastInDim S16x256x16 ![] bcast_S_S16x256x16 main_cst
  let main_v3 : IVec S16x256x16 1 := cmpf .olt main_v1 main_v2
  let main_c : IVec S_ 1 := constantI S_ 1 1#1
  let main_v4 : IVec S_ 1 := (fun x v => Host.reduce IntOp.andi x v reducesTo_S16x256x16_S_d0_1_2 h_S_) main_v3 main_c
  let main_v5 : FVec F S2x2x4 .f32 := Host.absf main_arg2
  let main_cst_0 : FVec F S_ .f32 := constant S_ .f32 0x7F800000#32
  let main_v6 : FVec F S2x2x4 .f32 := broadcastInDim S2x2x4 ![] bcast_S_S2x2x4 main_cst_0
  let main_v7 : IVec S2x2x4 1 := cmpf .olt main_v5 main_v6
  let main_c_1 : IVec S_ 1 := constantI S_ 1 1#1
  let main_v8 : IVec S_ 1 := (fun x v => Host.reduce IntOp.andi x v reducesTo_S2x2x4_S_d0_1_2 h_S_) main_v7 main_c_1
  let main_v9 : IVec S_ 1 := andi main_v4 main_v8
  main_v9
-- ==== Pre_finite_proj.lean ====
abbrev S16x256x7680 : Shape := ⟨3, ![16, 256, 7680]⟩
abbrev S64 : Shape := ⟨1, ![64]⟩
abbrev S256x128 : Shape := ⟨2, ![256, 128]⟩
abbrev S16x256x640 : Shape := ⟨3, ![16, 256, 640]⟩
abbrev S_ : Shape := ⟨0, ![]⟩

class Facts : Prop where
  slices_S16x256x7680_S16x256x640_0_0_6656 : S16x256x7680.Slices ![0, 0, 6656] S16x256x640
  bitsLt_bf16_f32 : FTy.bits .bf16 < FTy.bits .f32
  bcast_S_S16x256x640 : S_.BroadcastsInDim S16x256x640 (![] : Fin 0 → Fin S16x256x640.rank)
  reducesTo_S16x256x640_S_d0_1_2 : S16x256x640.ReducesTo [0, 1, 2] S_
  h_S_ : 0 < S_.numel

variable [Facts]

def fn {F : FTy → Type} [FloatOps F] (main_arg0 : FVec F S16x256x7680 .bf16) (main_arg1 : FVec F S64 .f32) (main_arg2 : FVec F S64 .f32) (main_arg3 : FVec F S256x128 .f32) (main_arg4 : FVec F S256x128 .f32) : IVec S_ 1 :=
  let main_v0 : FVec F S16x256x640 .bf16 := (extractStridedSlice S16x256x640 ![0, 0, 6656] · slices_S16x256x7680_S16x256x640_0_0_6656) main_arg0
  let main_v1 : FVec F S16x256x640 .f32 := (extf .f32 · bitsLt_bf16_f32) main_v0
  let main_v2 : FVec F S16x256x640 .f32 := Host.absf main_v1
  let main_cst : FVec F S_ .f32 := constant S_ .f32 0x7F800000#32
  let main_v3 : FVec F S16x256x640 .f32 := broadcastInDim S16x256x640 ![] bcast_S_S16x256x640 main_cst
  let main_v4 : IVec S16x256x640 1 := cmpf .olt main_v2 main_v3
  let main_c : IVec S_ 1 := constantI S_ 1 1#1
  let main_v5 : IVec S_ 1 := (fun x v => Host.reduce IntOp.andi x v reducesTo_S16x256x640_S_d0_1_2 h_S_) main_v4 main_c
  main_v5
-- ==== Pre_finite_scores.lean ====
abbrev S8x8x4096x64 : Shape := ⟨4, ![8, 8, 4096, 64]⟩
abbrev S8x2x4096x64 : Shape := ⟨4, ![8, 2, 4096, 64]⟩
abbrev S8x512x2x64 : Shape := ⟨4, ![8, 512, 2, 64]⟩
abbrev S_ : Shape := ⟨0, ![]⟩

class Facts : Prop where
  bitsLt_bf16_f32 : FTy.bits .bf16 < FTy.bits .f32
  bcast_S_S8x8x4096x64 : S_.BroadcastsInDim S8x8x4096x64 (![] : Fin 0 → Fin S8x8x4096x64.rank)
  reducesTo_S8x8x4096x64_S_d0_1_2_3 : S8x8x4096x64.ReducesTo [0, 1, 2, 3] S_
  h_S_ : 0 < S_.numel
  bcast_S_S8x2x4096x64 : S_.BroadcastsInDim S8x2x4096x64 (![] : Fin 0 → Fin S8x2x4096x64.rank)
  reducesTo_S8x2x4096x64_S_d0_1_2_3 : S8x2x4096x64.ReducesTo [0, 1, 2, 3] S_
  bcast_S_S8x512x2x64 : S_.BroadcastsInDim S8x512x2x64 (![] : Fin 0 → Fin S8x512x2x64.rank)
  reducesTo_S8x512x2x64_S_d0_1_2_3 : S8x512x2x64.ReducesTo [0, 1, 2, 3] S_

variable [Facts]

def fn {F : FTy → Type} [FloatOps F] (main_arg0 : FVec F S8x8x4096x64 .bf16) (main_arg1 : FVec F S8x2x4096x64 .bf16) (main_arg2 : FVec F S8x2x4096x64 .bf16) (main_arg3 : FVec F S8x512x2x64 .f32) (main_arg4 : FVec F S8x512x2x64 .f32) : IVec S_ 1 :=
  let main_v0 : FVec F S8x8x4096x64 .f32 := (extf .f32 · bitsLt_bf16_f32) main_arg0
  let main_v1 : FVec F S8x8x4096x64 .f32 := Host.absf main_v0
  let main_cst : FVec F S_ .f32 := constant S_ .f32 0x7F800000#32
  let main_v2 : FVec F S8x8x4096x64 .f32 := broadcastInDim S8x8x4096x64 ![] bcast_S_S8x8x4096x64 main_cst
  let main_v3 : IVec S8x8x4096x64 1 := cmpf .olt main_v1 main_v2
  let main_c : IVec S_ 1 := constantI S_ 1 1#1
  let main_v4 : IVec S_ 1 := (fun x v => Host.reduce IntOp.andi x v reducesTo_S8x8x4096x64_S_d0_1_2_3 h_S_) main_v3 main_c
  let main_v5 : FVec F S8x2x4096x64 .f32 := (extf .f32 · bitsLt_bf16_f32) main_arg1
  let main_v6 : FVec F S8x2x4096x64 .f32 := Host.absf main_v5
  let main_cst_0 : FVec F S_ .f32 := constant S_ .f32 0x7F800000#32
  let main_v7 : FVec F S8x2x4096x64 .f32 := broadcastInDim S8x2x4096x64 ![] bcast_S_S8x2x4096x64 main_cst_0
  let main_v8 : IVec S8x2x4096x64 1 := cmpf .olt main_v6 main_v7
  let main_c_1 : IVec S_ 1 := constantI S_ 1 1#1
  let main_v9 : IVec S_ 1 := (fun x v => Host.reduce IntOp.andi x v reducesTo_S8x2x4096x64_S_d0_1_2_3 h_S_) main_v8 main_c_1
  let main_v10 : IVec S_ 1 := andi main_v4 main_v9
  let main_v11 : FVec F S8x512x2x64 .f32 := Host.absf main_arg3
  let main_cst_2 : FVec F S_ .f32 := constant S_ .f32 0x7F800000#32
  let main_v12 : FVec F S8x512x2x64 .f32 := broadcastInDim S8x512x2x64 ![] bcast_S_S8x512x2x64 main_cst_2
  let main_v13 : IVec S8x512x2x64 1 := cmpf .olt main_v11 main_v12
  let main_c_3 : IVec S_ 1 := constantI S_ 1 1#1
  let main_v14 : IVec S_ 1 := (fun x v => Host.reduce IntOp.andi x v reducesTo_S8x512x2x64_S_d0_1_2_3 h_S_) main_v13 main_c_3
  let main_v15 : IVec S_ 1 := andi main_v10 main_v14
  main_v15
-- ==== Kernel.lean ====
abbrev S8x8x4096x64 : Shape := ⟨4, ![8, 8, 4096, 64]⟩
abbrev S8x2x4096x64 : Shape := ⟨4, ![8, 2, 4096, 64]⟩
abbrev S8x512x2x64 : Shape := ⟨4, ![8, 512, 2, 64]⟩
abbrev S_ : Shape := ⟨0, ![]⟩
abbrev S8x2x4096x1 : Shape := ⟨4, ![8, 2, 4096, 1]⟩
abbrev S8x2x4096x63 : Shape := ⟨4, ![8, 2, 4096, 63]⟩
abbrev S8x2x4096x128 : Shape := ⟨4, ![8, 2, 4096, 128]⟩
abbrev S8x2x512x64 : Shape := ⟨4, ![8, 2, 512, 64]⟩
abbrev S8x2x512x1 : Shape := ⟨4, ![8, 2, 512, 1]⟩
abbrev S8x2x512x63 : Shape := ⟨4, ![8, 2, 512, 63]⟩
abbrev S8x2x512x128 : Shape := ⟨4, ![8, 2, 512, 128]⟩
abbrev S8x4096x512 : Shape := ⟨3, ![8, 4096, 512]⟩
abbrev S1x4x256x64 : Shape := ⟨4, ![1, 4, 256, 64]⟩
abbrev S1x1x4096x64 : Shape := ⟨4, ![1, 1, 4096, 64]⟩
abbrev S1x1x4096x128 : Shape := ⟨4, ![1, 1, 4096, 128]⟩
abbrev S1x1x512x64 : Shape := ⟨4, ![1, 1, 512, 64]⟩
abbrev S1x1x512x128 : Shape := ⟨4, ![1, 1, 512, 128]⟩
abbrev S1x256x256 : Shape := ⟨3, ![1, 256, 256]⟩
abbrev S1024x4608 : Shape := ⟨2, ![1024, 4608]⟩
abbrev S1024x128 : Shape := ⟨2, ![1024, 128]⟩
abbrev S4x256x64 : Shape := ⟨3, ![4, 256, 64]⟩
abbrev S1024x64 : Shape := ⟨2, ![1024, 64]⟩
abbrev S512x64 : Shape := ⟨2, ![512, 64]⟩
abbrev S1024x512 : Shape := ⟨2, ![1024, 512]⟩
abbrev S1024 : Shape := ⟨1, ![1024]⟩
abbrev S1024x1 : Shape := ⟨2, ![1024, 1]⟩
abbrev S512x128 : Shape := ⟨2, ![512, 128]⟩
abbrev S256x64 : Shape := ⟨2, ![256, 64]⟩
abbrev S1x256x64 : Shape := ⟨3, ![1, 256, 64]⟩

abbrev nBuf : Space → Nat
  | .hbm => 20
  | .vmem => 14
  | .smem => 0
  | _ => 0

abbrev bufTy : (tb : Table) → Fin (tcTables nBuf tb) → BufTy
  | .hbm, ⟨0, _⟩ => ⟨S8x8x4096x64, .bf16⟩
  | .hbm, ⟨1, _⟩ => ⟨S8x2x4096x64, .bf16⟩
  | .hbm, ⟨2, _⟩ => ⟨S8x2x4096x64, .bf16⟩
  | .hbm, ⟨3, _⟩ => ⟨S8x512x2x64, .f32⟩
  | .hbm, ⟨4, _⟩ => ⟨S8x512x2x64, .f32⟩
  | .hbm, ⟨5, _⟩ => ⟨S_, .bf16⟩
  | .hbm, ⟨6, _⟩ => ⟨S8x2x4096x1, .bf16⟩
  | .hbm, ⟨7, _⟩ => ⟨S_, .bf16⟩
  | .hbm, ⟨8, _⟩ => ⟨S8x2x4096x63, .bf16⟩
  | .hbm, ⟨9, _⟩ => ⟨S8x2x4096x128, .bf16⟩
  | .hbm, ⟨10, _⟩ => ⟨S8x2x512x64, .f32⟩
  | .hbm, ⟨11, _⟩ => ⟨S8x2x512x64, .bf16⟩
  | .hbm, ⟨12, _⟩ => ⟨S8x2x512x64, .f32⟩
  | .hbm, ⟨13, _⟩ => ⟨S8x2x512x64, .bf16⟩
  | .hbm, ⟨14, _⟩ => ⟨S_, .bf16⟩
  | .hbm, ⟨15, _⟩ => ⟨S8x2x512x1, .bf16⟩
  | .hbm, ⟨16, _⟩ => ⟨S_, .bf16⟩
  | .hbm, ⟨17, _⟩ => ⟨S8x2x512x63, .bf16⟩
  | .hbm, ⟨18, _⟩ => ⟨S8x2x512x128, .bf16⟩
  | .hbm, ⟨19, _⟩ => ⟨S8x4096x512, .bf16⟩
  | .local _ .vmem, ⟨0, _⟩ => ⟨S1x4x256x64, .bf16⟩
  | .local _ .vmem, ⟨1, _⟩ => ⟨S1x4x256x64, .bf16⟩
  | .local _ .vmem, ⟨2, _⟩ => ⟨S1x1x4096x64, .bf16⟩
  | .local _ .vmem, ⟨3, _⟩ => ⟨S1x1x4096x64, .bf16⟩
  | .local _ .vmem, ⟨4, _⟩ => ⟨S1x1x4096x128, .bf16⟩
  | .local _ .vmem, ⟨5, _⟩ => ⟨S1x1x4096x128, .bf16⟩
  | .local _ .vmem, ⟨6, _⟩ => ⟨S1x1x512x64, .bf16⟩
  | .local _ .vmem, ⟨7, _⟩ => ⟨S1x1x512x64, .bf16⟩
  | .local _ .vmem, ⟨8, _⟩ => ⟨S1x1x512x128, .bf16⟩
  | .local _ .vmem, ⟨9, _⟩ => ⟨S1x1x512x128, .bf16⟩
  | .local _ .vmem, ⟨10, _⟩ => ⟨S1x256x256, .bf16⟩
  | .local _ .vmem, ⟨11, _⟩ => ⟨S1x256x256, .bf16⟩
  | .local _ .vmem, ⟨12, _⟩ => ⟨S1024x4608, .f32⟩
  | .local _ .vmem, ⟨13, _⟩ => ⟨S1024x128, .f32⟩
  | _, _ => ⟨S8x8x4096x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 16], ![false, false, false]⟩

def k0_cond2 (i : grid0.Coords) : BitVec 1 :=
  let arg1 : BitVec 32 := BitVec.ofNat 32 (i 1).val
  let c0_i32_1 : BitVec 32 := 0#32
  let v3 : BitVec 1 := Scalar.cmpi .sge arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4x256x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x4096x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S8x8x4096x64 : Shape := ⟨4, ![8, 8, 4096, 64]⟩
abbrev S8x2x4096x64 : Shape := ⟨4, ![8, 2, 4096, 64]⟩
abbrev S8x512x2x64 : Shape := ⟨4, ![8, 512, 2, 64]⟩
abbrev S8x4096x8x64 : Shape := ⟨4, ![8, 4096, 8, 64]⟩
abbrev S8x4096x2x4x64 : Shape := ⟨5, ![8, 4096, 2, 4, 64]⟩
abbrev S8x4096x2x64 : Shape := ⟨4, ![8, 4096, 2, 64]⟩
abbrev S8x4608x2x64 : Shape := ⟨4, ![8, 4608, 2, 64]⟩
abbrev S8x2x4608x4096x4 : Shape := ⟨5, ![8, 2, 4608, 4096, 4]⟩
abbrev S8x2x4x4096x4608 : Shape := ⟨5, ![8, 2, 4, 4096, 4608]⟩
abbrev S_ : Shape := ⟨0, ![]⟩
abbrev S8x2x4x4096 : Shape := ⟨4, ![8, 2, 4, 4096]⟩
abbrev S8x2x4x4096x1 : Shape := ⟨5, ![8, 2, 4, 4096, 1]⟩
abbrev S8x2x64x4x4096 : Shape := ⟨5, ![8, 2, 64, 4, 4096]⟩
abbrev S8x4096x512 : Shape := ⟨3, ![8, 4096, 512]⟩

abbrev nBuf : Space → Nat
  | .hbm => 34
  | .vmem => 0
  | .smem => 0
  | _ => 0

abbrev bufTy : (tb : Table) → Fin (tcTables nBuf tb) → BufTy
  | .hbm, ⟨0, _⟩ => ⟨S8x8x4096x64, .bf16⟩
  | .hbm, ⟨1, _⟩ => ⟨S8x2x4096x64, .bf16⟩
  | .hbm, ⟨2, _⟩ => ⟨S8x2x4096x64, .bf16⟩
  | .hbm, ⟨3, _⟩ => ⟨S8x512x2x64, .f32⟩
  | .hbm, ⟨4, _⟩ => ⟨S8x512x2x64, .f32⟩
  | .hbm, ⟨5, _⟩ => ⟨S8x8x4096x64, .f32⟩
  | .hbm, ⟨6, _⟩ => ⟨S8x4096x8x64, .f32⟩
  | .hbm, ⟨7, _⟩ => ⟨S8x4096x2x4x64, .f32⟩
  | .hbm, ⟨8, _⟩ => ⟨S8x2x4096x64, .f32⟩
  | .hbm, ⟨9, _⟩ => ⟨S8x4096x2x64, .f32⟩
  | .hbm, ⟨10, _⟩ => ⟨S8x4608x2x64, .f32⟩
  | .hbm, ⟨11, _⟩ => ⟨S8x2x4096x64, .f32⟩
  | .hbm, ⟨12, _⟩ => ⟨S8x4096x2x64, .f32⟩
  | .hbm, ⟨13, _⟩ => ⟨S8x4608x2x64, .f32⟩
  | .hbm, ⟨14, _⟩ => ⟨S8x2x4608x4096x4, .f32⟩
  | .hbm, ⟨15, _⟩ => ⟨S8x2x4x4096x4608, .f32⟩
  | .hbm, ⟨16, _⟩ => ⟨S_, .f32⟩
  | .hbm, ⟨17, _⟩ => ⟨S8x2x4x4096, .f32⟩
  | .hbm, ⟨18, _⟩ => ⟨S_, .f32⟩
  | .hbm, ⟨19, _⟩ => ⟨S8x2x4x4096, .f32⟩
  | .hbm, ⟨20, _⟩ => ⟨S8x2x4x4096, .f32⟩
  | .hbm, ⟨21, _⟩ => ⟨S8x2x4x4096x1, .f32⟩
  | .hbm, ⟨22, _⟩ => ⟨S8x2x4x4096x4608, .f32⟩
  | .hbm, ⟨23, _⟩ => ⟨S8x2x4x4096x4608, .f32⟩
  | .hbm, ⟨24, _⟩ => ⟨S8x2x4x4096x4608, .f32⟩
  | .hbm, ⟨25, _⟩ => ⟨S_, .f32⟩
  | .hbm, ⟨26, _⟩ => ⟨S8x2x4x4096, .f32⟩
  | .hbm, ⟨27, _⟩ => ⟨S8x2x4x4096x1, .f32⟩
  | .hbm, ⟨28, _⟩ => ⟨S8x2x4x4096x4608, .f32⟩
  | .hbm, ⟨29, _⟩ => ⟨S8x2x4x4096x4608, .f32⟩
  | .hbm, ⟨30, _⟩ => ⟨S8x2x64x4x4096, .f32⟩
  | .hbm, ⟨31, _⟩ => ⟨S8x4096x2x4x64, .f32⟩
  | .hbm, ⟨32, _⟩ => ⟨S8x4096x512, .f32⟩
  | .hbm, ⟨33, _⟩ => ⟨S8x4096x512, .bf16⟩
  | _, _ => ⟨S8x8x4096x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Ffn.lean ====
abbrev S8x4096x1024 : Shape := ⟨3, ![8, 4096, 1024]⟩
abbrev S8x6144 : Shape := ⟨2, ![8, 6144]⟩
abbrev S1024 : Shape := ⟨1, ![1024]⟩
abbrev S1024x5632 : Shape := ⟨2, ![1024, 5632]⟩
abbrev S2816x1024 : Shape := ⟨2, ![2816, 1024]⟩
abbrev S8x6x1024 : Shape := ⟨3, ![8, 6, 1024]⟩
abbrev S_ : Shape := ⟨0, ![]⟩
abbrev S8x2x1024 : Shape := ⟨3, ![8, 2, 1024]⟩
abbrev S8x8x1024 : Shape := ⟨3, ![8, 8, 1024]⟩
abbrev S1x1024 : Shape := ⟨2, ![1, 1024]⟩
abbrev S1x512x1024 : Shape := ⟨3, ![1, 512, 1024]⟩
abbrev S1x8x1024 : Shape := ⟨3, ![1, 8, 1024]⟩
abbrev S512x1024 : Shape := ⟨2, ![512, 1024]⟩
abbrev S512 : Shape := ⟨1, ![512]⟩
abbrev S512x1 : Shape := ⟨2, ![512, 1]⟩
abbrev S1x1x1024 : Shape := ⟨3, ![1, 1, 1024]⟩
abbrev S1024x1536 : Shape := ⟨2, ![1024, 1536]⟩
abbrev S512x1536 : Shape := ⟨2, ![512, 1536]⟩
abbrev S1536x1024 : Shape := ⟨2, ![1536, 1024]⟩
abbrev S1024x1280 : Shape := ⟨2, ![1024, 1280]⟩
abbrev S512x1280 : Shape := ⟨2, ![512, 1280]⟩
abbrev S1280x1024 : Shape := ⟨2, ![1280, 1024]⟩

abbrev nBuf : Space → Nat
  | .hbm => 15
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S8x6144, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S8x6x1024, .f32⟩
  | .hbm, ⟨7, _⟩ => ⟨S_, .f32⟩
  | .hbm, ⟨8, _⟩ => ⟨S8x2x1024, .f32⟩
  | .hbm, ⟨9, _⟩ => ⟨S8x8x1024, .f32⟩
  | .hbm, ⟨10, _⟩ => ⟨S1x1024, .f32⟩
  | .hbm, ⟨11, _⟩ => ⟨S1024x5632, .bf16⟩
  | .hbm, ⟨12, _⟩ => ⟨S2816x1024, .bf16⟩
  | .hbm, ⟨13, _⟩ => ⟨S1x1024, .f32⟩
  | .hbm, ⟨14, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x1024, .f32⟩
  | .local _ .vmem, ⟨5, _⟩ => ⟨S1024x5632, .bf16⟩
  | .local _ .vmem, ⟨6, _⟩ => ⟨S2816x1024, .bf16⟩
  | .local _ .vmem, ⟨7, _⟩ => ⟨S1x1024, .f32⟩
  | .local _ .vmem, ⟨8, _⟩ => ⟨S1x512x1024, .f32⟩
  | .local _ .vmem, ⟨9, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnReferenceIdeal.lean ====
abbrev S8x4096x1024 : Shape := ⟨3, ![8, 4096, 1024]⟩
abbrev S8x6144 : Shape := ⟨2, ![8, 6144]⟩
abbrev S1024 : Shape := ⟨1, ![1024]⟩
abbrev S1024x5632 : Shape := ⟨2, ![1024, 5632]⟩
abbrev S2816x1024 : Shape := ⟨2, ![2816, 1024]⟩
abbrev S8x1x6144 : Shape := ⟨3, ![8, 1, 6144]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S8x4096x2816 : Shape := ⟨3, ![8, 4096, 2816]⟩

abbrev nBuf : Space → Nat
  | .hbm => 69
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x6144, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S8x1x6144, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x4096x1024, .f32⟩
  | .hbm, ⟨14, _⟩ => ⟨S_, .f32⟩
  | .hbm, ⟨15, _⟩ => ⟨S8x4096, .f32⟩
  | .hbm, ⟨16, _⟩ => ⟨S8x4096x1, .f32⟩
  | .hbm, ⟨17, _⟩ => ⟨S_, .f32⟩
  | .hbm, ⟨18, _⟩ => ⟨S8x4096x1, .f32⟩
  | .hbm, ⟨19, _⟩ => ⟨S8x4096x1, .f32⟩
  | .hbm, ⟨20, _⟩ => ⟨S_, .f32⟩
  | .hbm, ⟨21, _⟩ => ⟨S8x4096x1, .f32⟩
  | .hbm, ⟨22, _⟩ => ⟨S8x4096x1, .f32⟩
  | .hbm, ⟨23, _⟩ => ⟨S8x4096x1, .f32⟩
  | .hbm, ⟨24, _⟩ => ⟨S8x4096x1024, .f32⟩
  | .hbm, ⟨25, _⟩ => ⟨S8x4096x1024, .f32⟩
  | .hbm, ⟨26, _⟩ => ⟨S1x1x1024, .f32⟩
  | .hbm, ⟨27, _⟩ => ⟨S8x4096x1024, .f32⟩
  | .hbm, ⟨28, _⟩ => ⟨S8x4096x1024, .f32⟩
  | .hbm, ⟨29, _⟩ => ⟨S_, .f32⟩
  | .hbm, ⟨30, _⟩ => ⟨S8x1x1024, .f32⟩
  | .hbm, ⟨31, _⟩ => ⟨S8x1x1024, .f32⟩
  | .hbm, ⟨32, _⟩ => ⟨S8x4096x1024, .f32⟩
  | .hbm, ⟨33, _⟩ => ⟨S8x4096x1024, .f32⟩
  | .hbm, ⟨34, _⟩ => ⟨S8x4096x1024, .f32⟩
  | .hbm, ⟨35, _⟩ => ⟨S8x4096x1024, .f32⟩
  | .hbm, ⟨36, _⟩ => ⟨S8x4096x5632, .f32⟩
  | .hbm, ⟨37, _⟩ => ⟨S8x4096x2816, .f32⟩
  | .hbm, ⟨38, _⟩ => ⟨S8x4096x2816, .f32⟩
  | .hbm, ⟨39, _⟩ => ⟨S8x4096x2816, .f32⟩
  | .hbm, ⟨40, _⟩ => ⟨S8x4096x2816, .f32⟩
  | .hbm, ⟨41, _⟩ => ⟨S_, .f32⟩
  | .hbm, ⟨42, _⟩ => ⟨S8x4096x2816, .f32⟩
  | .hbm, ⟨43, _⟩ => ⟨S8x4096x2816, .f32⟩
  | .hbm, ⟨44, _⟩ => ⟨S_, .f32⟩
  | .hbm, ⟨45, _⟩ => ⟨S8x4096x2816, .f32⟩
  | .hbm, ⟨46, _⟩ => ⟨S8x4096x2816, .f32⟩
  | .hbm, ⟨47, _⟩ => ⟨S8x4096x2816, .f32⟩
  | .hbm, ⟨48, _⟩ => ⟨S8x4096x2816, .f32⟩
  | .hbm, ⟨49, _⟩ => ⟨S8x4096x1024, .f32⟩
  | .hbm, ⟨50, _⟩ => ⟨S8x4096x1024, .f32⟩
  | .hbm, ⟨51, _⟩ => ⟨S8x4096x1024, .f32⟩
  | .hbm, ⟨52, _⟩ => ⟨S8x4096x1024, .f32⟩
  | .hbm, ⟨53, _⟩ => ⟨S8x4096x1024, .f32⟩
  | .hbm, ⟨54, _⟩ => ⟨S_, .f32⟩
  | .hbm, ⟨55, _⟩ => ⟨S8x4096, .f32⟩
  | .hbm, ⟨56, _⟩ => ⟨S8x4096x1, .f32⟩
  | .hbm, ⟨57, _⟩ => ⟨S_, .f32⟩
  | .hbm, ⟨58, _⟩ => ⟨S8x4096x1, .f32⟩
  | .hbm, ⟨59, _⟩ => ⟨S8x4096x1, .f32⟩
  | .hbm, ⟨60, _⟩ => ⟨S_, .f32⟩
  | .hbm, ⟨61, _⟩ => ⟨S8x4096x1, .f32⟩
  | .hbm, ⟨62, _⟩ => ⟨S8x4096x1, .f32⟩
  | .hbm, ⟨63, _⟩ => ⟨S8x4096x1, .f32⟩
  | .hbm, ⟨64, _⟩ => ⟨S8x4096x1024, .f32⟩
  | .hbm, ⟨65, _⟩ => ⟨S8x4096x1024, .f32⟩
  | .hbm, ⟨66, _⟩ => ⟨S1x1x1024, .f32⟩
  | .hbm, ⟨67, _⟩ => ⟨S8x4096x1024, .f32⟩
  | .hbm, ⟨68, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_3 : Ref sig .tc := ⟨.hbm, 54, rfl⟩
abbrev main_v36 : Ref sig .tc := ⟨.hbm, 55, rfl⟩
abbrev main_v37 : Ref sig .tc := ⟨.hbm, 56, rfl⟩
abbrev main_cst_4 : Ref sig .tc := ⟨.hbm, 57, rfl⟩
abbrev main_v38 : Ref sig .tc := ⟨.hbm, 58, rfl⟩
abbrev main_v39 : Ref sig .tc := ⟨.hbm, 59, rfl⟩
abbrev main_cst_5 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩

abbrev nD : Nat := 1
abbrev τ : Topo := Topo.v7x

variable {F : FTy → Type} [FloatOps F]
-- ==== Merge.lean ====
abbrev S8x4096x1024 : Shape := ⟨3, ![8, 4096, 1024]⟩
abbrev S8x4096x512 : Shape := ⟨3, ![8, 4096, 512]⟩
abbrev S8x4096x7680 : Shape := ⟨3, ![8, 4096, 7680]⟩
abbrev S8x6144 : Shape := ⟨2, ![8, 6144]⟩
abbrev S3x512x1024 : Shape := ⟨3, ![3, 512, 1024]⟩
abbrev S1024x1024 : Shape := ⟨2, ![1024, 1024]⟩
abbrev S8x6x1024 : Shape := ⟨3, ![8, 6, 1024]⟩
abbrev S_ : Shape := ⟨0, ![]⟩
abbrev S8x2x1024 : Shape := ⟨3, ![8, 2, 1024]⟩
abbrev S8x8x1024 : Shape := ⟨3, ![8, 8, 1024]⟩
abbrev S1x512x1024 : Shape := ⟨3, ![1, 512, 1024]⟩
abbrev S1x512x512 : Shape := ⟨3, ![1, 512, 512]⟩
abbrev S1x512x3072 : Shape := ⟨3, ![1, 512, 3072]⟩
abbrev S1x8x1024 : Shape := ⟨3, ![1, 8, 1024]⟩
abbrev S512x512 : Shape := ⟨2, ![512, 512]⟩
abbrev S512x1024 : Shape := ⟨2, ![512, 1024]⟩
abbrev S1x1x1024 : Shape := ⟨3, ![1, 1, 1024]⟩
abbrev S1x1024 : Shape := ⟨2, ![1, 1024]⟩

abbrev nBuf : Space → Nat
  | .hbm => 15
  | .vmem => 16
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S8x4096x512, .bf16⟩
  | .hbm, ⟨4, _⟩ => ⟨S8x4096x7680, .bf16⟩
  | .hbm, ⟨5, _⟩ => ⟨S8x6144, .f32⟩
  | .hbm, ⟨6, _⟩ => ⟨S3x512x1024, .f32⟩
  | .hbm, ⟨7, _⟩ => ⟨S1024x1024, .f32⟩
  | .hbm, ⟨8, _⟩ => ⟨S8x6x1024, .f32⟩
  | .hbm, ⟨9, _⟩ => ⟨S_, .f32⟩
  | .hbm, ⟨10, _⟩ => ⟨S8x2x1024, .f32⟩
  | .hbm, ⟨11, _⟩ => ⟨S8x8x1024, .f32⟩
  | .hbm, ⟨12, _⟩ => ⟨S3x512x1024, .bf16⟩
  | .hbm, ⟨13, _⟩ => ⟨S1024x1024, .bf16⟩
  | .hbm, ⟨14, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x3072, .bf16⟩
  | .local _ .vmem, ⟨9, _⟩ => ⟨S1x512x3072, .bf16⟩
  | .local _ .vmem, ⟨10, _⟩ => ⟨S1x8x1024, .f32⟩
  | .local _ .vmem, ⟨11, _⟩ => ⟨S1x8x1024, .f32⟩
  | .local _ .vmem, ⟨12, _⟩ => ⟨S3x512x1024, .bf16⟩
  | .local _ .vmem, ⟨13, _⟩ => ⟨S1024x1024, .bf16⟩
  | .local _ .vmem, ⟨14, _⟩ => ⟨S1x512x1024, .f32⟩
  | .local _ .vmem, ⟨15, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S3x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MergeReferenceIdeal.lean ====
abbrev S8x4096x1024 : Shape := ⟨3, ![8, 4096, 1024]⟩
abbrev S8x4096x512 : Shape := ⟨3, ![8, 4096, 512]⟩
abbrev S8x4096x7680 : Shape := ⟨3, ![8, 4096, 7680]⟩
abbrev S8x6144 : Shape := ⟨2, ![8, 6144]⟩
abbrev S3x512x1024 : Shape := ⟨3, ![3, 512, 1024]⟩
abbrev S1024x1024 : Shape := ⟨2, ![1024, 1024]⟩
abbrev S8x1x6144 : Shape := ⟨3, ![8, 1, 6144]⟩
abbrev S8x1x1024 : Shape := ⟨3, ![8, 1, 1024]⟩
abbrev S8x4096x1x512 : Shape := ⟨4, ![8, 4096, 1, 512]⟩
abbrev S8x4096x3x512 : Shape := ⟨4, ![8, 4096, 3, 512]⟩
abbrev S3x1024x8x4096 : Shape := ⟨4, ![3, 1024, 8, 4096]⟩
abbrev S8x4096x3x1024 : Shape := ⟨4, ![8, 4096, 3, 1024]⟩
abbrev S8x4096x3072 : Shape := ⟨3, ![8, 4096, 3072]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x512, .bf16⟩
  | .hbm, ⟨2, _⟩ => ⟨S8x4096x512, .bf16⟩
  | .hbm, ⟨3, _⟩ => ⟨S8x4096x512, .bf16⟩
  | .hbm, ⟨4, _⟩ => ⟨S8x4096x7680, .bf16⟩
  | .hbm, ⟨5, _⟩ => ⟨S8x6144, .f32⟩
  | .hbm, ⟨6, _⟩ => ⟨S3x512x1024, .f32⟩
  | .hbm, ⟨7, _⟩ => ⟨S1024x1024, .f32⟩
  | .hbm, ⟨8, _⟩ => ⟨S8x1x6144, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x4096x512, .f32⟩
  | .hbm, ⟨16, _⟩ => ⟨S8x4096x512, .f32⟩
  | .hbm, ⟨17, _⟩ => ⟨S8x4096x512, .f32⟩
  | .hbm, ⟨18, _⟩ => ⟨S8x4096x1x512, .f32⟩
  | .hbm, ⟨19, _⟩ => ⟨S8x4096x1x512, .f32⟩
  | .hbm, ⟨20, _⟩ => ⟨S8x4096x1x512, .f32⟩
  | .hbm, ⟨21, _⟩ => ⟨S8x4096x3x512, .f32⟩
  | .hbm, ⟨22, _⟩ => ⟨S3x1024x8x4096, .f32⟩
  | .hbm, ⟨23, _⟩ => ⟨S8x4096x3x1024, .f32⟩
  | .hbm, ⟨24, _⟩ => ⟨S8x4096x3072, .bf16⟩
  | .hbm, ⟨25, _⟩ => ⟨S8x4096x3072, .f32⟩
  | .hbm, ⟨26, _⟩ => ⟨S8x4096x3x1024, .f32⟩
  | .hbm, ⟨27, _⟩ => ⟨S8x4096x3x1024, .f32⟩
  | .hbm, ⟨28, _⟩ => ⟨S8x4096x3x1024, .f32⟩
  | .hbm, ⟨29, _⟩ => ⟨S_, .f32⟩
  | .hbm, ⟨30, _⟩ => ⟨S8x4096x3x1024, .f32⟩
  | .hbm, ⟨31, _⟩ => ⟨S8x4096x3x1024, .f32⟩
  | .hbm, ⟨32, _⟩ => ⟨S_, .f32⟩
  | .hbm, ⟨33, _⟩ => ⟨S8x4096x3x1024, .f32⟩
  | .hbm, ⟨34, _⟩ => ⟨S8x4096x3x1024, .f32⟩
  | .hbm, ⟨35, _⟩ => ⟨S8x4096x3x1024, .f32⟩
  | .hbm, ⟨36, _⟩ => ⟨S_, .f32⟩
  | .hbm, ⟨37, _⟩ => ⟨S8x4096x1024, .f32⟩
  | .hbm, ⟨38, _⟩ => ⟨S8x4096x1024, .f32⟩
  | .hbm, ⟨39, _⟩ => ⟨S8x4096x1024, .f32⟩
  | .hbm, ⟨40, _⟩ => ⟨S8x4096x1024, .f32⟩
  | .hbm, ⟨41, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_cst_0 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_1 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== InProj.lean ====
abbrev S8x4096x1024 : Shape := ⟨3, ![8, 4096, 1024]⟩
abbrev S8x6144 : Shape := ⟨2, ![8, 6144]⟩
abbrev S1024 : Shape := ⟨1, ![1024]⟩
abbrev S1024x8464 : Shape := ⟨2, ![1024, 8464]⟩
abbrev S8x6x1024 : Shape := ⟨3, ![8, 6, 1024]⟩
abbrev S_ : Shape := ⟨0, ![]⟩
abbrev S8x2x1024 : Shape := ⟨3, ![8, 2, 1024]⟩
abbrev S8x8x1024 : Shape := ⟨3, ![8, 8, 1024]⟩
abbrev S1x1024 : Shape := ⟨2, ![1, 1024]⟩
abbrev S1024x3072 : Shape := ⟨2, ![1024, 3072]⟩
abbrev S1024x2048 : Shape := ⟨2, ![1024, 2048]⟩
abbrev S1024x512 : Shape := ⟨2, ![1024, 512]⟩
abbrev S1024x1792 : Shape := ⟨2, ![1024, 1792]⟩
abbrev S1024x1024 : Shape := ⟨2, ![1024, 1024]⟩
abbrev S1024x16 : Shape := ⟨2, ![1024, 16]⟩
abbrev S1024x256 : Shape := ⟨2, ![1024, 256]⟩
abbrev S1024x240 : Shape := ⟨2, ![1024, 240]⟩
abbrev S1024x8960 : Shape := ⟨2, ![1024, 8960]⟩
abbrev S8x4096x7680 : Shape := ⟨3, ![8, 4096, 7680]⟩
abbrev S8x4096x1280 : Shape := ⟨3, ![8, 4096, 1280]⟩
abbrev S1x1024x1024 : Shape := ⟨3, ![1, 1024, 1024]⟩
abbrev S1x8x1024 : Shape := ⟨3, ![1, 8, 1024]⟩
abbrev S1024x1280 : Shape := ⟨2, ![1024, 1280]⟩
abbrev S1x1024x1280 : Shape := ⟨3, ![1, 1024, 1280]⟩
abbrev S1x1x1024 : Shape := ⟨3, ![1, 1, 1024]⟩
abbrev S1024x1 : Shape := ⟨2, ![1024, 1]⟩

abbrev nBuf : Space → Nat
  | .hbm => 23
  | .vmem => 12
  | .smem => 0
  | _ => 0

abbrev bufTy : (tb : Table) → Fin (tcTables nBuf tb) → BufTy
  | .hbm, ⟨0, _⟩ => ⟨S8x4096x1024, .f32⟩
  | .hbm, ⟨1, _⟩ => ⟨S8x6144, .f32⟩
  | .hbm, ⟨2, _⟩ => ⟨S1024, .f32⟩
  | .hbm, ⟨3, _⟩ => ⟨S1024x8464, .f32⟩
  | .hbm, ⟨4, _⟩ => ⟨S8x6x1024, .f32⟩
  | .hbm, ⟨5, _⟩ => ⟨S_, .f32⟩
  | .hbm, ⟨6, _⟩ => ⟨S8x2x1024, .f32⟩
  | .hbm, ⟨7, _⟩ => ⟨S8x8x1024, .f32⟩
  | .hbm, ⟨8, _⟩ => ⟨S1x1024, .f32⟩
  | .hbm, ⟨9, _⟩ => ⟨S1024x3072, .f32⟩
  | .hbm, ⟨10, _⟩ => ⟨S1024x2048, .f32⟩
  | .hbm, ⟨11, _⟩ => ⟨S1024x512, .f32⟩
  | .hbm, ⟨12, _⟩ => ⟨S1024x1792, .f32⟩
  | .hbm, ⟨13, _⟩ => ⟨S1024x1024, .f32⟩
  | .hbm, ⟨14, _⟩ => ⟨S1024x16, .f32⟩
  | .hbm, ⟨15, _⟩ => ⟨S_, .f32⟩
  | .hbm, ⟨16, _⟩ => ⟨S1024x256, .f32⟩
  | .hbm, ⟨17, _⟩ => ⟨S_, .f32⟩
  | .hbm, ⟨18, _⟩ => ⟨S1024x240, .f32⟩
  | .hbm, ⟨19, _⟩ => ⟨S1024x8960, .f32⟩
  | .hbm, ⟨20, _⟩ => ⟨S1024x8960, .bf16⟩
  | .hbm, ⟨21, _⟩ => ⟨S8x4096x7680, .bf16⟩
  | .hbm, ⟨22, _⟩ => ⟨S8x4096x1280, .f32⟩
  | .local _ .vmem, ⟨0, _⟩ => ⟨S1x1024x1024, .f32⟩
  | .local _ .vmem, ⟨1, _⟩ => ⟨S1x1024x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x1024, .f32⟩
  | .local _ .vmem, ⟨5, _⟩ => ⟨S1024x1280, .bf16⟩
  | .local _ .vmem, ⟨6, _⟩ => ⟨S1024x1280, .bf16⟩
  | .local _ .vmem, ⟨7, _⟩ => ⟨S1x1024x1280, .bf16⟩
  | .local _ .vmem, ⟨8, _⟩ => ⟨S1x1024x1280, .bf16⟩
  | .local _ .vmem, ⟨9, _⟩ => ⟨S1x1024x1280, .f32⟩
  | .local _ .vmem, ⟨10, _⟩ => ⟨S1x1024x1280, .f32⟩
  | .local _ .vmem, ⟨11, _⟩ => ⟨S1024x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 4, 7], ![false, false, false]⟩

def k0_cond2 (i : grid0.Coords) : BitVec 1 :=
  let arg2 : BitVec 32 := BitVec.ofNat 32 (i 2).val
  let c6_i32 : BitVec 32 := 6#32
  let v3 : BitVec 1 := Scalar.cmpi .slt arg2 c6_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg2 : BitVec 32 := BitVec.ofNat 32 (i 2).val
  let c6_i32_2 : BitVec 32 := 6#32
  let v6 : BitVec 1 := Scalar.cmpi .eq arg2 c6_i32_2
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.minsi arg2 c5_i32
  let c0_i32 : BitVec 32 := 0#32
  ![arg0.toNat, arg1.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1280 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x1024x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1024x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== InProjReferenceIdeal.lean ====
abbrev S8x4096x1024 : Shape := ⟨3, ![8, 4096, 1024]⟩
abbrev S8x6144 : Shape := ⟨2, ![8, 6144]⟩
abbrev S1024 : Shape := ⟨1, ![1024]⟩
abbrev S1024x8464 : Shape := ⟨2, ![1024, 8464]⟩
abbrev S8x1x6144 : Shape := ⟨3, ![8, 1, 6144]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x8464 : Shape := ⟨3, ![8, 4096, 8464]⟩
abbrev S8x4096x2048 : Shape := ⟨3, ![8, 4096, 2048]⟩
abbrev S8x4096x16 : Shape := ⟨3, ![8, 4096, 16]⟩
abbrev S8x4096x512 : Shape := ⟨3, ![8, 4096, 512]⟩
abbrev S8x4096x1792 : Shape := ⟨3, ![8, 4096, 1792]⟩
abbrev S8x4096x3072 : Shape := ⟨3, ![8, 4096, 3072]⟩
abbrev S8x4096x256 : Shape := ⟨3, ![8, 4096, 256]⟩
abbrev S8x4096x7680 : Shape := ⟨3, ![8, 4096, 7680]⟩
abbrev S8x4096x240 : Shape := ⟨3, ![8, 4096, 240]⟩
abbrev S8x4096x1280 : Shape := ⟨3, ![8, 4096, 1280]⟩

abbrev nBuf : Space → Nat
  | .hbm => 48
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x6144, .f32⟩
  | .hbm, ⟨2, _⟩ => ⟨S1024, .f32⟩
  | .hbm, ⟨3, _⟩ => ⟨S1024x8464, .f32⟩
  | .hbm, ⟨4, _⟩ => ⟨S8x1x6144, .f32⟩
  | .hbm, ⟨5, _⟩ => ⟨S8x1x1024, .f32⟩
  | .hbm, ⟨6, _⟩ => ⟨S8x1x1024, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x4096x1024, .f32⟩
  | .hbm, ⟨12, _⟩ => ⟨S_, .f32⟩
  | .hbm, ⟨13, _⟩ => ⟨S8x4096, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S8x4096x1, .f32⟩
  | .hbm, ⟨22, _⟩ => ⟨S8x4096x1024, .f32⟩
  | .hbm, ⟨23, _⟩ => ⟨S8x4096x1024, .f32⟩
  | .hbm, ⟨24, _⟩ => ⟨S1x1x1024, .f32⟩
  | .hbm, ⟨25, _⟩ => ⟨S8x4096x1024, .f32⟩
  | .hbm, ⟨26, _⟩ => ⟨S8x4096x1024, .f32⟩
  | .hbm, ⟨27, _⟩ => ⟨S_, .f32⟩
  | .hbm, ⟨28, _⟩ => ⟨S8x1x1024, .f32⟩
  | .hbm, ⟨29, _⟩ => ⟨S8x1x1024, .f32⟩
  | .hbm, ⟨30, _⟩ => ⟨S8x4096x1024, .f32⟩
  | .hbm, ⟨31, _⟩ => ⟨S8x4096x1024, .f32⟩
  | .hbm, ⟨32, _⟩ => ⟨S8x4096x1024, .f32⟩
  | .hbm, ⟨33, _⟩ => ⟨S8x4096x1024, .f32⟩
  | .hbm, ⟨34, _⟩ => ⟨S8x4096x8464, .f32⟩
  | .hbm, ⟨35, _⟩ => ⟨S8x4096x2048, .f32⟩
  | .hbm, ⟨36, _⟩ => ⟨S8x4096x16, .f32⟩
  | .hbm, ⟨37, _⟩ => ⟨S8x4096x512, .f32⟩
  | .hbm, ⟨38, _⟩ => ⟨S8x4096x1024, .f32⟩
  | .hbm, ⟨39, _⟩ => ⟨S8x4096x1792, .f32⟩
  | .hbm, ⟨40, _⟩ => ⟨S8x4096x3072, .f32⟩
  | .hbm, ⟨41, _⟩ => ⟨S_, .f32⟩
  | .hbm, ⟨42, _⟩ => ⟨S8x4096x256, .f32⟩
  | .hbm, ⟨43, _⟩ => ⟨S8x4096x7680, .f32⟩
  | .hbm, ⟨44, _⟩ => ⟨S_, .f32⟩
  | .hbm, ⟨45, _⟩ => ⟨S8x4096x240, .f32⟩
  | .hbm, ⟨46, _⟩ => ⟨S8x4096x1280, .f32⟩
  | .hbm, ⟨47, _⟩ => ⟨S8x4096x7680, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_v33 : Ref sig .tc := ⟨.hbm, 42, rfl⟩
abbrev main_v34 : Ref sig .tc := ⟨.hbm, 43, rfl⟩
abbrev main_cst_4 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== Prep.lean ====
abbrev S16x256x7680 : Shape := ⟨3, ![16, 256, 7680]⟩
abbrev S64 : Shape := ⟨1, ![64]⟩
abbrev S256x128 : Shape := ⟨2, ![256, 128]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S16x256x128 : Shape := ⟨3, ![16, 256, 128]⟩
abbrev S16x256x2x64 : Shape := ⟨4, ![16, 256, 2, 64]⟩
abbrev S16x8x256x64 : Shape := ⟨4, ![16, 8, 256, 64]⟩
abbrev S16x2x256x64 : Shape := ⟨4, ![16, 2, 256, 64]⟩
abbrev S16x2x256x128 : Shape := ⟨4, ![16, 2, 256, 128]⟩
abbrev S1x256x512 : Shape := ⟨3, ![1, 256, 512]⟩
abbrev S1x256x128 : Shape := ⟨3, ![1, 256, 128]⟩
abbrev S1x8x256x64 : Shape := ⟨4, ![1, 8, 256, 64]⟩
abbrev S1x2x256x64 : Shape := ⟨4, ![1, 2, 256, 64]⟩
abbrev S1x2x256x128 : Shape := ⟨4, ![1, 2, 256, 128]⟩
abbrev S128x128 : Shape := ⟨2, ![128, 128]⟩
abbrev S256x64 : Shape := ⟨2, ![256, 64]⟩
abbrev S1x1x256x64 : Shape := ⟨4, ![1, 1, 256, 64]⟩
abbrev S1x1x256x128 : Shape := ⟨4, ![1, 1, 256, 128]⟩

abbrev nBuf : Space → Nat
  | .hbm => 20
  | .vmem => 18
  | .smem => 0
  | _ => 0

abbrev bufTy : (tb : Table) → Fin (tcTables nBuf tb) → BufTy
  | .hbm, ⟨0, _⟩ => ⟨S16x256x7680, .bf16⟩
  | .hbm, ⟨1, _⟩ => ⟨S64, .f32⟩
  | .hbm, ⟨2, _⟩ => ⟨S64, .f32⟩
  | .hbm, ⟨3, _⟩ => ⟨S256x128, .f32⟩
  | .hbm, ⟨4, _⟩ => ⟨S256x128, .f32⟩
  | .hbm, ⟨5, _⟩ => ⟨S1x64, .f32⟩
  | .hbm, ⟨6, _⟩ => ⟨S2x64, .f32⟩
  | .hbm, ⟨7, _⟩ => ⟨S128, .f32⟩
  | .hbm, ⟨8, _⟩ => ⟨S1x128, .f32⟩
  | .hbm, ⟨9, _⟩ => ⟨S1x64, .f32⟩
  | .hbm, ⟨10, _⟩ => ⟨S2x64, .f32⟩
  | .hbm, ⟨11, _⟩ => ⟨S128, .f32⟩
  | .hbm, ⟨12, _⟩ => ⟨S1x128, .f32⟩
  | .hbm, ⟨13, _⟩ => ⟨S16x256x128, .bf16⟩
  | .hbm, ⟨14, _⟩ => ⟨S16x256x128, .f32⟩
  | .hbm, ⟨15, _⟩ => ⟨S16x256x2x64, .f32⟩
  | .hbm, ⟨16, _⟩ => ⟨S16x8x256x64, .bf16⟩
  | .hbm, ⟨17, _⟩ => ⟨S16x2x256x64, .bf16⟩
  | .hbm, ⟨18, _⟩ => ⟨S16x2x256x128, .bf16⟩
  | .hbm, ⟨19, _⟩ => ⟨S16x256x128, .f32⟩
  | .local _ .vmem, ⟨0, _⟩ => ⟨S1x256x512, .bf16⟩
  | .local _ .vmem, ⟨1, _⟩ => ⟨S1x256x512, .bf16⟩
  | .local _ .vmem, ⟨2, _⟩ => ⟨S1x256x128, .bf16⟩
  | .local _ .vmem, ⟨3, _⟩ => ⟨S1x256x128, .bf16⟩
  | .local _ .vmem, ⟨4, _⟩ => ⟨S1x256x128, .bf16⟩
  | .local _ .vmem, ⟨5, _⟩ => ⟨S1x256x128, .bf16⟩
  | .local _ .vmem, ⟨6, _⟩ => ⟨S1x128, .f32⟩
  | .local _ .vmem, ⟨7, _⟩ => ⟨S1x128, .f32⟩
  | .local _ .vmem, ⟨8, _⟩ => ⟨S256x128, .f32⟩
  | .local _ .vmem, ⟨9, _⟩ => ⟨S256x128, .f32⟩
  | .local _ .vmem, ⟨10, _⟩ => ⟨S1x8x256x64, .bf16⟩
  | .local _ .vmem, ⟨11, _⟩ => ⟨S1x8x256x64, .bf16⟩
  | .local _ .vmem, ⟨12, _⟩ => ⟨S1x2x256x64, .bf16⟩
  | .local _ .vmem, ⟨13, _⟩ => ⟨S1x2x256x64, .bf16⟩
  | .local _ .vmem, ⟨14, _⟩ => ⟨S1x2x256x128, .bf16⟩
  | .local _ .vmem, ⟨15, _⟩ => ⟨S1x2x256x128, .bf16⟩
  | .local _ .vmem, ⟨16, _⟩ => ⟨S1x256x128, .f32⟩
  | .local _ .vmem, ⟨17, _⟩ => ⟨S1x256x128, .f32⟩
  | _, _ => ⟨S16x256x7680, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev main_v11_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c13_i32 : BitVec 32 := 13#32
  let c0_i32 : BitVec 32 := 0#32
  ![arg0.toNat, arg1.toNat, c13_i32.toNat]

def cc0_transform_1 (i : grid0.Coords) : Fin 3 → Nat :=
  let arg0 : BitVec 32 := BitVec.ofNat 32 (i 0).val
  let arg1 : BitVec 32 := BitVec.ofNat 32 (i 1).val
  let c56_i32 : BitVec 32 := 56#32
  let c0_i32 : BitVec 32 := 0#32
  ![arg0.toNat, arg1.toNat, c56_i32.toNat]

def cc0_transform_2 (i : grid0.Coords) : Fin 3 → Nat :=
  let arg0 : BitVec 32 := BitVec.ofNat 32 (i 0).val
  let arg1 : BitVec 32 := BitVec.ofNat 32 (i 1).val
  let c57_i32 : BitVec 32 := 57#32
  let c0_i32 : BitVec 32 := 0#32
  ![arg0.toNat, arg1.toNat, c57_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 2 → Memref sig .tc .vmem S1x8x256x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x256x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== PrepReferenceIdeal.lean ====
abbrev S16x256x7680 : Shape := ⟨3, ![16, 256, 7680]⟩
abbrev S64 : Shape := ⟨1, ![64]⟩
abbrev S256x128 : Shape := ⟨2, ![256, 128]⟩
abbrev S16x256x512 : Shape := ⟨3, ![16, 256, 512]⟩
abbrev S16x256x128 : Shape := ⟨3, ![16, 256, 128]⟩
abbrev S16x256x8x64 : Shape := ⟨4, ![16, 256, 8, 64]⟩
abbrev S_ : Shape := ⟨0, ![]⟩
abbrev S16x256x8 : Shape := ⟨3, ![16, 256, 8]⟩
abbrev S16x256x8x1 : Shape := ⟨4, ![16, 256, 8, 1]⟩
abbrev S1x1x1x64 : Shape := ⟨4, ![1, 1, 1, 64]⟩
abbrev S16x256x2x64 : Shape := ⟨4, ![16, 256, 2, 64]⟩
abbrev S16x256x2 : Shape := ⟨3, ![16, 256, 2]⟩
abbrev S16x256x2x1 : Shape := ⟨4, ![16, 256, 2, 1]⟩
abbrev S16x8x256x64 : Shape := ⟨4, ![16, 8, 256, 64]⟩
abbrev S16x256x2x63 : Shape := ⟨4, ![16, 256, 2, 63]⟩
abbrev S16x256x2x128 : Shape := ⟨4, ![16, 256, 2, 128]⟩
abbrev S16x2x256x64 : Shape := ⟨4, ![16, 2, 256, 64]⟩
abbrev S16x2x256x128 : Shape := ⟨4, ![16, 2, 256, 128]⟩

abbrev nBuf : Space → Nat
  | .hbm => 61
  | .vmem => 0
  | .smem => 0
  | _ => 0

abbrev bufTy : (tb : Table) → Fin (tcTables nBuf tb) → BufTy
  | .hbm, ⟨0, _⟩ => ⟨S16x256x7680, .bf16⟩
  | .hbm, ⟨1, _⟩ => ⟨S64, .f32⟩
  | .hbm, ⟨2, _⟩ => ⟨S64, .f32⟩
  | .hbm, ⟨3, _⟩ => ⟨S256x128, .f32⟩
  | .hbm, ⟨4, _⟩ => ⟨S256x128, .f32⟩
  | .hbm, ⟨5, _⟩ => ⟨S16x256x512, .bf16⟩
  | .hbm, ⟨6, _⟩ => ⟨S16x256x512, .f32⟩
  | .hbm, ⟨7, _⟩ => ⟨S16x256x128, .bf16⟩
  | .hbm, ⟨8, _⟩ => ⟨S16x256x128, .f32⟩
  | .hbm, ⟨9, _⟩ => ⟨S16x256x128, .bf16⟩
  | .hbm, ⟨10, _⟩ => ⟨S16x256x128, .f32⟩
  | .hbm, ⟨11, _⟩ => ⟨S16x256x8x64, .f32⟩
  | .hbm, ⟨12, _⟩ => ⟨S16x256x8x64, .f32⟩
  | .hbm, ⟨13, _⟩ => ⟨S_, .f32⟩
  | .hbm, ⟨14, _⟩ => ⟨S16x256x8, .f32⟩
  | .hbm, ⟨15, _⟩ => ⟨S16x256x8x1, .f32⟩
  | .hbm, ⟨16, _⟩ => ⟨S_, .f32⟩
  | .hbm, ⟨17, _⟩ => ⟨S16x256x8x1, .f32⟩
  | .hbm, ⟨18, _⟩ => ⟨S16x256x8x1, .f32⟩
  | .hbm, ⟨19, _⟩ => ⟨S_, .f32⟩
  | .hbm, ⟨20, _⟩ => ⟨S16x256x8x1, .f32⟩
  | .hbm, ⟨21, _⟩ => ⟨S16x256x8x1, .f32⟩
  | .hbm, ⟨22, _⟩ => ⟨S16x256x8x1, .f32⟩
  | .hbm, ⟨23, _⟩ => ⟨S16x256x8x64, .f32⟩
  | .hbm, ⟨24, _⟩ => ⟨S16x256x8x64, .f32⟩
  | .hbm, ⟨25, _⟩ => ⟨S1x1x1x64, .f32⟩
  | .hbm, ⟨26, _⟩ => ⟨S16x256x8x64, .f32⟩
  | .hbm, ⟨27, _⟩ => ⟨S16x256x8x64, .f32⟩
  | .hbm, ⟨28, _⟩ => ⟨S16x256x2x64, .f32⟩
  | .hbm, ⟨29, _⟩ => ⟨S16x256x2x64, .f32⟩
  | .hbm, ⟨30, _⟩ => ⟨S_, .f32⟩
  | .hbm, ⟨31, _⟩ => ⟨S16x256x2, .f32⟩
  | .hbm, ⟨32, _⟩ => ⟨S16x256x2x1, .f32⟩
  | .hbm, ⟨33, _⟩ => ⟨S_, .f32⟩
  | .hbm, ⟨34, _⟩ => ⟨S16x256x2x1, .f32⟩
  | .hbm, ⟨35, _⟩ => ⟨S16x256x2x1, .f32⟩
  | .hbm, ⟨36, _⟩ => ⟨S_, .f32⟩
  | .hbm, ⟨37, _⟩ => ⟨S16x256x2x1, .f32⟩
  | .hbm, ⟨38, _⟩ => ⟨S16x256x2x1, .f32⟩
  | .hbm, ⟨39, _⟩ => ⟨S16x256x2x1, .f32⟩
  | .hbm, ⟨40, _⟩ => ⟨S16x256x2x64, .f32⟩
  | .hbm, ⟨41, _⟩ => ⟨S16x256x2x64, .f32⟩
  | .hbm, ⟨42, _⟩ => ⟨S1x1x1x64, .f32⟩
  | .hbm, ⟨43, _⟩ => ⟨S16x256x2x64, .f32⟩
  | .hbm, ⟨44, _⟩ => ⟨S16x256x2x64, .f32⟩
  | .hbm, ⟨45, _⟩ => ⟨S16x256x2x64, .f32⟩
  | .hbm, ⟨46, _⟩ => ⟨S_, .f32⟩
  | .hbm, ⟨47, _⟩ => ⟨S16x256x8x64, .f32⟩
  | .hbm, ⟨48, _⟩ => ⟨S16x256x8x64, .f32⟩
  | .hbm, ⟨49, _⟩ => ⟨S16x8x256x64, .f32⟩
  | .hbm, ⟨50, _⟩ => ⟨S_, .f32⟩
  | .hbm, ⟨51, _⟩ => ⟨S16x256x2x1, .f32⟩
  | .hbm, ⟨52, _⟩ => ⟨S_, .f32⟩
  | .hbm, ⟨53, _⟩ => ⟨S16x256x2x63, .f32⟩
  | .hbm, ⟨54, _⟩ => ⟨S16x256x2x128, .f32⟩
  | .hbm, ⟨55, _⟩ => ⟨S16x8x256x64, .bf16⟩
  | .hbm, ⟨56, _⟩ => ⟨S16x2x256x64, .f32⟩
  | .hbm, ⟨57, _⟩ => ⟨S16x2x256x64, .bf16⟩
  | .hbm, ⟨58, _⟩ => ⟨S16x2x256x128, .f32⟩
  | .hbm, ⟨59, _⟩ => ⟨S16x2x256x128, .bf16⟩
  | .hbm, ⟨60, _⟩ => ⟨S16x256x128, .f32⟩
  | _, _ => ⟨S16x256x7680, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]
-- ==== FfnPrompt.lean ====
abbrev S16x256x1024 : Shape := ⟨3, ![16, 256, 1024]⟩
abbrev S1x6144 : Shape := ⟨2, ![1, 6144]⟩
abbrev S1024 : Shape := ⟨1, ![1024]⟩
abbrev S1024x5632 : Shape := ⟨2, ![1024, 5632]⟩
abbrev S2816x1024 : Shape := ⟨2, ![2816, 1024]⟩
abbrev S1x4096x1024 : Shape := ⟨3, ![1, 4096, 1024]⟩
abbrev S1x6x1024 : Shape := ⟨3, ![1, 6, 1024]⟩
abbrev S_ : Shape := ⟨0, ![]⟩
abbrev S1x2x1024 : Shape := ⟨3, ![1, 2, 1024]⟩
abbrev S1x8x1024 : Shape := ⟨3, ![1, 8, 1024]⟩
abbrev S1x1024 : Shape := ⟨2, ![1, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S1x1x1024 : Shape := ⟨3, ![1, 1, 1024]⟩
abbrev S1024x1536 : Shape := ⟨2, ![1024, 1536]⟩
abbrev S512x1536 : Shape := ⟨2, ![512, 1536]⟩
abbrev S1536x1024 : Shape := ⟨2, ![1536, 1024]⟩
abbrev S1024x1280 : Shape := ⟨2, ![1024, 1280]⟩
abbrev S512x1280 : Shape := ⟨2, ![512, 1280]⟩
abbrev S1280x1024 : Shape := ⟨2, ![1280, 1024]⟩

abbrev nBuf : Space → Nat
  | .hbm => 16
  | .vmem => 9
  | .smem => 0
  | _ => 0

abbrev bufTy : (tb : Table) → Fin (tcTables nBuf tb) → BufTy
  | .hbm, ⟨0, _⟩ => ⟨S16x256x1024, .f32⟩
  | .hbm, ⟨1, _⟩ => ⟨S1x6144, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S1x4096x1024, .f32⟩
  | .hbm, ⟨7, _⟩ => ⟨S1x6x1024, .f32⟩
  | .hbm, ⟨8, _⟩ => ⟨S_, .f32⟩
  | .hbm, ⟨9, _⟩ => ⟨S1x2x1024, .f32⟩
  | .hbm, ⟨10, _⟩ => ⟨S1x8x1024, .f32⟩
  | .hbm, ⟨11, _⟩ => ⟨S1x1024, .f32⟩
  | .hbm, ⟨12, _⟩ => ⟨S1024x5632, .bf16⟩
  | .hbm, ⟨13, _⟩ => ⟨S2816x1024, .bf16⟩
  | .hbm, ⟨14, _⟩ => ⟨S1x1024, .f32⟩
  | .hbm, ⟨15, _⟩ => ⟨S1x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x1024, .f32⟩
  | .local _ .vmem, ⟨4, _⟩ => ⟨S1024x5632, .bf16⟩
  | .local _ .vmem, ⟨5, _⟩ => ⟨S2816x1024, .bf16⟩
  | .local _ .vmem, ⟨6, _⟩ => ⟨S1x1024, .f32⟩
  | .local _ .vmem, ⟨7, _⟩ => ⟨S1x512x1024, .f32⟩
  | .local _ .vmem, ⟨8, _⟩ => ⟨S1x512x1024, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![1, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnPromptReferenceIdeal.lean ====
abbrev S16x256x1024 : Shape := ⟨3, ![16, 256, 1024]⟩
abbrev S1x6144 : Shape := ⟨2, ![1, 6144]⟩
abbrev S1024 : Shape := ⟨1, ![1024]⟩
abbrev S1024x5632 : Shape := ⟨2, ![1024, 5632]⟩
abbrev S2816x1024 : Shape := ⟨2, ![2816, 1024]⟩
abbrev S1x1x6144 : Shape := ⟨3, ![1, 1, 6144]⟩
abbrev S1x1x1024 : Shape := ⟨3, ![1, 1, 1024]⟩
abbrev S_ : Shape := ⟨0, ![]⟩
abbrev S16x256 : Shape := ⟨2, ![16, 256]⟩
abbrev S16x256x1 : Shape := ⟨3, ![16, 256, 1]⟩
abbrev S16x256x5632 : Shape := ⟨3, ![16, 256, 5632]⟩
abbrev S16x256x2816 : Shape := ⟨3, ![16, 256, 2816]⟩
abbrev S1x4096x1024 : Shape := ⟨3, ![1, 4096, 1024]⟩

abbrev nBuf : Space → Nat
  | .hbm => 70
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S1x6144, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S1x1x6144, .f32⟩
  | .hbm, ⟨7, _⟩ => ⟨S1x1x1024, .f32⟩
  | .hbm, ⟨8, _⟩ => ⟨S1x1x1024, .f32⟩
  | .hbm, ⟨9, _⟩ => ⟨S1x1x1024, .f32⟩
  | .hbm, ⟨10, _⟩ => ⟨S1x1x1024, .f32⟩
  | .hbm, ⟨11, _⟩ => ⟨S1x1x1024, .f32⟩
  | .hbm, ⟨12, _⟩ => ⟨S1x1x1024, .f32⟩
  | .hbm, ⟨13, _⟩ => ⟨S16x256x1024, .f32⟩
  | .hbm, ⟨14, _⟩ => ⟨S_, .f32⟩
  | .hbm, ⟨15, _⟩ => ⟨S16x256, .f32⟩
  | .hbm, ⟨16, _⟩ => ⟨S16x256x1, .f32⟩
  | .hbm, ⟨17, _⟩ => ⟨S_, .f32⟩
  | .hbm, ⟨18, _⟩ => ⟨S16x256x1, .f32⟩
  | .hbm, ⟨19, _⟩ => ⟨S16x256x1, .f32⟩
  | .hbm, ⟨20, _⟩ => ⟨S_, .f32⟩
  | .hbm, ⟨21, _⟩ => ⟨S16x256x1, .f32⟩
  | .hbm, ⟨22, _⟩ => ⟨S16x256x1, .f32⟩
  | .hbm, ⟨23, _⟩ => ⟨S16x256x1, .f32⟩
  | .hbm, ⟨24, _⟩ => ⟨S16x256x1024, .f32⟩
  | .hbm, ⟨25, _⟩ => ⟨S16x256x1024, .f32⟩
  | .hbm, ⟨26, _⟩ => ⟨S1x1x1024, .f32⟩
  | .hbm, ⟨27, _⟩ => ⟨S16x256x1024, .f32⟩
  | .hbm, ⟨28, _⟩ => ⟨S16x256x1024, .f32⟩
  | .hbm, ⟨29, _⟩ => ⟨S_, .f32⟩
  | .hbm, ⟨30, _⟩ => ⟨S1x1x1024, .f32⟩
  | .hbm, ⟨31, _⟩ => ⟨S1x1x1024, .f32⟩
  | .hbm, ⟨32, _⟩ => ⟨S16x256x1024, .f32⟩
  | .hbm, ⟨33, _⟩ => ⟨S16x256x1024, .f32⟩
  | .hbm, ⟨34, _⟩ => ⟨S16x256x1024, .f32⟩
  | .hbm, ⟨35, _⟩ => ⟨S16x256x1024, .f32⟩
  | .hbm, ⟨36, _⟩ => ⟨S16x256x5632, .f32⟩
  | .hbm, ⟨37, _⟩ => ⟨S16x256x2816, .f32⟩
  | .hbm, ⟨38, _⟩ => ⟨S16x256x2816, .f32⟩
  | .hbm, ⟨39, _⟩ => ⟨S16x256x2816, .f32⟩
  | .hbm, ⟨40, _⟩ => ⟨S16x256x2816, .f32⟩
  | .hbm, ⟨41, _⟩ => ⟨S_, .f32⟩
  | .hbm, ⟨42, _⟩ => ⟨S16x256x2816, .f32⟩
  | .hbm, ⟨43, _⟩ => ⟨S16x256x2816, .f32⟩
  | .hbm, ⟨44, _⟩ => ⟨S_, .f32⟩
  | .hbm, ⟨45, _⟩ => ⟨S16x256x2816, .f32⟩
  | .hbm, ⟨46, _⟩ => ⟨S16x256x2816, .f32⟩
  | .hbm, ⟨47, _⟩ => ⟨S16x256x2816, .f32⟩
  | .hbm, ⟨48, _⟩ => ⟨S16x256x2816, .f32⟩
  | .hbm, ⟨49, _⟩ => ⟨S16x256x1024, .f32⟩
  | .hbm, ⟨50, _⟩ => ⟨S16x256x1024, .f32⟩
  | .hbm, ⟨51, _⟩ => ⟨S16x256x1024, .f32⟩
  | .hbm, ⟨52, _⟩ => ⟨S16x256x1024, .f32⟩
  | .hbm, ⟨53, _⟩ => ⟨S16x256x1024, .f32⟩
  | .hbm, ⟨54, _⟩ => ⟨S_, .f32⟩
  | .hbm, ⟨55, _⟩ => ⟨S16x256, .f32⟩
  | .hbm, ⟨56, _⟩ => ⟨S16x256x1, .f32⟩
  | .hbm, ⟨57, _⟩ => ⟨S_, .f32⟩
  | .hbm, ⟨58, _⟩ => ⟨S16x256x1, .f32⟩
  | .hbm, ⟨59, _⟩ => ⟨S16x256x1, .f32⟩
  | .hbm, ⟨60, _⟩ => ⟨S_, .f32⟩
  | .hbm, ⟨61, _⟩ => ⟨S16x256x1, .f32⟩
  | .hbm, ⟨62, _⟩ => ⟨S16x256x1, .f32⟩
  | .hbm, ⟨63, _⟩ => ⟨S16x256x1, .f32⟩
  | .hbm, ⟨64, _⟩ => ⟨S16x256x1024, .f32⟩
  | .hbm, ⟨65, _⟩ => ⟨S16x256x1024, .f32⟩
  | .hbm, ⟨66, _⟩ => ⟨S1x1x1024, .f32⟩
  | .hbm, ⟨67, _⟩ => ⟨S16x256x1024, .f32⟩
  | .hbm, ⟨68, _⟩ => ⟨S16x256x1024, .f32⟩
  | .hbm, ⟨69, _⟩ => ⟨S1x4096x1024, .f32⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_3 : Ref sig .tc := ⟨.hbm, 54, rfl⟩
abbrev main_v36 : Ref sig .tc := ⟨.hbm, 55, rfl⟩
abbrev main_v37 : Ref sig .tc := ⟨.hbm, 56, rfl⟩
abbrev main_cst_4 : Ref sig .tc := ⟨.hbm, 57, rfl⟩
abbrev main_v38 : Ref sig .tc := ⟨.hbm, 58, rfl⟩
abbrev main_v39 : Ref sig .tc := ⟨.hbm, 59, rfl⟩
abbrev main_cst_5 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩

abbrev nD : Nat := 1
abbrev τ : Topo := Topo.v7x

variable {F : FTy → Type} [FloatOps F]
-- ==== Mlstm.lean ====
abbrev S16x256x7680 : Shape := ⟨3, ![16, 256, 7680]⟩
abbrev S16x256x1280 : Shape := ⟨3, ![16, 256, 1280]⟩
abbrev S2x2x4 : Shape := ⟨3, ![2, 2, 4]⟩
abbrev S512 : Shape := ⟨1, ![512]⟩
abbrev S_ : Shape := ⟨0, ![]⟩
abbrev S16x1x2x4x128x128 : Shape := ⟨6, ![16, 1, 2, 4, 128, 128]⟩
abbrev S16x1x2x4x1x128 : Shape := ⟨6, ![16, 1, 2, 4, 1, 128]⟩
abbrev S128 : Shape := ⟨1, ![128]⟩
abbrev S16 : Shape := ⟨1, ![16]⟩
abbrev S1x512 : Shape := ⟨2, ![1, 512]⟩
abbrev S16x256x512 : Shape := ⟨3, ![16, 256, 512]⟩
abbrev S16x2x4x128x128 : Shape := ⟨5, ![16, 2, 4, 128, 128]⟩
abbrev S16x2x4x1x128 : Shape := ⟨5, ![16, 2, 4, 1, 128]⟩
abbrev S1x256x128 : Shape := ⟨3, ![1, 256, 128]⟩
abbrev S1x128 : Shape := ⟨2, ![1, 128]⟩
abbrev S1x1x2x1x128x128 : Shape := ⟨6, ![1, 1, 2, 1, 128, 128]⟩
abbrev S1x1x2x1x1x128 : Shape := ⟨6, ![1, 1, 2, 1, 1, 128]⟩
abbrev S1x2x1x128x128 : Shape := ⟨5, ![1, 2, 1, 128, 128]⟩
abbrev S1x2x1x1x128 : Shape := ⟨5, ![1, 2, 1, 1, 128]⟩
abbrev S128x256 : Shape := ⟨2, ![128, 256]⟩
abbrev S8x256 : Shape := ⟨2, ![8, 256]⟩
abbrev S144x256 : Shape := ⟨2, ![144, 256]⟩
abbrev S2x128x256 : Shape := ⟨3, ![2, 128, 256]⟩
abbrev S2x144x128 : Shape := ⟨3, ![2, 144, 128]⟩
abbrev S2x1x128 : Shape := ⟨3, ![2, 1, 128]⟩
abbrev S15x128 : Shape := ⟨2, ![15, 128]⟩
abbrev S16x128 : Shape := ⟨2, ![16, 128]⟩
abbrev S1x128x128 : Shape := ⟨3, ![1, 128, 128]⟩
abbrev S128x128 : Shape := ⟨2, ![128, 128]⟩
abbrev S144x128 : Shape := ⟨2, ![144, 128]⟩
abbrev S1x256 : Shape := ⟨2, ![1, 256]⟩
abbrev S1 : Shape := ⟨1, ![1]⟩
abbrev S8x128 : Shape := ⟨2, ![8, 128]⟩
abbrev S32x128 : Shape := ⟨2, ![32, 128]⟩
abbrev S32x256 : Shape := ⟨2, ![32, 256]⟩
abbrev S2x128 : Shape := ⟨2, ![2, 128]⟩
abbrev S1x1x1x1x128x128 : Shape := ⟨6, ![1, 1, 1, 1, 128, 128]⟩
abbrev S1x1x1x1x1x128 : Shape := ⟨6, ![1, 1, 1, 1, 1, 128]⟩
abbrev S1x144x128 : Shape := ⟨3, ![1, 144, 128]⟩
abbrev S1x1x128 : Shape := ⟨3, ![1, 1, 128]⟩
abbrev S1x1 : Shape := ⟨2, ![1, 1]⟩
abbrev S1x1x1x128x128 : Shape := ⟨5, ![1, 1, 1, 128, 128]⟩
abbrev S1x1x1x1x128 : Shape := ⟨5, ![1, 1, 1, 1, 128]⟩

abbrev nBuf : Space → Nat
  | .hbm => 16
  | .vmem => 31
  | .smem => 2
  | _ => 0

abbrev bufTy : (tb : Table) → Fin (tcTables nBuf tb) → BufTy
  | .hbm, ⟨0, _⟩ => ⟨S16x256x7680, .bf16⟩
  | .hbm, ⟨1, _⟩ => ⟨S16x256x1280, .f32⟩
  | .hbm, ⟨2, _⟩ => ⟨S2x2x4, .f32⟩
  | .hbm, ⟨3, _⟩ => ⟨S512, .f32⟩
  | .hbm, ⟨4, _⟩ => ⟨S_, .f32⟩
  | .hbm, ⟨5, _⟩ => ⟨S16x1x2x4x128x128, .f32⟩
  | .hbm, ⟨6, _⟩ => ⟨S_, .f32⟩
  | .hbm, ⟨7, _⟩ => ⟨S16x1x2x4x1x128, .f32⟩
  | .hbm, ⟨8, _⟩ => ⟨S_, .f32⟩
  | .hbm, ⟨9, _⟩ => ⟨S128, .f32⟩
  | .hbm, ⟨10, _⟩ => ⟨S16, .f32⟩
  | .hbm, ⟨11, _⟩ => ⟨S1x512, .f32⟩
  | .hbm, ⟨12, _⟩ => ⟨S16x256x512, .bf16⟩
  | .hbm, ⟨13, _⟩ => ⟨S16x2x4x128x128, .f32⟩
  | .hbm, ⟨14, _⟩ => ⟨S16x2x4x1x128, .f32⟩
  | .hbm, ⟨15, _⟩ => ⟨S16x2x4x1x128, .f32⟩
  | .local _ .vmem, ⟨0, _⟩ => ⟨S1x256x128, .bf16⟩
  | .local _ .vmem, ⟨1, _⟩ => ⟨S1x256x128, .bf16⟩
  | .local _ .vmem, ⟨2, _⟩ => ⟨S1x256x128, .bf16⟩
  | .local _ .vmem, ⟨3, _⟩ => ⟨S1x256x128, .bf16⟩
  | .local _ .vmem, ⟨4, _⟩ => ⟨S1x256x128, .bf16⟩
  | .local _ .vmem, ⟨5, _⟩ => ⟨S1x256x128, .bf16⟩
  | .local _ .vmem, ⟨6, _⟩ => ⟨S1x256x128, .bf16⟩
  | .local _ .vmem, ⟨7, _⟩ => ⟨S1x256x128, .bf16⟩
  | .local _ .vmem, ⟨8, _⟩ => ⟨S1x256x128, .f32⟩
  | .local _ .vmem, ⟨9, _⟩ => ⟨S1x256x128, .f32⟩
  | .local _ .vmem, ⟨10, _⟩ => ⟨S1x128, .f32⟩
  | .local _ .vmem, ⟨11, _⟩ => ⟨S1x128, .f32⟩
  | .local _ .vmem, ⟨12, _⟩ => ⟨S1x1x2x1x128x128, .f32⟩
  | .local _ .vmem, ⟨13, _⟩ => ⟨S1x1x2x1x128x128, .f32⟩
  | .local _ .vmem, ⟨14, _⟩ => ⟨S1x1x2x1x1x128, .f32⟩
  | .local _ .vmem, ⟨15, _⟩ => ⟨S1x1x2x1x1x128, .f32⟩
  | .local _ .vmem, ⟨16, _⟩ => ⟨S1x256x128, .bf16⟩
  | .local _ .vmem, ⟨17, _⟩ => ⟨S1x256x128, .bf16⟩
  | .local _ .vmem, ⟨18, _⟩ => ⟨S1x2x1x128x128, .f32⟩
  | .local _ .vmem, ⟨19, _⟩ => ⟨S1x2x1x128x128, .f32⟩
  | .local _ .vmem, ⟨20, _⟩ => ⟨S1x2x1x1x128, .f32⟩
  | .local _ .vmem, ⟨21, _⟩ => ⟨S1x2x1x1x128, .f32⟩
  | .local _ .vmem, ⟨22, _⟩ => ⟨S1x2x1x1x128, .f32⟩
  | .local _ .vmem, ⟨23, _⟩ => ⟨S1x2x1x1x128, .f32⟩
  | .local _ .vmem, ⟨24, _⟩ => ⟨S128x256, .f32⟩
  | .local _ .vmem, ⟨25, _⟩ => ⟨S8x256, .f32⟩
  | .local _ .vmem, ⟨26, _⟩ => ⟨S8x256, .f32⟩
  | .local _ .vmem, ⟨27, _⟩ => ⟨S144x256, .bf16⟩
  | .local _ .vmem, ⟨28, _⟩ => ⟨S2x128x256, .f32⟩
  | .local _ .vmem, ⟨29, _⟩ => ⟨S2x144x128, .f32⟩
  | .local _ .vmem, ⟨30, _⟩ => ⟨S2x1x128, .f32⟩
  | .local _ .smem, ⟨0, _⟩ => ⟨S16, .f32⟩
  | .local _ .smem, ⟨1, _⟩ => ⟨S128, .f32⟩
  | _, _ => ⟨S16x256x7680, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_scratch6 : Ref sig .tc := ⟨.vmem, 30, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![16, 4], ![false, false]⟩

def k0_mult1 : BitVec 32 :=
  let c0_i32 : BitVec 32 := 0#32
  let c128_i32 : BitVec 32 := 128#32
  let v3 : BitVec 32 := Scalar.muli c0_i32 c128_i32
  v3
def k0_off1 (c0_i32 : BitVec 32) : Fin 3 → Nat :=
  let c0 : Index := 0#32
  let c128_i32 : BitVec 32 := 128#32
  let v3 : BitVec 32 := Scalar.muli c0_i32 c128_i32
  let v4 : BitVec 32 := v3
  let v5 : Index := Scalar.indexCast v4
  let c0_1 : Index := 0#32
  ![0, v5.toNat, 0]
def k0_off2 (c0_i32 : BitVec 32) : Fin 2 → Nat :=
  let c0_2 : Index := 0#32
  let c128_i32 : BitVec 32 := 128#32
  let v3 : BitVec 32 := Scalar.muli c0_i32 c128_i32
  let v4 : BitVec 32 := v3
  let v9 : Index := Scalar.indexCast v4
  ![0, v9.toNat]
def k0_off3 (c0_i32 : BitVec 32) : Fin 2 → Nat :=
  let c0_5 : Index := 0#32
  let c128_i32 : BitVec 32 := 128#32
  let v3 : BitVec 32 := Scalar.muli c0_i32 c128_i32
  let v4 : BitVec 32 := v3
  let v20 : Index := Scalar.indexCast v4
  ![0, v20.toNat]
def k0_mult2 : BitVec 32 :=
  let c1_i32 : BitVec 32 := 1#32
  let c128_i32_6 : BitVec 32 := 128#32
  let v24 : BitVec 32 := Scalar.muli c1_i32 c128_i32_6
  v24
def k0_off4 (i : grid0.Coords) : Fin 2 → Nat :=
  let arg1 : BitVec 32 := BitVec.ofNat 32 (i 1).val
  let v45 : Index := Scalar.indexCast arg1
  let c0_13 : Index := 0#32
  ![v45.toNat, 0]
def k0_off5 (i : grid0.Coords) : Fin 1 → Nat :=
  let arg1 : BitVec 32 := BitVec.ofNat 32 (i 1).val
  let v47 : Index := Scalar.indexCast arg1
  ![v47.toNat]
def k0_off6 (i : grid0.Coords) (c4_i32 : BitVec 32) : Fin 2 → Nat :=
  let arg1 : BitVec 32 := BitVec.ofNat 32 (i 1).val
  let v51 : BitVec 32 := Scalar.addi c4_i32 arg1
  let v52 : Index := Scalar.indexCast v51
  let c0_14 : Index := 0#32
  ![v52.toNat, 0]
def k0_off7 (i : grid0.Coords) (c4_i32_15 : BitVec 32) : Fin 1 → Nat :=
  let arg1 : BitVec 32 := BitVec.ofNat 32 (i 1).val
  let v54 : BitVec 32 := Scalar.addi c4_i32_15 arg1
  let v55 : Index := Scalar.indexCast v54
  ![v55.toNat]
def k0_mult3 : BitVec 32 :=
  let c0_i32_27 : BitVec 32 := 0#32
  let c128_i32_28 : BitVec 32 := 128#32
  let v109 : BitVec 32 := Scalar.muli c0_i32_27 c128_i32_28
  v109
def k0_off8 (c0_i32_27 : BitVec 32) : Fin 2 → Nat :=
  let c0_29 : Index := 0#32
  let c128_i32_28 : BitVec 32 := 128#32
  let v109 : BitVec 32 := Scalar.muli c0_i32_27 c128_i32_28
  let v110 : BitVec 32 := v109
  let v111 : Index := Scalar.indexCast v110
  ![0, v111.toNat]
def k0_mult4 : BitVec 32 :=
  let c1_i32_33 : BitVec 32 := 1#32
  let c128_i32_34 : BitVec 32 := 128#32
  let v142 : BitVec 32 := Scalar.muli c1_i32_33 c128_i32_34
  v142
def k0_off9 (i : grid0.Coords) (c0_i32_58 : BitVec 32) : Fin 1 → Nat :=
  let arg0 : BitVec 32 := BitVec.ofNat 32 (i 0).val
  let c2_i32_56 : BitVec 32 := 2#32
  let v185 : BitVec 32 := Scalar.muli arg0 c2_i32_56
  let c4_i32_57 : BitVec 32 := 4#32
  let v186 : BitVec 32 := Scalar.muli v185 c4_i32_57
  let v187 : BitVec 32 := Scalar.addi v186 c0_i32_58
  let arg1 : BitVec 32 := BitVec.ofNat 32 (i 1).val
  let v188 : BitVec 32 := Scalar.addi v187 arg1
  let v189 : Index := Scalar.indexCast v188
  ![v189.toNat]
def k0_mult5 : BitVec 32 :=
  let c0_i32_83 : BitVec 32 := 0#32
  let c128_i32_84 : BitVec 32 := 128#32
  let v215 : BitVec 32 := Scalar.muli c0_i32_83 c128_i32_84
  v215
def k0_off10 (c0_i32_83 : BitVec 32) : Fin 2 → Nat :=
  let c0_85 : Index := 0#32
  let c128_i32_84 : BitVec 32 := 128#32
  let v215 : BitVec 32 := Scalar.muli c0_i32_83 c128_i32_84
  let v216 : BitVec 32 := v215
  let v217 : Index := Scalar.indexCast v216
  ![0, v217.toNat]
def k0_off11 (c0_i32_83 : BitVec 32) : Fin 2 → Nat :=
  let c4 : Index := 4#32
  let c128_i32_84 : BitVec 32 := 128#32
  let v215 : BitVec 32 := Scalar.muli c0_i32_83 c128_i32_84
  let v216 : BitVec 32 := v215
  let v222 : Index := Scalar.indexCast v216
  ![4, v222.toNat]
def k0_off12 (c0_i32_83 : BitVec 32) : Fin 3 → Nat :=
  let c0_105 : Index := 0#32
  let c0_106 : Index := 0#32
  let c128_i32_84 : BitVec 32 := 128#32
  let v215 : BitVec 32 := Scalar.muli c0_i32_83 c128_i32_84
  let v216 : BitVec 32 := v215
  let v277 : Index := Scalar.indexCast v216
  ![0, 0, v277.toNat]
def k0_mult6 : BitVec 32 :=
  let c1_i32_115 : BitVec 32 := 1#32
  let c0_i32_83 : BitVec 32 := 0#32
  let v305 : BitVec 32 := Scalar.subi c1_i32_115 c0_i32_83
  let c128_i32_116 : BitVec 32 := 128#32
  let v306 : BitVec 32 := Scalar.muli v305 c128_i32_116
  v306
def k0_off13 (c0_i32_83 : BitVec 32) : Fin 2 → Nat :=
  let c2 : Index := 2#32
  let c1_i32_115 : BitVec 32 := 1#32
  let v305 : BitVec 32 := Scalar.subi c1_i32_115 c0_i32_83
  let c128_i32_116 : BitVec 32 := 128#32
  let v306 : BitVec 32 := Scalar.muli v305 c128_i32_116
  let v307 : BitVec 32 := v306
  let v308 : Index := Scalar.indexCast v307
  ![2, v308.toNat]
def k0_off14 (c0_i32_83 : BitVec 32) : Fin 2 → Nat :=
  let c5 : Index := 5#32
  let c1_i32_115 : BitVec 32 := 1#32
  let v305 : BitVec 32 := Scalar.subi c1_i32_115 c0_i32_83
  let c128_i32_116 : BitVec 32 := 128#32
  let v306 : BitVec 32 := Scalar.muli v305 c128_i32_116
  let v307 : BitVec 32 := v306
  let v313 : Index := Scalar.indexCast v307
  ![5, v313.toNat]
def k0_off15 (c0_i32_83 : BitVec 32) : Fin 3 → Nat :=
  let c0_117 : Index := 0#32
  let c1_i32_115 : BitVec 32 := 1#32
  let v305 : BitVec 32 := Scalar.subi c1_i32_115 c0_i32_83
  let c128_i32_116 : BitVec 32 := 128#32
  let v306 : BitVec 32 := Scalar.muli v305 c128_i32_116
  let v307 : BitVec 32 := v306
  let v318 : Index := Scalar.indexCast v307
  let c0_118 : Index := 0#32
  ![0, v318.toNat, 0]
def k0_off16 (c0_i32_83 : BitVec 32) : Fin 2 → Nat :=
  let c0_122 : Index := 0#32
  let c1_i32_115 : BitVec 32 := 1#32
  let v305 : BitVec 32 := Scalar.subi c1_i32_115 c0_i32_83
  let c128_i32_116 : BitVec 32 := 128#32
  let v306 : BitVec 32 := Scalar.muli v305 c128_i32_116
  let v307 : BitVec 32 := v306
  let v329 : Index := Scalar.indexCast v307
  ![0, v329.toNat]
def k0_off17 (c0_i32_83 : BitVec 32) : Fin 3 → Nat :=
  let c1_136 : Index := 1#32
  let c0_137 : Index := 0#32
  let c1_i32_115 : BitVec 32 := 1#32
  let v305 : BitVec 32 := Scalar.subi c1_i32_115 c0_i32_83
  let c128_i32_116 : BitVec 32 := 128#32
  let v306 : BitVec 32 := Scalar.muli v305 c128_i32_116
  let v307 : BitVec 32 := v306
  let v368 : Index := Scalar.indexCast v307
  ![1, 0, v368.toNat]
def k0_mult7 : BitVec 32 :=
  let c1_i32_146 : BitVec 32 := 1#32
  let c128_i32_147 : BitVec 32 := 128#32
  let v396 : BitVec 32 := Scalar.muli c1_i32_146 c128_i32_147
  v396
def k0_mult8 : BitVec 32 :=
  let c1_i32_179 : BitVec 32 := 1#32
  let c1_i32_146 : BitVec 32 := 1#32
  let v486 : BitVec 32 := Scalar.subi c1_i32_179 c1_i32_146
  let c128_i32_180 : BitVec 32 := 128#32
  let v487 : BitVec 32 := Scalar.muli v486 c128_i32_180
  v487
def k0_mult9 : BitVec 32 :=
  let c0_i32_215 : BitVec 32 := 0#32
  let c128_i32_216 : BitVec 32 := 128#32
  let v579 : BitVec 32 := Scalar.muli c0_i32_215 c128_i32_216
  v579
def k0_off18 (c0_i32_215 : BitVec 32) : Fin 3 → Nat :=
  let c1_219 : Index := 1#32
  let c0_220 : Index := 0#32
  let c128_i32_216 : BitVec 32 := 128#32
  let v579 : BitVec 32 := Scalar.muli c0_i32_215 c128_i32_216
  let v580 : BitVec 32 := v579
  let v584 : Index := Scalar.indexCast v580
  ![1, 0, v584.toNat]
def k0_mult10 : BitVec 32 :=
  let c1_i32_231 : BitVec 32 := 1#32
  let c128_i32_232 : BitVec 32 := 128#32
  let v618 : BitVec 32 := Scalar.muli c1_i32_231 c128_i32_232
  v618
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg1
  let c0_i32 : BitVec 32 := 0#32
  let c0_i32_0 : BitVec 32 := 0#32
  ![arg0.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c8_i32 : BitVec 32 := 8#32
  let c0_i32_0 : BitVec 32 := 0#32
  ![arg0.toNat, c0_i32.toNat, c8_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, arg1.toNat, c0_i32_1.toNat, c0_i32_2.toNat]

def cc0_transform_9 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, arg1.toNat, c0_i32_1.toNat, c0_i32_2.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_12 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_13 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1x2x1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x2x1x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x1x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2x1x1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x2x1x1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== MlstmReferenceIdeal.lean ====
abbrev S16x256x7680 : Shape := ⟨3, ![16, 256, 7680]⟩
abbrev S16x256x1280 : Shape := ⟨3, ![16, 256, 1280]⟩
abbrev S2x2x4 : Shape := ⟨3, ![2, 2, 4]⟩
abbrev S512 : Shape := ⟨1, ![512]⟩
abbrev S16x256x512 : Shape := ⟨3, ![16, 256, 512]⟩
abbrev S16x256x4x128 : Shape := ⟨4, ![16, 256, 4, 128]⟩
abbrev S16x256x16 : Shape := ⟨3, ![16, 256, 16]⟩
abbrev S16x256x2x2x4 : Shape := ⟨5, ![16, 256, 2, 2, 4]⟩
abbrev S1x1x2x2x4 : Shape := ⟨5, ![1, 1, 2, 2, 4]⟩
abbrev S16x256x1x1x4 : Shape := ⟨5, ![16, 256, 1, 1, 4]⟩
abbrev S16x256x4 : Shape := ⟨3, ![16, 256, 4]⟩
abbrev S_ : Shape := ⟨0, ![]⟩
abbrev S16x1x4 : Shape := ⟨3, ![16, 1, 4]⟩
abbrev S16x4 : Shape := ⟨2, ![16, 4]⟩
abbrev S16x256x4x1 : Shape := ⟨4, ![16, 256, 4, 1]⟩
abbrev S16x4x128x128 : Shape := ⟨4, ![16, 4, 128, 128]⟩
abbrev S16x4x128 : Shape := ⟨3, ![16, 4, 128]⟩
abbrev S16x1x4x128x128 : Shape := ⟨5, ![16, 1, 4, 128, 128]⟩
abbrev S16x2x4x128x128 : Shape := ⟨5, ![16, 2, 4, 128, 128]⟩
abbrev S16x1x4x128 : Shape := ⟨4, ![16, 1, 4, 128]⟩
abbrev S16x2x4x128 : Shape := ⟨4, ![16, 2, 4, 128]⟩
abbrev S16x2x4 : Shape := ⟨3, ![16, 2, 4]⟩
abbrev S16x2x4x1x128 : Shape := ⟨5, ![16, 2, 4, 1, 128]⟩
abbrev S16x2x4x1x1 : Shape := ⟨5, ![16, 2, 4, 1, 1]⟩

abbrev nBuf : Space → Nat
  | .hbm => 115
  | .vmem => 0
  | .smem => 0
  | _ => 0

abbrev bufTy : (tb : Table) → Fin (tcTables nBuf tb) → BufTy
  | .hbm, ⟨0, _⟩ => ⟨S16x256x7680, .bf16⟩
  | .hbm, ⟨1, _⟩ => ⟨S16x256x1280, .f32⟩
  | .hbm, ⟨2, _⟩ => ⟨S2x2x4, .f32⟩
  | .hbm, ⟨3, _⟩ => ⟨S512, .f32⟩
  | .hbm, ⟨4, _⟩ => ⟨S16x256x512, .bf16⟩
  | .hbm, ⟨5, _⟩ => ⟨S16x256x512, .f32⟩
  | .hbm, ⟨6, _⟩ => ⟨S16x256x4x128, .f32⟩
  | .hbm, ⟨7, _⟩ => ⟨S16x256x512, .bf16⟩
  | .hbm, ⟨8, _⟩ => ⟨S16x256x512, .f32⟩
  | .hbm, ⟨9, _⟩ => ⟨S16x256x4x128, .f32⟩
  | .hbm, ⟨10, _⟩ => ⟨S16x256x16, .f32⟩
  | .hbm, ⟨11, _⟩ => ⟨S16x256x2x2x4, .f32⟩
  | .hbm, ⟨12, _⟩ => ⟨S1x1x2x2x4, .f32⟩
  | .hbm, ⟨13, _⟩ => ⟨S16x256x2x2x4, .f32⟩
  | .hbm, ⟨14, _⟩ => ⟨S16x256x2x2x4, .f32⟩
  | .hbm, ⟨15, _⟩ => ⟨S16x256x1x1x4, .f32⟩
  | .hbm, ⟨16, _⟩ => ⟨S16x256x4, .f32⟩
  | .hbm, ⟨17, _⟩ => ⟨S16x256x1x1x4, .f32⟩
  | .hbm, ⟨18, _⟩ => ⟨S16x256x4, .f32⟩
  | .hbm, ⟨19, _⟩ => ⟨S16x256x4, .f32⟩
  | .hbm, ⟨20, _⟩ => ⟨S_, .f32⟩
  | .hbm, ⟨21, _⟩ => ⟨S16x256x4, .f32⟩
  | .hbm, ⟨22, _⟩ => ⟨S16x256x4, .f32⟩
  | .hbm, ⟨23, _⟩ => ⟨S16x256x4, .f32⟩
  | .hbm, ⟨24, _⟩ => ⟨S16x256x4, .f32⟩
  | .hbm, ⟨25, _⟩ => ⟨S16x256x4, .i1⟩
  | .hbm, ⟨26, _⟩ => ⟨S16x256x4, .f32⟩
  | .hbm, ⟨27, _⟩ => ⟨S16x256x4, .f32⟩
  | .hbm, ⟨28, _⟩ => ⟨S16x256x4, .f32⟩
  | .hbm, ⟨29, _⟩ => ⟨S16x256x4, .f32⟩
  | .hbm, ⟨30, _⟩ => ⟨S16x256x4, .f32⟩
  | .hbm, ⟨31, _⟩ => ⟨S16x256x4, .f32⟩
  | .hbm, ⟨32, _⟩ => ⟨S16x256x4, .f32⟩
  | .hbm, ⟨33, _⟩ => ⟨S16x256x4, .f32⟩
  | .hbm, ⟨34, _⟩ => ⟨S16x256x4, .f32⟩
  | .hbm, ⟨35, _⟩ => ⟨S_, .f32⟩
  | .hbm, ⟨36, _⟩ => ⟨S_, .f32⟩
  | .hbm, ⟨37, _⟩ => ⟨S16x256x4, .f32⟩
  | .hbm, ⟨38, _⟩ => ⟨S16x1x4, .f32⟩
  | .hbm, ⟨39, _⟩ => ⟨S16x4, .f32⟩
  | .hbm, ⟨40, _⟩ => ⟨S16x1x4, .f32⟩
  | .hbm, ⟨41, _⟩ => ⟨S16x256x4, .f32⟩
  | .hbm, ⟨42, _⟩ => ⟨S16x256x4, .f32⟩
  | .hbm, ⟨43, _⟩ => ⟨S16x256x4, .f32⟩
  | .hbm, ⟨44, _⟩ => ⟨S_, .f32⟩
  | .hbm, ⟨45, _⟩ => ⟨S16x4, .f32⟩
  | .hbm, ⟨46, _⟩ => ⟨S16x4, .f32⟩
  | .hbm, ⟨47, _⟩ => ⟨S16x1x4, .f32⟩
  | .hbm, ⟨48, _⟩ => ⟨S16x256x4, .f32⟩
  | .hbm, ⟨49, _⟩ => ⟨S16x256x4, .f32⟩
  | .hbm, ⟨50, _⟩ => ⟨S16x256x4, .f32⟩
  | .hbm, ⟨51, _⟩ => ⟨S16x256x4x1, .f32⟩
  | .hbm, ⟨52, _⟩ => ⟨S16x256x4x128, .f32⟩
  | .hbm, ⟨53, _⟩ => ⟨S16x256x4x128, .f32⟩
  | .hbm, ⟨54, _⟩ => ⟨S16x4x128x128, .f32⟩
  | .hbm, ⟨55, _⟩ => ⟨S_, .f32⟩
  | .hbm, ⟨56, _⟩ => ⟨S16x4x128, .f32⟩
  | .hbm, ⟨57, _⟩ => ⟨S16x256x4x128, .f32⟩
  | .hbm, ⟨58, _⟩ => ⟨S16x256x4x128, .f32⟩
  | .hbm, ⟨59, _⟩ => ⟨S16x256x1x1x4, .f32⟩
  | .hbm, ⟨60, _⟩ => ⟨S16x256x4, .f32⟩
  | .hbm, ⟨61, _⟩ => ⟨S16x256x4, .f32⟩
  | .hbm, ⟨62, _⟩ => ⟨S16x256x1x1x4, .f32⟩
  | .hbm, ⟨63, _⟩ => ⟨S16x256x4, .f32⟩
  | .hbm, ⟨64, _⟩ => ⟨S16x256x4, .f32⟩
  | .hbm, ⟨65, _⟩ => ⟨S16x256x4, .f32⟩
  | .hbm, ⟨66, _⟩ => ⟨S_, .f32⟩
  | .hbm, ⟨67, _⟩ => ⟨S16x256x4, .f32⟩
  | .hbm, ⟨68, _⟩ => ⟨S16x256x4, .f32⟩
  | .hbm, ⟨69, _⟩ => ⟨S16x256x4, .f32⟩
  | .hbm, ⟨70, _⟩ => ⟨S16x256x4, .f32⟩
  | .hbm, ⟨71, _⟩ => ⟨S16x256x4, .i1⟩
  | .hbm, ⟨72, _⟩ => ⟨S16x256x4, .f32⟩
  | .hbm, ⟨73, _⟩ => ⟨S16x256x4, .f32⟩
  | .hbm, ⟨74, _⟩ => ⟨S16x256x4, .f32⟩
  | .hbm, ⟨75, _⟩ => ⟨S16x256x4, .f32⟩
  | .hbm, ⟨76, _⟩ => ⟨S16x256x4, .f32⟩
  | .hbm, ⟨77, _⟩ => ⟨S16x256x4, .f32⟩
  | .hbm, ⟨78, _⟩ => ⟨S16x256x4, .f32⟩
  | .hbm, ⟨79, _⟩ => ⟨S16x256x4, .f32⟩
  | .hbm, ⟨80, _⟩ => ⟨S16x256x4, .f32⟩
  | .hbm, ⟨81, _⟩ => ⟨S_, .f32⟩
  | .hbm, ⟨82, _⟩ => ⟨S_, .f32⟩
  | .hbm, ⟨83, _⟩ => ⟨S16x256x4, .f32⟩
  | .hbm, ⟨84, _⟩ => ⟨S16x1x4, .f32⟩
  | .hbm, ⟨85, _⟩ => ⟨S16x4, .f32⟩
  | .hbm, ⟨86, _⟩ => ⟨S16x1x4, .f32⟩
  | .hbm, ⟨87, _⟩ => ⟨S16x256x4, .f32⟩
  | .hbm, ⟨88, _⟩ => ⟨S16x256x4, .f32⟩
  | .hbm, ⟨89, _⟩ => ⟨S16x256x4, .f32⟩
  | .hbm, ⟨90, _⟩ => ⟨S_, .f32⟩
  | .hbm, ⟨91, _⟩ => ⟨S16x4, .f32⟩
  | .hbm, ⟨92, _⟩ => ⟨S16x4, .f32⟩
  | .hbm, ⟨93, _⟩ => ⟨S16x1x4, .f32⟩
  | .hbm, ⟨94, _⟩ => ⟨S16x256x4, .f32⟩
  | .hbm, ⟨95, _⟩ => ⟨S16x256x4, .f32⟩
  | .hbm, ⟨96, _⟩ => ⟨S16x256x4, .f32⟩
  | .hbm, ⟨97, _⟩ => ⟨S16x256x4x1, .f32⟩
  | .hbm, ⟨98, _⟩ => ⟨S16x256x4x128, .f32⟩
  | .hbm, ⟨99, _⟩ => ⟨S16x256x4x128, .f32⟩
  | .hbm, ⟨100, _⟩ => ⟨S16x4x128x128, .f32⟩
  | .hbm, ⟨101, _⟩ => ⟨S_, .f32⟩
  | .hbm, ⟨102, _⟩ => ⟨S16x4x128, .f32⟩
  | .hbm, ⟨103, _⟩ => ⟨S16x1x4x128x128, .f32⟩
  | .hbm, ⟨104, _⟩ => ⟨S16x1x4x128x128, .f32⟩
  | .hbm, ⟨105, _⟩ => ⟨S16x2x4x128x128, .f32⟩
  | .hbm, ⟨106, _⟩ => ⟨S16x1x4x128, .f32⟩
  | .hbm, ⟨107, _⟩ => ⟨S16x1x4x128, .f32⟩
  | .hbm, ⟨108, _⟩ => ⟨S16x2x4x128, .f32⟩
  | .hbm, ⟨109, _⟩ => ⟨S16x1x4, .f32⟩
  | .hbm, ⟨110, _⟩ => ⟨S16x1x4, .f32⟩
  | .hbm, ⟨111, _⟩ => ⟨S16x2x4, .f32⟩
  | .hbm, ⟨112, _⟩ => ⟨S16x2x4x1x128, .f32⟩
  | .hbm, ⟨113, _⟩ => ⟨S16x2x4x1x1, .f32⟩
  | .hbm, ⟨114, _⟩ => ⟨S16x2x4x1x128, .f32⟩
  | _, _ => ⟨S16x256x7680, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v15 : Ref sig .tc := ⟨.hbm, 34, rfl⟩
abbrev main_call1_call0_cst : Ref sig .tc := ⟨.hbm, 35, rfl⟩
abbrev main_call1_call0_v0 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_0 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_call6_v0 : Ref sig .tc := ⟨.hbm, 65, rfl⟩
abbrev main_call6_call0_cst : Ref sig .tc := ⟨.hbm, 66, rfl⟩
abbrev main_call6_call0_v0 : Ref sig .tc := ⟨.hbm, 67, rfl⟩
abbrev main_call6_call0_v1 : Ref sig .tc := ⟨.hbm, 68, rfl⟩
abbrev main_call6_call0_v2 : Ref sig .tc := ⟨.hbm, 69, rfl⟩
abbrev main_call6_call0_v3 : Ref sig .tc := ⟨.hbm, 70, rfl⟩
abbrev main_call6_call0_v4 : Ref sig .tc := ⟨.hbm, 71, rfl⟩
abbrev main_call6_call0_v5 : Ref sig .tc := ⟨.hbm, 72, rfl⟩
abbrev main_call6_call0_v6 : Ref sig .tc := ⟨.hbm, 73, rfl⟩
abbrev main_call6_call0_v7 : Ref sig .tc := ⟨.hbm, 74, rfl⟩
abbrev main_call6_call0_v8 : Ref sig .tc := ⟨.hbm, 75, rfl⟩
abbrev main_call6_call0_v9 : Ref sig .tc := ⟨.hbm, 76, rfl⟩
abbrev main_call6_call0_v10 : Ref sig .tc := ⟨.hbm, 77, rfl⟩
abbrev main_call6_call0_v11 : Ref sig .tc := ⟨.hbm, 78, rfl⟩
abbrev main_call6_v1 : Ref sig .tc := ⟨.hbm, 79, rfl⟩
abbrev main_v42 : Ref sig .tc := ⟨.hbm, 80, rfl⟩
abbrev main_call7_call0_cst : Ref sig .tc := ⟨.hbm, 81, rfl⟩
abbrev main_call7_call0_v0 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_cst_1 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_cst_2 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩

abbrev nD : Nat := 1
abbrev τ : Topo := Topo.v7x

variable {F : FTy → Type} [FloatOps F]
-- ==== Proof.AttnMath.lean ====
module

public import Idealize.ShloMosaic.Lib.Pointwise

@[expose] public section

set_option maxRecDepth 16384
noncomputable section

namespace Cert.AttnMath
open Idealize.ShloMosaic

/-! Extended-real arithmetic for the softmax average: a sum and a bound over 4608 keys taken in nine chunks of 512, and the
    normalised average against the average of normalised weights. -/

/-- Sums of a function of naturals: the first `n + k` terms are the first `n` and the next `k`. -/
theorem sum_split (f : ℕ → EReal) (n k : ℕ) :
    ∑ s ∈ Finset.range (n + k), f s = ∑ s ∈ Finset.range n, f s + ∑ x : Fin k, f (n + x.val) := by
  rw [Finset.sum_range_add, Finset.sum_range (fun i => f (n + i))]

/-- A sum over 4608 keys is the sum of the nine chunks' sums, taken from the left. -/
theorem sum_nine (f : ℕ → EReal) :
    ∑ s : Fin 4608, f s.val
      = ((((((((∑ x : Fin 512, f x.val) + ∑ x : Fin 512, f (512 + x.val)) + ∑ x : Fin 512, f (1024 + x.val)) + ∑ x : Fin 512, f (1536 + x.val))
          + ∑ x : Fin 512, f (2048 + x.val)) + ∑ x : Fin 512, f (2560 + x.val)) + ∑ x : Fin 512, f (3072 + x.val)) + ∑ x : Fin 512, f (3584 + x.val))
        + ∑ x : Fin 512, f (4096 + x.val) := by
  rw [← Finset.sum_range, ← Finset.sum_range]
  rw [sum_split f 4096 512, sum_split f 3584 512, sum_split f 3072 512, sum_split f 2560 512, sum_split f 2048 512, sum_split f 1536 512,
    sum_split f 1024 512, sum_split f 512 512]

/-- A bound on 4608 keys is a bound on each of the nine chunks. -/
theorem forall_nine (p : ℕ → Prop) :
    (∀ s : Fin 4608, p s.val)
      ↔ ((((((((∀ x : Fin 512, p x.val) ∧ ∀ x : Fin 512, p (512 + x.val)) ∧ ∀ x : Fin 512, p (1024 + x.val)) ∧ ∀ x : Fin 512, p (1536 + x.val))
          ∧ ∀ x : Fin 512, p (2048 + x.val)) ∧ ∀ x : Fin 512, p (2560 + x.val)) ∧ ∀ x : Fin 512, p (3072 + x.val)) ∧ ∀ x : Fin 512, p (3584 + x.val))
        ∧ ∀ x : Fin 512, p (4096 + x.val) := by
  constructor
  · intro h
    refine ⟨⟨⟨⟨⟨⟨⟨⟨?_, ?_⟩, ?_⟩, ?_⟩, ?_⟩, ?_⟩, ?_⟩, ?_⟩, ?_⟩ <;> intro x <;>
      first
        | exact h ⟨x.val, by have := x.isLt; omega⟩
        | exact h ⟨512 + x.val, by have := x.isLt; omega⟩
        | exact h ⟨1024 + x.val, by have := x.isLt; omega⟩
        | exact h ⟨1536 + x.val, by have := x.isLt; omega⟩
        | exact h ⟨2048 + x.val, by have := x.isLt; omega⟩
        | exact h ⟨2560 + x.val, by have := x.isLt; omega⟩
        | exact h ⟨3072 + x.val, by have := x.isLt; omega⟩
        | exact h ⟨3584 + x.val, by have := x.isLt; omega⟩
        | exact h ⟨4096 + x.val, by have := x.isLt; omega⟩
  · rintro ⟨⟨⟨⟨⟨⟨⟨⟨h0, h1⟩, h2⟩, h3⟩, h4⟩, h5⟩, h6⟩, h7⟩, h8⟩ ⟨s, hs⟩
    have key : ∀ o, (∀ x : Fin 512, p (o + x.val)) → o ≤ s → s < o + 512 → p s := fun o h a b => by
      have := h ⟨s - o, by omega⟩
      rwa [Nat.add_sub_cancel' a] at this
    show p s
    by_cases c8 : 4096 ≤ s
    · exact key _ h8 c8 (by omega)
    by_cases c7 : 3584 ≤ s
    · exact key _ h7 c7 (by omega)
    by_cases c6 : 3072 ≤ s
    · exact key _ h6 c6 (by omega)
    by_cases c5 : 2560 ≤ s
    · exact key _ h5 c5 (by omega)
    by_cases c4 : 2048 ≤ s
    · exact key _ h4 c4 (by omega)
    by_cases c3 : 1536 ≤ s
    · exact key _ h3 c3 (by omega)
    by_cases c2 : 1024 ≤ s
    · exact key _ h2 c2 (by omega)
    by_cases c1 : 512 ≤ s
    · exact key _ h1 c1 (by omega)
    · exact h0 ⟨s, by omega⟩

/-- A bound on 512 columns is a bound on four groups of 128. -/
theorem forall_four (p : ℕ → Prop) :
    (∀ x : Fin 128, ((p x.val ∧ p (128 + x.val)) ∧ p (256 + x.val)) ∧ p (384 + x.val)) ↔ ∀ y : Fin 512, p y.val := by
  constructor
  · rintro h ⟨y, hy⟩
    obtain ⟨⟨⟨a, b⟩, c⟩, d⟩ := h ⟨y % 128, Nat.mod_lt _ (by decide)⟩
    simp only at a b c d
    show p y
    by_cases c3 : 384 ≤ y
    · have e : 384 + y % 128 = y := by omega
      rwa [e] at d
    by_cases c2 : 256 ≤ y
    · have e : 256 + y % 128 = y := by omega
      rwa [e] at c
    by_cases c1 : 128 ≤ y
    · have e : 128 + y % 128 = y := by omega
      rwa [e] at b
    · have e : y % 128 = y := by omega
      rwa [e] at a
  · intro h x
    have := x.isLt
    exact ⟨⟨⟨h ⟨x, by omega⟩, h ⟨128 + x, by omega⟩⟩, h ⟨256 + x, by omega⟩⟩, h ⟨384 + x, by omega⟩⟩

/-- The greatest of 4608 scores, `-∞` if there were none. -/
def greatest (s : Fin 4608 → EReal) : EReal := Finset.univ.fold max ⊥ s

theorem greatest_le (s : Fin 4608 → EReal) (c : EReal) : greatest s ≤ c ↔ ∀ i, s i ≤ c := by
  unfold greatest
  rw [Finset.fold_max_le]
  simp

/-- The greatest of finite scores is one of them. -/
theorem exists_greatest (s : Fin 4608 → EReal) : ∃ i, greatest s = s i := by
  obtain ⟨i, -, hi⟩ := Finset.exists_max_image (Finset.univ : Finset (Fin 4608)) s ⟨0, Finset.mem_univ _⟩
  exact ⟨i, le_antisymm ((greatest_le s _).2 fun j => hi j (Finset.mem_univ _)) ((greatest_le s _).1 le_rfl i)⟩

/-- A nonnegative finite factor distributes over a sum of extended reals. -/
theorem sum_mul_real {ι : Type} (S : Finset ι) (f : ι → EReal) (r : ℝ) (hr : 0 ≤ r) :
    (∑ i ∈ S, f i) * (r : EReal) = ∑ i ∈ S, f i * (r : EReal) := by
  classical
  induction S using Finset.induction_on with
  | empty => simp
  | insert a S ha ih =>
    rw [Finset.sum_insert ha, Finset.sum_insert ha, EReal.right_distrib_of_nonneg_of_ne_top (by exact_mod_cast hr) (EReal.coe_ne_top r), ih]

/-- The weight a score `x` carries when the row's greatest score is `M`. -/
def weight (x M : EReal) : EReal := Ideal.exp (x - M)

/-- For finite scores, the average formed by dividing the weighted sum by the sum of the weights (each times one) is the sum of the
    values times their normalised weights. -/
theorem average (s : Fin 4608 → EReal) (hs : ∀ i, ∃ r : ℝ, s i = r) (v : Fin 4608 → EReal) :
    (∑ i, weight (s i) (greatest s) * v i) * Ideal.div 1 (∑ i, weight (s i) (greatest s) * 1)
      = ∑ i, Ideal.div (weight (s i) (greatest s)) (∑ j, weight (s j) (greatest s)) * v i := by
  obtain ⟨i₀, hi₀⟩ := exists_greatest s
  obtain ⟨M, hM⟩ := hs i₀
  choose g hg using hs
  have hw : ∀ i, weight (s i) (greatest s) = ((Real.exp (g i - M) : ℝ) : EReal) := fun i => by
    unfold weight
    rw [hi₀, hM, hg i, ← EReal.coe_sub]
    rfl
  simp only [hw, mul_one]
  have hsum : (∑ i, ((Real.exp (g i - M) : ℝ) : EReal)) = ((∑ i, Real.exp (g i - M) : ℝ) : EReal) := by
    exact (map_sum (⟨⟨Real.toEReal, EReal.coe_zero⟩, EReal.coe_add⟩ : ℝ →+ EReal) _ _).symm
  rw [hsum]
  have hpos : 0 < ∑ i, Real.exp (g i - M) := Finset.sum_pos (fun i _ => Real.exp_pos _) ⟨0, Finset.mem_univ _⟩
  rw [Ideal.div_coe hpos.ne', one_mul, sum_mul_real _ _ _ (one_div_nonneg.2 hpos.le)]
  refine Finset.sum_congr rfl fun i _ => ?_
  rw [Ideal.div_coe hpos.ne', mul_assoc, mul_assoc, mul_comm (v i)]

end Cert.AttnMath
end
-- ==== Proof.AttnBlock.lean ====
module

public import proofs.«01_k».proof.Proof.Gen.KernelIdeal.Value
public import proofs.«01_k».proof.Proof.AttnMath
public import Idealize.ShloMosaic.Lib.Pipeline.ValueKit
public import Idealize.ShloMosaic.Lib.Pipeline.ReadBack

@[expose] public section

set_option maxRecDepth 16384
noncomputable section
namespace Cert.KernelIdeal.Attn
open Cert.KernelIdeal Cert.KernelIdeal.Gen Idealize.ShloMosaic Idealize.ShloMosaic.TcCoe Idealize.SL.Sem
open Idealize.ShloMosaic.Pipeline (Dat)
open Cert.AttnMath

/-! What one grid point of the attention kernel stores: for 256 queries of four heads, the average of the values weighted by the
    exponentials of the scores. The body keeps all scores in one scratch and the row maxima in another; both are read back here. -/

/-! ## The scratch reads -/

/-- The 128 columns of a 512-column array that start at column `o`. -/
def colsAt (w : FVec Ideal S1024x512 .f32) (o : ℕ) : FVec Ideal S1024x128 .f32 :=
  fun j => w (ix2 (j 0) ⟨(o + (j 1).val) % 512, Nat.mod_lt _ (by decide)⟩)

/-- A load of 128 columns of the score scratch that lie inside the last stored chunk of 512 columns reads those columns of the chunk. -/
theorem readCov_cols {sig : RefSig} {κ : Kind} {sp : Space} (v : View sig κ sp S1024x4608 .f32) {a b : ℕ}
    (inb : ∀ x, (![0, a] : Fin 2 → ℕ) x + (![1024, 512] : Fin 2 → ℕ) x ≤ S1024x4608.size x)
    (inb' : ∀ x, (![0, b] : Fin 2 → ℕ) x + (![1024, 128] : Fin 2 → ℕ) x ≤ S1024x4608.size x)
    (w : FVec Ideal S1024x512 .f32) (L : List (View.Piece (Elt Ideal) S1024x4608 .f32)) (h : a ≤ b ∧ b + 128 ≤ a + 512) :
    v.readCov (⟨Rect.unit (s := S1024x4608) ![0, a] ![1024, 512] inb, w⟩ :: L) (Rect.unit (s := S1024x4608) ![0, b] ![1024, 128] inb').toLoadRect
      = colsAt w (b - a) := by
  rw [View.readCov_eq_canon']
  funext j
  have h1 : (j 1).val < 128 := (j 1).isLt
  have e : (Rect.unit (s := S1024x4608) ![0, b] ![1024, 128] inb').toLoadRect.idx j
      = (Rect.unit (s := S1024x4608) ![0, a] ![1024, 512] inb).emb (ix2 (j 0) ⟨(b - a + (j 1).val) % 512, Nat.mod_lt _ (by decide)⟩) := by
    funext x
    apply Fin.ext
    match x with
    | ⟨0, _⟩ => rfl
    | ⟨1, _⟩ =>
      show b + 1 * (j 1).val = a + 1 * ((b - a + (j 1).val) % 512)
      omega
  rw [e]
  exact View.canon_cons_emb (Rect.unit (s := S1024x4608) ![0, a] ![1024, 512] inb) w L _

/-! ## The body's stages on a chunk of 512 keys -/

/-- A chunk's scores. -/
def sAt (x0 : Vec Ideal S1x4x256x64 .bf16) (kc : Vec Ideal S1x1x512x64 .bf16) : FVec Ideal S1024x512 .f32 := k0_pay1 (k0_pay9 x0) kc

/-- The keys of the chunk that starts at key `o` of the new ones. -/
def kAt (x1 : Vec Ideal S1x1x4096x64 .bf16) (o : ℕ) (h : o + 512 ≤ 4096) : Vec Ideal S1x1x512x64 .bf16 :=
  fun j => x1 (ix4 0 0 ⟨o + (j 2).val, by have : (j 2).val < 512 := (j 2).isLt; omega⟩ (j 3))

/-- The values of the chunk that starts at key `o` of the new ones. -/
def vAt (x2 : Vec Ideal S1x1x4096x128 .bf16) (o : ℕ) (h : o + 512 ≤ 4096) : Vec Ideal S1x1x512x128 .bf16 :=
  fun j => x2 (ix4 0 0 ⟨o + (j 2).val, by have : (j 2).val < 512 := (j 2).isLt; omega⟩ (j 3))

theorem ld_kAt (x1 : Vec Ideal S1x1x4096x64 .bf16) (o : ℕ) (h : o + 512 ≤ 4096)
    (inb : ∀ x, (![0, 0, o, 0] : Fin 4 → ℕ) x + (![1, 1, 512, 64] : Fin 4 → ℕ) x ≤ S1x1x4096x64.size x) :
    View.ld (Val := Elt Ideal) x1 (Rect.unit (s := S1x1x4096x64) ![0, 0, o, 0] ![1, 1, 512, 64] inb) = kAt x1 o h := by
  funext j
  refine congrArg x1 (funext fun a => Fin.ext ?_)
  have h0 : (j 0).val < 1 := (j 0).isLt
  have h1 : (j 1).val < 1 := (j 1).isLt
  match a with
  | ⟨0, _⟩ => show 0 + 1 * (j 0).val = 0; omega
  | ⟨1, _⟩ => show 0 + 1 * (j 1).val = 0; omega
  | ⟨2, _⟩ => show o + 1 * (j 2).val = o + (j 2).val; omega
  | ⟨3, _⟩ => show 0 + 1 * (j 3).val = (j 3).val; omega

theorem ld_vAt (x2 : Vec Ideal S1x1x4096x128 .bf16) (o : ℕ) (h : o + 512 ≤ 4096)
    (inb : ∀ x, (![0, 0, o, 0] : Fin 4 → ℕ) x + (![1, 1, 512, 128] : Fin 4 → ℕ) x ≤ S1x1x4096x128.size x) :
    View.ld (Val := Elt Ideal) x2 (Rect.unit (s := S1x1x4096x128) ![0, 0, o, 0] ![1, 1, 512, 128] inb) = vAt x2 o h := by
  funext j
  refine congrArg x2 (funext fun a => Fin.ext ?_)
  have h0 : (j 0).val < 1 := (j 0).isLt
  have h1 : (j 1).val < 1 := (j 1).isLt
  match a with
  | ⟨0, _⟩ => show 0 + 1 * (j 0).val = 0; omega
  | ⟨1, _⟩ => show 0 + 1 * (j 1).val = 0; omega
  | ⟨2, _⟩ => show o + 1 * (j 2).val = o + (j 2).val; omega
  | ⟨3, _⟩ => show 0 + 1 * (j 3).val = (j 3).val; omega

/-- A chunk's exponentials less the row maximum, 128 columns at a time. -/
def expOf (mx : FVec Ideal S1024x128 .f32) (w : FVec Ideal S1024x512 .f32) : FVec Ideal S1024x512 .bf16 :=
  concatenate S1024x512 1 [⟨S1024x128, truncf .bf16 (exp (subf (colsAt w 0) mx)) bitsLt_bf16_f32⟩,
    ⟨S1024x128, truncf .bf16 (exp (subf (colsAt w 128) mx)) bitsLt_bf16_f32⟩,
    ⟨S1024x128, truncf .bf16 (exp (subf (colsAt w 256) mx)) bitsLt_bf16_f32⟩,
    ⟨S1024x128, truncf .bf16 (exp (subf (colsAt w 384) mx)) bitsLt_bf16_f32⟩]
    concatenates_S1024x128_S1024x128_S1024x128_S1024x128_S1024x512_d1

/-- A chunk's product of exponentials and values. -/
def pvOf (mx : FVec Ideal S1024x128 .f32) (w : FVec Ideal S1024x512 .f32) (v : Vec Ideal S1x1x512x128 .bf16) : FVec Ideal S1024x128 .f32 :=
  have v25 : FVec Ideal S512x128 .bf16 := shapeCast S512x128 v shapeCasts_S1x1x512x128_S512x128
  matmul dot_S1024x512_S512x128_S1024x128_1_0_0_1_n_n none (expOf mx w) v25 (constant S1024x128 .f32 0x00000000#32)

/-- The greatest of the four groups of 128 columns of a chunk. -/
def cmaxOf (w : FVec Ideal S1024x512 .f32) : FVec Ideal S1024x128 .f32 :=
  maximumf (maximumf (maximumf (extractStridedSlice S1024x128 ![0, 0] w slices_S1024x512_o0_0_S1024x128)
    (extractStridedSlice S1024x128 ![0, 128] w slices_S1024x512_o0_128_S1024x128))
    (extractStridedSlice S1024x128 ![0, 256] w slices_S1024x512_o0_256_S1024x128))
    (extractStridedSlice S1024x128 ![0, 384] w slices_S1024x512_o0_384_S1024x128)

/-- The row maxima over the nine chunks, repeated along 128 lanes. -/
def mxOf (w0 w1 w2 w3 w4 w5 w6 w7 w8 : FVec Ideal S1024x512 .f32) : FVec Ideal S1024x128 .f32 :=
  shapeCast S1024x128 (broadcastTo S1024x128 (shapeCast S1024x1 (shapeCast S1024x1 (multiReduction .maximumf [1] S1024
    (maximumf (maximumf (maximumf (maximumf (maximumf (maximumf (maximumf (maximumf (cmaxOf w0) (cmaxOf w1)) (cmaxOf w2)) (cmaxOf w3)) (cmaxOf w4))
      (cmaxOf w5)) (cmaxOf w6)) (cmaxOf w7)) (cmaxOf w8)) 0xFF800000#32 reduces_S1024x128_S1024 (.inl rfl) rfl)
    shapeCasts_S1024_S1024x1) shapeCasts_S1024x1_S1024x1) broadcasts_S1024x1_S1024x128) shapeCasts_S1024x128_S1024x128

theorem expOf_apply (mx : FVec Ideal S1024x128 .f32) (w : FVec Ideal S1024x512 .f32) (r : Fin 1024) (M : EReal) (hM : ∀ l, mx (ix2 r l) = M) (x : Fin 512) :
    expOf mx w (ix2 r x) = weight (w (ix2 r x)) M := by
  have hx := x.isLt
  have key : ∀ (o : ℕ) (l : Fin 128) (h : (o + l.val) % 512 = x.val),
      Ideal.exp (colsAt w o (ix2 r l) - mx (ix2 r l)) = weight (w (ix2 r x)) M := fun o l h => by
    rw [hM]
    unfold weight colsAt
    congr 3
    congr 1
    exact Fin.ext h
  pointwise [expOf]
  by_cases h1 : x.val < 128
  · rw [dif_pos h1]
    exact key 0 ⟨x.val, h1⟩ (by show (0 + x.val) % 512 = x.val; omega)
  rw [dif_neg h1]
  by_cases h2 : x.val - 128 < 128
  · rw [dif_pos h2]
    exact key 128 ⟨x.val - 128, h2⟩ (by show (128 + (x.val - 128)) % 512 = x.val; omega)
  rw [dif_neg h2]
  by_cases h3 : x.val - 128 - 128 < 128
  · rw [dif_pos h3]
    exact key 256 ⟨x.val - 128 - 128, h3⟩ (by show (256 + (x.val - 128 - 128)) % 512 = x.val; omega)
  rw [dif_neg h3]
  exact key 384 ⟨x.val - 128 - 128 - 128, by omega⟩ (by show (384 + (x.val - 128 - 128 - 128)) % 512 = x.val; omega)

theorem pvOf_apply (mx : FVec Ideal S1024x128 .f32) (w : FVec Ideal S1024x512 .f32) (v : Vec Ideal S1x1x512x128 .bf16) (r : Fin 1024) (l : Fin 128) (M : EReal) (hM : ∀ l, mx (ix2 r l) = M) :
    pvOf mx w v (ix2 r l) = ∑ x : Fin 512, weight (w (ix2 r x)) M * v (ix4 0 0 x l) := by
  simp only [← expOf_apply mx w r M hM]
  pointwise [pvOf]

theorem e11 (x0 : Vec Ideal S1x4x256x64 .bf16) (kc : Vec Ideal S1x1x512x64 .bf16) : k0_pay11 x0 kc = sAt x0 kc := by
  funext j; show _ = k0_pay10 x0 kc j; pointwise [k0_pay11]
theorem e13 (x0 : Vec Ideal S1x4x256x64 .bf16) (kc : Vec Ideal S1x1x512x64 .bf16) : k0_pay13 x0 kc = sAt x0 kc := by
  funext j; show _ = k0_pay12 x0 kc j; pointwise [k0_pay13]
theorem e16 (x0 : Vec Ideal S1x4x256x64 .bf16) (kc : Vec Ideal S1x1x512x64 .bf16) : k0_pay16 (k0_pay15 x0 kc) = sAt x0 kc := by
  funext j; show _ = k0_pay15 x0 kc j; pointwise [k0_pay16]
theorem e18 (x0 : Vec Ideal S1x4x256x64 .bf16) (kc : Vec Ideal S1x1x512x64 .bf16) : k0_pay18 (k0_pay9 x0) kc = sAt x0 kc := by
  funext j; show _ = k0_pay17 (k0_pay9 x0) kc j; pointwise [k0_pay18]
theorem e20 (x0 : Vec Ideal S1x4x256x64 .bf16) (kc : Vec Ideal S1x1x512x64 .bf16) : k0_pay20 (k0_pay9 x0) kc = sAt x0 kc := by
  funext j; show _ = k0_pay19 (k0_pay9 x0) kc j; pointwise [k0_pay20]
theorem e23 (x0 : Vec Ideal S1x4x256x64 .bf16) (kc : Vec Ideal S1x1x512x64 .bf16) : k0_pay23 (k0_pay9 x0) kc = sAt x0 kc := by
  funext j; show _ = k0_pay22 (k0_pay9 x0) kc j; pointwise [k0_pay23]
theorem e25 (x0 : Vec Ideal S1x4x256x64 .bf16) (kc : Vec Ideal S1x1x512x64 .bf16) : k0_pay25 (k0_pay9 x0) kc = sAt x0 kc := by
  funext j; show _ = k0_pay24 (k0_pay9 x0) kc j; pointwise [k0_pay25]
theorem e28 (x0 : Vec Ideal S1x4x256x64 .bf16) (kc : Vec Ideal S1x1x512x64 .bf16) : k0_pay28 (k0_pay9 x0) kc = sAt x0 kc := by
  funext j; show _ = k0_pay27 (k0_pay9 x0) kc j; pointwise [k0_pay28]
theorem e2 (x0 : Vec Ideal S1x4x256x64 .bf16) (kc : Vec Ideal S1x1x512x64 .bf16) : k0_pay2 (k0_pay9 x0) kc = sAt x0 kc := by
  funext j; show _ = k0_pay1 (k0_pay9 x0) kc j; pointwise [k0_pay2]

/-- The body's running maximum, opened: the row maxima of the nine chunks. -/
theorem mx_eq (x0 : Vec Ideal S1x4x256x64 .bf16) (k0 k1 k2 k3 k4 k5 k6 k7 k8 : Vec Ideal S1x1x512x64 .bf16) :
    k0_pay3 (k0_pay9 x0) (k0_pay26 (k0_pay9 x0) (k0_pay21 (k0_pay9 x0) (k0_pay14 x0 k0 k1) (k0_pay15 x0 k2) k3 k4) k5 k6)
        (k0_pay29 (k0_pay9 x0) k7) (k0_pay30 (k0_pay9 x0) k7) k8
      = mxOf (sAt x0 k0) (sAt x0 k1) (sAt x0 k2) (sAt x0 k3) (sAt x0 k4) (sAt x0 k5) (sAt x0 k6) (sAt x0 k7) (sAt x0 k8) := by
  have h29 : maximumf (k0_pay29 (k0_pay9 x0) k7) (k0_pay30 (k0_pay9 x0) k7) = cmaxOf (sAt x0 k7) := rfl
  have h14 : k0_pay14 x0 k0 k1 = maximumf (cmaxOf (sAt x0 k0)) (cmaxOf (sAt x0 k1)) := rfl
  have h15 : k0_pay15 x0 k2 = sAt x0 k2 := rfl
  have h21 : ∀ a w, k0_pay21 (k0_pay9 x0) a w k3 k4 = maximumf (maximumf (maximumf a (cmaxOf w)) (cmaxOf (sAt x0 k3))) (cmaxOf (sAt x0 k4)) := fun _ _ => rfl
  have h26 : ∀ a, k0_pay26 (k0_pay9 x0) a k5 k6 = maximumf (maximumf a (cmaxOf (sAt x0 k5))) (cmaxOf (sAt x0 k6)) := fun _ => rfl
  rw [h14, h15, h21, h26]
  unfold k0_pay3
  dsimp only
  rw [h29]
  rfl

/-- The nine chunks' row maxima for a block of queries and its keys. -/
def mxAt (x0 : Vec Ideal S1x4x256x64 .bf16) (x1 : Vec Ideal S1x1x4096x64 .bf16) (x3 : Vec Ideal S1x1x512x64 .bf16) : FVec Ideal S1024x128 .f32 :=
  mxOf (sAt x0 (kAt x1 0 (by decide))) (sAt x0 (kAt x1 512 (by decide))) (sAt x0 (kAt x1 1024 (by decide))) (sAt x0 (kAt x1 1536 (by decide)))
    (sAt x0 (kAt x1 2048 (by decide))) (sAt x0 (kAt x1 2560 (by decide))) (sAt x0 (kAt x1 3072 (by decide))) (sAt x0 (kAt x1 3584 (by decide))) (sAt x0 x3)

/-- The first eight chunks' products, added from the left. -/
def accAt (mx : FVec Ideal S1024x128 .f32) (x0 : Vec Ideal S1x4x256x64 .bf16) (x1 : Vec Ideal S1x1x4096x64 .bf16) (x2 : Vec Ideal S1x1x4096x128 .bf16) : FVec Ideal S1024x128 .f32 :=
  addf (addf (addf (addf (addf (addf (addf (pvOf mx (sAt x0 (kAt x1 0 (by decide))) (vAt x2 0 (by decide)))
    (pvOf mx (sAt x0 (kAt x1 512 (by decide))) (vAt x2 512 (by decide))))
    (pvOf mx (sAt x0 (kAt x1 1024 (by decide))) (vAt x2 1024 (by decide))))
    (pvOf mx (sAt x0 (kAt x1 1536 (by decide))) (vAt x2 1536 (by decide))))
    (pvOf mx (sAt x0 (kAt x1 2048 (by decide))) (vAt x2 2048 (by decide))))
    (pvOf mx (sAt x0 (kAt x1 2560 (by decide))) (vAt x2 2560 (by decide))))
    (pvOf mx (sAt x0 (kAt x1 3072 (by decide))) (vAt x2 3072 (by decide))))
    (pvOf mx (sAt x0 (kAt x1 3584 (by decide))) (vAt x2 3584 (by decide)))

variable (m : (ℓ : Loc nD τ sig) → Buf (Elt Ideal) ℓ)

/-- A point's stored block, stage by stage: the four heads' rows of one array. -/
theorem outsAt_eq (c : Dev nD) (t : Fin cfg0.N) : outsAt0 m c t
    = View.canon [
        ⟨Rect.unit (s := S1x256x256) ![0, 0, 192] S1x256x64.size inb_S1x256x256_S1x256x64_0_0_192,
          k0_pay8 (accAt (mxAt (iblk m c 0 t) (iblk m c 1 t) (iblk m c 3 t)) (iblk m c 0 t) (iblk m c 1 t) (iblk m c 2 t))
            (expOf (mxAt (iblk m c 0 t) (iblk m c 1 t) (iblk m c 3 t)) (sAt (iblk m c 0 t) (iblk m c 3 t))) (iblk m c 4 t)⟩,
        ⟨Rect.unit (s := S1x256x256) ![0, 0, 128] S1x256x64.size inb_S1x256x256_S1x256x64_0_0_128,
          k0_pay7 (accAt (mxAt (iblk m c 0 t) (iblk m c 1 t) (iblk m c 3 t)) (iblk m c 0 t) (iblk m c 1 t) (iblk m c 2 t))
            (expOf (mxAt (iblk m c 0 t) (iblk m c 1 t) (iblk m c 3 t)) (sAt (iblk m c 0 t) (iblk m c 3 t))) (iblk m c 4 t)⟩,
        ⟨Rect.unit (s := S1x256x256) ![0, 0, 64] S1x256x64.size inb_S1x256x256_S1x256x64_0_0_64,
          k0_pay6 (accAt (mxAt (iblk m c 0 t) (iblk m c 1 t) (iblk m c 3 t)) (iblk m c 0 t) (iblk m c 1 t) (iblk m c 2 t))
            (expOf (mxAt (iblk m c 0 t) (iblk m c 1 t) (iblk m c 3 t)) (sAt (iblk m c 0 t) (iblk m c 3 t))) (iblk m c 4 t)⟩,
        ⟨Rect.unit (s := S1x256x256) ![0, 0, 0] S1x256x64.size inb_S1x256x256_S1x256x64_0_0_0,
          k0_pay5 (accAt (mxAt (iblk m c 0 t) (iblk m c 1 t) (iblk m c 3 t)) (iblk m c 0 t) (iblk m c 1 t) (iblk m c 2 t))
            (expOf (mxAt (iblk m c 0 t) (iblk m c 1 t) (iblk m c 3 t)) (sAt (iblk m c 0 t) (iblk m c 3 t))) (iblk m c 4 t)⟩] := by
  unfold outsAt0
  frame_open
  simp (disch := decide) only [↓ View.readCov_skip, ↓ View.readCov_cons_toLoadRect, ↓ View.readCov_fill]
  frame_out
  simp (disch := decide) only [e11, e13, e16, e18, e20, e23, e25, e28, e2, ↓ readCov_cols, ld_kAt, ld_vAt]
  generalize iblk m c 0 t = X0
  generalize iblk m c 1 t = X1
  generalize iblk m c 2 t = X2
  generalize iblk m c 3 t = X3
  generalize iblk m c 4 t = X4
  simp only [mx_eq, Nat.reduceSub]
  unfold mxAt
  generalize mxOf _ _ _ _ _ _ _ _ _ = mx
  unfold accAt pvOf expOf k0_pay31 k0_pay36 k0_pay40 k0_pay42 k0_pay43 k0_pay44 k0_pay32 k0_pay33 k0_pay34 k0_pay35 k0_pay37 k0_pay38 k0_pay39 k0_pay41
  rfl

/-! ## The block at an index -/

/-- Key `s` of a group: a new one below 4096, a cached one from there on. -/
def keyAt (x1 : Vec Ideal S1x1x4096x64 .bf16) (x3 : Vec Ideal S1x1x512x64 .bf16) (s : ℕ) (d : Fin 64) : EReal :=
  if h : s < 4096 then x1 (ix4 0 0 ⟨s, h⟩ d) else x3 (ix4 0 0 ⟨(s - 4096) % 512, Nat.mod_lt _ (by decide)⟩ d)

/-- Value `s` of a group, with the lanes that follow it. -/
def valAt (x2 : Vec Ideal S1x1x4096x128 .bf16) (x4 : Vec Ideal S1x1x512x128 .bf16) (s : ℕ) (l : Fin 128) : EReal :=
  if h : s < 4096 then x2 (ix4 0 0 ⟨s, h⟩ l) else x4 (ix4 0 0 ⟨(s - 4096) % 512, Nat.mod_lt _ (by decide)⟩ l)

/-- The score of query row `r` of the block (head `r / 256` of the group, query `r % 256`) against key `s`. -/
def scoreAt (x0 : Vec Ideal S1x4x256x64 .bf16) (x1 : Vec Ideal S1x1x4096x64 .bf16) (x3 : Vec Ideal S1x1x512x64 .bf16) (r : Fin 1024) (s : ℕ) : EReal :=
  ∑ d : Fin 64, k0_pay9 x0 (ix2 r d) * keyAt x1 x3 s d

theorem sAt_new (x0 : Vec Ideal S1x4x256x64 .bf16) (x1 : Vec Ideal S1x1x4096x64 .bf16) (x3 : Vec Ideal S1x1x512x64 .bf16) (r : Fin 1024) (o : ℕ) (h : o + 512 ≤ 4096) (y : Fin 512) :
    sAt x0 (kAt x1 o h) (ix2 r y) = scoreAt x0 x1 x3 r (o + y.val) := by
  pointwise [sAt, k0_pay1]
  refine Finset.sum_congr rfl fun d _ => ?_
  unfold keyAt
  rw [dif_pos (by omega)]
  rfl

theorem sAt_cached (x0 : Vec Ideal S1x4x256x64 .bf16) (x1 : Vec Ideal S1x1x4096x64 .bf16) (x3 : Vec Ideal S1x1x512x64 .bf16) (r : Fin 1024) (y : Fin 512) :
    sAt x0 x3 (ix2 r y) = scoreAt x0 x1 x3 r (4096 + y.val) := by
  pointwise [sAt, k0_pay1]
  refine Finset.sum_congr rfl fun d _ => ?_
  unfold keyAt
  rw [dif_neg (by omega)]
  have e : (⟨(4096 + y.val - 4096) % 512, Nat.mod_lt _ (by decide)⟩ : Fin 512) = y := Fin.ext (by show (4096 + y.val - 4096) % 512 = y.val; omega)
  rw [e]

theorem vAt_new (x2 : Vec Ideal S1x1x4096x128 .bf16) (x4 : Vec Ideal S1x1x512x128 .bf16) (o : ℕ) (h : o + 512 ≤ 4096) (y : Fin 512) (l : Fin 128) :
    vAt x2 o h (ix4 0 0 y l) = valAt x2 x4 (o + y.val) l := by
  unfold valAt
  rw [dif_pos (by omega)]
  rfl

theorem vAt_cached (x2 : Vec Ideal S1x1x4096x128 .bf16) (x4 : Vec Ideal S1x1x512x128 .bf16) (y : Fin 512) (l : Fin 128) :
    x4 (ix4 0 0 y l) = valAt x2 x4 (4096 + y.val) l := by
  unfold valAt
  rw [dif_neg (by omega)]
  have e : (⟨(4096 + y.val - 4096) % 512, Nat.mod_lt _ (by decide)⟩ : Fin 512) = y := Fin.ext (by show (4096 + y.val - 4096) % 512 = y.val; omega)
  rw [e]

/-- A bound on a chunk's row, group of columns by group of columns. -/
theorem cmaxOf_le (w : FVec Ideal S1024x512 .f32) (r : Fin 1024) (f : ℕ → EReal) (hf : ∀ y : Fin 512, w (ix2 r y) = f y.val) (b : EReal) (x : Fin 128) :
    cmaxOf w (ix2 r x) ≤ b ↔ ((f x.val ≤ b ∧ f (128 + x.val) ≤ b) ∧ f (256 + x.val) ≤ b) ∧ f (384 + x.val) ≤ b := by
  have hx := x.isLt
  have e0 := hf ⟨x.val, by omega⟩
  have e1 := hf ⟨128 + x.val, by omega⟩
  have e2 := hf ⟨256 + x.val, by omega⟩
  have e3 := hf ⟨384 + x.val, by omega⟩
  dsimp only at e0 e1 e2 e3
  rw [← e0, ← e1, ← e2, ← e3]
  pointwise [cmaxOf]
  simp only [max_le_iff]

/-- The row maxima are the greatest of the row's 4608 scores, in every lane. -/
theorem mxAt_apply (x0 : Vec Ideal S1x4x256x64 .bf16) (x1 : Vec Ideal S1x1x4096x64 .bf16) (x3 : Vec Ideal S1x1x512x64 .bf16) (r : Fin 1024) (l : Fin 128) :
    mxAt x0 x1 x3 (ix2 r l) = greatest fun s => scoreAt x0 x1 x3 r s.val := by
  refine eq_of_forall_ge_iff fun b => ?_
  rw [greatest_le]
  rw [forall_nine fun s => scoreAt x0 x1 x3 r s ≤ b]
  unfold mxAt
  have g0 := cmaxOf_le _ r (fun y => scoreAt x0 x1 x3 r (0 + y)) (sAt_new x0 x1 x3 r 0 (by decide)) b
  have g1 := cmaxOf_le _ r (fun y => scoreAt x0 x1 x3 r (512 + y)) (sAt_new x0 x1 x3 r 512 (by decide)) b
  have g2 := cmaxOf_le _ r (fun y => scoreAt x0 x1 x3 r (1024 + y)) (sAt_new x0 x1 x3 r 1024 (by decide)) b
  have g3 := cmaxOf_le _ r (fun y => scoreAt x0 x1 x3 r (1536 + y)) (sAt_new x0 x1 x3 r 1536 (by decide)) b
  have g4 := cmaxOf_le _ r (fun y => scoreAt x0 x1 x3 r (2048 + y)) (sAt_new x0 x1 x3 r 2048 (by decide)) b
  have g5 := cmaxOf_le _ r (fun y => scoreAt x0 x1 x3 r (2560 + y)) (sAt_new x0 x1 x3 r 2560 (by decide)) b
  have g6 := cmaxOf_le _ r (fun y => scoreAt x0 x1 x3 r (3072 + y)) (sAt_new x0 x1 x3 r 3072 (by decide)) b
  have g7 := cmaxOf_le _ r (fun y => scoreAt x0 x1 x3 r (3584 + y)) (sAt_new x0 x1 x3 r 3584 (by decide)) b
  have g8 := cmaxOf_le _ r (fun y => scoreAt x0 x1 x3 r (4096 + y)) (sAt_cached x0 x1 x3 r) b
  pointwise [mxOf]
  rw [Finset.fold_max_le]
  simp only [max_le_iff, g0, g1, g2, g3, g4, g5, g6, g7, g8, Finset.mem_univ, true_implies]
  have hbot : Ideal.ofBits FTy.f32 4286578688#32 ≤ b := by
    have : Ideal.ofBits FTy.f32 4286578688#32 = ⊥ := by simp [Ideal.ofBits, Ideal.ieee]
    rw [this]; exact bot_le
  simp only [hbot, true_and]
  have f4 : ∀ o, (∀ x : Fin 128, ((scoreAt x0 x1 x3 r (o + x.val) ≤ b ∧ scoreAt x0 x1 x3 r (o + (128 + x.val)) ≤ b) ∧ scoreAt x0 x1 x3 r (o + (256 + x.val)) ≤ b)
      ∧ scoreAt x0 x1 x3 r (o + (384 + x.val)) ≤ b) ↔ ∀ y : Fin 512, scoreAt x0 x1 x3 r (o + y.val) ≤ b := fun o => forall_four fun y => scoreAt x0 x1 x3 r (o + y) ≤ b
  have z : (∀ y : Fin 512, scoreAt x0 x1 x3 r y.val ≤ b) ↔ ∀ y : Fin 512, scoreAt x0 x1 x3 r (0 + y.val) ≤ b := by simp only [Nat.zero_add]
  rw [z, ← f4 0, ← f4 512, ← f4 1024, ← f4 1536, ← f4 2048, ← f4 2560, ← f4 3072, ← f4 3584, ← f4 4096]
  constructor
  · intro g
    exact ⟨⟨⟨⟨⟨⟨⟨⟨fun x => (g x).1.1.1.1.1.1.1.1, fun x => (g x).1.1.1.1.1.1.1.2⟩, fun x => (g x).1.1.1.1.1.1.2⟩, fun x => (g x).1.1.1.1.1.2⟩, fun x => (g x).1.1.1.1.2⟩,
      fun x => (g x).1.1.1.2⟩, fun x => (g x).1.1.2⟩, fun x => (g x).1.2⟩, fun x => (g x).2⟩
  · rintro ⟨⟨⟨⟨⟨⟨⟨⟨k0, k1⟩, k2⟩, k3⟩, k4⟩, k5⟩, k6⟩, k7⟩, k8⟩ x
    exact ⟨⟨⟨⟨⟨⟨⟨⟨k0 x, k1 x⟩, k2 x⟩, k3 x⟩, k4 x⟩, k5 x⟩, k6 x⟩, k7 x⟩, k8 x⟩

/-- The query row `r`, lane `l` of the block's unnormalised average: the sum over all keys of the weight times the value. -/
def numAt (x0 : Vec Ideal S1x4x256x64 .bf16) (x1 : Vec Ideal S1x1x4096x64 .bf16) (x2 : Vec Ideal S1x1x4096x128 .bf16) (x3 : Vec Ideal S1x1x512x64 .bf16) (x4 : Vec Ideal S1x1x512x128 .bf16)
    (r : Fin 1024) (l : Fin 128) : EReal :=
  ∑ s : Fin 4608, weight (scoreAt x0 x1 x3 r s.val) (greatest fun s => scoreAt x0 x1 x3 r s.val) * valAt x2 x4 s.val l

theorem acc_apply (x0 : Vec Ideal S1x4x256x64 .bf16) (x1 : Vec Ideal S1x1x4096x64 .bf16) (x2 : Vec Ideal S1x1x4096x128 .bf16) (x3 : Vec Ideal S1x1x512x64 .bf16) (x4 : Vec Ideal S1x1x512x128 .bf16)
    (r : Fin 1024) (l : Fin 128) :
    accAt (mxAt x0 x1 x3) x0 x1 x2 (ix2 r l) + ∑ x : Fin 512, expOf (mxAt x0 x1 x3) (sAt x0 x3) (ix2 r x) * x4 (ix4 0 0 x l) = numAt x0 x1 x2 x3 x4 r l := by
  unfold numAt
  have hM : ∀ l, mxAt x0 x1 x3 (ix2 r l) = greatest fun s => scoreAt x0 x1 x3 r s.val := mxAt_apply x0 x1 x3 r
  rw [sum_nine fun s => weight (scoreAt x0 x1 x3 r s) (greatest fun s => scoreAt x0 x1 x3 r s.val) * valAt x2 x4 s l]
  have hp : ∀ (o : ℕ) (h : o + 512 ≤ 4096), pvOf (mxAt x0 x1 x3) (sAt x0 (kAt x1 o h)) (vAt x2 o h) (ix2 r l)
      = ∑ x : Fin 512, weight (scoreAt x0 x1 x3 r (o + x.val)) (greatest fun s => scoreAt x0 x1 x3 r s.val) * valAt x2 x4 (o + x.val) l := fun o h => by
    rw [pvOf_apply _ _ _ r l _ hM]
    simp only [sAt_new x0 x1 x3 r o h, vAt_new x2 x4 o h]
  have h8 : ∑ x : Fin 512, expOf (mxAt x0 x1 x3) (sAt x0 x3) (ix2 r x) * x4 (ix4 0 0 x l)
      = ∑ x : Fin 512, weight (scoreAt x0 x1 x3 r (4096 + x.val)) (greatest fun s => scoreAt x0 x1 x3 r s.val) * valAt x2 x4 (4096 + x.val) l := by
    refine Finset.sum_congr rfl fun x _ => ?_
    rw [expOf_apply _ _ r _ hM, sAt_cached x0 x1 x3 r x, vAt_cached x2 x4 x l]
  rw [h8]
  show (((((((pvOf _ _ _ (ix2 r l) + pvOf _ _ _ (ix2 r l)) + pvOf _ _ _ (ix2 r l)) + pvOf _ _ _ (ix2 r l)) + pvOf _ _ _ (ix2 r l)) + pvOf _ _ _ (ix2 r l)) + pvOf _ _ _ (ix2 r l))
    + pvOf _ _ _ (ix2 r l)) + _ = _
  rw [hp 0, hp 512, hp 1024, hp 1536, hp 2048, hp 2560, hp 3072, hp 3584]
  simp only [Nat.zero_add]

/-- What a point stores at query `p`, head `h` of the group, lane `d`: the weighted sum over its reciprocal normaliser, which the
    values' lane 64 accumulates. -/
theorem outsAt_apply (c : Dev nD) (t : Fin cfg0.N) (p : Fin 256) (h : Fin 4) (d : Fin 64) (y : S1x256x256.Idx)
    (hy1 : (y 1).val = p.val) (hy2 : (y 2).val = 64 * h.val + d.val) :
    outsAt0 m c t y
      = numAt (iblk m c 0 t) (iblk m c 1 t) (iblk m c 2 t) (iblk m c 3 t) (iblk m c 4 t) ⟨256 * h.val + p.val, by omega⟩ ⟨d.val, by omega⟩
        * Ideal.div 1 (numAt (iblk m c 0 t) (iblk m c 1 t) (iblk m c 2 t) (iblk m c 3 t) (iblk m c 4 t) ⟨256 * h.val + p.val, by omega⟩ 64) := by
  rw [outsAt_eq]
  generalize iblk m c 0 t = X0
  generalize iblk m c 1 t = X1
  generalize iblk m c 2 t = X2
  generalize iblk m c 3 t = X3
  generalize iblk m c 4 t = X4
  simp only [← acc_apply]
  canon_tiles x g
  all_goals
    have hd := d.isLt
    have hh := h.isLt
    have ex (e : (x 2).val = d.val) : x = ix3 0 p d := by
      funext a
      match a with
      | ⟨0, _⟩ => exact Fin.ext (by show (x 0).val = 0; omega)
      | ⟨1, _⟩ => exact Fin.ext (by show (x 1).val = p.val; omega)
      | ⟨2, _⟩ => exact Fin.ext e
  · obtain rfl : h = 3 := Fin.ext (by show h.val = 3; omega)
    rw [ex (by have : ((3 : Fin 4).val) = 3 := rfl; omega)]
    pointwise [k0_pay8, k0_pay4]
  · obtain rfl : h = 2 := Fin.ext (by show h.val = 2; omega)
    rw [ex (by have : ((2 : Fin 4).val) = 2 := rfl; omega)]
    pointwise [k0_pay7, k0_pay4]
  · obtain rfl : h = 1 := Fin.ext (by show h.val = 1; omega)
    rw [ex (by have : ((1 : Fin 4).val) = 1 := rfl; omega)]
    pointwise [k0_pay6, k0_pay4]
  · obtain rfl : h = 0 := Fin.ext (by show h.val = 0; omega)
    rw [ex (by have : ((0 : Fin 4).val) = 0 := rfl; omega)]
    pointwise [k0_pay5, k0_pay4]

end Cert.KernelIdeal.Attn
end
-- ==== Proof.AttnArray.lean ====
/- The attention call's output array after the run, as one function of the arguments. -/
module

public import proofs.«01_k».proof.Proof.AttnBlock
public import Idealize.ShloMosaic.Lib.Pipeline.Covers
public import Idealize.ShloMosaic.Lib.StableHlo.RunRead

@[expose] public section

set_option maxRecDepth 16384

noncomputable section

namespace Cert.KernelIdeal.Attn

open Cert.KernelIdeal Cert.KernelIdeal.Gen Cert.AttnMath Idealize.ShloMosaic Idealize.ShloMosaic.TcCoe Idealize.SL.Sem

variable (m : (ℓ : Loc nD τ sig) → Buf (Elt Ideal) ℓ)

/-! ## The windows' block indices -/

theorem idx0 : ∀ t, (cfg0.win 0).index t = ![(grid0.coords t 0).val, (grid0.coords t 1).val, (grid0.coords t 2).val, 0] := by decide +kernel
theorem idx1 : ∀ t, (cfg0.win 1).index t = ![(grid0.coords t 0).val, (grid0.coords t 1).val, 0, 0] := by decide +kernel
theorem idx2 : ∀ t, (cfg0.win 2).index t = ![(grid0.coords t 0).val, (grid0.coords t 1).val, 0, 0] := by decide +kernel
theorem idx3 : ∀ t, (cfg0.win 3).index t = ![(grid0.coords t 0).val, (grid0.coords t 1).val, 0, 0] := by decide +kernel
theorem idx4 : ∀ t, (cfg0.win 4).index t = ![(grid0.coords t 0).val, (grid0.coords t 1).val, 0, 0] := by decide +kernel
theorem idx5 : ∀ t, (cfg0.win 5).index t = ![(grid0.coords t 0).val, (grid0.coords t 2).val, (grid0.coords t 1).val] := by decide +kernel

/-! ## The values as the call finds them: a column of ones follows their 64 lanes -/

/-- The new values as the call finds them. -/
theorem V2_eq (c : Dev nD) : (V m c main_v2 : Vec Ideal S8x2x4096x128 .bf16)
    = concatenate S8x2x4096x128 3 [⟨S8x2x4096x64, (m ((c : Thread nD τ).loc main_arg2) : Vec Ideal S8x2x4096x64 .bf16)⟩,
        ⟨S8x2x4096x1, (broadcastInDim S8x2x4096x1 ![] bcast_S_S8x2x4096x1 (constant S_ .bf16 0x3F80#16 : FVec Ideal S_ .bf16) : Vec Ideal S8x2x4096x1 .bf16)⟩,
        ⟨S8x2x4096x63, (broadcastInDim S8x2x4096x63 ![] bcast_S_S8x2x4096x63 (constant S_ .bf16 0x0000#16 : FVec Ideal S_ .bf16) : Vec Ideal S8x2x4096x63 .bf16)⟩]
        concatenates_S8x2x4096x64_S8x2x4096x1_S8x2x4096x63_S8x2x4096x128_d3 := by
  unfold V
  after_reads_simp
  rfl

/-- The cached values as the call finds them. -/
theorem V9_eq (c : Dev nD) : (V m c main_v9 : Vec Ideal S8x2x512x128 .bf16)
    = concatenate S8x2x512x128 3 [⟨S8x2x512x64, (truncf .bf16 (transpose S8x2x512x64 [0, 2, 1, 3] (m ((c : Thread nD τ).loc main_arg4) : FVec Ideal S8x512x2x64 .f32) transposes_S8x512x2x64_S8x2x512x64_0_2_1_3 : FVec Ideal S8x2x512x64 .f32) bitsLt_bf16_f32 : Vec Ideal S8x2x512x64 .bf16)⟩,
        ⟨S8x2x512x1, (broadcastInDim S8x2x512x1 ![] bcast_S_S8x2x512x1 (constant S_ .bf16 0x3F80#16 : FVec Ideal S_ .bf16) : Vec Ideal S8x2x512x1 .bf16)⟩,
        ⟨S8x2x512x63, (broadcastInDim S8x2x512x63 ![] bcast_S_S8x2x512x63 (constant S_ .bf16 0x0000#16 : FVec Ideal S_ .bf16) : Vec Ideal S8x2x512x63 .bf16)⟩]
        concatenates_S8x2x512x64_S8x2x512x1_S8x2x512x63_S8x2x512x128_d3 := by
  unfold V
  after_reads_simp
  rfl

/-- A constant written with the word of one is one in every place. -/
theorem one_word : Ideal.ofBits FTy.bf16 0x3F80#16 = 1 := by simp [Ideal.ofBits, Ideal.ieee, -EReal.coe_mul]; norm_num

theorem V2_apply (c : Dev nD) (b : Fin 8) (g : Fin 2) (s : Fin 4096) (l : Fin 64) :
    (V m c main_v2 : Vec Ideal S8x2x4096x128 .bf16) (ix4 b g s ⟨l.val, by omega⟩) = m ((c : Thread nD τ).loc main_arg2) (ix4 b g s l) := by
  rw [V2_eq]
  pointwise

theorem V2_one (c : Dev nD) (b : Fin 8) (g : Fin 2) (s : Fin 4096) :
    (V m c main_v2 : Vec Ideal S8x2x4096x128 .bf16) (ix4 b g s 64) = (1 : EReal) := by
  rw [V2_eq]
  pointwise

theorem V9_apply (c : Dev nD) (b : Fin 8) (g : Fin 2) (s : Fin 512) (l : Fin 64) :
    (V m c main_v9 : Vec Ideal S8x2x512x128 .bf16) (ix4 b g s ⟨l.val, by omega⟩) = m ((c : Thread nD τ).loc main_arg4) (ix4 b s g l) := by
  rw [V9_eq]
  pointwise

theorem V9_one (c : Dev nD) (b : Fin 8) (g : Fin 2) (s : Fin 512) :
    (V m c main_v9 : Vec Ideal S8x2x512x128 .bf16) (ix4 b g s 64) = (1 : EReal) := by
  rw [V9_eq]
  pointwise

/-! ## The blocks as reads of the arguments -/

/-- Row `s` of a group's keys or values: a new one below 4096, a cached one from there on. -/
def rowOf (k : Vec Ideal S8x2x4096x64 .bf16) (ck : Vec Ideal S8x512x2x64 .f32) (b : Fin 8) (g : Fin 2) (s : Fin 4608) (d : Fin 64) : EReal :=
  if h : s.val < 4096 then k (ix4 b g ⟨s.val, h⟩ d) else ck (ix4 b ⟨(s.val - 4096) % 512, Nat.mod_lt _ (by decide)⟩ g d)

/-- The score of query `n`, head `h` of group `g`, against key `s`. -/
def scoreOf (q : Vec Ideal S8x8x4096x64 .bf16) (k : Vec Ideal S8x2x4096x64 .bf16) (ck : Vec Ideal S8x512x2x64 .f32) (b : Fin 8) (g : Fin 2) (h : Fin 4) (n : Fin 4096) (s : Fin 4608) : EReal :=
  ∑ d : Fin 64, q (ix4 b ⟨4 * g.val + h.val, by omega⟩ n d) * rowOf k ck b g s d

/-- The launch's queries, new keys, new values, cached keys and cached values. -/
abbrev A0 (c : Dev nD) : Vec Ideal S8x8x4096x64 .bf16 := m ((c : Thread nD τ).loc main_arg0)
@[inherit_doc A0] abbrev A1 (c : Dev nD) : Vec Ideal S8x2x4096x64 .bf16 := m ((c : Thread nD τ).loc main_arg1)
@[inherit_doc A0] abbrev A2 (c : Dev nD) : Vec Ideal S8x2x4096x64 .bf16 := m ((c : Thread nD τ).loc main_arg2)
@[inherit_doc A0] abbrev A3 (c : Dev nD) : Vec Ideal S8x512x2x64 .f32 := m ((c : Thread nD τ).loc main_arg3)
@[inherit_doc A0] abbrev A4 (c : Dev nD) : Vec Ideal S8x512x2x64 .f32 := m ((c : Thread nD τ).loc main_arg4)

theorem pay9_apply (x0 : Vec Ideal S1x4x256x64 .bf16) (h : Fin 4) (p : Fin 256) (d : Fin 64) :
    k0_pay9 x0 (ix2 ⟨256 * h.val + p.val, by omega⟩ d) = x0 (ix4 0 h p d) := by
  pointwise [k0_pay9]

section reads
variable (c : Dev nD) (t : Fin cfg0.N) (b : Fin 8) (g : Fin 2) (i : Fin 16)
  (hb : (grid0.coords t 0).val = b.val) (hg : (grid0.coords t 1).val = g.val) (hi : (grid0.coords t 2).val = i.val)
include hb hg hi

theorem read0 (h : Fin 4) (p : Fin 256) (d : Fin 64) :
    (iblk m c 0 t : Vec Ideal S1x4x256x64 .bf16) (ix4 0 h p d) = m ((c : Thread nD τ).loc main_arg0) (ix4 b ⟨4 * g.val + h.val, by omega⟩ ⟨256 * i.val + p.val, by omega⟩ d) := by
  blk_ext [iblk, V, idx0 t]

theorem read1 (s : Fin 4096) (d : Fin 64) :
    (iblk m c 1 t : Vec Ideal S1x1x4096x64 .bf16) (ix4 0 0 s d) = m ((c : Thread nD τ).loc main_arg1) (ix4 b g s d) := by
  blk_ext [iblk, V, idx1 t]

theorem read3 (s : Fin 512) (d : Fin 64) :
    (iblk m c 3 t : Vec Ideal S1x1x512x64 .bf16) (ix4 0 0 s d) = m ((c : Thread nD τ).loc main_arg3) (ix4 b s g d) := by
  blk_simp [iblk, idx3 t]
  entry_read
  pointwise
  blk_ext [idx3 t]

theorem read2 (s : Fin 4096) (d : Fin 64) :
    (iblk m c 2 t : Vec Ideal S1x1x4096x128 .bf16) (ix4 0 0 s ⟨d.val, by omega⟩) = m ((c : Thread nD τ).loc main_arg2) (ix4 b g s d) := by
  rw [← V2_apply m c b g s d]
  unfold iblk
  blk_simp [idx2 t]
  refine congrArg _ ?_
  blk_ext [idx2 t]

theorem read2_one (s : Fin 4096) :
    (iblk m c 2 t : Vec Ideal S1x1x4096x128 .bf16) (ix4 0 0 s 64) = (1 : EReal) := by
  rw [← V2_one m c b g s]
  unfold iblk
  blk_simp [idx2 t]
  refine congrArg _ ?_
  blk_ext [idx2 t]

theorem read4 (s : Fin 512) (d : Fin 64) :
    (iblk m c 4 t : Vec Ideal S1x1x512x128 .bf16) (ix4 0 0 s ⟨d.val, by omega⟩) = m ((c : Thread nD τ).loc main_arg4) (ix4 b s g d) := by
  rw [← V9_apply m c b g s d]
  unfold iblk
  blk_simp [idx4 t]
  refine congrArg _ ?_
  blk_ext [idx4 t]

theorem read4_one (s : Fin 512) :
    (iblk m c 4 t : Vec Ideal S1x1x512x128 .bf16) (ix4 0 0 s 64) = (1 : EReal) := by
  rw [← V9_one m c b g s]
  unfold iblk
  blk_simp [idx4 t]
  refine congrArg _ ?_
  blk_ext [idx4 t]

/-- A point's scores, in terms of the arguments. -/
theorem score_read (h : Fin 4) (p : Fin 256) (s : Fin 4608) :
    scoreAt (iblk m c 0 t) (iblk m c 1 t) (iblk m c 3 t) ⟨256 * h.val + p.val, by omega⟩ s.val
      = scoreOf (A0 m c) (A1 m c) (A3 m c) b g h ⟨256 * i.val + p.val, by omega⟩ s := by
  unfold scoreAt scoreOf
  refine Finset.sum_congr rfl fun d _ => ?_
  refine congrArg₂ (· * ·) ((pay9_apply _ h p d).trans (read0 m c t b g i hb hg hi h p d)) ?_
  unfold keyAt rowOf
  by_cases hs : s.val < 4096
  · rw [dif_pos hs, dif_pos hs]
    exact read1 m c t b g i hb hg hi ⟨s.val, hs⟩ d
  · rw [dif_neg hs, dif_neg hs]
    exact read3 m c t b g i hb hg hi _ d

/-- What point `t` accumulates for a query and a lane of the values, in terms of the arguments. -/
theorem num_lane (h : Fin 4) (p : Fin 256) (d : Fin 64) :
    numAt (iblk m c 0 t) (iblk m c 1 t) (iblk m c 2 t) (iblk m c 3 t) (iblk m c 4 t) ⟨256 * h.val + p.val, by omega⟩ ⟨d.val, by omega⟩
      = ∑ s : Fin 4608, weight (scoreOf (A0 m c) (A1 m c) (A3 m c) b g h ⟨256 * i.val + p.val, by omega⟩ s) (greatest (scoreOf (A0 m c) (A1 m c) (A3 m c) b g h ⟨256 * i.val + p.val, by omega⟩))
          * rowOf (A2 m c) (A4 m c) b g s d := by
  unfold numAt
  have e (s : Fin 4608) := score_read m c t b g i hb hg hi h p s
  simp only [e]
  refine Finset.sum_congr rfl fun s _ => ?_
  refine congrArg _ ?_
  unfold valAt rowOf
  by_cases hs : s.val < 4096
  · rw [dif_pos hs, dif_pos hs]
    exact read2 m c t b g i hb hg hi ⟨s.val, hs⟩ d
  · rw [dif_neg hs, dif_neg hs]
    exact read4 m c t b g i hb hg hi _ d

/-- What point `t` accumulates in the lane of ones: the sum of a query's weights. -/
theorem num_one (h : Fin 4) (p : Fin 256) :
    numAt (iblk m c 0 t) (iblk m c 1 t) (iblk m c 2 t) (iblk m c 3 t) (iblk m c 4 t) ⟨256 * h.val + p.val, by omega⟩ 64
      = ∑ s : Fin 4608, weight (scoreOf (A0 m c) (A1 m c) (A3 m c) b g h ⟨256 * i.val + p.val, by omega⟩ s) (greatest (scoreOf (A0 m c) (A1 m c) (A3 m c) b g h ⟨256 * i.val + p.val, by omega⟩)) * 1 := by
  unfold numAt
  have e (s : Fin 4608) := score_read m c t b g i hb hg hi h p s
  simp only [e]
  refine Finset.sum_congr rfl fun s _ => ?_
  refine congrArg _ ?_
  unfold valAt
  by_cases hs : s.val < 4096
  · rw [dif_pos hs]
    exact read2_one m c t b g i hb hg hi ⟨s.val, hs⟩
  · rw [dif_neg hs]
    exact read4_one m c t b g i hb hg hi _

end reads

/-! ## The array after the run -/

/-- What the call computes for query `n`, head `h` of group `g`, lane `d`: the weighted sum of the values, times the reciprocal of the sum
    of the weights. -/
def outOf (q : Vec Ideal S8x8x4096x64 .bf16) (k v : Vec Ideal S8x2x4096x64 .bf16) (ck cv : Vec Ideal S8x512x2x64 .f32) (b : Fin 8) (n : Fin 4096) (g : Fin 2) (h : Fin 4) (d : Fin 64) : EReal :=
  (∑ s : Fin 4608, weight (scoreOf q k ck b g h n s) (greatest (scoreOf q k ck b g h n)) * rowOf v cv b g s d)
    * Ideal.div 1 (∑ s : Fin 4608, weight (scoreOf q k ck b g h n s) (greatest (scoreOf q k ck b g h n)) * 1)

theorem outOf_congr (q : Vec Ideal S8x8x4096x64 .bf16) (k v : Vec Ideal S8x2x4096x64 .bf16) (ck cv : Vec Ideal S8x512x2x64 .f32) {b b' : Fin 8} {n n' : Fin 4096} {g g' : Fin 2} {h h' : Fin 4} {d d' : Fin 64}
    (eb : b = b') (en : n = n') (eg : g = g') (eh : h = h') (ed : d = d') : outOf q k v ck cv b n g h d = outOf q k v ck cv b' n' g' h' d' := by
  rw [eb, en, eg, eh, ed]

theorem covers5 : (cfg0.win 5).Covers := by decide +kernel

/-- The output array after the run. -/
theorem array5 (c : Dev nD) : (dats m 0 c).arrAt 5 cfg0.N
    = fun y : S8x4096x512.Idx => outOf (A0 m c) (A1 m c) (A2 m c) (A3 m c) (A4 m c) (y 0) (y 1) ⟨(y 2).val / 256, by have : (y 2).val < 512 := (y 2).isLt; omega⟩
        ⟨(y 2).val / 64 % 4, Nat.mod_lt _ (by decide)⟩ ⟨(y 2).val % 64, Nat.mod_lt _ (by decide)⟩ := by
  refine (dats m 0 c).arrAt_eq_of_covers 5 _ covers5 fun t hf y => ?_
  blk_simp
  rw [after0_5]
  have hy0 : (y 0).val < 1 := (y 0).isLt
  have hy1 : (y 1).val < 256 := (y 1).isLt
  have hy2 : (y 2).val < 256 := (y 2).isLt
  have hb : (grid0.coords t 0).val < 8 := (grid0.coords t 0).isLt
  have hg : (grid0.coords t 1).val < 2 := (grid0.coords t 1).isLt
  have hi : (grid0.coords t 2).val < 16 := (grid0.coords t 2).isLt
  rw [outsAt_apply m c t ⟨(y 1).val, hy1⟩ ⟨(y 2).val / 64, by omega⟩ ⟨(y 2).val % 64, by omega⟩ y rfl (by show (y 2).val = 64 * ((y 2).val / 64) + (y 2).val % 64; omega),
    num_lane m c t ⟨_, hb⟩ ⟨_, hg⟩ ⟨_, hi⟩ rfl rfl rfl, num_one m c t ⟨_, hb⟩ ⟨_, hg⟩ ⟨_, hi⟩ rfl rfl rfl]
  have e0 : (((cfg0.win 5).blk t).view.emb y 0 : ℕ) = (grid0.coords t 0).val := by blk_simp [idx5 t]
  have e1 : (((cfg0.win 5).blk t).view.emb y 1 : ℕ) = 256 * (grid0.coords t 2).val + (y 1).val := by blk_simp [idx5 t]; omega
  have e2 : (((cfg0.win 5).blk t).view.emb y 2 : ℕ) = 256 * (grid0.coords t 1).val + (y 2).val := by blk_simp [idx5 t]; omega
  refine (outOf_congr _ _ _ _ _ (Fin.ext e0) (Fin.ext e1) (Fin.ext ?_) (Fin.ext ?_) (Fin.ext ?_)).symm
  all_goals
    have i2 : win0_5.index t 2 = (grid0.coords t 1).val := congrFun (idx5 t) 2
  · show (win0_5.index t 2 * 256 + (y 2).val) / 256 = (grid0.coords t 1).val
    omega
  · show (win0_5.index t 2 * 256 + (y 2).val) / 64 % 4 = (y 2).val / 64
    omega
  · show (win0_5.index t 2 * 256 + (y 2).val) % 64 = (y 2).val % 64
    omega

end Cert.KernelIdeal.Attn
end
-- ==== Proof.AttnRef.lean ====
/- The attention reference's result, read at an index, and what the precondition says. -/
module

public import proofs.«01_k».proof.Proof.AttnArray
public import proofs.«01_k».proof.Proof.Gen.ReferenceIdeal.Read
public import proofs.«01_k».proof.Proof.Gen.Pre_finite_scores
public import Idealize.ShloMosaic.Lib.ReduceAll

@[expose] public section

set_option maxRecDepth 16384

noncomputable section

namespace Cert.ReferenceIdeal.Attn

open Cert.ReferenceIdeal Cert.ReferenceIdeal.Gen Cert.ReferenceIdeal.Read Cert.AttnMath Idealize.ShloMosaic Idealize.ShloMosaic.TcCoe Idealize.SL.Sem
open Cert.KernelIdeal.Attn (rowOf scoreOf outOf)

variable (q : Vec Ideal S8x8x4096x64 .bf16) (k v : Vec Ideal S8x2x4096x64 .bf16) (ck cv : Vec Ideal S8x512x2x64 .f32)

/-- The queries, grouped by key head. -/
theorem queries (b : Fin 8) (n : Fin 4096) (g : Fin 2) (h : Fin 4) (d : Fin 64) :
    val_main_v2 (F := Ideal) q (ix5 b n g h d) = q (ix4 b ⟨4 * g.val + h.val, by omega⟩ n d) := by
  have e : (⟨4 * g.val + h.val, by omega⟩ : Fin 8) = ⟨g.val * 4 + h.val, by omega⟩ := Fin.ext (by show 4 * g.val + h.val = g.val * 4 + h.val; omega)
  rw [e]
  pointwise [val_main_v2, val_main_v1, val_main_v0]

/-- A cached row's number is below 512. -/
theorem cached_mod (b : Fin 8) (g : Fin 2) (s : Fin 4608) (d : Fin 64) :
    (if h : s.val < 4096 then k (ix4 b g ⟨s.val, h⟩ d) else ck (ix4 b ⟨s.val - 4096, by omega⟩ g d)) = rowOf k ck b g s d := by
  unfold rowOf
  by_cases h : s.val < 4096
  · rw [dif_pos h, dif_pos h]
  · rw [dif_neg h, dif_neg h]
    have e : (⟨s.val - 4096, by omega⟩ : Fin 512) = ⟨(s.val - 4096) % 512, Nat.mod_lt _ (by decide)⟩ := Fin.ext (Nat.mod_eq_of_lt (by omega)).symm
    rw [e]

/-- The new keys followed by the cached ones. -/
theorem keys (b : Fin 8) (s : Fin 4608) (g : Fin 2) (d : Fin 64) :
    val_main_v5 (F := Ideal) k ck (ix4 b s g d) = rowOf k ck b g s d := by
  pointwise [val_main_v5, val_main_v4, val_main_v3]
  exact cached_mod k ck b g s d

/-- The new values followed by the cached ones. -/
theorem values (b : Fin 8) (s : Fin 4608) (g : Fin 2) (d : Fin 64) :
    val_main_v8 (F := Ideal) v cv (ix4 b s g d) = rowOf v cv b g s d := by
  pointwise [val_main_v8, val_main_v7, val_main_v6]
  exact cached_mod v cv b g s d

/-- The scores. -/
theorem scores (b : Fin 8) (g : Fin 2) (h : Fin 4) (n : Fin 4096) (s : Fin 4608) :
    val_main_v10 (F := Ideal) q k ck (ix5 b g h n s) = scoreOf q k ck b g h n s := by
  rw [val_main_v10_apply, val_main_v9_apply]
  unfold scoreOf
  refine Finset.sum_congr rfl fun d _ => ?_
  rw [mul_comm, ← queries q b n g h d, ← keys k ck b s g d]
  refine congrArg₂ (· * ·) (congrArg _ (funext fun a => ?_)) (congrArg _ (funext fun a => ?_))
  · match a with | ⟨0, _⟩ => rfl | ⟨1, _⟩ => rfl | ⟨2, _⟩ => rfl | ⟨3, _⟩ => rfl | ⟨4, _⟩ => rfl
  · match a with | ⟨0, _⟩ => rfl | ⟨1, _⟩ => rfl | ⟨2, _⟩ => rfl | ⟨3, _⟩ => rfl

theorem bottom_word : Ideal.ofBits FTy.f32 0xFF800000#32 = ⊥ := by simp [Ideal.ofBits, Ideal.ieee]

/-- The greatest score of a query. -/
theorem top (b : Fin 8) (g : Fin 2) (h : Fin 4) (n : Fin 4096) :
    val_main_v13 (F := Ideal) q k ck (ix4 b g h n) = greatest (scoreOf q k ck b g h n) := by
  have e : val_main_v11 (F := Ideal) q k ck (ix4 b g h n) = greatest (scoreOf q k ck b g h n) := by
    have e := fun s => scores q k ck b g h n s
    pointwise [val_main_v11, val_main_cst]
    simp only [e, bottom_word]
    rfl
  rw [val_main_v13_apply, e, val_main_v12_apply, val_main_cst_0_apply]
  show max (Ideal.ofBits FTy.f32 0xFF800000#32) _ = _
  rw [bottom_word]
  exact max_eq_right bot_le

/-- The weights. -/
theorem weights (b : Fin 8) (g : Fin 2) (h : Fin 4) (n : Fin 4096) (s : Fin 4608) :
    val_main_v17 (F := Ideal) q k ck (ix5 b g h n s) = weight (scoreOf q k ck b g h n s) (greatest (scoreOf q k ck b g h n)) := by
  rw [val_main_v17_apply, val_main_v16_apply, val_main_v15_apply, val_main_v14_apply, scores]
  rw [← top]
  refine congrArg (fun z => Ideal.exp (scoreOf q k ck b g h n s - z)) (congrArg _ (funext fun a => ?_))
  match a with | ⟨0, _⟩ => rfl | ⟨1, _⟩ => rfl | ⟨2, _⟩ => rfl | ⟨3, _⟩ => rfl

/-- The sum of a query's weights. -/
theorem total (b : Fin 8) (g : Fin 2) (h : Fin 4) (n : Fin 4096) :
    val_main_v18 (F := Ideal) q k ck (ix4 b g h n) = ∑ s : Fin 4608, weight (scoreOf q k ck b g h n s) (greatest (scoreOf q k ck b g h n)) * 1 := by
  rw [val_main_v18_apply, val_main_cst_1_apply]
  have z : Ideal.ofBits FTy.f32 0x00000000#32 = 0 := by simp [Ideal.ofBits, Ideal.ieee]
  show Ideal.ofBits FTy.f32 0x00000000#32 + _ = _
  rw [z, zero_add]
  refine Finset.sum_congr rfl fun s _ => ?_
  rw [mul_one, ← weights]
  refine congrArg _ (funext fun a => ?_)
  match a with | ⟨0, _⟩ => rfl | ⟨1, _⟩ => rfl | ⟨2, _⟩ => rfl | ⟨3, _⟩ => rfl | ⟨4, _⟩ => rfl

/-- The weights divided by their sum. -/
theorem shares (b : Fin 8) (g : Fin 2) (h : Fin 4) (n : Fin 4096) (s : Fin 4608) :
    val_main_v21 (F := Ideal) q k ck (ix5 b g h n s) = Ideal.div (weight (scoreOf q k ck b g h n s) (greatest (scoreOf q k ck b g h n)))
      (∑ s : Fin 4608, weight (scoreOf q k ck b g h n s) (greatest (scoreOf q k ck b g h n)) * 1) := by
  rw [val_main_v21_apply, val_main_v20_apply, val_main_v19_apply, weights, ← total]
  refine congrArg (fun z => Ideal.div (weight (scoreOf q k ck b g h n s) (greatest (scoreOf q k ck b g h n))) z) (congrArg _ (funext fun a => ?_))
  match a with | ⟨0, _⟩ => rfl | ⟨1, _⟩ => rfl | ⟨2, _⟩ => rfl | ⟨3, _⟩ => rfl

/-- What the reference computes for query `n`, head `h` of group `g`, lane `d`: the values weighted by the weights' shares of their sum. -/
def refOf (b : Fin 8) (n : Fin 4096) (g : Fin 2) (h : Fin 4) (d : Fin 64) : EReal :=
  ∑ s : Fin 4608, Ideal.div (weight (scoreOf q k ck b g h n s) (greatest (scoreOf q k ck b g h n)))
    (∑ s : Fin 4608, weight (scoreOf q k ck b g h n s) (greatest (scoreOf q k ck b g h n)) * 1) * rowOf v cv b g s d

/-- The reference's result at an index. -/
theorem result (y : S8x4096x512.Idx) (b : Fin 8) (n : Fin 4096) (g : Fin 2) (h : Fin 4) (d : Fin 64)
    (e0 : (y 0).val = b.val) (e1 : (y 1).val = n.val) (e2 : (y 2).val = 256 * g.val + 64 * h.val + d.val) :
    val_main_v25 (F := Ideal) q k v ck cv y = refOf q k v ck cv b n g h d := by
  have h0 := b.isLt
  have h1 := n.isLt
  have h2 := g.isLt
  have h3 := h.isLt
  have h4 := d.isLt
  rw [val_main_v25_apply]
  show val_main_v24 (F := Ideal) q k v ck cv y = _
  rw [val_main_v24_apply, val_main_v23_apply, val_main_v22_apply]
  unfold refOf
  refine Finset.sum_congr rfl fun s _ => ?_
  rw [mul_comm, ← shares, ← values]
  refine congrArg₂ (· * ·) (congrArg _ (funext fun a => Fin.ext ?_)) (congrArg _ (funext fun a => Fin.ext ?_))
  · match a with
    | ⟨0, _⟩ => show (((y 0).val * 4096 + (y 1).val) * 512 + (y 2).val) / 2097152 = b.val; omega
    | ⟨1, _⟩ => show (((y 0).val * 4096 + (y 1).val) * 512 + (y 2).val) / 256 % 2 = g.val; omega
    | ⟨2, _⟩ => show (((y 0).val * 4096 + (y 1).val) * 512 + (y 2).val) / 64 % 4 = h.val; omega
    | ⟨3, _⟩ => show (((y 0).val * 4096 + (y 1).val) * 512 + (y 2).val) / 512 % 4096 = n.val; omega
    | ⟨4, _⟩ => rfl
  · match a with
    | ⟨0, _⟩ => show (((y 0).val * 4096 + (y 1).val) * 512 + (y 2).val) / 2097152 = b.val; omega
    | ⟨1, _⟩ => rfl
    | ⟨2, _⟩ => show (((y 0).val * 4096 + (y 1).val) * 512 + (y 2).val) / 256 % 2 = g.val; omega
    | ⟨3, _⟩ => show (((y 0).val * 4096 + (y 1).val) * 512 + (y 2).val) % 64 = d.val; omega

/-! ## The precondition -/

/-- A number below infinity in magnitude is real. -/
theorem real_of_abs_lt (x : EReal) (h : Ideal.cmp .olt (max x (-x)) (Ideal.ofBits FTy.f32 0x7F800000#32) = 1#1) : ∃ r : ℝ, x = r := by
  have top_word : Ideal.ofBits FTy.f32 0x7F800000#32 = ⊤ := by simp [Ideal.ofBits, Ideal.ieee]
  rw [top_word] at h
  induction x with
  | bot => simp [Ideal.cmp] at h
  | coe r => exact ⟨r, rfl⟩
  | top => simp [Ideal.cmp] at h

theorem and_one (a b : BitVec 1) (h : IntOp.andi a b = 1#1) : a = 1#1 ∧ b = 1#1 := by
  revert a b; decide

/-- The precondition makes every query and every key a real number. -/
theorem finite_of_pre (j : Cert.Pre_finite_scores.S_.Idx) (h : Cert.Pre_finite_scores.fn (F := Ideal) q k v ck cv j = 1#1) :
    (∀ i, ∃ r : ℝ, q i = r) ∧ (∀ i, ∃ r : ℝ, k i = r) ∧ ∀ i, ∃ r : ℝ, ck i = r := by
  have hsub : Subsingleton Cert.Pre_finite_scores.S_.Idx := ⟨fun a b => funext fun x => x.elim0⟩
  dsimp only [Cert.Pre_finite_scores.fn] at h
  obtain ⟨h01, h2⟩ := and_one _ _ h
  obtain ⟨h0, h1⟩ := and_one _ _ h01
  refine ⟨fun i => real_of_abs_lt _ ?_, fun i => real_of_abs_lt _ ?_, fun i => real_of_abs_lt _ ?_⟩
  · exact Host.reduce_andi_all _ _ _ _ _ h0 i
  · exact Host.reduce_andi_all _ _ _ _ _ h1 i
  · exact Host.reduce_andi_all _ _ _ _ _ h2 i

/-- So every score is one. -/
theorem real_score (hq : ∀ i, ∃ r : ℝ, q i = r) (hk : ∀ i, ∃ r : ℝ, k i = r) (hc : ∀ i, ∃ r : ℝ, ck i = r) (b : Fin 8) (g : Fin 2) (h : Fin 4) (n : Fin 4096) (s : Fin 4608) :
    ∃ r : ℝ, scoreOf q k ck b g h n s = r := by
  have hr (d : Fin 64) : ∃ r : ℝ, rowOf k ck b g s d = r := by
    unfold rowOf
    split
    · exact hk _
    · exact hc _
  choose qr hq using hq
  choose rr hr using hr
  refine ⟨∑ d : Fin 64, qr (ix4 b ⟨4 * g.val + h.val, by omega⟩ n d) * rr d, ?_⟩
  unfold scoreOf
  simp only [hq, hr, ← EReal.coe_mul]
  exact (map_sum (⟨⟨Real.toEReal, EReal.coe_zero⟩, EReal.coe_add⟩ : ℝ →+ EReal) _ _).symm

end Cert.ReferenceIdeal.Attn
end
-- ==== Proof.AttnClaim.lean ====
/- The attention call's value claim: the call's result and the reference's are equal, element by element. -/
module

public import proofs.«01_k».proof.Defs
public import proofs.«01_k».proof.Proof.AttnRef

@[expose] public section

set_option maxRecDepth 16384

noncomputable section

namespace Cert.Attn

open Idealize.ShloMosaic Idealize.ShloMosaic.TcCoe Idealize.SL.Sem Cert.AttnMath
open Cert.KernelIdeal.Attn (rowOf scoreOf outOf array5)
open Cert.ReferenceIdeal.Attn (refOf result finite_of_pre real_score)

/-- With finite queries and keys, dividing the weighted sum of the values by the sum of the weights is weighting the values by the
    weights' shares: what the call computes is what the reference computes. -/
theorem out_eq_ref (q : Vec Ideal Cert.KernelIdeal.S8x8x4096x64 .bf16) (k v : Vec Ideal Cert.KernelIdeal.S8x2x4096x64 .bf16) (ck cv : Vec Ideal Cert.KernelIdeal.S8x512x2x64 .f32)
    (hq : ∀ i, ∃ r : ℝ, q i = r) (hk : ∀ i, ∃ r : ℝ, k i = r) (hc : ∀ i, ∃ r : ℝ, ck i = r) (b : Fin 8) (n : Fin 4096) (g : Fin 2) (h : Fin 4) (d : Fin 64) :
    outOf q k v ck cv b n g h d = refOf q k v ck cv b n g h d := by
  have key := average (scoreOf q k ck b g h n) (real_score q k ck hq hk hc b g h n) (fun s => rowOf v cv b g s d)
  unfold outOf refOf
  rw [key]
  simp only [mul_one]

/-- The value claim. -/
theorem value : Cert.algebraic_KernelIdeal_ReferenceIdeal_pre_finite_scores := fun m ρ m' ρ' hpre hag =>
  ⟨fun c => (Cert.KernelIdeal.Gen.dats m 0 c).arrAt 5 Cert.KernelIdeal.cfg0.N, Cert.KernelIdeal.Value.run_blocks m ρ,
    (θ_run _ _ _).mono (fun r hr c => ⟨(hr c).1.trans (by
      obtain ⟨a0, a1, a2, a3, a4⟩ := hag c
      rw [Cert.ReferenceIdeal.Read.val_main_v25_eq, a0, a1, a2, a3, a4]
      show _ = (Cert.KernelIdeal.Gen.dats m 0 c).arrAt 5 Cert.KernelIdeal.cfg0.N
      rw [array5]
      obtain ⟨hq, hk, hc⟩ := finite_of_pre _ _ _ _ _ (Shape.Idx.first Cert.Pre_finite_scores.Gen.h_S_) (congrFun (hpre c) _)
      funext y
      have h2 : (y 2).val < 512 := (y 2).isLt
      exact (result _ _ _ _ _ y (y 0) (y 1) ⟨(y 2).val / 256, by omega⟩ ⟨(y 2).val / 64 % 4, Nat.mod_lt _ (by decide)⟩ ⟨(y 2).val % 64, Nat.mod_lt _ (by decide)⟩ rfl rfl
        (by show (y 2).val = 256 * ((y 2).val / 256) + 64 * ((y 2).val / 64 % 4) + (y 2).val % 64; omega)).trans (out_eq_ref _ _ _ _ _ hq hk hc _ _ _ _ _).symm), (hr c).2⟩)
      (Cert.ReferenceIdeal.Value.run m' ρ')⟩

end Cert.Attn
end
-- ==== Proof.LayerMath.lean ====
/- What the layer's other calls compute for one token, over the extended reals. -/
module

public import Idealize.ShloMosaic.PureOps.Ideal

@[expose] public section

noncomputable section

namespace Cert.LayerMath

open Idealize.ShloMosaic

/-- Coordinate `d` of a row divided by its root mean square and multiplied by the gains `g`. -/
def normed (x g : Fin 1024 → EReal) (d : Fin 1024) : EReal :=
  x d * Ideal.rsqrt (Ideal.div (∑ e, x e * x e) (Ideal.ofBits .f32 0x44800000#32) + Ideal.ofBits .f32 0x358637BD#32) * g d

/-- Coordinate `d` of a normed row, scaled by one more than `sc` and shifted by `sh`. -/
def modulated (x g sc sh : Fin 1024 → EReal) (d : Fin 1024) : EReal := normed x g d * (1 + sc d) + sh d

/-- The product of a row and a column. -/
def rowcol {n : ℕ} (h w : Fin n → EReal) : EReal := ∑ k, h k * w k

/-- The sigmoid of a number. -/
def sigmoid (a : EReal) : EReal := Ideal.div 1 (1 + Ideal.exp (-a))

/-- A unit of the feed-forward layer: the gate's product times its sigmoid, times the other product. -/
def unitOf (h wg wu : Fin 1024 → EReal) : EReal := rowcol h wg * sigmoid (rowcol h wg) * rowcol h wu

/-- A token after the feed-forward layer's residual sum. -/
def fed (x g sc sh gt : Fin 1024 → EReal) (wi : Fin 1024 → Fin 5632 → EReal) (wd : Fin 2816 → Fin 1024 → EReal) (d : Fin 1024) : EReal :=
  x d + gt d * ∑ j : Fin 2816, unitOf (modulated x g sc sh) (fun k => wi k ⟨j.val, by omega⟩) (fun k => wi k ⟨2816 + j.val, by omega⟩) * wd j d

/-- A sum over 2816 units is the sum over the first 1536 and the sum over the other 1280. -/
theorem sum_units (f : Fin 2816 → EReal) :
    ∑ j : Fin 2816, f j = ∑ j : Fin 1536, f ⟨j.val, by omega⟩ + ∑ j : Fin 1280, f ⟨1536 + j.val, by omega⟩ :=
  Fin.sum_univ_add (a := 1536) (b := 1280) f

end Cert.LayerMath
end
-- ==== Proof.FfnBlock.lean ====
/- What one grid point of the feed-forward call stores, from the blocks it reads. -/
module

public import proofs.«01_k».proof.Proof.Gen.FfnIdeal.Value
public import proofs.«01_k».proof.Proof.LayerMath
public import Idealize.ShloMosaic.Lib.Pipeline.ValueKit

@[expose] public section

set_option maxRecDepth 16384

noncomputable section

namespace Cert.FfnIdeal.Hand

open Cert.FfnIdeal Cert.FfnIdeal.Gen Idealize.ShloMosaic Idealize.ShloMosaic.TcCoe Idealize.SL.Sem
open Cert.LayerMath

theorem pay3_apply (v0 : Vec Ideal S1x512x1024 .f32) (v2 : Vec Ideal S1x1024 .f32) (v16 v22 : Vec Ideal S1x1x1024 .f32) (r : Fin 512) (d : Fin 1024) :
    k0_pay3 v0 v2 v16 v22 (ix2 r d) = modulated (fun e => v0 (ix3 0 r e)) (fun e => v2 (ix2 0 e)) (fun e => v16 (ix3 0 0 e)) (fun e => v22 (ix3 0 0 e)) d := by
  unfold modulated normed
  pointwise [k0_pay3, k0_pay2]

theorem pay4_apply (v0 : Vec Ideal S1x512x1024 .f32) (v2 : Vec Ideal S1x1024 .f32) (v16 v22 : Vec Ideal S1x1x1024 .f32) (v27 : Vec Ideal S1024x1536 .bf16) (r : Fin 512) (j : Fin 1536) :
    k0_pay4 v0 v2 v16 v22 v27 (ix2 r j) = rowcol (fun k => k0_pay3 v0 v2 v16 v22 (ix2 r k)) (fun k => v27 (ix2 k j)) := by
  unfold rowcol
  pointwise [k0_pay4]

theorem pay5_apply (v0 : Vec Ideal S1x512x1024 .f32) (v2 : Vec Ideal S1x1024 .f32) (v16 v22 : Vec Ideal S1x1x1024 .f32) (v27 : Vec Ideal S1024x1536 .bf16) (r : Fin 512) (j : Fin 1536) :
    k0_pay5 v0 v2 v16 v22 v27 (ix2 r j) = rowcol (fun k => k0_pay3 v0 v2 v16 v22 (ix2 r k)) (fun k => v27 (ix2 k j)) := by
  unfold rowcol
  pointwise [k0_pay5]

theorem pay6_apply (v0 : Vec Ideal S1x512x1024 .f32) (v2 : Vec Ideal S1x1024 .f32) (v16 v22 : Vec Ideal S1x1x1024 .f32) (v27 : Vec Ideal S1024x1536 .bf16) (r : Fin 512) (j : Fin 1536) :
    k0_pay6 v0 v2 v16 v22 v27 (ix2 r j) = Ideal.exp (-(k0_pay4 v0 v2 v16 v22 v27 (ix2 r j))) := by
  rw [← zero_sub]
  pointwise [k0_pay6]

theorem pay7_apply (v1 : FVec Ideal S512x1024 .f32) (v26 : FVec Ideal S512x1024 .bf16) (v29 v32 v35 : FVec Ideal S512x1536 .f32) (v43 : Vec Ideal S1536x1024 .bf16)
    (v46 v49 : Vec Ideal S1024x1280 .bf16) (v62 : Vec Ideal S1280x1024 .bf16) (v66 : Vec Ideal S1x1x1024 .f32) (r : Fin 512) (d : Fin 1024) :
    k0_pay7 v1 v26 v29 v32 v35 v43 v46 v49 v62 v66 (ix2 r d)
      = v1 (ix2 r d) + v66 (ix3 0 0 d) * (∑ j : Fin 1536, v29 (ix2 r j) * Ideal.div 1 (1 + v35 (ix2 r j)) * v32 (ix2 r j) * v43 (ix2 j d)
          + ∑ j : Fin 1280, unitOf (fun k => v26 (ix2 r k)) (fun k => v46 (ix2 k j)) (fun k => v49 (ix2 k j)) * v62 (ix2 j d)) := by
  unfold unitOf sigmoid rowcol
  simp only [← zero_sub]
  pointwise [k0_pay7]

theorem pay1_apply (v70 v73 : FVec Ideal S512x1024 .f32) (v72 : FVec Ideal S1x1024 .f32) (h : ∀ i, v73 i = v70 i * v70 i) (r : Fin 512) (d : Fin 1024) :
    k0_pay1 v70 v72 v73 (ix3 0 r d) = normed (fun e => v70 (ix2 r e)) (fun e => v72 (ix2 0 e)) d := by
  unfold normed
  simp only [← h]
  pointwise [k0_pay1]

/-- A load of row `o` of the modulation block reads that row. -/
theorem ld_row (x : Vec Ideal S1x8x1024 .f32) (o : ℕ) (ho : o < 8)
    (inb : ∀ a, (![0, o, 0] : Fin 3 → ℕ) a + (![1, 1, 1024] : Fin 3 → ℕ) a ≤ S1x8x1024.size a) (e : Fin 1024) :
    View.ld (Val := Elt Ideal) x (Rect.unit (s := S1x8x1024) ![0, o, 0] ![1, 1, 1024] inb) (ix3 0 0 e) = x (ix3 0 ⟨o, ho⟩ e) := by
  refine congrArg x (funext fun a => Fin.ext ?_)
  match a with
  | ⟨0, _⟩ => rfl
  | ⟨1, _⟩ => rfl
  | ⟨2, _⟩ => show 0 + 1 * e.val = e.val; omega

/-- A load of columns of the first weights that starts at column `o` reads those columns. -/
theorem ld_cols (x : Vec Ideal S1024x5632 .bf16) (o n : ℕ)
    (inb : ∀ a, (![0, o] : Fin 2 → ℕ) a + (![1024, n] : Fin 2 → ℕ) a ≤ S1024x5632.size a) (k : Fin 1024) (j : Fin n) (h : o + j.val < 5632) :
    View.ld (Val := Elt Ideal) x (Rect.unit (s := S1024x5632) ![0, o] ![1024, n] inb) (ix2 k j) = x (ix2 k ⟨o + j.val, h⟩) := by
  refine congrArg x (funext fun a => Fin.ext ?_)
  match a with
  | ⟨0, _⟩ => show 0 + 1 * k.val = k.val; omega
  | ⟨1, _⟩ => show o + 1 * j.val = o + j.val; omega

/-- A load of rows of the second weights that starts at row `o` reads those rows. -/
theorem ld_rows (x : Vec Ideal S2816x1024 .bf16) (o n : ℕ)
    (inb : ∀ a, (![o, 0] : Fin 2 → ℕ) a + (![n, 1024] : Fin 2 → ℕ) a ≤ S2816x1024.size a) (j : Fin n) (d : Fin 1024) (h : o + j.val < 2816) :
    View.ld (Val := Elt Ideal) x (Rect.unit (s := S2816x1024) ![o, 0] ![n, 1024] inb) (ix2 j d) = x (ix2 ⟨o + j.val, h⟩ d) := by
  refine congrArg x (funext fun a => Fin.ext ?_)
  match a with
  | ⟨0, _⟩ => show o + 1 * j.val = o + j.val; omega
  | ⟨1, _⟩ => show 0 + 1 * d.val = d.val; omega

/-- A load of the whole token block reads it. -/
theorem ld_tok (x : Vec Ideal S1x512x1024 .f32) : View.ld (Val := Elt Ideal) x r0_0 = x := by
  funext y
  refine congrArg x (funext fun a => Fin.ext ?_)
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- A load of the whole block of gains reads it. -/
theorem ld_gain (x : Vec Ideal S1x1024 .f32) : View.ld (Val := Elt Ideal) x r0_1 = x := by
  funext y
  refine congrArg x (funext fun a => Fin.ext ?_)
  match a with
  | ⟨0, _⟩ => show 0 + 1 * (y 0).val = (y 0).val; omega
  | ⟨1, _⟩ => show 0 + 1 * (y 1).val = (y 1).val; omega

section block
variable (x0 : Vec Ideal S1x512x1024 .f32) (x1 : Vec Ideal S1x8x1024 .f32) (x2 : Vec Ideal S1x1024 .f32) (x3 : Vec Ideal S1024x5632 .bf16) (x4 : Vec Ideal S2816x1024 .bf16) (x5 : Vec Ideal S1x1024 .f32)

/-- A block's token after the feed-forward layer's residual sum. -/
def fedAt (r : Fin 512) (d : Fin 1024) : EReal :=
  fed (fun e => x0 (ix3 0 r e)) (fun e => x2 (ix2 0 e)) (fun e => x1 (ix3 0 4 e)) (fun e => x1 (ix3 0 3 e)) (fun e => x1 (ix3 0 5 e))
    (fun k j => x3 (ix2 k j)) (fun j d => x4 (ix2 j d)) d

theorem pay11_apply (r : Fin 512) (k : Fin 1024) : k0_pay11 x0 x1 x2 x3 x4 x5 (ix2 r k)
    = modulated (fun e => x0 (ix3 0 r e)) (fun e => x2 (ix2 0 e)) (fun e => x1 (ix3 0 4 e)) (fun e => x1 (ix3 0 3 e)) k := by
  unfold k0_pay11
  rw [pay3_apply, ld_tok, ld_gain]
  simp only [ld_row x1 4 (by decide), ld_row x1 3 (by decide)]
  rfl

theorem pay12_apply (r : Fin 512) (j : Fin 1536) : k0_pay12 x0 x1 x2 x3 x4 x5 (ix2 r j)
    = rowcol (modulated (fun e => x0 (ix3 0 r e)) (fun e => x2 (ix2 0 e)) (fun e => x1 (ix3 0 4 e)) (fun e => x1 (ix3 0 3 e)))
        (fun k => x3 (ix2 k ⟨j.val, by omega⟩)) := by
  have h (k : Fin 1024) := pay11_apply x0 x1 x2 x3 x4 x5 r k
  unfold k0_pay11 at h
  unfold k0_pay12
  rw [pay4_apply]
  refine congrArg₂ rowcol (funext h) (funext fun k => ?_)
  rw [ld_cols x3 0 1536 _ k j (by omega)]
  exact congrArg (fun z => x3 (ix2 k z)) (Fin.ext (Nat.zero_add _))

theorem pay13_apply (r : Fin 512) (j : Fin 1536) : k0_pay13 x0 x1 x2 x3 x4 x5 (ix2 r j)
    = rowcol (modulated (fun e => x0 (ix3 0 r e)) (fun e => x2 (ix2 0 e)) (fun e => x1 (ix3 0 4 e)) (fun e => x1 (ix3 0 3 e)))
        (fun k => x3 (ix2 k ⟨2816 + j.val, by omega⟩)) := by
  have h (k : Fin 1024) := pay11_apply x0 x1 x2 x3 x4 x5 r k
  unfold k0_pay11 at h
  unfold k0_pay13
  rw [pay5_apply]
  refine congrArg₂ rowcol (funext h) (funext fun k => ?_)
  rw [ld_cols x3 2816 1536 _ k j (by omega)]

theorem pay14_apply (r : Fin 512) (j : Fin 1536) : k0_pay14 x0 x1 x2 x3 x4 x5 (ix2 r j) = Ideal.exp (-(k0_pay12 x0 x1 x2 x3 x4 x5 (ix2 r j))) :=
  pay6_apply _ _ _ _ _ r j

/-- The residual sum a point forms. -/
theorem sum_apply (r : Fin 512) (d : Fin 1024) :
    k0_pay7 (k0_pay10 x0 x1 x2 x3 x4 x5) (k0_pay11 x0 x1 x2 x3 x4 x5) (k0_pay12 x0 x1 x2 x3 x4 x5) (k0_pay13 x0 x1 x2 x3 x4 x5) (k0_pay14 x0 x1 x2 x3 x4 x5)
      (View.ld x4 r0_6) (View.ld x3 r0_7) (View.ld x3 r0_8) (View.ld x4 r0_9) (View.ld x1 r0_10) (ix2 r d) = fedAt x0 x1 x2 x3 x4 r d := by
  rw [pay7_apply]
  unfold fedAt fed
  rw [sum_units]
  refine congrArg₂ (· + ·) ?_ (congrArg₂ (· * ·) (ld_row x1 5 (by decide) _ d) (congrArg₂ (· + ·) (Finset.sum_congr rfl fun j _ => ?_) (Finset.sum_congr rfl fun j _ => ?_)))
  · unfold k0_pay10
    rw [ld_tok]
    pointwise [k0_pay2]
  · rw [pay14_apply, pay12_apply, pay13_apply]
    refine congrArg₂ (· * ·) rfl ?_
    rw [ld_rows x4 0 1536 _ j d (by omega)]
    exact congrArg (fun z => x4 (ix2 z d)) (Fin.ext (Nat.zero_add _))
  · refine congrArg₂ (· * ·) ?_ (ld_rows x4 1536 1280 _ j d (by omega))
    refine congr (congrArg₂ unitOf (funext fun k => pay11_apply x0 x1 x2 x3 x4 x5 r k) (funext fun k => ?_)) (funext fun k => ?_)
    · exact ld_cols x3 1536 1280 _ k j (by omega)
    · refine (ld_cols x3 4352 1280 _ k j (by omega)).trans (congrArg (fun z => x3 (ix2 k z)) (Fin.ext ?_))
      show 4352 + j.val = 2816 + (1536 + j.val)
      omega

/-- What a point stores: the residual sum, normed. -/
theorem out_apply (r : Fin 512) (d : Fin 1024) :
    out0_6 x0 x1 x2 x3 x4 x5 (ix3 0 r d) = normed (fun e => fedAt x0 x1 x2 x3 x4 r e) (fun e => x5 (ix2 0 e)) d := by
  unfold out0_6
  frame_out
  rw [pay1_apply]
  · simp only [sum_apply]
    unfold k0_pay8
    refine congrArg₂ (fun f g => normed f g d) rfl (funext fun e => ?_)
    pointwise
  · intro i
    rfl

end block

end Cert.FfnIdeal.Hand
end
-- ==== Proof.FfnArray.lean ====
/- The feed-forward call's output array after the run, as one function of the arguments. -/
module

public import proofs.«01_k».proof.Proof.FfnBlock
public import Idealize.ShloMosaic.Lib.Pipeline.Covers
public import Idealize.ShloMosaic.Lib.StableHlo.RunRead

@[expose] public section

set_option maxRecDepth 16384

noncomputable section

namespace Cert.FfnIdeal.Hand

open Cert.FfnIdeal Cert.FfnIdeal.Gen Idealize.ShloMosaic Idealize.ShloMosaic.TcCoe Idealize.SL.Sem
open Cert.LayerMath

variable (m : (ℓ : Loc nD τ sig) → Buf (Elt Ideal) ℓ)

theorem idx0 : ∀ t, (cfg0.win 0).index t = ![(grid0.coords t 0).val, (grid0.coords t 1).val, 0] := by decide +kernel
theorem idx1 : ∀ t, (cfg0.win 1).index t = ![(grid0.coords t 0).val, 0, 0] := by decide +kernel
theorem idx2 : ∀ t, (cfg0.win 2).index t = ![0, 0] := by decide +kernel
theorem idx3 : ∀ t, (cfg0.win 3).index t = ![0, 0] := by decide +kernel
theorem idx4 : ∀ t, (cfg0.win 4).index t = ![0, 0] := by decide +kernel
theorem idx5 : ∀ t, (cfg0.win 5).index t = ![0, 0] := by decide +kernel
theorem idx6 : ∀ t, (cfg0.win 6).index t = ![(grid0.coords t 0).val, (grid0.coords t 1).val, 0] := by decide +kernel
theorem covers6 : (cfg0.win 6).Covers := by decide +kernel

/-- The modulation rows as the call finds them: row `o` of token batch `b` is the `o`-th stretch of 1024 of the given vector. -/
theorem V2_apply (c : Dev nD) (b : Fin 8) (o : Fin 6) (e : Fin 1024) :
    (V m c main_v2 : Vec Ideal S8x8x1024 .f32) (ix3 b ⟨o.val, by omega⟩ e) = m ((c : Thread nD τ).loc main_arg1) (ix2 b ⟨o.val * 1024 + e.val, by omega⟩) := by
  entry_read
  pointwise

/-- A token after the residual sum, from the arguments. -/
def fedOf (x : Vec Ideal S8x4096x1024 .f32) (ada : Vec Ideal S8x6144 .f32) (g : Vec Ideal S1024 .f32) (wi : Vec Ideal S1024x5632 .f32) (wd : Vec Ideal S2816x1024 .f32)
    (b : Fin 8) (n : Fin 4096) (d : Fin 1024) : EReal :=
  fed (fun e => x (ix3 b n e)) (fun e => g (ix1 e)) (fun e => ada (ix2 b ⟨4 * 1024 + e.val, by omega⟩)) (fun e => ada (ix2 b ⟨3 * 1024 + e.val, by omega⟩))
    (fun e => ada (ix2 b ⟨5 * 1024 + e.val, by omega⟩)) (fun k j => wi (ix2 k j)) (fun j d => wd (ix2 j d)) d

section reads
variable (c : Dev nD) (t : Fin cfg0.N) (b : Fin 8) (i : Fin 8)
  (hb : (grid0.coords t 0).val = b.val) (hi : (grid0.coords t 1).val = i.val)
include hb hi

theorem read0 (r : Fin 512) (e : Fin 1024) :
    (iblk m c 0 t : Vec Ideal S1x512x1024 .f32) (ix3 0 r e) = m ((c : Thread nD τ).loc main_arg0) (ix3 b ⟨512 * i.val + r.val, by omega⟩ e) := by
  blk_ext [iblk, V, idx0 t]

theorem read1 (o : Fin 6) (e : Fin 1024) :
    (iblk m c 1 t : Vec Ideal S1x8x1024 .f32) (ix3 0 ⟨o.val, by omega⟩ e) = m ((c : Thread nD τ).loc main_arg1) (ix2 b ⟨o.val * 1024 + e.val, by omega⟩) := by
  rw [← V2_apply m c b o e]
  unfold iblk
  blk_simp [idx1 t]
  refine congrArg _ ?_
  blk_ext [idx1 t]

theorem read2 (e : Fin 1024) :
    (iblk m c 2 t : Vec Ideal S1x1024 .f32) (ix2 0 e) = m ((c : Thread nD τ).loc main_arg2) (ix1 e) := by
  blk_simp [iblk, idx2 t]
  entry_read
  pointwise
  blk_ext [idx2 t]

theorem read3 (k : Fin 1024) (j : Fin 5632) :
    (iblk m c 3 t : Vec Ideal S1024x5632 .bf16) (ix2 k j) = m ((c : Thread nD τ).loc main_arg3) (ix2 k j) := by
  blk_simp [iblk, idx3 t]
  entry_read
  pointwise
  blk_ext [idx3 t]

theorem read4 (j : Fin 2816) (d : Fin 1024) :
    (iblk m c 4 t : Vec Ideal S2816x1024 .bf16) (ix2 j d) = m ((c : Thread nD τ).loc main_arg4) (ix2 j d) := by
  blk_simp [iblk, idx4 t]
  entry_read
  pointwise
  blk_ext [idx4 t]

theorem read5 (e : Fin 1024) :
    (iblk m c 5 t : Vec Ideal S1x1024 .f32) (ix2 0 e) = m ((c : Thread nD τ).loc main_arg5) (ix1 e) := by
  blk_simp [iblk, idx5 t]
  entry_read
  pointwise
  blk_ext [idx5 t]

/-- The token of a block after the residual sum, in terms of the arguments. -/
theorem fed_read (r : Fin 512) (e : Fin 1024) :
    fedAt (iblk m c 0 t) (iblk m c 1 t) (iblk m c 2 t) (iblk m c 3 t) (iblk m c 4 t) r e
      = fedOf (m ((c : Thread nD τ).loc main_arg0)) (m ((c : Thread nD τ).loc main_arg1)) (m ((c : Thread nD τ).loc main_arg2)) (m ((c : Thread nD τ).loc main_arg3)) (m ((c : Thread nD τ).loc main_arg4))
          b ⟨512 * i.val + r.val, by omega⟩ e := by
  unfold fedAt fedOf
  have h0 := funext fun e => read0 m c t b i hb hi r e
  have h1 (o : Fin 6) := funext fun e => read1 m c t b i hb hi o e
  have h2 := funext fun e => read2 m c t b i hb hi e
  have h3 := funext fun k => funext fun j => read3 m c t b i hb hi k j
  have h4 := funext fun k => funext fun j => read4 m c t b i hb hi k j
  rw [h0, h2, h3, h4]
  refine congrFun (congrFun (congrFun ?_ _) _) e
  exact congr (congr (congrArg (fed _ _) (h1 4)) (h1 3)) (h1 5)

end reads

/-- What the call computes for token `n` of batch `b`, coordinate `d`. -/
def outOf (x : Vec Ideal S8x4096x1024 .f32) (ada : Vec Ideal S8x6144 .f32) (g : Vec Ideal S1024 .f32) (wi : Vec Ideal S1024x5632 .f32) (wd : Vec Ideal S2816x1024 .f32) (fg : Vec Ideal S1024 .f32)
    (b : Fin 8) (n : Fin 4096) (d : Fin 1024) : EReal :=
  normed (fun e => fedOf x ada g wi wd b n e) (fun e => fg (ix1 e)) d

theorem outOf_congr (x : Vec Ideal S8x4096x1024 .f32) (ada : Vec Ideal S8x6144 .f32) (g : Vec Ideal S1024 .f32) (wi : Vec Ideal S1024x5632 .f32) (wd : Vec Ideal S2816x1024 .f32) (fg : Vec Ideal S1024 .f32)
    {b b' : Fin 8} {n n' : Fin 4096} {d d' : Fin 1024} (eb : b = b') (en : n = n') (ed : d = d') : outOf x ada g wi wd fg b n d = outOf x ada g wi wd fg b' n' d' := by
  rw [eb, en, ed]

/-- The output array after the run. -/
theorem array6 (c : Dev nD) : (dats m 0 c).arrAt 6 cfg0.N
    = fun y : S8x4096x1024.Idx => outOf (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (y 0) (y 1) (y 2) := by
  refine (dats m 0 c).arrAt_eq_of_covers 6 _ covers6 fun t hf y => ?_
  blk_simp
  rw [after0_6]
  have hy0 : (y 0).val < 1 := (y 0).isLt
  have hy1 : (y 1).val < 512 := (y 1).isLt
  have hy2 : (y 2).val < 1024 := (y 2).isLt
  have hb : (grid0.coords t 0).val < 8 := (grid0.coords t 0).isLt
  have hi : (grid0.coords t 1).val < 8 := (grid0.coords t 1).isLt
  have ey : y = ix3 0 ⟨(y 1).val, hy1⟩ ⟨(y 2).val, hy2⟩ := by
    funext a
    match a with
    | ⟨0, _⟩ => exact Fin.ext (by show (y 0).val = 0; omega)
    | ⟨1, _⟩ => rfl
    | ⟨2, _⟩ => rfl
  have e0 : (((cfg0.win 6).blk t).view.emb y 0 : ℕ) = (grid0.coords t 0).val := by blk_simp [idx6 t]
  have e1 : (((cfg0.win 6).blk t).view.emb y 1 : ℕ) = 512 * (grid0.coords t 1).val + (y 1).val := by blk_simp [idx6 t]; omega
  have e2 : (((cfg0.win 6).blk t).view.emb y 2 : ℕ) = (y 2).val := by blk_simp [idx6 t]
  refine Eq.trans ?_ (outOf_congr _ _ _ _ _ _ (Fin.ext e0 : _ = ⟨_, hb⟩) (Fin.ext e1 : _ = ⟨512 * (grid0.coords t 1).val + (y 1).val, by omega⟩) (Fin.ext e2 : _ = ⟨_, hy2⟩)).symm
  refine (congrArg _ ey).trans ?_
  rw [out_apply]
  unfold outOf
  exact congrArg₂ (fun f g => normed f g _) (funext fun e => fed_read m c t ⟨_, hb⟩ ⟨_, hi⟩ rfl rfl _ e) (funext fun e => read5 m c t ⟨_, hb⟩ ⟨_, hi⟩ rfl rfl e)

end Cert.FfnIdeal.Hand
end
-- ==== Proof.FfnRef.lean ====
/- The feed-forward reference's result, read at an index. -/
module

public import proofs.«01_k».proof.Proof.Gen.FfnReferenceIdeal.Read
public import proofs.«01_k».proof.Proof.FfnArray

@[expose] public section

set_option maxRecDepth 16384

noncomputable section

namespace Cert.FfnReferenceIdeal.Hand

open Cert.FfnReferenceIdeal Cert.FfnReferenceIdeal.Gen Cert.FfnReferenceIdeal.Read Idealize.ShloMosaic Idealize.ShloMosaic.TcCoe Idealize.SL.Sem
open Cert.LayerMath
open Cert.FfnIdeal.Hand (fedOf outOf)

variable (x : Vec Ideal S8x4096x1024 .f32) (ada : Vec Ideal S8x6144 .f32) (g : Vec Ideal S1024 .f32) (wi : Vec Ideal S1024x5632 .f32) (wd : Vec Ideal S2816x1024 .f32) (fg : Vec Ideal S1024 .f32)

/-- The normed and modulated tokens. -/
theorem modulated_apply (b : Fin 8) (n : Fin 4096) (d : Fin 1024) :
    val_main_v25 (F := Ideal) x ada g (ix3 b n d) = modulated (fun e => x (ix3 b n e)) (fun e => g (ix1 e)) (fun e => ada (ix2 b ⟨4 * 1024 + e.val, by omega⟩))
      (fun e => ada (ix2 b ⟨3 * 1024 + e.val, by omega⟩)) d := by
  unfold modulated normed
  pointwise [val_main_v25, val_main_v24, val_main_v23, val_main_v22, val_main_v21, val_main_v20, val_main_cst_2, val_main_v19, val_main_v18, val_main_v17, val_main_v16, val_main_v15, val_main_v14,
    val_main_v13, val_main_v12, val_main_cst_1, val_main_v11, val_main_v10, val_main_cst_0, val_main_v9, val_main_v8, val_main_cst, val_main_v7, val_main_v5, val_main_v4, val_main_v0]

/-- The gates and the other products. -/
theorem product_apply (b : Fin 8) (n : Fin 4096) (j : Fin 5632) :
    val_main_v26 (F := Ideal) x ada g wi (ix3 b n j) = rowcol (fun k => val_main_v25 (F := Ideal) x ada g (ix3 b n k)) (fun k => wi (ix2 k j)) := by
  unfold rowcol
  pointwise [val_main_v26]

/-- The units of the feed-forward layer. -/
theorem units_apply (b : Fin 8) (n : Fin 4096) (j : Fin 2816) :
    val_main_v30 (F := Ideal) x ada g wi (ix3 b n j)
      = unitOf (fun k => val_main_v25 (F := Ideal) x ada g (ix3 b n k)) (fun k => wi (ix2 k ⟨j.val, by omega⟩)) (fun k => wi (ix2 k ⟨2816 + j.val, by omega⟩)) := by
  unfold unitOf sigmoid
  rw [← product_apply, ← product_apply]
  pointwise [val_main_v30, val_main_v29, val_main_v28, val_main_v27, val_main_call0_v5, val_main_call0_v4, val_main_call0_cst_0, val_main_call0_v3, val_main_call0_v2, val_main_call0_cst, val_main_call0_v1, val_main_call0_v0]

/-- The tokens after the residual sum. -/
theorem fed_apply (b : Fin 8) (n : Fin 4096) (d : Fin 1024) :
    val_main_v34 (F := Ideal) x ada g wi wd (ix3 b n d) = fedOf x ada g wi wd b n d := by
  unfold fedOf fed
  have h := funext fun e => modulated_apply x ada g b n e
  rw [← h]
  simp only [← units_apply]
  pointwise [val_main_v34, val_main_v33, val_main_v32, val_main_v31, val_main_v6, val_main_v0]

/-- The reference's result. -/
theorem result (b : Fin 8) (n : Fin 4096) (d : Fin 1024) :
    val_main_v47 (F := Ideal) x ada g wi wd fg (ix3 b n d) = outOf x ada g wi wd fg b n d := by
  unfold outOf normed
  simp only [← fed_apply]
  pointwise [val_main_v47, val_main_v46, val_main_v45, val_main_v44, val_main_v43, val_main_v42, val_main_v41, val_main_v40, val_main_cst_5, val_main_v39, val_main_v38, val_main_cst_4, val_main_v37, val_main_v36, val_main_cst_3, val_main_v35]

end Cert.FfnReferenceIdeal.Hand
end
-- ==== Proof.FfnClaim.lean ====
/- The feed-forward call's value claim: the call's result and the reference's are equal, element by element. -/
module

public import proofs.«01_k».proof.Defs
public import proofs.«01_k».proof.Proof.FfnRef

@[expose] public section

set_option maxRecDepth 16384

noncomputable section

namespace Cert.FfnHand

open Idealize.ShloMosaic Idealize.ShloMosaic.TcCoe Idealize.SL.Sem

/-- The value claim. -/
theorem value : Cert.algebraic_FfnIdeal_FfnReferenceIdeal := fun m ρ m' ρ' _ hag =>
  ⟨fun c => (Cert.FfnIdeal.Gen.dats m 0 c).arrAt 6 Cert.FfnIdeal.cfg0.N, Cert.FfnIdeal.Value.run_blocks m ρ,
    (θ_run _ _ _).mono (fun r hr c => ⟨(hr c).1.trans (by
      obtain ⟨a0, a1, a2, a3, a4, a5⟩ := hag c
      rw [Cert.FfnReferenceIdeal.Read.val_main_v47_eq, a0, a1, a2, a3, a4, a5]
      show _ = (Cert.FfnIdeal.Gen.dats m 0 c).arrAt 6 Cert.FfnIdeal.cfg0.N
      rw [Cert.FfnIdeal.Hand.array6]
      funext y
      have ey : y = ix3 (y 0) (y 1) (y 2) := by
        funext a
        match a with
        | ⟨0, _⟩ => rfl
        | ⟨1, _⟩ => rfl
        | ⟨2, _⟩ => rfl
      exact (congrArg _ ey).trans (Cert.FfnReferenceIdeal.Hand.result _ _ _ _ _ _ (y 0) (y 1) (y 2))), (hr c).2⟩)
      (Cert.FfnReferenceIdeal.Value.run m' ρ')⟩

/-- The feed-forward reference leaves its arguments as they were and every semaphore counter at zero, since it declares none. -/
theorem frame_R : Cert.quiescent_FfnReferenceIdeal := fun m ρ _ =>
  (θ_run _ _ _).mono (fun r h => ⟨fun c => (h c).2, sem_eq_zero_of_no_sems (by decide) r.2⟩) (Cert.FfnReferenceIdeal.Value.run (F := Ideal) m ρ)

end Cert.FfnHand
end
-- ==== Proof.MergeBlock.lean ====
/- What one grid point of the merge call stores, from the blocks it reads. -/
module

public import proofs.«01_k».proof.Proof.Gen.MergeIdeal.Value
public import proofs.«01_k».proof.Proof.LayerMath
public import Idealize.ShloMosaic.Lib.Pipeline.ValueKit

@[expose] public section

set_option maxRecDepth 16384

noncomputable section

namespace Cert.LayerMath

open Idealize.ShloMosaic

/-- One branch of the merge at one coordinate: the gate's sigmoid times the branch's projection. -/
def gated (a : EReal) (y w : Fin 512 → EReal) : EReal := sigmoid a * rowcol y w

/-- The sum of the three gated branches at coordinate `e`. -/
def blended (a : Fin 3 → Fin 1024 → EReal) (y0 y1 y2 : Fin 512 → EReal) (w : Fin 3 → Fin 512 → Fin 1024 → EReal) (e : Fin 1024) : EReal :=
  gated (a 0 e) y0 (fun k => w 0 k e) + gated (a 1 e) y1 (fun k => w 1 k e) + gated (a 2 e) y2 (fun k => w 2 k e)

/-- A token after the merge's residual sum. -/
def merged (x gt : Fin 1024 → EReal) (a : Fin 3 → Fin 1024 → EReal) (y0 y1 y2 : Fin 512 → EReal) (w : Fin 3 → Fin 512 → Fin 1024 → EReal)
    (wo : Fin 1024 → Fin 1024 → EReal) (d : Fin 1024) : EReal :=
  x d + gt d * ∑ e : Fin 1024, blended a y0 y1 y2 w e * wo e d

end Cert.LayerMath

namespace Cert.MergeIdeal.Hand

open Cert.MergeIdeal Cert.MergeIdeal.Gen Idealize.ShloMosaic Idealize.ShloMosaic.TcCoe Idealize.SL.Sem
open Cert.LayerMath

theorem pay2_apply (v0 : Vec Ideal S1x512x512 .bf16) (v2 v5 : Vec Ideal S1x512x1024 .bf16) (r : Fin 512) (e : Fin 1024) :
    k0_pay2 v0 v2 v5 (ix2 r e) = gated (v5 (ix3 0 r e)) (fun k => v0 (ix3 0 r k)) (fun k => v2 (ix3 0 k e)) := by
  unfold gated sigmoid rowcol
  simp only [← zero_sub]
  pointwise [k0_pay2]

theorem pay3_apply (v0 : Vec Ideal S1x512x512 .bf16) (v2 v5 : Vec Ideal S1x512x1024 .bf16) (r : Fin 512) (e : Fin 1024) :
    k0_pay3 v0 v2 v5 (ix2 r e) = gated (v5 (ix3 0 r e)) (fun k => v0 (ix3 0 r k)) (fun k => v2 (ix3 0 k e)) := by
  unfold gated sigmoid rowcol
  simp only [← zero_sub]
  pointwise [k0_pay3]

theorem pay1_apply (v15 v31 : FVec Ideal S512x1024 .f32) (v33 : Vec Ideal S1x512x512 .bf16) (v35 v38 : Vec Ideal S1x512x1024 .bf16) (v51 : Vec Ideal S1024x1024 .bf16)
    (v54 : Vec Ideal S1x512x1024 .f32) (v56 : Vec Ideal S1x1x1024 .f32) (r : Fin 512) (d : Fin 1024) :
    k0_pay1 v15 v31 v33 v35 v38 v51 v54 v56 (ix3 0 r d)
      = v54 (ix3 0 r d) + v56 (ix3 0 0 d) * ∑ e : Fin 1024,
          (v15 (ix2 r e) + v31 (ix2 r e) + gated (v38 (ix3 0 r e)) (fun k => v33 (ix3 0 r k)) (fun k => v35 (ix3 0 k e))) * v51 (ix2 e d) := by
  unfold gated sigmoid rowcol
  simp only [← zero_sub]
  pointwise [k0_pay1]

/-- A load of one branch of the branch weights reads that branch. -/
theorem ld_branch (x : Vec Ideal S3x512x1024 .bf16) (o : ℕ) (ho : o < 3)
    (inb : ∀ a, (![o, 0, 0] : Fin 3 → ℕ) a + (![1, 512, 1024] : Fin 3 → ℕ) a ≤ S3x512x1024.size a) (k : Fin 512) (e : Fin 1024) :
    View.ld (Val := Elt Ideal) x (Rect.unit (s := S3x512x1024) ![o, 0, 0] ![1, 512, 1024] inb) (ix3 0 k e) = x (ix3 ⟨o, ho⟩ k e) := by
  refine congrArg x (funext fun a => Fin.ext ?_)
  match a with
  | ⟨0, _⟩ => rfl
  | ⟨1, _⟩ => show 0 + 1 * k.val = k.val; omega
  | ⟨2, _⟩ => show 0 + 1 * e.val = e.val; omega

/-- A load of 1024 of the gates reads them. -/
theorem ld_gate (x : Vec Ideal S1x512x3072 .bf16) (o : ℕ) (ho : o ≤ 2048)
    (inb : ∀ a, (![0, 0, o] : Fin 3 → ℕ) a + (![1, 512, 1024] : Fin 3 → ℕ) a ≤ S1x512x3072.size a) (r : Fin 512) (e : Fin 1024) :
    View.ld (Val := Elt Ideal) x (Rect.unit (s := S1x512x3072) ![0, 0, o] ![1, 512, 1024] inb) (ix3 0 r e) = x (ix3 0 r ⟨o + e.val, by omega⟩) := by
  refine congrArg x (funext fun a => Fin.ext ?_)
  match a with
  | ⟨0, _⟩ => rfl
  | ⟨1, _⟩ => show 0 + 1 * r.val = r.val; omega
  | ⟨2, _⟩ => show o + 1 * e.val = o + e.val; omega

/-- A load of row `o` of the modulation block reads that row. -/
theorem ld_row (x : Vec Ideal S1x8x1024 .f32) (o : ℕ) (ho : o < 8)
    (inb : ∀ a, (![0, o, 0] : Fin 3 → ℕ) a + (![1, 1, 1024] : Fin 3 → ℕ) a ≤ S1x8x1024.size a) (e : Fin 1024) :
    View.ld (Val := Elt Ideal) x (Rect.unit (s := S1x8x1024) ![0, o, 0] ![1, 1, 1024] inb) (ix3 0 0 e) = x (ix3 0 ⟨o, ho⟩ e) := by
  refine congrArg x (funext fun a => Fin.ext ?_)
  match a with
  | ⟨0, _⟩ => rfl
  | ⟨1, _⟩ => rfl
  | ⟨2, _⟩ => show 0 + 1 * e.val = e.val; omega

variable (m : (ℓ : Loc nD τ sig) → Buf (Elt Ideal) ℓ)

/-- What a point stores: its tokens after the merge's residual sum. -/
theorem out_apply (c : Dev nD) (t : Fin cfg0.N) (r : Fin 512) (d : Fin 1024) :
    outsAt0 m c t (ix3 0 r d)
      = merged (fun e => iblk m c 0 t (ix3 0 r e)) (fun e => iblk m c 5 t (ix3 0 2 e)) (fun o e => X0_4 m c t (ix3 0 r ⟨o.val * 1024 + e.val, by omega⟩))
          (fun k => iblk m c 1 t (ix3 0 r k)) (fun k => iblk m c 2 t (ix3 0 r k)) (fun k => iblk m c 3 t (ix3 0 r k))
          (fun o k e => iblk m c 6 t (ix3 o k e)) (fun e d => iblk m c 7 t (ix2 e d)) d := by
  unfold outsAt0
  frame_open

  frame_out
  rw [pay1_apply]
  unfold merged blended
  simp only [pay2_apply, pay3_apply]
  refine congrArg₂ (· + ·) rfl (congrArg₂ (· * ·) (ld_row _ 2 (by decide) _ d) (Finset.sum_congr rfl fun e _ => congrArg₂ (· * ·) ?_ rfl))
  refine congrArg₂ (· + ·) (congrArg₂ (· + ·) ?_ ?_) ?_
  · exact congrArg₂ (fun a w => gated a _ w) (ld_gate _ 0 (by decide) _ r e) (funext fun k => ld_branch _ 0 (by decide) _ k e)
  · exact congrArg₂ (fun a w => gated a _ w) (ld_gate _ 1024 (by decide) _ r e) (funext fun k => ld_branch _ 1 (by decide) _ k e)
  · exact congrArg₂ (fun a w => gated a _ w) (ld_gate _ 2048 (by decide) _ r e) (funext fun k => ld_branch _ 2 (by decide) _ k e)

end Cert.MergeIdeal.Hand
end
-- ==== Proof.MergeArray.lean ====
/- The merge call's output array after the run, as one function of the arguments. -/
module

public import proofs.«01_k».proof.Proof.MergeBlock
public import Idealize.ShloMosaic.Lib.Pipeline.Covers
public import Idealize.ShloMosaic.Lib.StableHlo.RunRead

@[expose] public section

set_option maxRecDepth 16384

noncomputable section

namespace Cert.MergeIdeal.Hand

open Cert.MergeIdeal Cert.MergeIdeal.Gen Idealize.ShloMosaic Idealize.ShloMosaic.TcCoe Idealize.SL.Sem
open Cert.LayerMath

variable (m : (ℓ : Loc nD τ sig) → Buf (Elt Ideal) ℓ)

theorem idx0 : ∀ t, (cfg0.win 0).index t = ![(grid0.coords t 0).val, (grid0.coords t 1).val, 0] := by decide +kernel
theorem idx1 : ∀ t, (cfg0.win 1).index t = ![(grid0.coords t 0).val, (grid0.coords t 1).val, 0] := by decide +kernel
theorem idx2 : ∀ t, (cfg0.win 2).index t = ![(grid0.coords t 0).val, (grid0.coords t 1).val, 0] := by decide +kernel
theorem idx3 : ∀ t, (cfg0.win 3).index t = ![(grid0.coords t 0).val, (grid0.coords t 1).val, 0] := by decide +kernel
theorem idx4 : ∀ t, (cfg0.win 4).index t = ![(grid0.coords t 0).val, (grid0.coords t 1).val, 0] := by decide +kernel
theorem idx5 : ∀ t, (cfg0.win 5).index t = ![(grid0.coords t 0).val, 0, 0] := by decide +kernel
theorem idx6 : ∀ t, (cfg0.win 6).index t = ![0, 0, 0] := by decide +kernel
theorem idx7 : ∀ t, (cfg0.win 7).index t = ![0, 0] := by decide +kernel
theorem idx8 : ∀ t, (cfg0.win 8).index t = ![(grid0.coords t 0).val, (grid0.coords t 1).val, 0] := by decide +kernel
theorem covers8 : (cfg0.win 8).Covers := by decide +kernel

/-- The modulation rows as the call finds them: row `o` of token batch `b` is the `o`-th stretch of 1024 of the given vector. -/
theorem V2_apply (c : Dev nD) (b : Fin 8) (o : Fin 6) (e : Fin 1024) :
    (V m c main_v2 : Vec Ideal S8x8x1024 .f32) (ix3 b ⟨o.val, by omega⟩ e) = m ((c : Thread nD τ).loc main_arg5) (ix2 b ⟨o.val * 1024 + e.val, by omega⟩) := by
  entry_read
  pointwise

section reads
variable (c : Dev nD) (t : Fin cfg0.N) (b : Fin 8) (i : Fin 8)
  (hb : (grid0.coords t 0).val = b.val) (hi : (grid0.coords t 1).val = i.val)
include hb hi

theorem read0 (r : Fin 512) (e : Fin 1024) :
    (iblk m c 0 t : Vec Ideal S1x512x1024 .f32) (ix3 0 r e) = m ((c : Thread nD τ).loc main_arg0) (ix3 b ⟨512 * i.val + r.val, by omega⟩ e) := by
  blk_ext [iblk, V, idx0 t]

theorem read1 (r : Fin 512) (k : Fin 512) :
    (iblk m c 1 t : Vec Ideal S1x512x512 .bf16) (ix3 0 r k) = m ((c : Thread nD τ).loc main_arg1) (ix3 b ⟨512 * i.val + r.val, by omega⟩ k) := by
  blk_ext [iblk, V, idx1 t]

theorem read2 (r : Fin 512) (k : Fin 512) :
    (iblk m c 2 t : Vec Ideal S1x512x512 .bf16) (ix3 0 r k) = m ((c : Thread nD τ).loc main_arg2) (ix3 b ⟨512 * i.val + r.val, by omega⟩ k) := by
  blk_ext [iblk, V, idx2 t]

theorem read3 (r : Fin 512) (k : Fin 512) :
    (iblk m c 3 t : Vec Ideal S1x512x512 .bf16) (ix3 0 r k) = m ((c : Thread nD τ).loc main_arg3) (ix3 b ⟨512 * i.val + r.val, by omega⟩ k) := by
  blk_ext [iblk, V, idx3 t]

theorem read4 (r : Fin 512) (j : Fin 3072) :
    X0_4 m c t (ix3 0 r j) = m ((c : Thread nD τ).loc main_arg4) (ix3 b ⟨512 * i.val + r.val, by omega⟩ ⟨j.val, by omega⟩) := by
  unfold X0_4 Pipeline.Window.fill
  rw [dif_pos (moved0_4 t _)]
  blk_ext [iblk, V, idx4 t]

theorem read5 (o : Fin 6) (e : Fin 1024) :
    (iblk m c 5 t : Vec Ideal S1x8x1024 .f32) (ix3 0 ⟨o.val, by omega⟩ e) = m ((c : Thread nD τ).loc main_arg5) (ix2 b ⟨o.val * 1024 + e.val, by omega⟩) := by
  rw [← V2_apply m c b o e]
  unfold iblk
  blk_simp [idx5 t]
  refine congrArg _ ?_
  blk_ext [idx5 t]

theorem read6 (o : Fin 3) (k : Fin 512) (e : Fin 1024) :
    (iblk m c 6 t : Vec Ideal S3x512x1024 .bf16) (ix3 o k e) = m ((c : Thread nD τ).loc main_arg6) (ix3 o k e) := by
  blk_simp [iblk, idx6 t]
  entry_read
  pointwise
  blk_ext [idx6 t]

theorem read7 (e d : Fin 1024) :
    (iblk m c 7 t : Vec Ideal S1024x1024 .bf16) (ix2 e d) = m ((c : Thread nD τ).loc main_arg7) (ix2 e d) := by
  blk_simp [iblk, idx7 t]
  entry_read
  pointwise
  blk_ext [idx7 t]

end reads

/-- What the call computes for token `n` of batch `b`, coordinate `d`. -/
def outOf (x : Vec Ideal S8x4096x1024 .f32) (y0 y1 y2 : Vec Ideal S8x4096x512 .bf16) (p : Vec Ideal S8x4096x7680 .bf16) (ada : Vec Ideal S8x6144 .f32)
    (wb : Vec Ideal S3x512x1024 .f32) (wo : Vec Ideal S1024x1024 .f32) (b : Fin 8) (n : Fin 4096) (d : Fin 1024) : EReal :=
  merged (fun e => x (ix3 b n e)) (fun e => ada (ix2 b ⟨2 * 1024 + e.val, by omega⟩)) (fun o e => p (ix3 b n ⟨o.val * 1024 + e.val, by omega⟩))
    (fun k => y0 (ix3 b n k)) (fun k => y1 (ix3 b n k)) (fun k => y2 (ix3 b n k)) (fun o k e => wb (ix3 o k e)) (fun e d => wo (ix2 e d)) d

theorem outOf_congr (x : Vec Ideal S8x4096x1024 .f32) (y0 y1 y2 : Vec Ideal S8x4096x512 .bf16) (p : Vec Ideal S8x4096x7680 .bf16) (ada : Vec Ideal S8x6144 .f32)
    (wb : Vec Ideal S3x512x1024 .f32) (wo : Vec Ideal S1024x1024 .f32)
    {b b' : Fin 8} {n n' : Fin 4096} {d d' : Fin 1024} (eb : b = b') (en : n = n') (ed : d = d') : outOf x y0 y1 y2 p ada wb wo b n d = outOf x y0 y1 y2 p ada wb wo b' n' d' := by
  rw [eb, en, ed]

/-- The output array after the run. -/
theorem array8 (c : Dev nD) : (dats m 0 c).arrAt 8 cfg0.N
    = fun y : S8x4096x1024.Idx => outOf (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) (y 0) (y 1) (y 2) := by
  refine (dats m 0 c).arrAt_eq_of_covers 8 _ covers8 fun t hf y => ?_
  blk_simp
  rw [after0_8]
  have hy0 : (y 0).val < 1 := (y 0).isLt
  have hy1 : (y 1).val < 512 := (y 1).isLt
  have hy2 : (y 2).val < 1024 := (y 2).isLt
  have hb : (grid0.coords t 0).val < 8 := (grid0.coords t 0).isLt
  have hi : (grid0.coords t 1).val < 8 := (grid0.coords t 1).isLt
  have ey : y = ix3 0 ⟨(y 1).val, hy1⟩ ⟨(y 2).val, hy2⟩ := by
    funext a
    match a with
    | ⟨0, _⟩ => exact Fin.ext (by show (y 0).val = 0; omega)
    | ⟨1, _⟩ => rfl
    | ⟨2, _⟩ => rfl
  have e0 : (((cfg0.win 8).blk t).view.emb y 0 : ℕ) = (grid0.coords t 0).val := by blk_simp [idx8 t]
  have e1 : (((cfg0.win 8).blk t).view.emb y 1 : ℕ) = 512 * (grid0.coords t 1).val + (y 1).val := by blk_simp [idx8 t]; omega
  have e2 : (((cfg0.win 8).blk t).view.emb y 2 : ℕ) = (y 2).val := by blk_simp [idx8 t]
  refine Eq.trans ?_ (outOf_congr _ _ _ _ _ _ _ _ (Fin.ext e0 : _ = ⟨_, hb⟩) (Fin.ext e1 : _ = ⟨512 * (grid0.coords t 1).val + (y 1).val, by omega⟩) (Fin.ext e2 : _ = ⟨_, hy2⟩)).symm
  refine (congrArg _ ey).trans ?_
  rw [out_apply]
  unfold outOf
  have h0 := funext fun e => read0 m c t ⟨_, hb⟩ ⟨_, hi⟩ rfl rfl ⟨(y 1).val, hy1⟩ e
  have h1 := funext fun e => read1 m c t ⟨_, hb⟩ ⟨_, hi⟩ rfl rfl ⟨(y 1).val, hy1⟩ e
  have h2 := funext fun e => read2 m c t ⟨_, hb⟩ ⟨_, hi⟩ rfl rfl ⟨(y 1).val, hy1⟩ e
  have h3 := funext fun e => read3 m c t ⟨_, hb⟩ ⟨_, hi⟩ rfl rfl ⟨(y 1).val, hy1⟩ e
  have h4 := funext fun o : Fin 3 => funext fun e : Fin 1024 => read4 m c t ⟨_, hb⟩ ⟨_, hi⟩ rfl rfl ⟨(y 1).val, hy1⟩ ⟨o.val * 1024 + e.val, by omega⟩
  have h5 := funext fun e => read5 m c t ⟨_, hb⟩ ⟨_, hi⟩ rfl rfl 2 e
  have h6 := funext fun o => funext fun k => funext fun e => read6 m c t ⟨_, hb⟩ ⟨_, hi⟩ rfl rfl o k e
  have h7 := funext fun e => funext fun d => read7 m c t ⟨_, hb⟩ ⟨_, hi⟩ rfl rfl e d
  rw [h0, h1, h2, h3, h4, h6, h7]
  exact congrArg (fun g => merged _ g _ _ _ _ _ _ _) h5

end Cert.MergeIdeal.Hand
end
-- ==== Proof.MergeRef.lean ====
/- The merge reference's result, read at an index. -/
module

public import proofs.«01_k».proof.Proof.Gen.MergeReferenceIdeal.Read
public import proofs.«01_k».proof.Proof.MergeArray

@[expose] public section

set_option maxRecDepth 16384

noncomputable section

namespace Cert.MergeReferenceIdeal.Hand

open Cert.MergeReferenceIdeal Cert.MergeReferenceIdeal.Gen Cert.MergeReferenceIdeal.Read Idealize.ShloMosaic Idealize.ShloMosaic.TcCoe Idealize.SL.Sem
open Cert.LayerMath
open Cert.MergeIdeal.Hand (outOf)

variable (x : Vec Ideal S8x4096x1024 .f32) (y0 y1 y2 : Vec Ideal S8x4096x512 .bf16) (p : Vec Ideal S8x4096x7680 .bf16) (ada : Vec Ideal S8x6144 .f32)
  (wb : Vec Ideal S3x512x1024 .f32) (wo : Vec Ideal S1024x1024 .f32)

/-- The first branch's place in the stack. -/
theorem stack0 (b : Fin 8) (n : Fin 4096) (k : Fin 512) : val_main_v13 (F := Ideal) y0 y1 y2 (ix4 b n 0 k) = y0 (ix3 b n k) := by
  pointwise [val_main_v13, val_main_v10, val_main_v7]

/-- The second branch's place in the stack. -/
theorem stack1 (b : Fin 8) (n : Fin 4096) (k : Fin 512) : val_main_v13 (F := Ideal) y0 y1 y2 (ix4 b n 1 k) = y1 (ix3 b n k) := by
  pointwise [val_main_v13, val_main_v11, val_main_v8]

/-- The third branch's place in the stack. -/
theorem stack2 (b : Fin 8) (n : Fin 4096) (k : Fin 512) : val_main_v13 (F := Ideal) y0 y1 y2 (ix4 b n 2 k) = y2 (ix3 b n k) := by
  pointwise [val_main_v13, val_main_v12, val_main_v9]

/-- The projected branches. -/
theorem projected_apply (b : Fin 8) (n : Fin 4096) (o : Fin 3) (e : Fin 1024) :
    val_main_v15 (F := Ideal) y0 y1 y2 wb (ix4 b n o e) = rowcol (fun k => val_main_v13 (F := Ideal) y0 y1 y2 (ix4 b n o k)) (fun k => wb (ix3 o k e)) := by
  unfold rowcol
  simp only [mul_comm (val_main_v13 (F := Ideal) y0 y1 y2 _)]
  pointwise [val_main_v15, val_main_v14]

/-- The gates. -/
theorem gates_apply (b : Fin 8) (n : Fin 4096) (o : Fin 3) (e : Fin 1024) :
    val_main_v24 (F := Ideal) p (ix4 b n o e) = sigmoid (p (ix3 b n ⟨o.val * 1024 + e.val, by omega⟩)) := by
  unfold sigmoid
  pointwise [val_main_v24, val_main_v23, val_main_cst_0, val_main_v22, val_main_v21, val_main_cst, val_main_v20, val_main_v19, val_main_v18, val_main_v17, val_main_v16]

/-- The sum of the gated branches. -/
theorem blended_apply (b : Fin 8) (n : Fin 4096) (e : Fin 1024) :
    val_main_v26 (F := Ideal) y0 y1 y2 p wb (ix3 b n e)
      = blended (fun o e => p (ix3 b n ⟨o.val * 1024 + e.val, by omega⟩)) (fun k => y0 (ix3 b n k)) (fun k => y1 (ix3 b n k)) (fun k => y2 (ix3 b n k)) (fun o k e => wb (ix3 o k e)) e := by
  have h : val_main_v26 (F := Ideal) y0 y1 y2 p wb (ix3 b n e) = ∑ o : Fin 3, val_main_v25 (F := Ideal) y0 y1 y2 p wb (ix4 b n o e) := by
    pointwise [val_main_v26, val_main_cst_1]
  have h' (o : Fin 3) : val_main_v25 (F := Ideal) y0 y1 y2 p wb (ix4 b n o e) = val_main_v24 (F := Ideal) p (ix4 b n o e) * val_main_v15 (F := Ideal) y0 y1 y2 wb (ix4 b n o e) := by
    pointwise [val_main_v25]
  rw [h, Fin.sum_univ_three, h', h', h', projected_apply, projected_apply, projected_apply, gates_apply, gates_apply, gates_apply]
  simp only [stack0, stack1, stack2]
  rfl

/-- The reference's result. -/
theorem result (b : Fin 8) (n : Fin 4096) (d : Fin 1024) :
    val_main_v30 (F := Ideal) x y0 y1 y2 p ada wb wo (ix3 b n d) = outOf x y0 y1 y2 p ada wb wo b n d := by
  unfold outOf merged
  simp only [← blended_apply]
  pointwise [val_main_v30, val_main_v29, val_main_v28, val_main_v27, val_main_v3, val_main_v0]

end Cert.MergeReferenceIdeal.Hand
end
-- ==== Proof.MergeClaim.lean ====
/- The merge call's value claim: the call's result and the reference's are equal, element by element. -/
module

public import proofs.«01_k».proof.Defs
public import proofs.«01_k».proof.Proof.MergeRef

@[expose] public section

set_option maxRecDepth 16384

noncomputable section

namespace Cert.MergeHand

open Idealize.ShloMosaic Idealize.ShloMosaic.TcCoe Idealize.SL.Sem

/-- The value claim. -/
theorem value : Cert.algebraic_MergeIdeal_MergeReferenceIdeal := fun m ρ m' ρ' _ hag =>
  ⟨fun c => (Cert.MergeIdeal.Gen.dats m 0 c).arrAt 8 Cert.MergeIdeal.cfg0.N, Cert.MergeIdeal.Value.run_blocks m ρ,
    (θ_run _ _ _).mono (fun r hr c => ⟨(hr c).1.trans (by
      obtain ⟨a0, a1, a2, a3, a4, a5, a6, a7⟩ := hag c
      rw [Cert.MergeReferenceIdeal.Read.val_main_v30_eq, a0, a1, a2, a3, a4, a5, a6, a7]
      show _ = (Cert.MergeIdeal.Gen.dats m 0 c).arrAt 8 Cert.MergeIdeal.cfg0.N
      rw [Cert.MergeIdeal.Hand.array8]
      funext y
      have ey : y = ix3 (y 0) (y 1) (y 2) := by
        funext a
        match a with
        | ⟨0, _⟩ => rfl
        | ⟨1, _⟩ => rfl
        | ⟨2, _⟩ => rfl
      exact (congrArg _ ey).trans (Cert.MergeReferenceIdeal.Hand.result _ _ _ _ _ _ _ _ (y 0) (y 1) (y 2))), (hr c).2⟩)
      (Cert.MergeReferenceIdeal.Value.run m' ρ')⟩

/-- The merge reference leaves its arguments as they were and every semaphore counter at zero, since it declares none. -/
theorem frame_R : Cert.quiescent_MergeReferenceIdeal := fun m ρ _ =>
  (θ_run _ _ _).mono (fun r h => ⟨fun c => (h c).2, sem_eq_zero_of_no_sems (by decide) r.2⟩) (Cert.MergeReferenceIdeal.Value.run (F := Ideal) m ρ)

end Cert.MergeHand
end
-- ==== Proof.InProjIdealRuns.lean ====
/-
  The kernel body of the input projection, run once for each of its three kinds of grid point.

  The grid walks, for each batch and each tile of 1024 rows, the seven column tiles of the projected width. At the first
  column tile the body normalises the rows and keeps them in a buffer of its own; at the first six it multiplies the
  kept rows with the weight tile into the bf16 result; at the seventh into the f32 result.
-/
module

public import proofs.«01_k».proof.Proof.Gen.InProjIdeal.Frame
public import proofs.«01_k».proof.Proof.Gen.InProjIdeal.Skeleton
public import Idealize.ShloMosaic.Lib.Pipeline.ValueKit
public import Idealize.ShloMosaic.Lib.VecWindow

@[expose] public section

set_option maxRecDepth 16384

noncomputable section

namespace Cert.InProjIdeal.Hand

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- The point is the first column tile of its rows. -/
abbrev atFirst (i : grid0.Coords) : Prop :=
  (Scalar.cmpi .ne (Scalar.extui (Scalar.cmpi .eq (BitVec.ofNat 32 (i 2).val) 0#32)) 0#32) = 1#1
/-- The point is one of the first six column tiles. -/
abbrev atEarly (i : grid0.Coords) : Prop := k0_cond2 i = 1#1
/-- The point is the seventh column tile. -/
abbrev atLast (i : grid0.Coords) : Prop := k0_cond3 i = 1#1

/-- The rows the body keeps: normalised with the gains `g`, scaled and shifted by the rows of `s`. -/
def rowsOf (x : Vec F S1x1024x1024 .f32) (s : Vec F S1x8x1024 .f32) (g : Vec F S1x1024 .f32) : Vec F S1024x1024 .bf16 :=
  k0_pay1 x (View.ld s (Rect.unit (s := S1x8x1024) ![0, 0, 0] S1x1x1024.size inb_S1x8x1024_S1x1x1024_0_0_0))
    (View.ld s (Rect.unit (s := S1x8x1024) ![0, 1, 0] S1x1x1024.size inb_S1x8x1024_S1x1x1024_0_1_0)) g

set_option maxHeartbeats 1000000 in
/-- At the first column tile the body keeps the normalised rows, whatever its buffer held, and leaves their product
    with the weight tile in the bf16 result's buffer. -/
theorem run_first (c : Dev nD) (i : grid0.Coords)
    (arg3 : Memref sig .tc .vmem S1x1024x1024 .f32) (harg3 : arg3.IsWhole) (arg4 : Memref sig .tc .vmem S1x8x1024 .f32) (harg4 : arg4.IsWhole)
    (arg5 : Memref sig .tc .vmem S1x1024 .f32) (harg5 : arg5.IsWhole) (arg6 : Memref sig .tc .vmem S1024x1280 .bf16) (harg6 : arg6.IsWhole)
    (arg7 : Memref sig .tc .vmem S1x1024x1280 .bf16) (harg7 : arg7.IsWhole) (arg8 : Memref sig .tc .vmem S1x1024x1280 .f32) (harg8 : arg8.IsWhole)
    (arg9 : Memref sig .tc .vmem S1024x1024 .bf16) (harg9 : arg9.IsWhole)
    (x0 : Vec F S1x1024x1024 .f32) (x1 : Vec F S1x8x1024 .f32) (x2 : Vec F S1x1024 .f32) (x3 : Vec F S1024x1280 .bf16)
    (x5 : Vec F S1x1024x1280 .f32) (E : Set ℕ) (K : PUnit → sProp 𝕄) (h1 : atFirst i) (h2 : atEarly i) (h3 : ¬atLast i) :
    iprop(owns (c : Thread nD τ) arg3 fullShare x0
        ∗ owns (c : Thread nD τ) arg4 fullShare x1
        ∗ owns (c : Thread nD τ) arg5 fullShare x2
        ∗ owns (c : Thread nD τ) arg6 fullShare x3
        ∗ (∃ d, owns (c : Thread nD τ) arg7 fullShare d)
        ∗ owns (c : Thread nD τ) arg8 fullShare x5
        ∗ (∃ d, owns (c : Thread nD τ) arg9 fullShare d)
        ∗ (iprop(owns (c : Thread nD τ) arg3 fullShare x0
        ∗ owns (c : Thread nD τ) arg4 fullShare x1
        ∗ owns (c : Thread nD τ) arg5 fullShare x2
        ∗ owns (c : Thread nD τ) arg6 fullShare x3
        ∗ owns (c : Thread nD τ) arg7 fullShare (k0_pay2 (rowsOf x0 x1 x2) x3)
        ∗ owns (c : Thread nD τ) arg8 fullShare x5
        ∗ owns (c : Thread nD τ) arg9 fullShare (rowsOf x0 x1 x2)) -∗ K ⟨⟩))
      ⊢ wp frame (wpE (defs₀ (F := F)) Variants.none c none) E
          (cc0_in_proj i arg3 harg3 arg4 harg4 arg5 harg5 arg6 harg6 arg7 harg7 arg8 harg8 arg9 harg9) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds, %fs, -, HS⟩, Hk⟩
  obtain rfl := harg3.eq_unread hf0; obtain rfl := harg4.eq_unread hf1; obtain rfl := harg5.eq_unread hf2; obtain rfl := harg6.eq_unread hf3
  obtain rfl := harg8.eq_unread hf5
  sl_exec (disch := first | sl_exact h1 | sl_exact h2 | sl_exact h3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro
    refine (View.read_writes_full ..).trans ?_
    sl_unfold_words
    simp only [View.readAt_eq_ld, harg3.read_unread, harg4.read_unread, harg5.read_unread, harg6.read_unread]
    rw [View.readCov_unit_zero (S := S1024x1024) _ hz2, View.ld_unit_zero (S := S1x1024x1024) hz3, View.ld_unit_zero (S := S1x1024) hz2,
      View.ld_unit_zero (S := S1024x1280) hz2]
    rfl
  isplitl [H5]
  · iexists _; isplitr
    swap; · iexact H5
    ipureintro
    exact harg8.read_unread _
  iexists _; isplitr
  swap; · iexact HS
  ipureintro
  refine (View.read_writes_full ..).trans ?_
  simp only [View.readAt_eq_ld, harg3.read_unread, harg4.read_unread, harg5.read_unread, harg6.read_unread]
  rw [View.ld_unit_zero (S := S1x1024x1024) hz3, View.ld_unit_zero (S := S1x1024) hz2]
  rfl

set_option maxHeartbeats 1000000 in
/-- At the next five column tiles the body leaves the kept rows' product with the weight tile in the bf16 result's
    buffer, and keeps the rows. -/
theorem run_mid (c : Dev nD) (i : grid0.Coords)
    (arg3 : Memref sig .tc .vmem S1x1024x1024 .f32) (harg3 : arg3.IsWhole) (arg4 : Memref sig .tc .vmem S1x8x1024 .f32) (harg4 : arg4.IsWhole)
    (arg5 : Memref sig .tc .vmem S1x1024 .f32) (harg5 : arg5.IsWhole) (arg6 : Memref sig .tc .vmem S1024x1280 .bf16) (harg6 : arg6.IsWhole)
    (arg7 : Memref sig .tc .vmem S1x1024x1280 .bf16) (harg7 : arg7.IsWhole) (arg8 : Memref sig .tc .vmem S1x1024x1280 .f32) (harg8 : arg8.IsWhole)
    (arg9 : Memref sig .tc .vmem S1024x1024 .bf16) (harg9 : arg9.IsWhole)
    (x0 : Vec F S1x1024x1024 .f32) (x1 : Vec F S1x8x1024 .f32) (x2 : Vec F S1x1024 .f32) (x3 : Vec F S1024x1280 .bf16)
    (x5 : Vec F S1x1024x1280 .f32) (h : Vec F S1024x1024 .bf16) (E : Set ℕ) (K : PUnit → sProp 𝕄) (h1 : ¬atFirst i) (h2 : atEarly i) (h3 : ¬atLast i) :
    iprop(owns (c : Thread nD τ) arg3 fullShare x0
        ∗ owns (c : Thread nD τ) arg4 fullShare x1
        ∗ owns (c : Thread nD τ) arg5 fullShare x2
        ∗ owns (c : Thread nD τ) arg6 fullShare x3
        ∗ (∃ d, owns (c : Thread nD τ) arg7 fullShare d)
        ∗ owns (c : Thread nD τ) arg8 fullShare x5
        ∗ owns (c : Thread nD τ) arg9 fullShare h
        ∗ (iprop(owns (c : Thread nD τ) arg3 fullShare x0
        ∗ owns (c : Thread nD τ) arg4 fullShare x1
        ∗ owns (c : Thread nD τ) arg5 fullShare x2
        ∗ owns (c : Thread nD τ) arg6 fullShare x3
        ∗ owns (c : Thread nD τ) arg7 fullShare (k0_pay2 h x3)
        ∗ owns (c : Thread nD τ) arg8 fullShare x5
        ∗ owns (c : Thread nD τ) arg9 fullShare h) -∗ K ⟨⟩))
      ⊢ wp frame (wpE (defs₀ (F := F)) Variants.none c none) E
          (cc0_in_proj i arg3 harg3 arg4 harg4 arg5 harg5 arg6 harg6 arg7 harg7 arg8 harg8 arg9 harg9) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs, %hfs, HS⟩, Hk⟩
  obtain rfl := harg3.eq_unread hf0; obtain rfl := harg4.eq_unread hf1; obtain rfl := harg5.eq_unread hf2; obtain rfl := harg6.eq_unread hf3
  obtain rfl := harg8.eq_unread hf5; obtain rfl := harg9.eq_unread hfs
  sl_exec (disch := first | sl_exact h1 | sl_exact h2 | sl_exact h3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro
    refine (View.read_writes_full ..).trans ?_
    simp only [View.readAt_eq_ld, harg3.read_unread, harg4.read_unread, harg5.read_unread, harg6.read_unread, harg9.read_unread]
    rw [View.ld_unit_zero (S := S1024x1024) hz2, View.ld_unit_zero (S := S1024x1280) hz2]
  isplitl [H5]
  · iexists _; isplitr
    swap; · iexact H5
    ipureintro
    exact harg8.read_unread _
  iexists _; isplitr
  swap; · iexact HS
  ipureintro
  exact harg9.read_unread _

set_option maxHeartbeats 1000000 in
/-- At the seventh column tile the body leaves the kept rows' product with the weight tile in the f32 result's buffer,
    keeps the rows and leaves the bf16 result's buffer alone. -/
theorem run_last (c : Dev nD) (i : grid0.Coords)
    (arg3 : Memref sig .tc .vmem S1x1024x1024 .f32) (harg3 : arg3.IsWhole) (arg4 : Memref sig .tc .vmem S1x8x1024 .f32) (harg4 : arg4.IsWhole)
    (arg5 : Memref sig .tc .vmem S1x1024 .f32) (harg5 : arg5.IsWhole) (arg6 : Memref sig .tc .vmem S1024x1280 .bf16) (harg6 : arg6.IsWhole)
    (arg7 : Memref sig .tc .vmem S1x1024x1280 .bf16) (harg7 : arg7.IsWhole) (arg8 : Memref sig .tc .vmem S1x1024x1280 .f32) (harg8 : arg8.IsWhole)
    (arg9 : Memref sig .tc .vmem S1024x1024 .bf16) (harg9 : arg9.IsWhole)
    (x0 : Vec F S1x1024x1024 .f32) (x1 : Vec F S1x8x1024 .f32) (x2 : Vec F S1x1024 .f32) (x3 : Vec F S1024x1280 .bf16)
    (x4 : Vec F S1x1024x1280 .bf16) (h : Vec F S1024x1024 .bf16) (E : Set ℕ) (K : PUnit → sProp 𝕄) (h1 : ¬atFirst i) (h2 : ¬atEarly i) (h3 : atLast i) :
    iprop(owns (c : Thread nD τ) arg3 fullShare x0
        ∗ owns (c : Thread nD τ) arg4 fullShare x1
        ∗ owns (c : Thread nD τ) arg5 fullShare x2
        ∗ owns (c : Thread nD τ) arg6 fullShare x3
        ∗ owns (c : Thread nD τ) arg7 fullShare x4
        ∗ (∃ d, owns (c : Thread nD τ) arg8 fullShare d)
        ∗ owns (c : Thread nD τ) arg9 fullShare h
        ∗ (iprop(owns (c : Thread nD τ) arg3 fullShare x0
        ∗ owns (c : Thread nD τ) arg4 fullShare x1
        ∗ owns (c : Thread nD τ) arg5 fullShare x2
        ∗ owns (c : Thread nD τ) arg6 fullShare x3
        ∗ owns (c : Thread nD τ) arg7 fullShare x4
        ∗ owns (c : Thread nD τ) arg8 fullShare (k0_pay3 h x3)
        ∗ owns (c : Thread nD τ) arg9 fullShare h) -∗ K ⟨⟩))
      ⊢ wp frame (wpE (defs₀ (F := F)) Variants.none c none) E
          (cc0_in_proj i arg3 harg3 arg4 harg4 arg5 harg5 arg6 harg6 arg7 harg7 arg8 harg8 arg9 harg9) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  obtain rfl := harg3.eq_unread hf0; obtain rfl := harg4.eq_unread hf1; obtain rfl := harg5.eq_unread hf2; obtain rfl := harg6.eq_unread hf3
  obtain rfl := harg7.eq_unread hf4; obtain rfl := harg9.eq_unread hfs
  sl_exec (disch := first | sl_exact h1 | sl_exact h2 | sl_exact h3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro
    exact harg7.read_unread _
  isplitl [H5]
  · iexists _; isplitr
    swap; · iexact H5
    ipureintro
    refine (View.read_writes_full ..).trans ?_
    simp only [View.readAt_eq_ld, harg3.read_unread, harg4.read_unread, harg5.read_unread, harg6.read_unread, harg9.read_unread]
    rw [View.ld_unit_zero (S := S1024x1024) hz2, View.ld_unit_zero (S := S1024x1280) hz2]
  iexists _; isplitr
  swap; · iexact HS
  ipureintro
  exact harg9.read_unread _

end Cert.InProjIdeal.Hand

end
-- ==== Proof.InProjIdealFrame.lean ====
/-
  The run of the input projection: what its buffers hold from grid point to grid point, and the frame.

  The rows the body keeps at the first column tile stay in its own buffer until the seventh (`kept`). The bf16 result's
  window stays on the sixth column tile while the seventh runs, and is written back only then: its buffer still holds
  what the sixth left there (`before_4`).
-/
module

public import proofs.«01_k».proof.Proof.InProjIdealRuns
public import proofs.«01_k».proof.Proof.Gen.InProjIdeal.Launch
public import proofs.«01_k».proof.Proof.Gen.InProjIdeal.Points
public import Idealize.ShloMosaic.Lib.Quiescent

@[expose] public section

set_option maxRecDepth 16384

noncomputable section

namespace Cert.InProjIdeal.Hand

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid's points -/

/-- The body's first condition holds at the first of every seven points. -/
theorem atFirst_iff : ∀ t : Fin cfg0.N, atFirst (grid0.coords t) ↔ t.val % 7 = 0 :=
  (by decide +kernel : ∀ t : Fin grid0.N, atFirst (grid0.coords t) ↔ t.val % 7 = 0)
/-- Its second condition fails at the seventh alone, -/
theorem atEarly_iff : ∀ t : Fin cfg0.N, atEarly (grid0.coords t) ↔ t.val % 7 ≠ 6 :=
  (by decide +kernel : ∀ t : Fin grid0.N, atEarly (grid0.coords t) ↔ t.val % 7 ≠ 6)
/-- where its third one holds. -/
theorem atLast_iff : ∀ t : Fin cfg0.N, atLast (grid0.coords t) ↔ t.val % 7 = 6 :=
  (by decide +kernel : ∀ t : Fin grid0.N, atLast (grid0.coords t) ↔ t.val % 7 = 6)
/-- The bf16 result's block is written back after every column tile but the sixth, whose block the seventh keeps. -/
theorem flush_4 : ∀ t : Fin cfg0.N, (cfg0.win 4).flush t = true ↔ t.val % 7 ≠ 5 := by decide +kernel
/-- The bf16 result is not stored at the seventh column tile, -/
theorem idle_4 : ∀ t : Fin cfg0.N, cfg0.idle 4 (grid0.coords t) = decide (t.val % 7 = 6) := by decide +kernel
/-- and the f32 result is stored only there. -/
theorem idle_5 : ∀ t : Fin cfg0.N, cfg0.idle 5 (grid0.coords t) = decide (t.val % 7 ≠ 6) := by decide +kernel
/-- No input window is ever idle. -/
theorem idle_in (t : Fin cfg0.N) : cfg0.idle 0 (grid0.coords t) = false ∧ cfg0.idle 1 (grid0.coords t) = false
    ∧ cfg0.idle 2 (grid0.coords t) = false ∧ cfg0.idle 3 (grid0.coords t) = false := ⟨rfl, rfl, rfl, rfl⟩

/-- The first column tile of the seven that point `n` lies in. -/
def base (n : ℕ) : Fin cfg0.N := ⟨(n - n % 7) % 224, by rw [show cfg0.N = 224 from N_0]; exact Nat.mod_lt _ (by decide)⟩

/-- The rows kept in the body's buffer while point `n`'s seven column tiles run. -/
def kept (c : Dev nD) (n : ℕ) : Vec F S1024x1024 .bf16 :=
  rowsOf (iblk m c 0 (base n)) (iblk m c 1 (base n)) (iblk m c 2 (base n))

theorem kept_succ (c : Dev nD) (n : ℕ) (h : (n + 1) % 7 ≠ 0) : kept m c (n + 1) = kept m c n := by
  have : base (n + 1) = base n := Fin.ext (by show (n + 1 - (n + 1) % 7) % 224 = (n - n % 7) % 224; congr 1; omega)
  unfold kept; rw [this]

theorem kept_base (c : Dev nD) (t : Fin cfg0.N) (h : t.val % 7 = 0) :
    kept m c t.val = rowsOf (iblk m c 0 t) (iblk m c 1 t) (iblk m c 2 t) := by
  have hN : cfg0.N = 224 := N_0
  have : base t.val = t := Fin.ext (by have := t.isLt; show (t.val - t.val % 7) % 224 = t.val; omega)
  unfold kept; rw [this]

/-- The point whose product the bf16 result's buffer holds after point `t`: `t`, or at a seventh column tile the one before. -/
def src (t : Fin cfg0.N) : Fin cfg0.N := if t.val % 7 = 6 then ⟨t.val - 1, by have := t.isLt; omega⟩ else t

/-! ## The proof data -/

/-- The body's own buffer. -/
abbrev scr : Memref sig .tc .vmem S1024x1024 .bf16 := Memref.whole cc0_scratch0

/-- Before point `t` the body's buffer holds the rows kept at the first of the seven points, unless `t` is that one. -/
def Inv (c : Dev nD) (n : ℕ) : sProp 𝕄 :=
  iprop((∃ d, ⌜n % 7 ≠ 0 → d = kept m c n⌝ ∗ owns (c : Thread nD τ) scr fullShare d) ∗ (∃ r, prngReg c r))

/-- The class invariant with the body's buffer as a memref. -/
theorem PhiA_eq (c : Dev nD) :
    (Pipeline.ΦA spec0 c : sProp 𝕄) = iprop((∃ d, owns (c : Thread nD τ) scr fullShare d) ∗ (∃ r, prngReg c r)) := by
  unfold Pipeline.ΦA; rw [scopedRest0_eq]; simp only [scr, owns_whole]; try rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay2 (kept m c t.val) (iblk m c 3 (src t))
    | ⟨5, _⟩ => k0_pay3 (kept m c t.val) (iblk m c 3 t)
  Φ t := Inv m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = k0_pay2 (kept m c t.val) (iblk m c 3 (src t)) := by dsimp only [dats]
theorem after0_5 (c : Dev nD) (t : Fin cfg0.N) : (dats m 0 c).after 5 t = k0_pay3 (kept m c t.val) (iblk m c 3 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- At a seventh column tile the bf16 result's buffer still holds what the sixth left: nothing wrote it back between. -/
theorem before_4 (c : Dev nD) (t : Fin cfg0.N) (h : t.val % 7 = 6) (d) : (dats m 0 c).before 4 t d = (dats m 0 c).after 4 t := by
  have hN : cfg0.N = 224 := N_0
  have hlt := t.isLt
  have hp : (⟨t.val - 1, Nat.lt_of_le_of_lt (Nat.sub_le _ _) t.isLt⟩ : Fin cfg0.N).val % 7 = 5 := by dsimp only; omega
  rw [Dat.before_of_pos _ _ _ (by omega) rfl, if_neg (fun hf => (flush_4 _).mp hf hp)]
  unfold Dat.left
  rw [show cfg0.idle 4 (cfg0.grid.coords ⟨t.val - 1, Nat.lt_of_le_of_lt (Nat.sub_le _ _) t.isLt⟩) = false from
    (idle_4 _).trans (decide_eq_false (by omega))]
  unfold Dat.kept
  refine ((cfg0.win 4).fill_cut _ _).trans ?_
  rw [after0_4, after0_4]
  have e1 : src t = ⟨t.val - 1, Nat.lt_of_le_of_lt (Nat.sub_le _ _) t.isLt⟩ := by unfold src; rw [if_pos h]
  have e2 : src ⟨t.val - 1, Nat.lt_of_le_of_lt (Nat.sub_le _ _) t.isLt⟩ = ⟨t.val - 1, Nat.lt_of_le_of_lt (Nat.sub_le _ _) t.isLt⟩ := by
    unfold src; rw [if_neg (by omega)]
  have e3 : kept m c t.val = kept m c (t.val - 1) := by
    have := kept_succ m c (t.val - 1) (by omega)
    rwa [show t.val - 1 + 1 = t.val by omega] at this
  rw [e1, e2, e3]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- At a window that is stored or written back at `t`, the body must leave the proof data's contents. -/
theorem leaves_live (c : Dev nD) (w : Fin cfg0.W) (t : Fin cfg0.N) (h : cfg0.idle w (grid0.coords t) = false ∨ (cfg0.win w).flush t = true) :
    (dats m 0 c).leavesExact w t = owns (c : Thread nD τ) ((cfg0.win w).stage (cfg0.slots t w)) fullShare ((dats m 0 c).after w t) := by
  unfold Dat.leavesExact
  rcases h with h | h
  · rw [show cfg0.idle w (cfg0.grid.coords t) = false from h]
  · rw [h]; cases cfg0.idle w (cfg0.grid.coords t) <;> rfl

set_option maxHeartbeats 1000000 in
/-- The body at a first column tile. -/
theorem sound_first (c : Dev nD) (t : Fin cfg0.N) (h : t.val % 7 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    show (dats m 0 c).Φ t.castSucc = Inv m c t.val from rfl, show (dats m 0 c).Φ t.succ = Inv m c (t.val + 1) from rfl]
  rw [leaves_live m c 0 t (.inl rfl), leaves_live m c 1 t (.inl rfl), leaves_live m c 2 t (.inl rfl), leaves_live m c 3 t (.inl rfl),
    leaves_live m c 4 t (.inl ((idle_4 t).trans (decide_eq_false (by omega)))),
    Dat.leavesExact_idle _ 5 t ((idle_5 t).trans (decide_eq_true (by omega))) (Bool.eq_false_iff.mpr fun hf => by have := (flush0_5 t).mp hf; omega),
    after0_0, after0_1, after0_2, after0_3, after0_4]
  have e1 : src t = t := by unfold src; rw [if_neg (by omega)]
  rw [e1, kept_base m c t h]
  unfold Inv
  iintro ⟨⟨⟨%ds, -, HS⟩, Hg⟩, Ho, ⟨%d0, H0⟩, ⟨%d1, H1⟩, ⟨%d2, H2⟩, ⟨%d3, H3⟩, ⟨%d4, H4⟩, ⟨%d5, H5⟩⟩
  iapply (run_first c (grid0.coords t) _ _ _ _ _ _ _ _ _ _ _ _ _ _ (iblk m c 0 t) (iblk m c 1 t) (iblk m c 2 t) (iblk m c 3 t)
    ((dats m 0 c).before 5 t d5) Set.univ _ ((atFirst_iff t).mpr h) ((atEarly_iff t).mpr (by omega)) (fun hl => by have := (atLast_iff t).mp hl; omega))
  isplitl [H0]; · iexact H0
  isplitl [H1]; · iexact H1
  isplitl [H2]; · iexact H2
  isplitl [H3]; · iexact H3
  isplitl [H4]; · iexists _; iexact H4
  isplitl [H5]; · iexact H5
  isplitl [HS]; · iexists _; iexact HS
  iintro ⟨H0, H1, H2, H3, H4, H5, HS⟩
  isplitl [HS Hg]
  · isplitl [HS]
    · iexists _; isplitr
      swap; · iexact HS
      ipureintro; intro h7; rw [kept_succ m c _ h7, kept_base m c t h]
    iexact Hg
  isplitl [Ho]; · iexact Ho
  isplitl [H0]; · iexact H0
  isplitl [H1]; · iexact H1
  isplitl [H2]; · iexact H2
  isplitl [H3]; · iexact H3
  isplitl [H4]; · iexact H4
  iexists d5; iexact H5

set_option maxHeartbeats 1000000 in
/-- The body at a column tile from the second to the sixth. -/
theorem sound_mid (c : Dev nD) (t : Fin cfg0.N) (h : t.val % 7 ≠ 0) (h' : t.val % 7 ≠ 6) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    show (dats m 0 c).Φ t.castSucc = Inv m c t.val from rfl, show (dats m 0 c).Φ t.succ = Inv m c (t.val + 1) from rfl]
  rw [leaves_live m c 0 t (.inl rfl), leaves_live m c 1 t (.inl rfl), leaves_live m c 2 t (.inl rfl), leaves_live m c 3 t (.inl rfl),
    leaves_live m c 4 t (.inl ((idle_4 t).trans (decide_eq_false (by omega)))),
    Dat.leavesExact_idle _ 5 t ((idle_5 t).trans (decide_eq_true (by omega))) (Bool.eq_false_iff.mpr fun hf => by have := (flush0_5 t).mp hf; omega),
    after0_0, after0_1, after0_2, after0_3, after0_4]
  have e1 : src t = t := by unfold src; rw [if_neg (by omega)]
  rw [e1]
  unfold Inv
  iintro ⟨⟨⟨%ds, %hds, HS⟩, Hg⟩, Ho, ⟨%d0, H0⟩, ⟨%d1, H1⟩, ⟨%d2, H2⟩, ⟨%d3, H3⟩, ⟨%d4, H4⟩, ⟨%d5, H5⟩⟩
  obtain rfl := hds h
  iapply (run_mid c (grid0.coords t) _ _ _ _ _ _ _ _ _ _ _ _ _ _ (iblk m c 0 t) (iblk m c 1 t) (iblk m c 2 t) (iblk m c 3 t)
    ((dats m 0 c).before 5 t d5) (kept m c t.val) Set.univ _ (fun hl => h ((atFirst_iff t).mp hl)) ((atEarly_iff t).mpr h')
    (fun hl => h' ((atLast_iff t).mp hl)))
  isplitl [H0]; · iexact H0
  isplitl [H1]; · iexact H1
  isplitl [H2]; · iexact H2
  isplitl [H3]; · iexact H3
  isplitl [H4]; · iexists _; iexact H4
  isplitl [H5]; · iexact H5
  isplitl [HS]; · iexact HS
  iintro ⟨H0, H1, H2, H3, H4, H5, HS⟩
  isplitl [HS Hg]
  · isplitl [HS]
    · iexists _; isplitr
      swap; · iexact HS
      ipureintro; intro h7; rw [kept_succ m c _ h7]
    iexact Hg
  isplitl [Ho]; · iexact Ho
  isplitl [H0]; · iexact H0
  isplitl [H1]; · iexact H1
  isplitl [H2]; · iexact H2
  isplitl [H3]; · iexact H3
  isplitl [H4]; · iexact H4
  iexists d5; iexact H5

set_option maxHeartbeats 1000000 in
/-- The body at a seventh column tile. -/
theorem sound_last (c : Dev nD) (t : Fin cfg0.N) (h : t.val % 7 = 6) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before_4 m c t h]
  rw [show (dats m 0 c).owesAt () t.succ = (dats m 0 c).owesAt () t.castSucc from rfl,
    show (dats m 0 c).Φ t.castSucc = Inv m c t.val from rfl, show (dats m 0 c).Φ t.succ = Inv m c (t.val + 1) from rfl]
  rw [leaves_live m c 0 t (.inl rfl), leaves_live m c 1 t (.inl rfl), leaves_live m c 2 t (.inl rfl), leaves_live m c 3 t (.inl rfl),
    leaves_live m c 4 t (.inr ((flush_4 t).mpr (by omega))),
    leaves_live m c 5 t (.inr ((flush0_5 t).mpr h)),
    after0_0, after0_1, after0_2, after0_3, after0_5]
  unfold Inv
  iintro ⟨⟨⟨%ds, %hds, HS⟩, Hg⟩, Ho, ⟨%d0, H0⟩, ⟨%d1, H1⟩, ⟨%d2, H2⟩, ⟨%d3, H3⟩, ⟨%d4, H4⟩, ⟨%d5, H5⟩⟩
  obtain rfl := hds (by omega)
  iapply (run_last c (grid0.coords t) _ _ _ _ _ _ _ _ _ _ _ _ _ _ (iblk m c 0 t) (iblk m c 1 t) (iblk m c 2 t) (iblk m c 3 t)
    ((dats m 0 c).after 4 t) (kept m c t.val) Set.univ _ (fun hl => by have := (atFirst_iff t).mp hl; omega)
    (fun hl => (atEarly_iff t).mp hl h) ((atLast_iff t).mpr h))
  isplitl [H0]; · iexact H0
  isplitl [H1]; · iexact H1
  isplitl [H2]; · iexact H2
  isplitl [H3]; · iexact H3
  isplitl [H4]; · iexact H4
  isplitl [H5]; · iexists _; iexact H5
  isplitl [HS]; · iexact HS
  iintro ⟨H0, H1, H2, H3, H4, H5, HS⟩
  isplitl [HS Hg]
  · isplitl [HS]
    · iexists _; isplitr
      swap; · iexact HS
      ipureintro; intro h7; omega
    iexact Hg
  isplitl [Ho]; · iexact Ho
  isplitl [H0]; · iexact H0
  isplitl [H1]; · iexact H1
  isplitl [H2]; · iexact H2
  isplitl [H3]; · iexact H3
  isplitl [H4]; · iexact H4
  iexact H5

theorem sound_body (c : Dev nD) (t : Fin cfg0.N) :
    bodyPre m c t ⊢ wp frame (wpE (defs₀ (F := F)) Variants.none c none) Set.univ (bodyAt0 t) (fun _ => bodyPost m c t) := by
  by_cases h : t.val % 7 = 0
  · exact sound_first m c t h
  by_cases h' : t.val % 7 = 6
  · exact sound_last m c t h'
  exact sound_mid m c t h h'

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- Before the first point the body's buffer may hold anything, -/
theorem inv_in (c : Dev nD) : Pipeline.ΦA spec0 c ⊢ (dats (F := F) m 0 c).Φ 0 := by
  rw [show (dats (F := F) m 0 c).Φ 0 = Inv m c 0 from rfl, PhiA_eq]
  unfold Inv
  iintro ⟨⟨%d, HS⟩, Hg⟩
  isplitl [HS]
  · iexists d; isplitr
    · ipureintro; intro h; omega
    iexact HS
  iexact Hg

/-- and after the last one what it holds is forgotten. -/
theorem inv_out (c : Dev nD) : (dats (F := F) m 0 c).Φ (Fin.last cfg0.N) ⊢ Pipeline.ΦA spec0 c := by
  rw [show (dats (F := F) m 0 c).Φ (Fin.last cfg0.N) = Inv m c cfg0.N from rfl, PhiA_eq]
  unfold Inv
  iintro ⟨⟨%d, -, HS⟩, Hg⟩
  isplitl [HS]
  · iexists d; iexact HS
  iexact Hg

set_option backward.isDefEq.respectTransparency.types false in
/-- Every weakly fair execution terminates with every array at the proof data's contents and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_in m) (hout := inv_out m)

theorem run_main : θ_run defs (onTc (τ := τ) (main (F := F))) (s₀ m ρ) (Pipeline.FramePost cfgs (dats m) 0 (V m)) :=
  (θ_run defs _ _).mono (fun _ h => h.1) (run_main_quiescent m ρ)

/-- THE FRAME: every weakly fair execution terminates, changes no argument and leaves every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.InProjIdeal.Hand

end
-- ==== Proof.InProjBlock.lean ====
/- What one grid point of the input projection computes, from the blocks it reads, and the weights' columns as the call reorders them. -/
module

public import proofs.«01_k».proof.Proof.InProjIdealFrame
public import proofs.«01_k».proof.Proof.LayerMath
public import Idealize.ShloMosaic.Lib.Pipeline.ValueKit
public import Idealize.ShloMosaic.Lib.StableHlo.RunRead

@[expose] public section

set_option maxRecDepth 16384

noncomputable section

namespace Cert.InProjIdeal.Hand

open Cert.InProjIdeal Cert.InProjIdeal.Gen Idealize.ShloMosaic Idealize.ShloMosaic.TcCoe Idealize.SL.Sem
open Cert.LayerMath

/-- A load of row `o` of the modulation block reads that row. -/
theorem ld_row (x : Vec Ideal S1x8x1024 .f32) (o : ℕ) (ho : o < 8)
    (inb : ∀ a, (![0, o, 0] : Fin 3 → ℕ) a + (![1, 1, 1024] : Fin 3 → ℕ) a ≤ S1x8x1024.size a) (e : Fin 1024) :
    View.ld (Val := Elt Ideal) x (Rect.unit (s := S1x8x1024) ![0, o, 0] ![1, 1, 1024] inb) (ix3 0 0 e) = x (ix3 0 ⟨o, ho⟩ e) := by
  refine congrArg x (funext fun a => Fin.ext ?_)
  match a with
  | ⟨0, _⟩ => rfl
  | ⟨1, _⟩ => rfl
  | ⟨2, _⟩ => show 0 + 1 * e.val = e.val; omega

theorem pay1_apply (v9 : Vec Ideal S1x1024x1024 .f32) (v11 v13 : Vec Ideal S1x1x1024 .f32) (v15 : Vec Ideal S1x1024 .f32) (r : Fin 1024) (k : Fin 1024) :
    k0_pay1 v9 v11 v13 v15 (ix2 r k) = modulated (fun e => v9 (ix3 0 r e)) (fun e => v15 (ix2 0 e)) (fun e => v13 (ix3 0 0 e)) (fun e => v11 (ix3 0 0 e)) k := by
  unfold modulated normed
  pointwise [k0_pay1]

/-- The rows kept at the first column tile. -/
theorem rowsOf_apply (x : Vec Ideal S1x1024x1024 .f32) (s : Vec Ideal S1x8x1024 .f32) (g : Vec Ideal S1x1024 .f32) (r : Fin 1024) (k : Fin 1024) :
    rowsOf x s g (ix2 r k) = modulated (fun e => x (ix3 0 r e)) (fun e => g (ix2 0 e)) (fun e => s (ix3 0 1 e)) (fun e => s (ix3 0 0 e)) k := by
  unfold rowsOf
  rw [pay1_apply]
  exact congrArg₂ (fun sc sh => modulated _ _ sc sh k) (funext fun e => ld_row s 1 (by decide) _ e) (funext fun e => ld_row s 0 (by decide) _ e)

/-- The product left in the bf16 result's buffer. -/
theorem pay2_apply (h : Vec Ideal S1024x1024 .bf16) (w : Vec Ideal S1024x1280 .bf16) (r : Fin 1024) (j : Fin 1280) :
    k0_pay2 h w (ix3 0 r j) = rowcol (fun k => h (ix2 r k)) (fun k => w (ix2 k j)) := by
  unfold rowcol
  pointwise [k0_pay2]

/-- The product left in the f32 result's buffer. -/
theorem pay3_apply (h : Vec Ideal S1024x1024 .bf16) (w : Vec Ideal S1024x1280 .bf16) (r : Fin 1024) (j : Fin 1280) :
    k0_pay3 h w (ix3 0 r j) = rowcol (fun k => h (ix2 r k)) (fun k => w (ix2 k j)) := by
  unfold rowcol
  pointwise [k0_pay3]

/-- Column `j` of the reordered weights: a column of the given ones, or zero in the two stretches that fill the tiles up. -/
def wcol (w : Vec Ideal S1024x8464 .f32) (k : Fin 1024) (j : Fin 8960) : EReal :=
  if h : j.val < 3072 then w (ix2 k ⟨5392 + j.val, by omega⟩)
  else if h : j.val - 3072 < 2048 then w (ix2 k ⟨j.val - 3072, by omega⟩)
  else if h : j.val - 3072 - 2048 < 512 then w (ix2 k ⟨2064 + (j.val - 3072 - 2048), by omega⟩)
  else if h : j.val - 3072 - 2048 - 512 < 1792 then w (ix2 k ⟨3600 + (j.val - 3072 - 2048 - 512), by omega⟩)
  else if h : j.val - 3072 - 2048 - 512 - 1792 < 256 then 0
  else if h : j.val - 3072 - 2048 - 512 - 1792 - 256 < 1024 then w (ix2 k ⟨2576 + (j.val - 3072 - 2048 - 512 - 1792 - 256), by omega⟩)
  else if h : j.val - 3072 - 2048 - 512 - 1792 - 256 - 1024 < 16 then w (ix2 k ⟨2048 + (j.val - 3072 - 2048 - 512 - 1792 - 256 - 1024), by omega⟩)
  else 0

/-- What the call finds as its weights. -/
theorem V13_apply (m : (ℓ : Loc nD τ sig) → Buf (Elt Ideal) ℓ) (c : Dev nD) (k : Fin 1024) (j : Fin 8960) :
    (V m c main_v13 : Vec Ideal S1024x8960 .bf16) (ix2 k j) = wcol (m ((c : Thread nD τ).loc main_arg3)) k j := by
  unfold wcol V
  after_reads_simp
  pointwise
  refine dite_congr rfl (fun h => ?_) fun h => dite_congr rfl (fun h => ?_) fun h => dite_congr rfl (fun h => ?_) fun h =>
    dite_congr rfl (fun h => ?_) fun h => dite_congr rfl (fun h => ?_) fun h => dite_congr rfl (fun h => ?_) fun h =>
    dite_congr rfl (fun h => ?_) fun h => ?_
  all_goals after_reads_simp
  all_goals pointwise

end Cert.InProjIdeal.Hand
end
-- ==== Proof.InProjArray.lean ====
/- The input projection's two output arrays after the run, each as one function of the arguments. -/
module

public import proofs.«01_k».proof.Proof.InProjBlock
public import Idealize.ShloMosaic.Lib.Pipeline.Covers

@[expose] public section

set_option maxRecDepth 16384

noncomputable section

namespace Cert.InProjIdeal.Hand

open Cert.InProjIdeal Cert.InProjIdeal.Gen Idealize.ShloMosaic Idealize.ShloMosaic.TcCoe Idealize.SL.Sem
open Cert.LayerMath

variable (m : (ℓ : Loc nD τ sig) → Buf (Elt Ideal) ℓ)

theorem idx0 : ∀ t, (cfg0.win 0).index t = ![(grid0.coords t 0).val, (grid0.coords t 1).val, 0] := by decide +kernel
theorem idx1 : ∀ t, (cfg0.win 1).index t = ![(grid0.coords t 0).val, 0, 0] := by decide +kernel
theorem idx2 : ∀ t, (cfg0.win 2).index t = ![0, 0] := by decide +kernel
theorem idx3 : ∀ t, (cfg0.win 3).index t = ![0, (grid0.coords t 2).val] := by decide +kernel
theorem idx4 : ∀ t, (cfg0.win 4).index t = ![(grid0.coords t 0).val, (grid0.coords t 1).val, min (grid0.coords t 2).val 5] := by decide +kernel
theorem idx5 : ∀ t, (cfg0.win 5).index t = ![(grid0.coords t 0).val, (grid0.coords t 1).val, 0] := by decide +kernel
theorem covers4 : (cfg0.win 4).Covers := by decide +kernel
theorem covers5 : (cfg0.win 5).Covers := by decide +kernel
/-- The rows of a point are those of the first of its seven column tiles. -/
theorem base_coords : ∀ t : Fin cfg0.N, (grid0.coords (base t.val) 0).val = (grid0.coords t 0).val ∧ (grid0.coords (base t.val) 1).val = (grid0.coords t 1).val := by
  decide +kernel
/-- The bf16 result's buffer holds the product with the tile its window stands on. -/
theorem src_coords : ∀ t : Fin cfg0.N, (grid0.coords (src t) 2).val = min (grid0.coords t 2).val 5 := by decide +kernel
theorem coords_last : ∀ t : Fin cfg0.N, t.val % 7 = 6 → (grid0.coords t 2).val = 6 := by decide +kernel

/-- The modulation rows as the call finds them: row `o` of token batch `b` is the `o`-th stretch of 1024 of the given vector. -/
theorem V2_apply (c : Dev nD) (b : Fin 8) (o : Fin 6) (e : Fin 1024) :
    (V m c main_v2 : Vec Ideal S8x8x1024 .f32) (ix3 b ⟨o.val, by omega⟩ e) = m ((c : Thread nD τ).loc main_arg1) (ix2 b ⟨o.val * 1024 + e.val, by omega⟩) := by
  entry_read
  pointwise

/-- A token after the norm and the modulation, from the arguments. -/
def tokOf (x : Vec Ideal S8x4096x1024 .f32) (ada : Vec Ideal S8x6144 .f32) (g : Vec Ideal S1024 .f32) (b : Fin 8) (n : Fin 4096) (d : Fin 1024) : EReal :=
  modulated (fun e => x (ix3 b n e)) (fun e => g (ix1 e)) (fun e => ada (ix2 b ⟨1 * 1024 + e.val, by omega⟩)) (fun e => ada (ix2 b ⟨0 * 1024 + e.val, by omega⟩)) d

section reads
variable (c : Dev nD) (t : Fin cfg0.N) (b : Fin 8) (i : Fin 4)
  (hb : (grid0.coords t 0).val = b.val) (hi : (grid0.coords t 1).val = i.val)
include hb hi

theorem read0 (r : Fin 1024) (e : Fin 1024) :
    (iblk m c 0 t : Vec Ideal S1x1024x1024 .f32) (ix3 0 r e) = m ((c : Thread nD τ).loc main_arg0) (ix3 b ⟨1024 * i.val + r.val, by omega⟩ e) := by
  blk_ext [iblk, V, idx0 t]

theorem read1 (o : Fin 6) (e : Fin 1024) :
    (iblk m c 1 t : Vec Ideal S1x8x1024 .f32) (ix3 0 ⟨o.val, by omega⟩ e) = m ((c : Thread nD τ).loc main_arg1) (ix2 b ⟨o.val * 1024 + e.val, by omega⟩) := by
  rw [← V2_apply m c b o e]
  unfold iblk
  blk_simp [idx1 t]
  refine congrArg _ ?_
  blk_ext [idx1 t]

theorem read2 (e : Fin 1024) :
    (iblk m c 2 t : Vec Ideal S1x1024 .f32) (ix2 0 e) = m ((c : Thread nD τ).loc main_arg2) (ix1 e) := by
  blk_simp [iblk, idx2 t]
  entry_read
  pointwise
  blk_ext [idx2 t]

/-- The rows kept at a first column tile, in terms of the arguments. -/
theorem rows_read (r : Fin 1024) (k : Fin 1024) :
    rowsOf (iblk m c 0 t) (iblk m c 1 t) (iblk m c 2 t) (ix2 r k)
      = tokOf (m ((c : Thread nD τ).loc main_arg0)) (m ((c : Thread nD τ).loc main_arg1)) (m ((c : Thread nD τ).loc main_arg2)) b ⟨1024 * i.val + r.val, by omega⟩ k := by
  rw [rowsOf_apply]
  unfold tokOf
  have h0 := funext fun e => read0 m c t b i hb hi r e
  have h1 (o : Fin 6) := funext fun e => read1 m c t b i hb hi o e
  have h2 := funext fun e => read2 m c t b i hb hi e
  rw [h0, h2]
  exact congrFun (congr (congrArg (modulated _ _) (h1 1)) (h1 0)) k

end reads

/-- The rows kept while a point runs, in terms of the arguments. -/
theorem kept_read (c : Dev nD) (t : Fin cfg0.N) (b : Fin 8) (i : Fin 4) (hb : (grid0.coords t 0).val = b.val) (hi : (grid0.coords t 1).val = i.val)
    (r : Fin 1024) (k : Fin 1024) :
    kept m c t.val (ix2 r k)
      = tokOf (m ((c : Thread nD τ).loc main_arg0)) (m ((c : Thread nD τ).loc main_arg1)) (m ((c : Thread nD τ).loc main_arg2)) b ⟨1024 * i.val + r.val, by omega⟩ k :=
  rows_read m c (base t.val) b i ((base_coords t).1.trans hb) ((base_coords t).2.trans hi) r k

/-- A weight tile, in terms of the arguments. -/
theorem read3 (c : Dev nD) (t : Fin cfg0.N) (n : Fin 7) (hn : (grid0.coords t 2).val = n.val) (k : Fin 1024) (j : Fin 1280) :
    (iblk m c 3 t : Vec Ideal S1024x1280 .bf16) (ix2 k j) = wcol (m ((c : Thread nD τ).loc main_arg3)) k ⟨1280 * n.val + j.val, by omega⟩ := by
  rw [← V13_apply m c k _]
  unfold iblk
  blk_simp [idx3 t]
  refine congrArg _ ?_
  blk_ext [idx3 t]

/-- The projection of token `n` of batch `b` onto column `j` of the reordered weights. -/
def projOf (x : Vec Ideal S8x4096x1024 .f32) (ada : Vec Ideal S8x6144 .f32) (g : Vec Ideal S1024 .f32) (w : Vec Ideal S1024x8464 .f32)
    (b : Fin 8) (n : Fin 4096) (j : Fin 8960) : EReal :=
  rowcol (fun k => tokOf x ada g b n k) (fun k => wcol w k j)

theorem projOf_congr (x : Vec Ideal S8x4096x1024 .f32) (ada : Vec Ideal S8x6144 .f32) (g : Vec Ideal S1024 .f32) (w : Vec Ideal S1024x8464 .f32)
    {b b' : Fin 8} {n n' : Fin 4096} {j j' : Fin 8960} (eb : b = b') (en : n = n') (ej : j = j') : projOf x ada g w b n j = projOf x ada g w b' n' j' := by
  rw [eb, en, ej]

/-- The bf16 output array after the run. -/
theorem array4 (c : Dev nD) : (dats m 0 c).arrAt 4 cfg0.N
    = fun y : S8x4096x7680.Idx => projOf (m ((c : Thread nD τ).loc main_arg0)) (m ((c : Thread nD τ).loc main_arg1)) (m ((c : Thread nD τ).loc main_arg2)) (m ((c : Thread nD τ).loc main_arg3))
        (y 0) (y 1) ⟨(y 2).val, by have : (y 2).val < 7680 := (y 2).isLt; omega⟩ := by
  refine (dats m 0 c).arrAt_eq_of_covers 4 _ covers4 fun t hf y => ?_
  blk_simp
  rw [after0_4]
  have hy0 : (y 0).val < 1 := (y 0).isLt
  have hy1 : (y 1).val < 1024 := (y 1).isLt
  have hy2 : (y 2).val < 1280 := (y 2).isLt
  have hb : (grid0.coords t 0).val < 8 := (grid0.coords t 0).isLt
  have hi : (grid0.coords t 1).val < 4 := (grid0.coords t 1).isLt
  have hn : min (grid0.coords t 2).val 5 < 7 := by omega
  have ey : y = ix3 0 ⟨(y 1).val, hy1⟩ ⟨(y 2).val, hy2⟩ := by
    funext a
    match a with
    | ⟨0, _⟩ => exact Fin.ext (by show (y 0).val = 0; omega)
    | ⟨1, _⟩ => rfl
    | ⟨2, _⟩ => rfl
  have e0 : (((cfg0.win 4).blk t).view.emb y 0 : ℕ) = (grid0.coords t 0).val := by blk_simp [idx4 t]
  have e1 : (((cfg0.win 4).blk t).view.emb y 1 : ℕ) = 1024 * (grid0.coords t 1).val + (y 1).val := by blk_simp [idx4 t]; omega
  have e2 : win0_4.index t 2 * 1280 + (y 2).val = 1280 * min (grid0.coords t 2).val 5 + (y 2).val := by
    have h : win0_4.index t 2 = min (grid0.coords t 2).val 5 := congrFun (idx4 t) 2
    omega
  refine Eq.trans ?_ (projOf_congr _ _ _ _ (Fin.ext e0 : _ = ⟨_, hb⟩) (Fin.ext e1 : _ = ⟨1024 * (grid0.coords t 1).val + (y 1).val, by omega⟩)
    (Fin.ext e2 : _ = ⟨1280 * min (grid0.coords t 2).val 5 + (y 2).val, by omega⟩)).symm
  refine (congrArg _ ey).trans ?_
  rw [pay2_apply]
  unfold projOf
  exact congrArg₂ rowcol (funext fun k => kept_read m c t ⟨_, hb⟩ ⟨_, hi⟩ rfl rfl _ k) (funext fun k => read3 m c (src t) ⟨_, hn⟩ (src_coords t) k _)

/-- The f32 output array after the run. -/
theorem array5 (c : Dev nD) : (dats m 0 c).arrAt 5 cfg0.N
    = fun y : S8x4096x1280.Idx => projOf (m ((c : Thread nD τ).loc main_arg0)) (m ((c : Thread nD τ).loc main_arg1)) (m ((c : Thread nD τ).loc main_arg2)) (m ((c : Thread nD τ).loc main_arg3))
        (y 0) (y 1) ⟨7680 + (y 2).val, by have : (y 2).val < 1280 := (y 2).isLt; omega⟩ := by
  refine (dats m 0 c).arrAt_eq_of_covers 5 _ covers5 fun t hf y => ?_
  blk_simp
  rw [after0_5]
  have hy0 : (y 0).val < 1 := (y 0).isLt
  have hy1 : (y 1).val < 1024 := (y 1).isLt
  have hy2 : (y 2).val < 1280 := (y 2).isLt
  have hb : (grid0.coords t 0).val < 8 := (grid0.coords t 0).isLt
  have hi : (grid0.coords t 1).val < 4 := (grid0.coords t 1).isLt
  have ey : y = ix3 0 ⟨(y 1).val, hy1⟩ ⟨(y 2).val, hy2⟩ := by
    funext a
    match a with
    | ⟨0, _⟩ => exact Fin.ext (by show (y 0).val = 0; omega)
    | ⟨1, _⟩ => rfl
    | ⟨2, _⟩ => rfl
  have e0 : (((cfg0.win 5).blk t).view.emb y 0 : ℕ) = (grid0.coords t 0).val := by blk_simp [idx5 t]
  have e1 : (((cfg0.win 5).blk t).view.emb y 1 : ℕ) = 1024 * (grid0.coords t 1).val + (y 1).val := by blk_simp [idx5 t]; omega
  have e2 : 7680 + (win0_5.index t 2 * 1280 + (y 2).val) = 1280 * 6 + (y 2).val := by
    have h : win0_5.index t 2 = 0 := congrFun (idx5 t) 2
    omega
  refine Eq.trans ?_ (projOf_congr _ _ _ _ (Fin.ext e0 : _ = ⟨_, hb⟩) (Fin.ext e1 : _ = ⟨1024 * (grid0.coords t 1).val + (y 1).val, by omega⟩)
    (Fin.ext e2 : _ = ⟨1280 * 6 + (y 2).val, by omega⟩)).symm
  refine (congrArg _ ey).trans ?_
  rw [pay3_apply]
  unfold projOf
  exact congrArg₂ rowcol (funext fun k => kept_read m c t ⟨_, hb⟩ ⟨_, hi⟩ rfl rfl _ k)
    (funext fun k => read3 m c t 6 (coords_last t ((flush0_5 t).mp hf)) k _)

/-- The run, read at the two results: each ends at its array, and the arguments end as they were. -/
theorem run_blocks (ρ : Dev nD → PrngReg) : θ_run defs (onTc (τ := τ) (main (F := Ideal))) ⟨m, fun _ => 0, ρ⟩ fun r => ∀ c : Dev nD,
      r.2.mem ((c.tc : Thread nD τ).loc main_v14_0) = (dats m 0 c).arrAt 4 cfg0.N
      ∧ r.2.mem ((c.tc : Thread nD τ).loc main_v14_1) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h.1 c).1 4, (h.1 c).1 5, h.2.1 c⟩) (Idealize.ShloMosaic.θ_run_and (run_main m ρ) (frame m ρ))

end Cert.InProjIdeal.Hand
end
-- ==== Proof.InProjRef.lean ====
/- The input projection reference's two results, read at an index. -/
module

public import proofs.«01_k».proof.Proof.Gen.InProjReferenceIdeal.Read
public import proofs.«01_k».proof.Proof.InProjArray

@[expose] public section

set_option maxRecDepth 16384

noncomputable section

namespace Cert.InProjReferenceIdeal.Hand

open Cert.InProjReferenceIdeal Cert.InProjReferenceIdeal.Gen Cert.InProjReferenceIdeal.Read Idealize.ShloMosaic Idealize.ShloMosaic.TcCoe Idealize.SL.Sem
open Cert.LayerMath
open Cert.InProjIdeal.Hand (tokOf wcol projOf)

/-- A row times a column chosen by a condition is the product chosen by it. -/
theorem rowcol_dite {n : ℕ} (h : Fin n → EReal) (P : Prop) [Decidable P] (a : P → Fin n → EReal) (b : ¬ P → Fin n → EReal) :
    rowcol h (fun k => if p : P then a p k else b p k) = if p : P then rowcol h (a p) else rowcol h (b p) := by
  split <;> rfl

/-- A row times a zero column is zero. -/
theorem rowcol_zero {n : ℕ} (h : Fin n → EReal) : rowcol h (fun _ => 0) = 0 := by
  unfold rowcol
  simp only [mul_zero, Finset.sum_const_zero]

variable (x : Vec Ideal S8x4096x1024 .f32) (ada : Vec Ideal S8x6144 .f32) (g : Vec Ideal S1024 .f32) (w : Vec Ideal S1024x8464 .f32)

/-- The normed and modulated tokens. -/
theorem modulated_apply (b : Fin 8) (n : Fin 4096) (d : Fin 1024) :
    val_main_v25 (F := Ideal) x ada g (ix3 b n d) = tokOf x ada g b n d := by
  unfold tokOf modulated normed
  pointwise [val_main_v25, val_main_v24, val_main_v23, val_main_v22, val_main_v21, val_main_v20, val_main_cst_2, val_main_v19, val_main_v18, val_main_v17, val_main_v16, val_main_v15, val_main_v14,
    val_main_v13, val_main_v12, val_main_cst_1, val_main_v11, val_main_v10, val_main_cst_0, val_main_v9, val_main_v8, val_main_cst, val_main_v7, val_main_v2, val_main_v1, val_main_v0]

/-- The products with the weights as given. -/
theorem product_apply (b : Fin 8) (n : Fin 4096) (j : Fin 8464) :
    val_main_v26 (F := Ideal) x ada g w (ix3 b n j) = rowcol (fun k => tokOf x ada g b n k) (fun k => w (ix2 k j)) := by
  rw [← funext fun k => modulated_apply x ada g b n k]
  unfold rowcol
  pointwise [val_main_v26]

/-- The bf16 result. -/
theorem result0 (b : Fin 8) (n : Fin 4096) (j : Fin 7680) :
    val_main_v37 (F := Ideal) x ada g w (ix3 b n j) = projOf x ada g w b n ⟨j.val, by omega⟩ := by
  unfold projOf
  simp only [wcol, rowcol_dite, rowcol_zero, ← product_apply]
  pointwise [val_main_v37, val_main_v34, val_main_v33, val_main_v32, val_main_v31, val_main_v29, val_main_v27, val_main_cst_3]
  refine dite_congr rfl (fun h => ?_) fun h => dite_congr rfl (fun h => ?_) fun h => dite_congr rfl (fun h => ?_) fun h =>
    dite_congr rfl (fun h => ?_) fun h => ?_
  · rfl
  · rfl
  · rfl
  · rfl
  · have hj : j.val < 7680 := j.isLt
    have h0 : j.val - 3072 - 2048 - 512 - 1792 < 256 := by omega
    simp only [h0, dite_true]

/-- The f32 result. -/
theorem result1 (b : Fin 8) (n : Fin 4096) (j : Fin 1280) :
    val_main_v36 (F := Ideal) x ada g w (ix3 b n j) = projOf x ada g w b n ⟨7680 + j.val, by omega⟩ := by
  unfold projOf
  simp only [wcol, rowcol_dite, rowcol_zero, ← product_apply]
  rw [dif_neg (by omega), dif_neg (by omega), dif_neg (by omega), dif_neg (by omega), dif_neg (by omega)]
  pointwise [val_main_v36, val_main_v35, val_main_v30, val_main_v28, val_main_cst_4]
  have e : 7680 + j.val - 3072 - 2048 - 512 - 1792 - 256 = j.val := by omega
  refine dite_congr (by rw [e]) (fun h => ?_) fun h => dite_congr (by rw [e]) (fun h => ?_) fun h => rfl
  all_goals exact congrArg (fun i => val_main_v26 (F := Ideal) x ada g w (ix3 b n i)) (Fin.ext (by show _ + _ = _ + _; omega))

end Cert.InProjReferenceIdeal.Hand
end
-- ==== Proof.InProjClaim.lean ====
/- The input projection's value claim: each of the call's two results and the reference's are equal, element by element. -/
module

public import proofs.«01_k».proof.Defs
public import proofs.«01_k».proof.Proof.InProjRef

@[expose] public section

set_option maxRecDepth 16384

noncomputable section

namespace Cert.InProjHand

open Idealize.ShloMosaic Idealize.ShloMosaic.TcCoe Idealize.SL.Sem

/-- The value claim. -/
theorem value : Cert.algebraic_InProjIdeal_InProjReferenceIdeal := fun m ρ m' ρ' _ hag =>
  ⟨fun c => (Cert.InProjIdeal.Hand.dats m 0 c).arrAt 4 Cert.InProjIdeal.cfg0.N, fun c => (Cert.InProjIdeal.Hand.dats m 0 c).arrAt 5 Cert.InProjIdeal.cfg0.N,
    Cert.InProjIdeal.Hand.run_blocks m ρ,
    (θ_run _ _ _).mono (fun r hr c => ⟨(hr c).1.trans (by
      obtain ⟨a0, a1, a2, a3⟩ := hag c
      rw [Cert.InProjReferenceIdeal.Read.val_main_v37_eq, a0, a1, a2, a3]
      show _ = (Cert.InProjIdeal.Hand.dats m 0 c).arrAt 4 Cert.InProjIdeal.cfg0.N
      rw [Cert.InProjIdeal.Hand.array4]
      funext y
      have ey : y = ix3 (y 0) (y 1) (y 2) := by
        funext a
        match a with
        | ⟨0, _⟩ => rfl
        | ⟨1, _⟩ => rfl
        | ⟨2, _⟩ => rfl
      exact (congrArg _ ey).trans (Cert.InProjReferenceIdeal.Hand.result0 _ _ _ _ (y 0) (y 1) (y 2))),
      (hr c).2.1.trans (by
      obtain ⟨a0, a1, a2, a3⟩ := hag c
      rw [Cert.InProjReferenceIdeal.Read.val_main_v36_eq, a0, a1, a2, a3]
      show _ = (Cert.InProjIdeal.Hand.dats m 0 c).arrAt 5 Cert.InProjIdeal.cfg0.N
      rw [Cert.InProjIdeal.Hand.array5]
      funext y
      have ey : y = ix3 (y 0) (y 1) (y 2) := by
        funext a
        match a with
        | ⟨0, _⟩ => rfl
        | ⟨1, _⟩ => rfl
        | ⟨2, _⟩ => rfl
      exact (congrArg _ ey).trans (Cert.InProjReferenceIdeal.Hand.result1 _ _ _ _ (y 0) (y 1) (y 2))), (hr c).2.2⟩)
      (Cert.InProjReferenceIdeal.Value.run m' ρ')⟩

/-- The input projection's reference leaves its arguments as they were and every semaphore counter at zero, since it declares none. -/
theorem frame_R : Cert.quiescent_InProjReferenceIdeal := fun m ρ _ =>
  (θ_run _ _ _).mono (fun r h => ⟨fun c => (h c).2.2, sem_eq_zero_of_no_sems (by decide) r.2⟩) (Cert.InProjReferenceIdeal.Value.run (F := Ideal) m ρ)

end Cert.InProjHand
end
-- ==== Proof.PrepBlock.lean ====
/- The query/key/value preparation at one point: norms of two heads at a time, read at an index. -/
module

public import proofs.«01_k».proof.Proof.LayerMath
public import proofs.«01_k».proof.Proof.Gen.PrepIdeal.Value
public import Idealize.ShloMosaic.Lib.Pipeline.ValueKit

@[expose] public section

set_option maxRecDepth 16384
set_option Elab.async false

namespace Cert.PrepIdeal.Hand
open Idealize.ShloMosaic Idealize.ShloMosaic.TcCoe Idealize.SL.Sem
open Cert.PrepIdeal Cert.PrepIdeal.Gen

/-! ## The numbers -/

/-- One head's entry over the root of its mean square, times its gain. -/
noncomputable def headNorm (x g : Fin 64 → EReal) (d : Fin 64) : EReal :=
  x d * Ideal.rsqrt (Ideal.div (∑ e, x e * x e) (Ideal.ofBits .f32 0x42800000#32) + Ideal.ofBits .f32 0x358637BD#32) * g d

/-- The same for two heads side by side: the sums over a head are sums over both, times a 0/1 mask, of the
    squares and of what rounding the squares leaves. -/
noncomputable def pairNorm (x g : Fin 128 → EReal) (mask : Fin 128 → Fin 128 → EReal) (d : Fin 128) : EReal :=
  x d * Ideal.rsqrt ((∑ e, x e * x e * mask e d + ∑ e, (x e * x e - x e * x e) * mask e d) * Ideal.ofBits .f32 0x3C800000#32
    + Ideal.ofBits .f32 0x358637BD#32) * g d

/-- The mask: one within a head, zero across. -/
noncomputable def headMask (e d : Fin 128) : EReal := if e.val / 64 = d.val / 64 then 1 else 0

/-- Lane `d` of head `h` of a pair. -/
def lane (h : Fin 2) (d : Fin 64) : Fin 128 := ⟨h.val * 64 + d.val, by omega⟩

theorem word_64 : Ideal.ofBits .f32 0x42800000#32 = ((64 : ℝ) : EReal) := by
  simp [Ideal.ofBits, Ideal.ieee, -EReal.coe_mul]; norm_num

theorem word_64th : Ideal.ofBits .f32 0x3C800000#32 = ((1 / 64 : ℝ) : EReal) := by
  simp [Ideal.ofBits, Ideal.ieee, -EReal.coe_mul]; norm_num

/-- A sum over both heads, masked, is the sum over the one. -/
theorem masked_sum (f : Fin 128 → EReal) (h : Fin 2) (d : Fin 64) :
    ∑ e, f e * headMask e (lane h d) = ∑ e, f (lane h e) := by
  have hs : ∑ e, f e * headMask e (lane h d) = ∑ e : Fin (64 + 64), f e * headMask e (lane h d) := rfl
  rw [hs, Fin.sum_univ_add]
  have hl (h' : Fin 2) (e : Fin 64) : headMask (lane h' e) (lane h d) = if h' = h then 1 else 0 := by
    have e1 : (lane h' e).val / 64 = h'.val := by simp only [lane]; omega
    have e2 : (lane h d).val / 64 = h.val := by simp only [lane]; omega
    simp only [headMask, e1, e2, Fin.ext_iff]
  have a (e : Fin 64) : (Fin.castAdd 64 e : Fin (64 + 64)) = lane 0 e := Fin.ext (by simp [lane])
  have b (e : Fin 64) : (Fin.natAdd 64 e : Fin (64 + 64)) = lane 1 e := Fin.ext (by simp [lane, Nat.add_comm])
  simp only [a, b, hl]
  fin_cases h <;> simp

/-- Over real entries, the two norms agree. -/
theorem pairNorm_eq (x g : Fin 128 → EReal) (hx : ∀ e, ∃ r : ℝ, x e = r) (h : Fin 2) (d : Fin 64) :
    pairNorm x g headMask (lane h d) = headNorm (fun e => x (lane h e)) (fun e => g (lane h e)) d := by
  have z (e : Fin 128) : x e * x e - x e * x e = 0 := by
    obtain ⟨r, hr⟩ := hx e
    rw [hr, ← EReal.coe_mul, ← EReal.coe_sub, sub_self, EReal.coe_zero]
  simp only [pairNorm, headNorm, z, zero_mul, Finset.sum_const_zero, add_zero]
  rw [masked_sum (fun e => x e * x e), word_64, word_64th, Ideal.div_coe (by norm_num)]

/-! ## The mask's words -/

theorem row_word (e d : Fin 128) : k0_pay39 (ix2 e d) = BitVec.ofNat 32 (e.val / 64) := by
  pointwise [k0_pay39]
  revert e; decide +kernel

theorem col_word (e d : Fin 128) :
    Scalar.select (k0_pay41 (ix2 e d)) (IntOp.subi (k0_pay40 (ix2 e d)) 1#32) (k0_pay40 (ix2 e d)) = BitVec.ofNat 32 (d.val / 64) := by
  pointwise [k0_pay40, k0_pay41]
  revert d; decide +kernel

theorem bit_word (a b : Fin 2) : BitVec.setWidth 32 (IntOp.cmpi .eq (BitVec.ofNat 32 a.val) (BitVec.ofNat 32 b.val)) = if a.val = b.val then 1#32 else 0#32 := by
  revert a b; decide

/-- The mask's number, from its words. -/
theorem mask_at (e d : Fin 128) :
    FloatOps.sitofp (F := Ideal) FTy.f32 (BitVec.setWidth 32 (IntOp.cmpi .eq (k0_pay39 (ix2 e d))
      (Scalar.select (k0_pay41 (ix2 e d)) (IntOp.subi (k0_pay40 (ix2 e d)) 1#32) (k0_pay40 (ix2 e d))))) = headMask e d := by
  rw [row_word, col_word, bit_word ⟨e.val / 64, by omega⟩ ⟨d.val / 64, by omega⟩]
  unfold headMask
  split
  · show (((1#32 : BitVec 32).toInt : ℝ) : EReal) = 1
    simp
  · show (((0#32 : BitVec 32).toInt : ℝ) : EReal) = 0
    simp

theorem pay42_at (g : FVec Ideal S1x128 .f32) (x : FVec Ideal S256x128 .f32) (r : Fin 256) (d : Fin 128) :
    k0_pay42 g x k0_pay39 k0_pay40 k0_pay41 (ix2 r d) = pairNorm (fun e => x (ix2 r e)) (fun e => g (ix2 0 e)) headMask d := by
  unfold pairNorm
  simp only [← mask_at]
  pointwise [k0_pay42]

/-- The gains and the entries a pair's norm takes, from the blocks loaded. -/
theorem pay4_at (g : Vec Ideal S1x128 .f32) (e : Fin 128) : k0_pay4 g (ix2 0 e) = g (ix2 0 e) := by pointwise [k0_pay4]
theorem pay5_at (g : Vec Ideal S1x128 .f32) (e : Fin 128) : k0_pay5 g (ix2 0 e) = g (ix2 0 e) := by pointwise [k0_pay5]
theorem pay38_at (x : Vec Ideal S1x256x128 .bf16) (r : Fin 256) (e : Fin 128) : k0_pay38 x (ix2 r e) = x (ix3 0 r e) := by
  pointwise [k0_pay38]
theorem pay47_at (x : Vec Ideal S1x256x128 .bf16) (r : Fin 256) (e : Fin 128) : k0_pay47 x (ix2 r e) = x (ix3 0 r e) := by
  pointwise [k0_pay47]

/-- Two heads' norms of a pair of heads loaded, scaled: what every pair of query heads stores. -/
noncomputable def pairQ (g : Vec Ideal S1x128 .f32) (x : Vec Ideal S1x256x128 .bf16) : FVec Ideal S256x128 .bf16 :=
  truncf .bf16 (mulf (k0_pay42 (k0_pay4 g) (k0_pay38 x) k0_pay39 k0_pay40 k0_pay41) (broadcast S256x128 (Scalar.ofBits .f32 0x3E000000#32))) bitsLt_bf16_f32

theorem pairQ_at (g : Vec Ideal S1x128 .f32) (x : Vec Ideal S1x256x128 .bf16) (r : Fin 256) (hx : ∀ e : Fin 128, ∃ a : ℝ, x (ix3 0 r e) = a) (h : Fin 2) (d : Fin 64) :
    pairQ g x (ix2 r (lane h d))
      = headNorm (fun e => x (ix3 0 r (lane h e))) (fun e => g (ix2 0 (lane h e))) d * Ideal.ofBits .f32 0x3E000000#32 := by
  show k0_pay42 (k0_pay4 g) (k0_pay38 x) k0_pay39 k0_pay40 k0_pay41 (ix2 r (lane h d)) * Ideal.ofBits .f32 0x3E000000#32 = _
  rw [pay42_at]
  simp only [pay38_at, pay4_at]
  rw [pairNorm_eq _ _ hx]

/-- The first head of a pair, stored. -/
noncomputable def leftHead (p : FVec Ideal S256x128 .bf16) : FVec Ideal S1x1x256x64 .bf16 :=
  shapeCast S1x1x256x64 (extractStridedSlice S256x64 ![0, 0] p slices_S256x128_o0_0_S256x64) shapeCasts_S256x64_S1x1x256x64

/-- The second. -/
noncomputable def rightHead (p : FVec Ideal S256x128 .bf16) : FVec Ideal S1x1x256x64 .bf16 :=
  shapeCast S1x1x256x64 (extractStridedSlice S256x64 ![0, 64] p slices_S256x128_o0_64_S256x64) shapeCasts_S256x64_S1x1x256x64

theorem leftHead_at (p : FVec Ideal S256x128 .bf16) (r : Fin 256) (d : Fin 64) : leftHead p (ix4 0 0 r d) = p (ix2 r (lane 0 d)) := by
  have e : (lane 0 d : Fin 128) = ⟨0 + d.val, by omega⟩ := Fin.ext (by simp [lane])
  rw [e]
  pointwise [leftHead]

theorem rightHead_at (p : FVec Ideal S256x128 .bf16) (r : Fin 256) (d : Fin 64) : rightHead p (ix4 0 0 r d) = p (ix2 r (lane 1 d)) := by
  have e : (lane 1 d : Fin 128) = ⟨64 + d.val, by omega⟩ := Fin.ext (by simp [lane])
  rw [e]
  pointwise [rightHead]

/-! ## The blocks' pieces -/

section Pieces
variable (x0 : Vec Ideal S1x256x512 .bf16) (x1 x2 : Vec Ideal S1x256x128 .bf16) (x3 x4 : Vec Ideal S1x128 .f32) (x5 x6 : Vec Ideal S256x128 .f32)

theorem q_pieces : out0_7 x0 x1 x2 x3 x4 x5 x6 = View.canon [
    ⟨r0_12, rightHead (pairQ (View.ld x3 r0_0) (View.ld x0 r0_10))⟩, ⟨r0_11, leftHead (pairQ (View.ld x3 r0_0) (View.ld x0 r0_10))⟩,
    ⟨r0_9, rightHead (pairQ (View.ld x3 r0_0) (View.ld x0 r0_7))⟩, ⟨r0_8, leftHead (pairQ (View.ld x3 r0_0) (View.ld x0 r0_7))⟩,
    ⟨r0_6, rightHead (pairQ (View.ld x3 r0_0) (View.ld x0 r0_4))⟩, ⟨r0_5, leftHead (pairQ (View.ld x3 r0_0) (View.ld x0 r0_4))⟩,
    ⟨r0_3, rightHead (pairQ (View.ld x3 r0_0) (View.ld x0 r0_1))⟩, ⟨r0_2, leftHead (pairQ (View.ld x3 r0_0) (View.ld x0 r0_1))⟩] := rfl

/-- Two heads' normed keys. -/
noncomputable def pairK (g : Vec Ideal S1x128 .f32) (x : Vec Ideal S1x256x128 .bf16) : FVec Ideal S256x128 .bf16 :=
  truncf .bf16 (k0_pay42 (k0_pay5 g) (k0_pay38 x) k0_pay39 k0_pay40 k0_pay41) bitsLt_bf16_f32

theorem k_pieces : out0_8 x0 x1 x2 x3 x4 x5 x6 = View.canon [
    ⟨r0_15, rightHead (pairK (View.ld x4 r0_0) (View.ld x1 r0_13))⟩, ⟨r0_14, leftHead (pairK (View.ld x4 r0_0) (View.ld x1 r0_13))⟩] := rfl

theorem head_index (x : S1x1x256x64.Idx) : ∃ (r : Fin 256) (d : Fin 64), x = ix4 0 0 r d := by
  refine ⟨x 2, x 3, funext fun a => ?_⟩
  match a with
  | ⟨0, _⟩ => exact Subsingleton.elim (α := Fin 1) _ _
  | ⟨1, _⟩ => exact Subsingleton.elim (α := Fin 1) _ _
  | ⟨2, _⟩ => rfl
  | ⟨3, _⟩ => rfl

/-- A query head of the block: the row's 64 entries, normed and scaled. -/
noncomputable def qHead (h : Fin 8) (r : Fin 256) (d : Fin 64) : EReal :=
  headNorm (fun e => x0 (ix3 0 r ⟨h.val * 64 + e.val, by omega⟩)) (fun e => x3 (ix2 0 (lane ⟨h.val % 2, by omega⟩ e))) d
    * Ideal.ofBits .f32 0x3E000000#32

theorem ld_gain (e : Fin 128) : View.ld (Val := Elt Ideal) x3 r0_0 (ix2 0 e) = x3 (ix2 0 e) := by
  refine congrArg x3 (funext fun a => Fin.ext ?_)
  match a with
  | ⟨0, _⟩ => rfl
  | ⟨1, _⟩ => show 0 + 1 * e.val = e.val; omega

theorem ld_keys (r : Fin 256) (e : Fin 128) : View.ld (Val := Elt Ideal) x1 r0_13 (ix3 0 r e) = x1 (ix3 0 r e) := by
  refine congrArg x1 (funext fun a => Fin.ext ?_)
  match a with
  | ⟨0, _⟩ => rfl
  | ⟨1, _⟩ => show 0 + 1 * r.val = r.val; omega
  | ⟨2, _⟩ => show 0 + 1 * e.val = e.val; omega

/-- A pair of query heads is loaded from the block's columns. -/
theorem ld_pair (o : ℕ) (ho : o + 128 ≤ 512) (inb : ∀ a, (![0, 0, o] : Fin 3 → ℕ) a + S1x256x128.size a ≤ S1x256x512.size a) (r : Fin 256) (e : Fin 128) :
    View.ld (Val := Elt Ideal) x0 (Rect.unit (s := S1x256x512) ![0, 0, o] S1x256x128.size inb) (ix3 0 r e) = x0 (ix3 0 r ⟨o + e.val, by omega⟩) := by
  refine congrArg x0 (funext fun a => Fin.ext ?_)
  match a with
  | ⟨0, _⟩ => rfl
  | ⟨1, _⟩ => show 0 + 1 * r.val = r.val; omega
  | ⟨2, _⟩ => show o + 1 * e.val = o + e.val; omega

/-- A pair's stored value at its head, from the block. -/
theorem pair_at (hx : ∀ r c, ∃ a : ℝ, x0 (ix3 0 r c) = a) (o : ℕ) (ho : o + 128 ≤ 512)
    (inb : ∀ a, (![0, 0, o] : Fin 3 → ℕ) a + S1x256x128.size a ≤ S1x256x512.size a) (h : Fin 2) (j : Fin 8) (hj : j.val * 64 = o + h.val * 64)
    (hh : j.val % 2 = h.val) (r : Fin 256) (d : Fin 64) :
    pairQ (View.ld x3 r0_0) (View.ld x0 (Rect.unit (s := S1x256x512) ![0, 0, o] S1x256x128.size inb)) (ix2 r (lane h d)) = qHead x0 x3 j r d := by
  have eh : (⟨j.val % 2, by omega⟩ : Fin 2) = h := Fin.ext hh
  rw [pairQ_at _ _ _ (fun e => by rw [ld_pair x0 o ho]; exact hx _ _)]
  unfold qHead
  rw [eh]
  congr 2
  · funext e
    rw [ld_pair x0 o ho]
    congr 2
    exact Fin.ext (by simp only [lane]; omega)
  · funext e
    rw [ld_gain]

theorem q_piece_0 (hx : ∀ r c, ∃ a : ℝ, x0 (ix3 0 r c) = a) (x : S1x1x256x64.Idx) :
    leftHead (pairQ (View.ld x3 r0_0) (View.ld x0 r0_1)) x = (fun y : S1x8x256x64.Idx => qHead x0 x3 (y 1) (y 2) (y 3)) (r0_2.idx x) := by
  obtain ⟨r, d, rfl⟩ := head_index x
  have e2 : (r0_2.idx (ix4 0 0 r d) 2 : Fin 256) = r := Fin.ext (by show 0 + 1 * r.val = r.val; omega)
  have e3 : (r0_2.idx (ix4 0 0 r d) 3 : Fin 64) = d := Fin.ext (by show 0 + 1 * d.val = d.val; omega)
  rw [leftHead_at]
  show _ = qHead x0 x3 0 (r0_2.idx (ix4 0 0 r d) 2 : Fin 256) (r0_2.idx (ix4 0 0 r d) 3 : Fin 64)
  rw [e2, e3]
  exact pair_at x0 x3 hx 0 (by omega) _ 0 0 rfl rfl r d

theorem q_piece_1 (hx : ∀ r c, ∃ a : ℝ, x0 (ix3 0 r c) = a) (x : S1x1x256x64.Idx) :
    rightHead (pairQ (View.ld x3 r0_0) (View.ld x0 r0_1)) x = (fun y : S1x8x256x64.Idx => qHead x0 x3 (y 1) (y 2) (y 3)) (r0_3.idx x) := by
  obtain ⟨r, d, rfl⟩ := head_index x
  have e2 : (r0_2.idx (ix4 0 0 r d) 2 : Fin 256) = r := Fin.ext (by show 0 + 1 * r.val = r.val; omega)
  have e3 : (r0_2.idx (ix4 0 0 r d) 3 : Fin 64) = d := Fin.ext (by show 0 + 1 * d.val = d.val; omega)
  rw [rightHead_at]
  show _ = qHead x0 x3 1 (r0_2.idx (ix4 0 0 r d) 2 : Fin 256) (r0_2.idx (ix4 0 0 r d) 3 : Fin 64)
  rw [e2, e3]
  exact pair_at x0 x3 hx 0 (by omega) _ 1 1 rfl rfl r d

theorem q_piece_2 (hx : ∀ r c, ∃ a : ℝ, x0 (ix3 0 r c) = a) (x : S1x1x256x64.Idx) :
    leftHead (pairQ (View.ld x3 r0_0) (View.ld x0 r0_4)) x = (fun y : S1x8x256x64.Idx => qHead x0 x3 (y 1) (y 2) (y 3)) (r0_5.idx x) := by
  obtain ⟨r, d, rfl⟩ := head_index x
  have e2 : (r0_2.idx (ix4 0 0 r d) 2 : Fin 256) = r := Fin.ext (by show 0 + 1 * r.val = r.val; omega)
  have e3 : (r0_2.idx (ix4 0 0 r d) 3 : Fin 64) = d := Fin.ext (by show 0 + 1 * d.val = d.val; omega)
  rw [leftHead_at]
  show _ = qHead x0 x3 2 (r0_2.idx (ix4 0 0 r d) 2 : Fin 256) (r0_2.idx (ix4 0 0 r d) 3 : Fin 64)
  rw [e2, e3]
  exact pair_at x0 x3 hx 128 (by omega) _ 0 2 rfl rfl r d

theorem q_piece_3 (hx : ∀ r c, ∃ a : ℝ, x0 (ix3 0 r c) = a) (x : S1x1x256x64.Idx) :
    rightHead (pairQ (View.ld x3 r0_0) (View.ld x0 r0_4)) x = (fun y : S1x8x256x64.Idx => qHead x0 x3 (y 1) (y 2) (y 3)) (r0_6.idx x) := by
  obtain ⟨r, d, rfl⟩ := head_index x
  have e2 : (r0_2.idx (ix4 0 0 r d) 2 : Fin 256) = r := Fin.ext (by show 0 + 1 * r.val = r.val; omega)
  have e3 : (r0_2.idx (ix4 0 0 r d) 3 : Fin 64) = d := Fin.ext (by show 0 + 1 * d.val = d.val; omega)
  rw [rightHead_at]
  show _ = qHead x0 x3 3 (r0_2.idx (ix4 0 0 r d) 2 : Fin 256) (r0_2.idx (ix4 0 0 r d) 3 : Fin 64)
  rw [e2, e3]
  exact pair_at x0 x3 hx 128 (by omega) _ 1 3 rfl rfl r d

theorem q_piece_4 (hx : ∀ r c, ∃ a : ℝ, x0 (ix3 0 r c) = a) (x : S1x1x256x64.Idx) :
    leftHead (pairQ (View.ld x3 r0_0) (View.ld x0 r0_7)) x = (fun y : S1x8x256x64.Idx => qHead x0 x3 (y 1) (y 2) (y 3)) (r0_8.idx x) := by
  obtain ⟨r, d, rfl⟩ := head_index x
  have e2 : (r0_2.idx (ix4 0 0 r d) 2 : Fin 256) = r := Fin.ext (by show 0 + 1 * r.val = r.val; omega)
  have e3 : (r0_2.idx (ix4 0 0 r d) 3 : Fin 64) = d := Fin.ext (by show 0 + 1 * d.val = d.val; omega)
  rw [leftHead_at]
  show _ = qHead x0 x3 4 (r0_2.idx (ix4 0 0 r d) 2 : Fin 256) (r0_2.idx (ix4 0 0 r d) 3 : Fin 64)
  rw [e2, e3]
  exact pair_at x0 x3 hx 256 (by omega) _ 0 4 rfl rfl r d

theorem q_piece_5 (hx : ∀ r c, ∃ a : ℝ, x0 (ix3 0 r c) = a) (x : S1x1x256x64.Idx) :
    rightHead (pairQ (View.ld x3 r0_0) (View.ld x0 r0_7)) x = (fun y : S1x8x256x64.Idx => qHead x0 x3 (y 1) (y 2) (y 3)) (r0_9.idx x) := by
  obtain ⟨r, d, rfl⟩ := head_index x
  have e2 : (r0_2.idx (ix4 0 0 r d) 2 : Fin 256) = r := Fin.ext (by show 0 + 1 * r.val = r.val; omega)
  have e3 : (r0_2.idx (ix4 0 0 r d) 3 : Fin 64) = d := Fin.ext (by show 0 + 1 * d.val = d.val; omega)
  rw [rightHead_at]
  show _ = qHead x0 x3 5 (r0_2.idx (ix4 0 0 r d) 2 : Fin 256) (r0_2.idx (ix4 0 0 r d) 3 : Fin 64)
  rw [e2, e3]
  exact pair_at x0 x3 hx 256 (by omega) _ 1 5 rfl rfl r d

theorem q_piece_6 (hx : ∀ r c, ∃ a : ℝ, x0 (ix3 0 r c) = a) (x : S1x1x256x64.Idx) :
    leftHead (pairQ (View.ld x3 r0_0) (View.ld x0 r0_10)) x = (fun y : S1x8x256x64.Idx => qHead x0 x3 (y 1) (y 2) (y 3)) (r0_11.idx x) := by
  obtain ⟨r, d, rfl⟩ := head_index x
  have e2 : (r0_2.idx (ix4 0 0 r d) 2 : Fin 256) = r := Fin.ext (by show 0 + 1 * r.val = r.val; omega)
  have e3 : (r0_2.idx (ix4 0 0 r d) 3 : Fin 64) = d := Fin.ext (by show 0 + 1 * d.val = d.val; omega)
  rw [leftHead_at]
  show _ = qHead x0 x3 6 (r0_2.idx (ix4 0 0 r d) 2 : Fin 256) (r0_2.idx (ix4 0 0 r d) 3 : Fin 64)
  rw [e2, e3]
  exact pair_at x0 x3 hx 384 (by omega) _ 0 6 rfl rfl r d

theorem q_piece_7 (hx : ∀ r c, ∃ a : ℝ, x0 (ix3 0 r c) = a) (x : S1x1x256x64.Idx) :
    rightHead (pairQ (View.ld x3 r0_0) (View.ld x0 r0_10)) x = (fun y : S1x8x256x64.Idx => qHead x0 x3 (y 1) (y 2) (y 3)) (r0_12.idx x) := by
  obtain ⟨r, d, rfl⟩ := head_index x
  have e2 : (r0_2.idx (ix4 0 0 r d) 2 : Fin 256) = r := Fin.ext (by show 0 + 1 * r.val = r.val; omega)
  have e3 : (r0_2.idx (ix4 0 0 r d) 3 : Fin 64) = d := Fin.ext (by show 0 + 1 * d.val = d.val; omega)
  rw [rightHead_at]
  show _ = qHead x0 x3 7 (r0_2.idx (ix4 0 0 r d) 2 : Fin 256) (r0_2.idx (ix4 0 0 r d) 3 : Fin 64)
  rw [e2, e3]
  exact pair_at x0 x3 hx 384 (by omega) _ 1 7 rfl rfl r d

/-- The block of query heads, read at a row of a head. -/
theorem out7_at (hx : ∀ r c, ∃ a : ℝ, x0 (ix3 0 r c) = a) (y : S1x8x256x64.Idx) :
    out0_7 x0 x1 x2 x3 x4 x5 x6 y = qHead x0 x3 (y 1) (y 2) (y 3) := by
  rw [q_pieces]
  refine View.canon_apply_of_pieces (Val := Elt Ideal) (e := .bf16) (fun y : S1x8x256x64.Idx => qHead x0 x3 (y 1) (y 2) (y 3)) _ ?_ y (cover0_7 _ _ _ _ _ _ _ _ y)
  intro p hp
  simp only [List.mem_cons, List.not_mem_nil, or_false] at hp
  rcases hp with rfl | rfl | rfl | rfl | rfl | rfl | rfl | rfl
  · exact q_piece_7 x0 x3 hx
  · exact q_piece_6 x0 x3 hx
  · exact q_piece_5 x0 x3 hx
  · exact q_piece_4 x0 x3 hx
  · exact q_piece_3 x0 x3 hx
  · exact q_piece_2 x0 x3 hx
  · exact q_piece_1 x0 x3 hx
  · exact q_piece_0 x0 x3 hx

/-- A key head of the block: the row's 64 entries, normed. -/
noncomputable def kHead (h : Fin 2) (r : Fin 256) (d : Fin 64) : EReal :=
  headNorm (fun e => x1 (ix3 0 r (lane h e))) (fun e => x4 (ix2 0 (lane h e))) d

theorem key_at (hx : ∀ r c, ∃ a : ℝ, x1 (ix3 0 r c) = a) (h : Fin 2) (r : Fin 256) (d : Fin 64) :
    k0_pay42 (k0_pay5 (View.ld x4 r0_0)) (k0_pay38 (View.ld x1 r0_13)) k0_pay39 k0_pay40 k0_pay41 (ix2 r (lane h d)) = kHead x1 x4 h r d := by
  rw [pay42_at]
  simp only [pay38_at, pay5_at]
  rw [pairNorm_eq _ _ (fun e => by rw [ld_keys]; exact hx _ _)]
  unfold kHead
  congr 1
  · funext e
    rw [ld_keys]
  · funext e
    rw [ld_gain]

theorem k_piece_0 (hx : ∀ r c, ∃ a : ℝ, x1 (ix3 0 r c) = a) (x : S1x1x256x64.Idx) :
    leftHead (pairK (View.ld x4 r0_0) (View.ld x1 r0_13)) x = (fun y : S1x2x256x64.Idx => kHead x1 x4 (y 1) (y 2) (y 3)) (r0_14.idx x) := by
  obtain ⟨r, d, rfl⟩ := head_index x
  have e2 : (r0_14.idx (ix4 0 0 r d) 2 : Fin 256) = r := Fin.ext (by show 0 + 1 * r.val = r.val; omega)
  have e3 : (r0_14.idx (ix4 0 0 r d) 3 : Fin 64) = d := Fin.ext (by show 0 + 1 * d.val = d.val; omega)
  rw [leftHead_at]
  show _ = kHead x1 x4 0 (r0_14.idx (ix4 0 0 r d) 2 : Fin 256) (r0_14.idx (ix4 0 0 r d) 3 : Fin 64)
  rw [e2, e3]
  exact key_at x1 x4 hx 0 r d

theorem k_piece_1 (hx : ∀ r c, ∃ a : ℝ, x1 (ix3 0 r c) = a) (x : S1x1x256x64.Idx) :
    rightHead (pairK (View.ld x4 r0_0) (View.ld x1 r0_13)) x = (fun y : S1x2x256x64.Idx => kHead x1 x4 (y 1) (y 2) (y 3)) (r0_15.idx x) := by
  obtain ⟨r, d, rfl⟩ := head_index x
  have e2 : (r0_14.idx (ix4 0 0 r d) 2 : Fin 256) = r := Fin.ext (by show 0 + 1 * r.val = r.val; omega)
  have e3 : (r0_14.idx (ix4 0 0 r d) 3 : Fin 64) = d := Fin.ext (by show 0 + 1 * d.val = d.val; omega)
  rw [rightHead_at]
  show _ = kHead x1 x4 1 (r0_14.idx (ix4 0 0 r d) 2 : Fin 256) (r0_14.idx (ix4 0 0 r d) 3 : Fin 64)
  rw [e2, e3]
  exact key_at x1 x4 hx 1 r d

/-- The block of key heads, read at a row of a head. -/
theorem out8_at (hx : ∀ r c, ∃ a : ℝ, x1 (ix3 0 r c) = a) (y : S1x2x256x64.Idx) :
    out0_8 x0 x1 x2 x3 x4 x5 x6 y = kHead x1 x4 (y 1) (y 2) (y 3) := by
  rw [k_pieces]
  refine View.canon_apply_of_pieces (Val := Elt Ideal) (e := .bf16) (fun y : S1x2x256x64.Idx => kHead x1 x4 (y 1) (y 2) (y 3)) _ ?_ y (cover0_8 _ _ y)
  intro p hp
  simp only [List.mem_cons, List.not_mem_nil, or_false] at hp
  rcases hp with rfl | rfl
  · exact k_piece_1 x1 x4 hx
  · exact k_piece_0 x1 x4 hx

/-- A value head of the block: the row's 64 entries, a one, and zeros. -/
noncomputable def vHead (h : Fin 2) (r : Fin 256) (d : Fin 128) : EReal :=
  if hd : d.val < 64 then x2 (ix3 0 r (lane h ⟨d.val, hd⟩)) else if d.val = 64 then 1 else 0

theorem lane_select (d : Fin 128) (a b c : EReal) :
    Scalar.select (IntOp.cmpi .slt (BitVec.ofNat 32 d.val) 64#32) a (Scalar.select (IntOp.cmpi .eq (BitVec.ofNat 32 d.val) 64#32) b c)
      = if d.val < 64 then a else if d.val = 64 then b else c := by
  have h1 : IntOp.cmpi .slt (BitVec.ofNat 32 d.val) 64#32 = if d.val < 64 then 1#1 else 0#1 := by revert d; decide +kernel
  have h2 : IntOp.cmpi .eq (BitVec.ofNat 32 d.val) 64#32 = if d.val = 64 then 1#1 else 0#1 := by revert d; decide +kernel
  rw [h1, h2]
  split <;> split <;> rfl

theorem pay2_at (x : FVec Ideal S256x128 .f32) (r : Fin 256) (d : Fin 128) :
    k0_pay2 x (ix4 0 0 r d) = if d.val < 64 then x (ix2 r d) else if d.val = 64 then 1 else 0 := by
  rw [← lane_select]
  pointwise [k0_pay2, k0_pay1]

theorem pay3_at (x : FVec Ideal S256x128 .f32) (r : Fin 256) (d : Fin 128) :
    k0_pay3 x (ix4 0 0 r d) = if d.val < 64 then x (ix2 r ⟨(d.val + 128 - 64) % 128, by omega⟩) else if d.val = 64 then 1 else 0 := by
  rw [← lane_select]
  pointwise [k0_pay3, k0_pay1]

theorem wide_index (x : S1x1x256x128.Idx) : ∃ (r : Fin 256) (d : Fin 128), x = ix4 0 0 r d := by
  refine ⟨x 2, x 3, funext fun a => ?_⟩
  match a with
  | ⟨0, _⟩ => exact Subsingleton.elim (α := Fin 1) _ _
  | ⟨1, _⟩ => exact Subsingleton.elim (α := Fin 1) _ _
  | ⟨2, _⟩ => rfl
  | ⟨3, _⟩ => rfl

theorem v_piece_0 (x : S1x1x256x128.Idx) :
    k0_pay2 (k0_pay47 (View.ld x2 r0_13)) x = (fun y : S1x2x256x128.Idx => vHead x2 (y 1) (y 2) (y 3)) (r0_16.idx x) := by
  obtain ⟨r, d, rfl⟩ := wide_index x
  have e2 : (r0_16.idx (ix4 0 0 r d) 2 : Fin 256) = r := Fin.ext (by show 0 + 1 * r.val = r.val; omega)
  have e3 : (r0_16.idx (ix4 0 0 r d) 3 : Fin 128) = d := Fin.ext (by show 0 + 1 * d.val = d.val; omega)
  show _ = vHead x2 0 (r0_16.idx (ix4 0 0 r d) 2 : Fin 256) (r0_16.idx (ix4 0 0 r d) 3 : Fin 128)
  rw [e2, e3, pay2_at, pay47_at, ld_keys]
  unfold vHead
  split
  · refine congrArg x2 (congrArg (ix3 0 r) (Fin.ext ?_))
    simp [lane]
  · rfl

theorem v_piece_1 (x : S1x1x256x128.Idx) :
    k0_pay3 (k0_pay47 (View.ld x2 r0_13)) x = (fun y : S1x2x256x128.Idx => vHead x2 (y 1) (y 2) (y 3)) (r0_17.idx x) := by
  obtain ⟨r, d, rfl⟩ := wide_index x
  have e2 : (r0_16.idx (ix4 0 0 r d) 2 : Fin 256) = r := Fin.ext (by show 0 + 1 * r.val = r.val; omega)
  have e3 : (r0_16.idx (ix4 0 0 r d) 3 : Fin 128) = d := Fin.ext (by show 0 + 1 * d.val = d.val; omega)
  show _ = vHead x2 1 (r0_16.idx (ix4 0 0 r d) 2 : Fin 256) (r0_16.idx (ix4 0 0 r d) 3 : Fin 128)
  rw [e2, e3, pay3_at, pay47_at, ld_keys]
  unfold vHead
  split
  · refine congrArg x2 (congrArg (ix3 0 r) (Fin.ext ?_))
    simp only [lane]
    show (d.val + 128 - 64) % 128 = 1 * 64 + d.val
    omega
  · rfl

/-- The block of value heads, read at a row of a head. -/
theorem out9_at (y : S1x2x256x128.Idx) : out0_9 x0 x1 x2 x3 x4 x5 x6 y = vHead x2 (y 1) (y 2) (y 3) := by
  unfold_out out0_9
  refine View.canon_apply_of_pieces (Val := Elt Ideal) (e := .bf16) (fun y : S1x2x256x128.Idx => vHead x2 (y 1) (y 2) (y 3)) _ ?_ y (cover0_9 _ _ y)
  intro p hp
  simp only [List.mem_cons, List.not_mem_nil, or_false] at hp
  rcases hp with rfl | rfl
  · exact v_piece_1 x2
  · exact v_piece_0 x2

/-- The normed keys, both heads' lanes side by side. -/
noncomputable def kRow (r : Fin 256) (l : Fin 128) : EReal := kHead x1 x4 ⟨l.val / 64, by omega⟩ r ⟨l.val % 64, by omega⟩

theorem kn_piece (hx : ∀ r c, ∃ a : ℝ, x1 (ix3 0 r c) = a) (x : S1x256x128.Idx) :
    k0_pay43 (k0_pay5 (View.ld x4 r0_0)) (k0_pay38 (View.ld x1 r0_13)) k0_pay39 k0_pay40 k0_pay41 x
      = (fun y : S1x256x128.Idx => kRow x1 x4 (y 1) (y 2)) (r0_13.idx x) := by
  obtain ⟨r, l, rfl⟩ : ∃ (r : Fin 256) (l : Fin 128), x = ix3 0 r l := by
    refine ⟨x 1, x 2, funext fun a => ?_⟩
    match a with
    | ⟨0, _⟩ => exact Subsingleton.elim (α := Fin 1) _ _
    | ⟨1, _⟩ => rfl
    | ⟨2, _⟩ => rfl
  have e1 : (r0_13.idx (ix3 0 r l) 1 : Fin 256) = r := Fin.ext (by show 0 + 1 * r.val = r.val; omega)
  have e2 : (r0_13.idx (ix3 0 r l) 2 : Fin 128) = l := Fin.ext (by show 0 + 1 * l.val = l.val; omega)
  show _ = kRow x1 x4 (r0_13.idx (ix3 0 r l) 1 : Fin 256) (r0_13.idx (ix3 0 r l) 2 : Fin 128)
  rw [e1, e2]
  have el : l = lane ⟨l.val / 64, by omega⟩ ⟨l.val % 64, by omega⟩ := Fin.ext (by simp only [lane]; omega)
  have ep : k0_pay43 (k0_pay5 (View.ld x4 r0_0)) (k0_pay38 (View.ld x1 r0_13)) k0_pay39 k0_pay40 k0_pay41 (ix3 0 r l)
      = k0_pay42 (k0_pay5 (View.ld x4 r0_0)) (k0_pay38 (View.ld x1 r0_13)) k0_pay39 k0_pay40 k0_pay41 (ix2 r l) := by
    pointwise [k0_pay43]
  rw [ep]
  unfold kRow
  rw [← key_at x1 x4 hx, ← el]

/-- The block of normed keys. -/
theorem out10_at (hx : ∀ r c, ∃ a : ℝ, x1 (ix3 0 r c) = a) (y : S1x256x128.Idx) :
    out0_10 x0 x1 x2 x3 x4 x5 x6 y = kRow x1 x4 (y 1) (y 2) := by
  unfold_out out0_10
  refine View.canon_apply_of_pieces (Val := Elt Ideal) (e := .f32) (fun y : S1x256x128.Idx => kRow x1 x4 (y 1) (y 2)) _ ?_ y (cover0_10 _ y)
  intro p hp
  simp only [List.mem_cons, List.not_mem_nil, or_false] at hp
  rcases hp with rfl
  exact kn_piece x1 x4 hx

end Pieces

end Cert.PrepIdeal.Hand
-- ==== Proof.PrepArray.lean ====
/- The query/key/value preparation's output arrays after the run, each as one function of the arguments. -/
module

public import proofs.«01_k».proof.Proof.PrepBlock
public import Idealize.ShloMosaic.Lib.Pipeline.Covers
public import Idealize.ShloMosaic.Lib.StableHlo.RunRead

@[expose] public section

set_option maxRecDepth 16384

noncomputable section

namespace Cert.PrepIdeal.Hand

open Cert.PrepIdeal Cert.PrepIdeal.Gen Idealize.ShloMosaic Idealize.ShloMosaic.TcCoe Idealize.SL.Sem

variable (m : (ℓ : Loc nD τ sig) → Buf (Elt Ideal) ℓ)

theorem idx0 : ∀ t, (cfg0.win 0).index t = ![(grid0.coords t 0).val, 0, 13] := by decide +kernel
theorem idx1 : ∀ t, (cfg0.win 1).index t = ![(grid0.coords t 0).val, 0, 56] := by decide +kernel
theorem idx2 : ∀ t, (cfg0.win 2).index t = ![(grid0.coords t 0).val, 0, 57] := by decide +kernel
theorem idx3 : ∀ t, (cfg0.win 3).index t = ![0, 0] := by decide +kernel
theorem idx4 : ∀ t, (cfg0.win 4).index t = ![0, 0] := by decide +kernel
theorem idx7 : ∀ t, (cfg0.win 7).index t = ![(grid0.coords t 0).val, 0, 0, 0] := by decide +kernel
theorem idx8 : ∀ t, (cfg0.win 8).index t = ![(grid0.coords t 0).val, 0, 0, 0] := by decide +kernel
theorem idx9 : ∀ t, (cfg0.win 9).index t = ![(grid0.coords t 0).val, 0, 0, 0] := by decide +kernel
theorem idx10 : ∀ t, (cfg0.win 10).index t = ![(grid0.coords t 0).val, 0, 0] := by decide +kernel
theorem covers7 : (cfg0.win 7).Covers := by decide +kernel
theorem covers8 : (cfg0.win 8).Covers := by decide +kernel
theorem covers9 : (cfg0.win 9).Covers := by decide +kernel
theorem covers10 : (cfg0.win 10).Covers := by decide +kernel

/-- The gains as the call finds them: a head's 64, twice. -/
theorem V3_apply (c : Dev nD) (h : Fin 2) (e : Fin 64) :
    (V m c main_v3 : Vec Ideal S1x128 .f32) (ix2 0 (lane h e)) = m ((c : Thread nD τ).loc main_arg1) (ix1 e) := by
  unfold lane
  entry_read
  pointwise
  have ee : (⟨(h.val * 64 + e.val) % 64, by omega⟩ : Fin 64) = e := Fin.ext (by show (h.val * 64 + e.val) % 64 = e.val; omega)
  rw [ee]

theorem V7_apply (c : Dev nD) (h : Fin 2) (e : Fin 64) :
    (V m c main_v7 : Vec Ideal S1x128 .f32) (ix2 0 (lane h e)) = m ((c : Thread nD τ).loc main_arg2) (ix1 e) := by
  unfold lane
  entry_read
  pointwise
  have ee : (⟨(h.val * 64 + e.val) % 64, by omega⟩ : Fin 64) = e := Fin.ext (by show (h.val * 64 + e.val) % 64 = e.val; omega)
  rw [ee]

theorem V10_apply (c : Dev nD) (b : Fin 16) (r : Fin 256) (h : Fin 2) (e : Fin 64) :
    (V m c main_v10 : Vec Ideal S16x256x2x64 .f32) (ix4 b r h e) = m ((c : Thread nD τ).loc main_arg0) (ix3 b r ⟨7296 + (h.val * 64 + e.val), by omega⟩) := by
  entry_read
  pointwise

section reads
variable (c : Dev nD) (t : Fin cfg0.N) (b : Fin 16) (hb : (grid0.coords t 0).val = b.val)
include hb

theorem read0 (r : Fin 256) (e : Fin 512) :
    (iblk m c 0 t : Vec Ideal S1x256x512 .bf16) (ix3 0 r e) = m ((c : Thread nD τ).loc main_arg0) (ix3 b r ⟨6656 + e.val, by omega⟩) := by
  blk_ext [iblk, V, idx0 t]

theorem read1 (r : Fin 256) (e : Fin 128) :
    (iblk m c 1 t : Vec Ideal S1x256x128 .bf16) (ix3 0 r e) = m ((c : Thread nD τ).loc main_arg0) (ix3 b r ⟨7168 + e.val, by omega⟩) := by
  blk_ext [iblk, V, idx1 t]

theorem read2 (r : Fin 256) (e : Fin 128) :
    (iblk m c 2 t : Vec Ideal S1x256x128 .bf16) (ix3 0 r e) = m ((c : Thread nD τ).loc main_arg0) (ix3 b r ⟨7296 + e.val, by omega⟩) := by
  blk_ext [iblk, V, idx2 t]

theorem read3 (h : Fin 2) (e : Fin 64) :
    (iblk m c 3 t : Vec Ideal S1x128 .f32) (ix2 0 (lane h e)) = m ((c : Thread nD τ).loc main_arg1) (ix1 e) := by
  rw [← V3_apply m c h e]
  unfold iblk
  blk_simp [idx3 t]
  refine congrArg _ ?_
  blk_ext [idx3 t]

theorem read4 (h : Fin 2) (e : Fin 64) :
    (iblk m c 4 t : Vec Ideal S1x128 .f32) (ix2 0 (lane h e)) = m ((c : Thread nD τ).loc main_arg2) (ix1 e) := by
  rw [← V7_apply m c h e]
  unfold iblk
  blk_simp [idx4 t]
  refine congrArg _ ?_
  blk_ext [idx4 t]

end reads

/-- A query head's row: 64 columns of the projection from 6656 on, normed and scaled. -/
def qOf (p : Vec Ideal S16x256x7680 .bf16) (g : Vec Ideal S64 .f32) (b : Fin 16) (h : Fin 8) (r : Fin 256) (d : Fin 64) : EReal :=
  headNorm (fun e => p (ix3 b r ⟨6656 + (h.val * 64 + e.val), by omega⟩)) (fun e => g (ix1 e)) d * Ideal.ofBits .f32 0x3E000000#32

/-- A key head's row: 64 columns from 7168 on, normed. -/
def kOf (p : Vec Ideal S16x256x7680 .bf16) (g : Vec Ideal S64 .f32) (b : Fin 16) (h : Fin 2) (r : Fin 256) (d : Fin 64) : EReal :=
  headNorm (fun e => p (ix3 b r ⟨7168 + (h.val * 64 + e.val), by omega⟩)) (fun e => g (ix1 e)) d

/-- A value head's row: 64 columns from 7296 on, a one, zeros. -/
def vOf (p : Vec Ideal S16x256x7680 .bf16) (b : Fin 16) (h : Fin 2) (r : Fin 256) (d : Fin 128) : EReal :=
  if hd : d.val < 64 then p (ix3 b r ⟨7296 + (h.val * 64 + d.val), by omega⟩) else if d.val = 64 then 1 else 0

/-- The queries and keys of the projection are real numbers. -/
def Finite (p : Vec Ideal S16x256x7680 .bf16) : Prop :=
  ∀ (b : Fin 16) (r : Fin 256) (j : Fin 640), ∃ a : ℝ, p (ix3 b r ⟨6656 + j.val, by omega⟩) = a

theorem qOf_congr (p : Vec Ideal S16x256x7680 .bf16) (g : Vec Ideal S64 .f32) {b b' : Fin 16} {h h' : Fin 8} {r r' : Fin 256} {d d' : Fin 64}
    (eb : b = b') (eh : h = h') (er : r = r') (ed : d = d') : qOf p g b h r d = qOf p g b' h' r' d' := by
  rw [eb, eh, er, ed]

theorem kOf_congr (p : Vec Ideal S16x256x7680 .bf16) (g : Vec Ideal S64 .f32) {b b' : Fin 16} {h h' : Fin 2} {r r' : Fin 256} {d d' : Fin 64}
    (eb : b = b') (eh : h = h') (er : r = r') (ed : d = d') : kOf p g b h r d = kOf p g b' h' r' d' := by
  rw [eb, eh, er, ed]

theorem vOf_congr (p : Vec Ideal S16x256x7680 .bf16) {b b' : Fin 16} {h h' : Fin 2} {r r' : Fin 256} {d d' : Fin 128}
    (eb : b = b') (eh : h = h') (er : r = r') (ed : d = d') : vOf p b h r d = vOf p b' h' r' d' := by
  rw [eb, eh, er, ed]

/-- The normed keys, both heads' lanes side by side. -/
def knOf (p : Vec Ideal S16x256x7680 .bf16) (g : Vec Ideal S64 .f32) (b : Fin 16) (r : Fin 256) (l : Fin 128) : EReal :=
  kOf p g b ⟨l.val / 64, by omega⟩ r ⟨l.val % 64, by omega⟩

theorem knOf_congr (p : Vec Ideal S16x256x7680 .bf16) (g : Vec Ideal S64 .f32) {b b' : Fin 16} {r r' : Fin 256} {l l' : Fin 128}
    (eb : b = b') (er : r = r') (el : l = l') : knOf p g b r l = knOf p g b' r' l' := by
  rw [eb, er, el]

section blocks
variable (c : Dev nD) (t : Fin cfg0.N) (b : Fin 16) (hb : (grid0.coords t 0).val = b.val)
include hb

theorem q_read (h : Fin 8) (r : Fin 256) (d : Fin 64) :
    qHead (iblk m c 0 t) (iblk m c 3 t) h r d = qOf (m ((c : Thread nD τ).loc main_arg0)) (m ((c : Thread nD τ).loc main_arg1)) b h r d := by
  unfold qHead qOf
  have h0 := funext fun e : Fin 64 => read0 m c t b hb r ⟨h.val * 64 + e.val, by omega⟩
  have h3 := funext fun e : Fin 64 => read3 m c t b hb ⟨h.val % 2, by omega⟩ e
  exact congrArg (· * Ideal.ofBits .f32 0x3E000000#32) (congrArg₂ (fun f g => headNorm f g d) h0 h3)

theorem k_read (h : Fin 2) (r : Fin 256) (d : Fin 64) :
    kHead (iblk m c 1 t) (iblk m c 4 t) h r d = kOf (m ((c : Thread nD τ).loc main_arg0)) (m ((c : Thread nD τ).loc main_arg2)) b h r d := by
  unfold kHead kOf
  have h1 := funext fun e : Fin 64 => read1 m c t b hb r (lane h e)
  have h4 := funext fun e : Fin 64 => read4 m c t b hb h e
  exact congrArg₂ (fun f g => headNorm f g d) h1 h4

theorem v_read (h : Fin 2) (r : Fin 256) (d : Fin 128) : vHead (iblk m c 2 t) h r d = vOf (m ((c : Thread nD τ).loc main_arg0)) b h r d := by
  unfold vHead vOf
  split
  · exact read2 m c t b hb r (lane h ⟨d.val, by assumption⟩)
  · rfl

theorem q_real (hf : Finite (m ((c : Thread nD τ).loc main_arg0))) (r : Fin 256) (e : Fin 512) : ∃ a : ℝ, @Eq EReal ((iblk m c 0 t : Vec Ideal S1x256x512 .bf16) (ix3 0 r e)) a := by
  rw [read0 m c t b hb]
  exact hf b r ⟨e.val, by omega⟩

theorem k_real (hf : Finite (m ((c : Thread nD τ).loc main_arg0))) (r : Fin 256) (e : Fin 128) : ∃ a : ℝ, @Eq EReal ((iblk m c 1 t : Vec Ideal S1x256x128 .bf16) (ix3 0 r e)) a := by
  rw [read1 m c t b hb]
  obtain ⟨a, ha⟩ := hf b r ⟨512 + e.val, by omega⟩
  refine ⟨a, ?_⟩
  rw [← ha]
  exact congrArg _ (congrArg (ix3 b r) (Fin.ext (by show 7168 + e.val = 6656 + (512 + e.val); omega)))

end blocks

/-- The query array after the run. -/
theorem array7 (c : Dev nD) (hfin : Finite (m ((c : Thread nD τ).loc main_arg0))) : (dats m 0 c).arrAt 7 cfg0.N = fun y : S16x8x256x64.Idx => qOf (m ((c : Thread nD τ).loc main_arg0)) (m ((c : Thread nD τ).loc main_arg1)) (y 0) (y 1) (y 2) (y 3) := by
  refine (dats m 0 c).arrAt_eq_of_covers 7 _ covers7 fun t hf y => ?_
  blk_simp
  rw [after0_7]
  have hy0 : (y 0).val < 1 := (y 0).isLt
  have hy1 : (y 1).val < 8 := (y 1).isLt
  have hy2 : (y 2).val < 256 := (y 2).isLt
  have hy3 : (y 3).val < 64 := (y 3).isLt
  have hb : (grid0.coords t 0).val < 16 := (grid0.coords t 0).isLt
  have e0 : (((cfg0.win 7).blk t).view.emb y 0 : ℕ) = (grid0.coords t 0).val := by blk_simp [idx7 t]
  have e1 : (((cfg0.win 7).blk t).view.emb y 1 : ℕ) = (y 1).val := by blk_simp [idx7 t]
  have e2 : (((cfg0.win 7).blk t).view.emb y 2 : ℕ) = (y 2).val := by blk_simp [idx7 t]
  have e3 : (((cfg0.win 7).blk t).view.emb y 3 : ℕ) = (y 3).val := by blk_simp [idx7 t]
  refine Eq.trans ?_ (qOf_congr _ _ (Fin.ext e0 : _ = ⟨_, hb⟩) (Fin.ext e1 : _ = ⟨_, hy1⟩) (Fin.ext e2 : _ = ⟨_, hy2⟩) (Fin.ext e3 : _ = ⟨_, hy3⟩)).symm
  refine (out7_at _ _ _ _ _ _ _ (q_real m c t ⟨_, hb⟩ rfl hfin) y).trans ?_
  exact q_read m c t ⟨_, hb⟩ rfl _ _ _

/-- The key array after the run. -/
theorem array8 (c : Dev nD) (hfin : Finite (m ((c : Thread nD τ).loc main_arg0))) : (dats m 0 c).arrAt 8 cfg0.N = fun y : S16x2x256x64.Idx => kOf (m ((c : Thread nD τ).loc main_arg0)) (m ((c : Thread nD τ).loc main_arg2)) (y 0) (y 1) (y 2) (y 3) := by
  refine (dats m 0 c).arrAt_eq_of_covers 8 _ covers8 fun t hf y => ?_
  blk_simp
  rw [after0_8]
  have hy0 : (y 0).val < 1 := (y 0).isLt
  have hy1 : (y 1).val < 2 := (y 1).isLt
  have hy2 : (y 2).val < 256 := (y 2).isLt
  have hy3 : (y 3).val < 64 := (y 3).isLt
  have hb : (grid0.coords t 0).val < 16 := (grid0.coords t 0).isLt
  have e0 : (((cfg0.win 8).blk t).view.emb y 0 : ℕ) = (grid0.coords t 0).val := by blk_simp [idx8 t]
  have e1 : (((cfg0.win 8).blk t).view.emb y 1 : ℕ) = (y 1).val := by blk_simp [idx8 t]
  have e2 : (((cfg0.win 8).blk t).view.emb y 2 : ℕ) = (y 2).val := by blk_simp [idx8 t]
  have e3 : (((cfg0.win 8).blk t).view.emb y 3 : ℕ) = (y 3).val := by blk_simp [idx8 t]
  refine Eq.trans ?_ (kOf_congr _ _ (Fin.ext e0 : _ = ⟨_, hb⟩) (Fin.ext e1 : _ = ⟨_, hy1⟩) (Fin.ext e2 : _ = ⟨_, hy2⟩) (Fin.ext e3 : _ = ⟨_, hy3⟩)).symm
  refine (out8_at _ _ _ _ _ _ _ (k_real m c t ⟨_, hb⟩ rfl hfin) y).trans ?_
  exact k_read m c t ⟨_, hb⟩ rfl _ _ _

/-- The value array after the run. -/
theorem array9 (c : Dev nD) : (dats m 0 c).arrAt 9 cfg0.N = fun y : S16x2x256x128.Idx => vOf (m ((c : Thread nD τ).loc main_arg0)) (y 0) (y 1) (y 2) (y 3) := by
  refine (dats m 0 c).arrAt_eq_of_covers 9 _ covers9 fun t hf y => ?_
  blk_simp
  rw [after0_9]
  have hy0 : (y 0).val < 1 := (y 0).isLt
  have hy1 : (y 1).val < 2 := (y 1).isLt
  have hy2 : (y 2).val < 256 := (y 2).isLt
  have hy3 : (y 3).val < 128 := (y 3).isLt
  have hb : (grid0.coords t 0).val < 16 := (grid0.coords t 0).isLt
  have e0 : (((cfg0.win 9).blk t).view.emb y 0 : ℕ) = (grid0.coords t 0).val := by blk_simp [idx9 t]
  have e1 : (((cfg0.win 9).blk t).view.emb y 1 : ℕ) = (y 1).val := by blk_simp [idx9 t]
  have e2 : (((cfg0.win 9).blk t).view.emb y 2 : ℕ) = (y 2).val := by blk_simp [idx9 t]
  have e3 : (((cfg0.win 9).blk t).view.emb y 3 : ℕ) = (y 3).val := by blk_simp [idx9 t]
  refine Eq.trans ?_ (vOf_congr _ (Fin.ext e0 : _ = ⟨_, hb⟩) (Fin.ext e1 : _ = ⟨_, hy1⟩) (Fin.ext e2 : _ = ⟨_, hy2⟩) (Fin.ext e3 : _ = ⟨_, hy3⟩)).symm
  refine (out9_at _ _ _ _ _ _ _ y).trans ?_
  exact v_read m c t ⟨_, hb⟩ rfl _ _ _

/-- The normed keys after the run. -/
theorem array10 (c : Dev nD) (hfin : Finite (m ((c : Thread nD τ).loc main_arg0))) : (dats m 0 c).arrAt 10 cfg0.N = fun y : S16x256x128.Idx => knOf (m ((c : Thread nD τ).loc main_arg0)) (m ((c : Thread nD τ).loc main_arg2)) (y 0) (y 1) (y 2) := by
  refine (dats m 0 c).arrAt_eq_of_covers 10 _ covers10 fun t hf y => ?_
  blk_simp
  rw [after0_10]
  have hy0 : (y 0).val < 1 := (y 0).isLt
  have hy1 : (y 1).val < 256 := (y 1).isLt
  have hy2 : (y 2).val < 128 := (y 2).isLt
  have hb : (grid0.coords t 0).val < 16 := (grid0.coords t 0).isLt
  have e0 : (((cfg0.win 10).blk t).view.emb y 0 : ℕ) = (grid0.coords t 0).val := by blk_simp [idx10 t]
  have e1 : (((cfg0.win 10).blk t).view.emb y 1 : ℕ) = (y 1).val := by blk_simp [idx10 t]
  have e2 : (((cfg0.win 10).blk t).view.emb y 2 : ℕ) = (y 2).val := by blk_simp [idx10 t]
  refine Eq.trans ?_ (knOf_congr _ _ (Fin.ext e0 : _ = ⟨_, hb⟩) (Fin.ext e1 : _ = ⟨_, hy1⟩) (Fin.ext e2 : _ = ⟨_, hy2⟩)).symm
  refine (out10_at _ _ _ _ _ _ _ (k_real m c t ⟨_, hb⟩ rfl hfin) y).trans ?_
  exact k_read m c t ⟨_, hb⟩ rfl _ _ _

/-- The run, read at the five results: four end at their arrays, the fifth as the host chain before the call left it, and the
    arguments end as they were. -/
theorem run_all (ρ : Dev nD → PrngReg) : θ_run defs (onTc (τ := τ) (main (F := Ideal))) ⟨m, fun _ => 0, ρ⟩ fun r => ∀ c : Dev nD,
      r.2.mem ((c.tc : Thread nD τ).loc main_v11_0) = (dats m 0 c).arrAt 7 cfg0.N
      ∧ r.2.mem ((c.tc : Thread nD τ).loc main_v11_1) = (dats m 0 c).arrAt 8 cfg0.N
      ∧ r.2.mem ((c.tc : Thread nD τ).loc main_v11_2) = (dats m 0 c).arrAt 9 cfg0.N
      ∧ r.2.mem ((c.tc : Thread nD τ).loc main_v11_3) = (dats m 0 c).arrAt 10 cfg0.N
      ∧ r.2.mem ((c.tc : Thread nD τ).loc main_v10) = V m c main_v10
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h.1 c).1 7, (h.1 c).1 8, (h.1 c).1 9, (h.1 c).1 10,
    (h.1 c).2 main_v10 (Pipeline.mem_restRefs_of main_v10 (by decide) (by decide)), h.2.1 c⟩)
    (Idealize.ShloMosaic.θ_run_and (run_main m ρ) (frame m ρ))

end Cert.PrepIdeal.Hand
end
-- ==== Proof.PrepRef.lean ====
/- The preparation reference's five results, read at an index, and what the precondition says. -/
module

public import proofs.«01_k».proof.Proof.Gen.PrepReferenceIdeal.Read
public import proofs.«01_k».proof.Proof.Gen.Pre_finite_proj
public import proofs.«01_k».proof.Proof.PrepArray
public import Idealize.ShloMosaic.Lib.ReduceAll

@[expose] public section

set_option maxRecDepth 16384

noncomputable section

namespace Cert.PrepReferenceIdeal.Hand

open Cert.PrepReferenceIdeal Cert.PrepReferenceIdeal.Gen Cert.PrepReferenceIdeal.Read Idealize.ShloMosaic Idealize.ShloMosaic.TcCoe Idealize.SL.Sem
open Cert.PrepIdeal.Hand (headNorm qOf kOf vOf knOf Finite)

variable (p : Vec Ideal S16x256x7680 .bf16) (gq gk : Vec Ideal S64 .f32)

/-- The queries. -/
theorem result0 (b : Fin 16) (h : Fin 8) (r : Fin 256) (d : Fin 64) :
    val_main_v41 (F := Ideal) p gq (ix4 b h r d) = qOf p gq b h r d := by
  unfold qOf headNorm
  pointwise [val_main_v41, val_main_v37, val_main_v36, val_main_v35, val_main_cst_5, val_main_v19, val_main_v18, val_main_v17, val_main_v16, val_main_v15, val_main_v14, val_main_v13, val_main_v12,
    val_main_cst_1, val_main_v11, val_main_v10, val_main_cst_0, val_main_v9, val_main_v8, val_main_cst, val_main_v7, val_main_v6, val_main_v1, val_main_v0]

/-- The normed keys by heads. -/
theorem keys_apply (b : Fin 16) (r : Fin 256) (h : Fin 2) (d : Fin 64) :
    val_main_v33 (F := Ideal) p gk (ix4 b r h d) = kOf p gk b h r d := by
  unfold kOf headNorm
  pointwise [val_main_v33, val_main_v32, val_main_v31, val_main_v30, val_main_v29, val_main_v28, val_main_v27, val_main_v26, val_main_cst_4, val_main_v25, val_main_v24, val_main_cst_3,
    val_main_v23, val_main_v22, val_main_cst_2, val_main_v21, val_main_v20, val_main_v3, val_main_v2]

/-- The keys. -/
theorem result1 (b : Fin 16) (h : Fin 2) (r : Fin 256) (d : Fin 64) :
    val_main_v43 (F := Ideal) p gk (ix4 b h r d) = kOf p gk b h r d := by
  rw [← keys_apply]
  pointwise [val_main_v43, val_main_v42]

/-- The values, f32. -/
theorem result4 (b : Fin 16) (r : Fin 256) (h : Fin 2) (d : Fin 64) :
    val_main_v34 (F := Ideal) p (ix4 b r h d) = p (ix3 b r ⟨7296 + (h.val * 64 + d.val), by omega⟩) := by
  pointwise [val_main_v34, val_main_v5, val_main_v4]

/-- The values with a column of ones. -/
theorem result2 (b : Fin 16) (h : Fin 2) (r : Fin 256) (d : Fin 128) :
    val_main_v45 (F := Ideal) p (ix4 b h r d) = vOf p b h r d := by
  unfold vOf
  pointwise [val_main_v45, val_main_v44, val_main_v40, val_main_v39, val_main_cst_7, val_main_v38, val_main_cst_6]
  refine dite_congr rfl (fun hd => result4 p b r h ⟨d.val, hd⟩) fun hd => ?_
  by_cases h1 : d.val = 64
  · rw [if_pos h1, dif_pos (by omega)]
  · rw [if_neg h1, dif_neg (by omega)]

/-- The normed keys, both heads side by side. -/
theorem result3 (b : Fin 16) (r : Fin 256) (l : Fin 128) :
    val_main_v46 (F := Ideal) p gk (ix3 b r l) = knOf p gk b r l := by
  unfold knOf
  rw [← keys_apply]
  pointwise [val_main_v46]

/-! ## The precondition -/

/-- A number below infinity in magnitude is real. -/
theorem real_of_lt (x : EReal) (h : Ideal.cmp .olt (max x (-x)) (Ideal.ofBits FTy.f32 0x7F800000#32) = 1#1) : ∃ r : ℝ, x = r := by
  have e : Ideal.ofBits FTy.f32 0x7F800000#32 = ⊤ := by simp [Ideal.ofBits, Ideal.ieee]
  rw [e] at h
  induction x with
  | bot => simp [Ideal.cmp] at h
  | coe r => exact ⟨r, rfl⟩
  | top => simp [Ideal.cmp] at h

/-- The precondition makes the projected queries and keys real numbers. -/
theorem finite_of_pre (ct st : Vec Ideal S256x128 .f32) (j : Cert.Pre_finite_proj.S_.Idx) (h : Cert.Pre_finite_proj.fn (F := Ideal) p gq gk ct st j = 1#1) : Finite p := by
  have hsub : Subsingleton Cert.Pre_finite_proj.S_.Idx := ⟨fun a b => funext fun x => x.elim0⟩
  dsimp only [Cert.Pre_finite_proj.fn] at h
  intro b r e
  have h1 := Host.reduce_andi_all _ _ _ _ _ h (ix3 b r e)
  refine real_of_lt _ ?_
  refine Eq.trans ?_ h1
  pointwise
  rfl

end Cert.PrepReferenceIdeal.Hand
end
-- ==== Proof.PrepClaim.lean ====
/- The query/key/value preparation's value claim: each of the call's five results and the reference's are equal, element by element. -/
module

public import proofs.«01_k».proof.Defs
public import proofs.«01_k».proof.Proof.PrepRef

@[expose] public section

set_option maxRecDepth 16384

noncomputable section

namespace Cert.PrepHand

open Idealize.ShloMosaic Idealize.ShloMosaic.TcCoe Idealize.SL.Sem

/-- The value claim. -/
theorem value : Cert.algebraic_PrepIdeal_PrepReferenceIdeal_pre_finite_proj := fun m ρ m' ρ' hpre hag =>
  have finite (c : Dev Cert.PrepIdeal.nD) : Cert.PrepIdeal.Hand.Finite (m ((c : Thread Cert.PrepIdeal.nD Cert.PrepIdeal.τ).loc Cert.PrepIdeal.main_arg0)) :=
    Cert.PrepReferenceIdeal.Hand.finite_of_pre _ _ _ _ _ (Shape.Idx.first Cert.Pre_finite_proj.Gen.h_S_) (congrFun (hpre c) _)
  ⟨fun c => (Cert.PrepIdeal.Gen.dats m 0 c).arrAt 7 Cert.PrepIdeal.cfg0.N, fun c => (Cert.PrepIdeal.Gen.dats m 0 c).arrAt 8 Cert.PrepIdeal.cfg0.N,
    fun c => (Cert.PrepIdeal.Gen.dats m 0 c).arrAt 9 Cert.PrepIdeal.cfg0.N, fun c => (Cert.PrepIdeal.Gen.dats m 0 c).arrAt 10 Cert.PrepIdeal.cfg0.N,
    fun c => Cert.PrepIdeal.Gen.V m c Cert.PrepIdeal.main_v10,
    Cert.PrepIdeal.Hand.run_all m ρ,
    (θ_run _ _ _).mono (fun r hr c => ⟨((hr c).1.trans (by
      obtain ⟨a0, a1, a2, a3, a4⟩ := hag c
      rw [Cert.PrepReferenceIdeal.Read.val_main_v41_eq, a0, a1]
      show _ = (Cert.PrepIdeal.Gen.dats m 0 c).arrAt 7 Cert.PrepIdeal.cfg0.N
      rw [Cert.PrepIdeal.Hand.array7 m c (finite c)]
      funext y
      have ey : y = ix4 (y 0) (y 1) (y 2) (y 3) := by
        funext a
        match a with
        | ⟨0, _⟩ => rfl
        | ⟨1, _⟩ => rfl
        | ⟨2, _⟩ => rfl
        | ⟨3, _⟩ => rfl
      exact (congrArg _ ey).trans (Cert.PrepReferenceIdeal.Hand.result0 _ _ (y 0) (y 1) (y 2) (y 3)))),
      ((hr c).2.1.trans (by
      obtain ⟨a0, a1, a2, a3, a4⟩ := hag c
      rw [Cert.PrepReferenceIdeal.Read.val_main_v43_eq, a0, a2]
      show _ = (Cert.PrepIdeal.Gen.dats m 0 c).arrAt 8 Cert.PrepIdeal.cfg0.N
      rw [Cert.PrepIdeal.Hand.array8 m c (finite c)]
      funext y
      have ey : y = ix4 (y 0) (y 1) (y 2) (y 3) := by
        funext a
        match a with
        | ⟨0, _⟩ => rfl
        | ⟨1, _⟩ => rfl
        | ⟨2, _⟩ => rfl
        | ⟨3, _⟩ => rfl
      exact (congrArg _ ey).trans (Cert.PrepReferenceIdeal.Hand.result1 _ _ (y 0) (y 1) (y 2) (y 3)))),
      ((hr c).2.2.1.trans (by
      obtain ⟨a0, a1, a2, a3, a4⟩ := hag c
      rw [Cert.PrepReferenceIdeal.Read.val_main_v45_eq, a0]
      show _ = (Cert.PrepIdeal.Gen.dats m 0 c).arrAt 9 Cert.PrepIdeal.cfg0.N
      rw [Cert.PrepIdeal.Hand.array9]
      funext y
      have ey : y = ix4 (y 0) (y 1) (y 2) (y 3) := by
        funext a
        match a with
        | ⟨0, _⟩ => rfl
        | ⟨1, _⟩ => rfl
        | ⟨2, _⟩ => rfl
        | ⟨3, _⟩ => rfl
      exact (congrArg _ ey).trans (Cert.PrepReferenceIdeal.Hand.result2 _ (y 0) (y 1) (y 2) (y 3)))),
      ((hr c).2.2.2.1.trans (by
      obtain ⟨a0, a1, a2, a3, a4⟩ := hag c
      rw [Cert.PrepReferenceIdeal.Read.val_main_v46_eq, a0, a2]
      show _ = (Cert.PrepIdeal.Gen.dats m 0 c).arrAt 10 Cert.PrepIdeal.cfg0.N
      rw [Cert.PrepIdeal.Hand.array10 m c (finite c)]
      funext y
      have ey : y = ix3 (y 0) (y 1) (y 2) := by
        funext a
        match a with
        | ⟨0, _⟩ => rfl
        | ⟨1, _⟩ => rfl
        | ⟨2, _⟩ => rfl
      exact (congrArg _ ey).trans (Cert.PrepReferenceIdeal.Hand.result3 _ _ (y 0) (y 1) (y 2)))),
      ((hr c).2.2.2.2.1.trans (by
      obtain ⟨a0, a1, a2, a3, a4⟩ := hag c
      rw [Cert.PrepReferenceIdeal.Read.val_main_v34_eq, a0]
      show _ = Cert.PrepIdeal.Gen.V m c Cert.PrepIdeal.main_v10
      funext y
      have ey : y = ix4 (y 0) (y 1) (y 2) (y 3) := by
        funext a
        match a with
        | ⟨0, _⟩ => rfl
        | ⟨1, _⟩ => rfl
        | ⟨2, _⟩ => rfl
        | ⟨3, _⟩ => rfl
      exact (congrArg _ ey).trans ((Cert.PrepReferenceIdeal.Hand.result4 _ (y 0) (y 1) (y 2) (y 3)).trans ((Cert.PrepIdeal.Hand.V10_apply m c (y 0) (y 1) (y 2) (y 3)).symm.trans (congrArg _ ey.symm))))), (hr c).2.2.2.2.2⟩)
      (Cert.PrepReferenceIdeal.Value.run m' ρ')⟩

/-- The preparation's reference leaves its arguments as they were and every semaphore counter at zero, since it declares none. -/
theorem frame_R : Cert.quiescent_PrepReferenceIdeal := fun m ρ _ =>
  (θ_run _ _ _).mono (fun r h => ⟨fun c => (h c).2.2.2.2.2, sem_eq_zero_of_no_sems (by decide) r.2⟩) (Cert.PrepReferenceIdeal.Value.run (F := Ideal) m ρ)

end Cert.PrepHand
end
-- ==== Proof.FfnPromptArray.lean ====
/- The feed-forward call's output array on the prompt path after the run, as one function of the arguments. -/
module

public import proofs.«01_k».proof.Proof.FfnBlock
public import proofs.«01_k».proof.Proof.Gen.FfnPromptIdeal.Value
public import Idealize.ShloMosaic.Lib.Pipeline.Covers
public import Idealize.ShloMosaic.Lib.StableHlo.RunRead

@[expose] public section

set_option maxRecDepth 16384

noncomputable section

namespace Cert.FfnPromptIdeal.Hand

open Cert.FfnPromptIdeal Cert.FfnPromptIdeal.Gen Idealize.ShloMosaic Idealize.ShloMosaic.TcCoe Idealize.SL.Sem
open Cert.LayerMath
open Cert.FfnIdeal.Hand (fedAt)

variable (m : (ℓ : Loc nD τ sig) → Buf (Elt Ideal) ℓ)

theorem idx0 : ∀ t, (cfg0.win 0).index t = ![(grid0.coords t 0).val, (grid0.coords t 1).val, 0] := by decide +kernel
theorem idx1 : ∀ t, (cfg0.win 1).index t = ![0, 0, 0] := by decide +kernel
theorem idx2 : ∀ t, (cfg0.win 2).index t = ![0, 0] := by decide +kernel
theorem idx3 : ∀ t, (cfg0.win 3).index t = ![0, 0] := by decide +kernel
theorem idx4 : ∀ t, (cfg0.win 4).index t = ![0, 0] := by decide +kernel
theorem idx5 : ∀ t, (cfg0.win 5).index t = ![0, 0] := by decide +kernel
theorem idx6 : ∀ t, (cfg0.win 6).index t = ![(grid0.coords t 0).val, (grid0.coords t 1).val, 0] := by decide +kernel
theorem covers6 : (cfg0.win 6).Covers := by decide +kernel

/-- The modulation rows as the call finds them: row `o` is the `o`-th stretch of 1024 of the given vector. -/
theorem V3_apply (c : Dev nD) (o : Fin 6) (e : Fin 1024) :
    (V m c main_v3 : Vec Ideal S1x8x1024 .f32) (ix3 0 ⟨o.val, by omega⟩ e) = m ((c : Thread nD τ).loc main_arg1) (ix2 0 ⟨o.val * 1024 + e.val, by omega⟩) := by
  entry_read
  pointwise

/-- The tokens as the call finds them: the batch's rows end to end. -/
theorem V0_apply (c : Dev nD) (n : Fin 4096) (e : Fin 1024) :
    (V m c main_v0 : Vec Ideal S1x4096x1024 .f32) (ix3 0 n e) = m ((c : Thread nD τ).loc main_arg0) (ix3 ⟨n.val / 256, by omega⟩ ⟨n.val % 256, by omega⟩ e) := by
  entry_read
  pointwise

/-- A point of the prompt path's call stores the same function of its blocks as one of the sample path's. -/
theorem out_same (x0 : Vec Ideal S1x512x1024 .f32) (x1 : Vec Ideal S1x8x1024 .f32) (x2 : Vec Ideal S1x1024 .f32) (x3 : Vec Ideal S1024x5632 .bf16) (x4 : Vec Ideal S2816x1024 .bf16)
    (x5 : Vec Ideal S1x1024 .f32) : out0_6 x0 x1 x2 x3 x4 x5 = Cert.FfnIdeal.Gen.out0_6 x0 x1 x2 x3 x4 x5 := rfl

/-- A token after the residual sum, from the arguments. -/
def fedOf (x : Vec Ideal S16x256x1024 .f32) (ada : Vec Ideal S1x6144 .f32) (g : Vec Ideal S1024 .f32) (wi : Vec Ideal S1024x5632 .f32) (wd : Vec Ideal S2816x1024 .f32)
    (b : Fin 16) (n : Fin 256) (d : Fin 1024) : EReal :=
  fed (fun e => x (ix3 b n e)) (fun e => g (ix1 e)) (fun e => ada (ix2 0 ⟨4 * 1024 + e.val, by omega⟩)) (fun e => ada (ix2 0 ⟨3 * 1024 + e.val, by omega⟩))
    (fun e => ada (ix2 0 ⟨5 * 1024 + e.val, by omega⟩)) (fun k j => wi (ix2 k j)) (fun j d => wd (ix2 j d)) d

section reads
variable (c : Dev nD) (t : Fin cfg0.N) (i : Fin 8) (hi : (grid0.coords t 1).val = i.val)
include hi

theorem read0 (r : Fin 512) (e : Fin 1024) :
    (iblk m c 0 t : Vec Ideal S1x512x1024 .f32) (ix3 0 r e)
      = m ((c : Thread nD τ).loc main_arg0) (ix3 ⟨(512 * i.val + r.val) / 256, by omega⟩ ⟨(512 * i.val + r.val) % 256, by omega⟩ e) := by
  rw [← V0_apply m c ⟨512 * i.val + r.val, by omega⟩ e]
  unfold iblk
  blk_simp [idx0 t]
  refine congrArg _ ?_
  blk_ext [idx0 t]

theorem read1 (o : Fin 6) (e : Fin 1024) :
    (iblk m c 1 t : Vec Ideal S1x8x1024 .f32) (ix3 0 ⟨o.val, by omega⟩ e) = m ((c : Thread nD τ).loc main_arg1) (ix2 0 ⟨o.val * 1024 + e.val, by omega⟩) := by
  rw [← V3_apply m c o e]
  unfold iblk
  blk_simp [idx1 t]
  refine congrArg _ ?_
  blk_ext [idx1 t]

theorem read2 (e : Fin 1024) :
    (iblk m c 2 t : Vec Ideal S1x1024 .f32) (ix2 0 e) = m ((c : Thread nD τ).loc main_arg2) (ix1 e) := by
  blk_simp [iblk, idx2 t]
  entry_read
  pointwise
  blk_ext [idx2 t]

theorem read3 (k : Fin 1024) (j : Fin 5632) :
    (iblk m c 3 t : Vec Ideal S1024x5632 .bf16) (ix2 k j) = m ((c : Thread nD τ).loc main_arg3) (ix2 k j) := by
  blk_simp [iblk, idx3 t]
  entry_read
  pointwise
  blk_ext [idx3 t]

theorem read4 (j : Fin 2816) (d : Fin 1024) :
    (iblk m c 4 t : Vec Ideal S2816x1024 .bf16) (ix2 j d) = m ((c : Thread nD τ).loc main_arg4) (ix2 j d) := by
  blk_simp [iblk, idx4 t]
  entry_read
  pointwise
  blk_ext [idx4 t]

theorem read5 (e : Fin 1024) :
    (iblk m c 5 t : Vec Ideal S1x1024 .f32) (ix2 0 e) = m ((c : Thread nD τ).loc main_arg5) (ix1 e) := by
  blk_simp [iblk, idx5 t]
  entry_read
  pointwise
  blk_ext [idx5 t]

/-- The token of a block after the residual sum, in terms of the arguments. -/
theorem fed_read (r : Fin 512) (e : Fin 1024) :
    fedAt (iblk m c 0 t) (iblk m c 1 t) (iblk m c 2 t) (iblk m c 3 t) (iblk m c 4 t) r e
      = fedOf (m ((c : Thread nD τ).loc main_arg0)) (m ((c : Thread nD τ).loc main_arg1)) (m ((c : Thread nD τ).loc main_arg2)) (m ((c : Thread nD τ).loc main_arg3)) (m ((c : Thread nD τ).loc main_arg4))
          ⟨(512 * i.val + r.val) / 256, by omega⟩ ⟨(512 * i.val + r.val) % 256, by omega⟩ e := by
  unfold fedAt fedOf
  have h0 := funext fun e => read0 m c t i hi r e
  have h1 (o : Fin 6) := funext fun e => read1 m c t i hi o e
  have h2 := funext fun e => read2 m c t i hi e
  have h3 := funext fun k => funext fun j => read3 m c t i hi k j
  have h4 := funext fun k => funext fun j => read4 m c t i hi k j
  rw [h0, h2, h3, h4]
  refine congrFun (congrFun (congrFun ?_ _) _) e
  exact congr (congr (congrArg (fed _ _) (h1 4)) (h1 3)) (h1 5)

end reads

/-- What the call computes for the context token `n`, counted through the batch, coordinate `d`. -/
def outOf (x : Vec Ideal S16x256x1024 .f32) (ada : Vec Ideal S1x6144 .f32) (g : Vec Ideal S1024 .f32) (wi : Vec Ideal S1024x5632 .f32) (wd : Vec Ideal S2816x1024 .f32) (fg : Vec Ideal S1024 .f32)
    (n : Fin 4096) (d : Fin 1024) : EReal :=
  normed (fun e => fedOf x ada g wi wd ⟨n.val / 256, by omega⟩ ⟨n.val % 256, by omega⟩ e) (fun e => fg (ix1 e)) d

theorem outOf_congr (x : Vec Ideal S16x256x1024 .f32) (ada : Vec Ideal S1x6144 .f32) (g : Vec Ideal S1024 .f32) (wi : Vec Ideal S1024x5632 .f32) (wd : Vec Ideal S2816x1024 .f32) (fg : Vec Ideal S1024 .f32)
    {n n' : Fin 4096} {d d' : Fin 1024} (en : n = n') (ed : d = d') : outOf x ada g wi wd fg n d = outOf x ada g wi wd fg n' d' := by
  rw [en, ed]

/-- The output array after the run. -/
theorem array6 (c : Dev nD) : (dats m 0 c).arrAt 6 cfg0.N
    = fun y : S1x4096x1024.Idx => outOf (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (y 1) (y 2) := by
  refine (dats m 0 c).arrAt_eq_of_covers 6 _ covers6 fun t hf y => ?_
  blk_simp
  rw [after0_6]
  have hy0 : (y 0).val < 1 := (y 0).isLt
  have hy1 : (y 1).val < 512 := (y 1).isLt
  have hy2 : (y 2).val < 1024 := (y 2).isLt
  have hi : (grid0.coords t 1).val < 8 := (grid0.coords t 1).isLt
  have ey : y = ix3 0 ⟨(y 1).val, hy1⟩ ⟨(y 2).val, hy2⟩ := by
    funext a
    match a with
    | ⟨0, _⟩ => exact Fin.ext (by show (y 0).val = 0; omega)
    | ⟨1, _⟩ => rfl
    | ⟨2, _⟩ => rfl
  have e1 : (((cfg0.win 6).blk t).view.emb y 1 : ℕ) = 512 * (grid0.coords t 1).val + (y 1).val := by blk_simp [idx6 t]; omega
  have e2 : (((cfg0.win 6).blk t).view.emb y 2 : ℕ) = (y 2).val := by blk_simp [idx6 t]
  refine Eq.trans ?_ (outOf_congr _ _ _ _ _ _ (Fin.ext e1 : _ = ⟨512 * (grid0.coords t 1).val + (y 1).val, by omega⟩) (Fin.ext e2 : _ = ⟨_, hy2⟩)).symm
  refine (congrArg _ ey).trans ?_
  rw [out_same, Cert.FfnIdeal.Hand.out_apply]
  unfold outOf
  exact congrArg₂ (fun f g => normed f g _) (funext fun e => fed_read m c t ⟨_, hi⟩ rfl _ e) (funext fun e => read5 m c t ⟨_, hi⟩ rfl e)

end Cert.FfnPromptIdeal.Hand
end
-- ==== Proof.FfnPromptRef.lean ====
/- The prompt path's feed-forward reference's result, read at an index. -/
module

public import proofs.«01_k».proof.Proof.Gen.FfnPromptReferenceIdeal.Read
public import proofs.«01_k».proof.Proof.FfnPromptArray

@[expose] public section

set_option maxRecDepth 16384

noncomputable section

namespace Cert.FfnPromptReferenceIdeal.Hand

open Cert.FfnPromptReferenceIdeal Cert.FfnPromptReferenceIdeal.Gen Cert.FfnPromptReferenceIdeal.Read Idealize.ShloMosaic Idealize.ShloMosaic.TcCoe Idealize.SL.Sem
open Cert.LayerMath
open Cert.FfnPromptIdeal.Hand (fedOf outOf)

variable (x : Vec Ideal S16x256x1024 .f32) (ada : Vec Ideal S1x6144 .f32) (g : Vec Ideal S1024 .f32) (wi : Vec Ideal S1024x5632 .f32) (wd : Vec Ideal S2816x1024 .f32) (fg : Vec Ideal S1024 .f32)

/-- The normed and modulated tokens. -/
theorem modulated_apply (b : Fin 16) (n : Fin 256) (d : Fin 1024) :
    val_main_v25 (F := Ideal) x ada g (ix3 b n d) = modulated (fun e => x (ix3 b n e)) (fun e => g (ix1 e)) (fun e => ada (ix2 0 ⟨4 * 1024 + e.val, by omega⟩))
      (fun e => ada (ix2 0 ⟨3 * 1024 + e.val, by omega⟩)) d := by
  unfold modulated normed
  pointwise [val_main_v25, val_main_v24, val_main_v23, val_main_v22, val_main_v21, val_main_v20, val_main_cst_2, val_main_v19, val_main_v18, val_main_v17, val_main_v16, val_main_v15, val_main_v14,
    val_main_v13, val_main_v12, val_main_cst_1, val_main_v11, val_main_v10, val_main_cst_0, val_main_v9, val_main_v8, val_main_cst, val_main_v7, val_main_v5, val_main_v4, val_main_v0]

/-- The gates and the other products. -/
theorem product_apply (b : Fin 16) (n : Fin 256) (j : Fin 5632) :
    val_main_v26 (F := Ideal) x ada g wi (ix3 b n j) = rowcol (fun k => val_main_v25 (F := Ideal) x ada g (ix3 b n k)) (fun k => wi (ix2 k j)) := by
  unfold rowcol
  pointwise [val_main_v26]

/-- The units of the feed-forward layer. -/
theorem units_apply (b : Fin 16) (n : Fin 256) (j : Fin 2816) :
    val_main_v30 (F := Ideal) x ada g wi (ix3 b n j)
      = unitOf (fun k => val_main_v25 (F := Ideal) x ada g (ix3 b n k)) (fun k => wi (ix2 k ⟨j.val, by omega⟩)) (fun k => wi (ix2 k ⟨2816 + j.val, by omega⟩)) := by
  unfold unitOf sigmoid
  rw [← product_apply, ← product_apply]
  pointwise [val_main_v30, val_main_v29, val_main_v28, val_main_v27, val_main_call0_v5, val_main_call0_v4, val_main_call0_cst_0, val_main_call0_v3, val_main_call0_v2, val_main_call0_cst, val_main_call0_v1, val_main_call0_v0]

/-- The tokens after the residual sum. -/
theorem fed_apply (b : Fin 16) (n : Fin 256) (d : Fin 1024) :
    val_main_v34 (F := Ideal) x ada g wi wd (ix3 b n d) = fedOf x ada g wi wd b n d := by
  unfold fedOf fed
  have h := funext fun e => modulated_apply x ada g b n e
  rw [← h]
  simp only [← units_apply]
  pointwise [val_main_v34, val_main_v33, val_main_v32, val_main_v31, val_main_v6, val_main_v0]

/-- The reference's result. -/
theorem result (n : Fin 4096) (d : Fin 1024) :
    val_main_v48 (F := Ideal) x ada g wi wd fg (ix3 0 n d) = outOf x ada g wi wd fg n d := by
  unfold outOf normed
  simp only [← fed_apply]
  pointwise [val_main_v48, val_main_v47, val_main_v46, val_main_v45, val_main_v44, val_main_v43, val_main_v42, val_main_v41, val_main_v40, val_main_cst_5, val_main_v39, val_main_v38, val_main_cst_4, val_main_v37, val_main_v36, val_main_cst_3, val_main_v35]

end Cert.FfnPromptReferenceIdeal.Hand
end
-- ==== Proof.FfnPromptClaim.lean ====
/- The prompt path's feed-forward call's value claim: the call's result and the reference's are equal, element by element. -/
module

public import proofs.«01_k».proof.Defs
public import proofs.«01_k».proof.Proof.FfnPromptRef

@[expose] public section

set_option maxRecDepth 16384

noncomputable section

namespace Cert.FfnPromptHand

open Idealize.ShloMosaic Idealize.ShloMosaic.TcCoe Idealize.SL.Sem

/-- The value claim. -/
theorem value : Cert.algebraic_FfnPromptIdeal_FfnPromptReferenceIdeal := fun m ρ m' ρ' _ hag =>
  ⟨fun c => (Cert.FfnPromptIdeal.Gen.dats m 0 c).arrAt 6 Cert.FfnPromptIdeal.cfg0.N, Cert.FfnPromptIdeal.Value.run_blocks m ρ,
    (θ_run _ _ _).mono (fun r hr c => ⟨(hr c).1.trans (by
      obtain ⟨a0, a1, a2, a3, a4, a5⟩ := hag c
      rw [Cert.FfnPromptReferenceIdeal.Read.val_main_v48_eq, a0, a1, a2, a3, a4, a5]
      show _ = (Cert.FfnPromptIdeal.Gen.dats m 0 c).arrAt 6 Cert.FfnPromptIdeal.cfg0.N
      rw [Cert.FfnPromptIdeal.Hand.array6]
      funext y
      have ey : y = ix3 0 (y 1) (y 2) := by
        funext a
        match a with
        | ⟨0, _⟩ => exact Subsingleton.elim (α := Fin 1) _ _
        | ⟨1, _⟩ => rfl
        | ⟨2, _⟩ => rfl
      exact (congrArg _ ey).trans (Cert.FfnPromptReferenceIdeal.Hand.result _ _ _ _ _ _ (y 1) (y 2))), (hr c).2⟩)
      (Cert.FfnPromptReferenceIdeal.Value.run m' ρ')⟩

/-- The prompt path's feed-forward reference leaves its arguments as they were and every semaphore counter at zero, since it declares none. -/
theorem frame_R : Cert.quiescent_FfnPromptReferenceIdeal := fun m ρ _ =>
  (θ_run _ _ _).mono (fun r h => ⟨fun c => (h c).2, sem_eq_zero_of_no_sems (by decide) r.2⟩) (Cert.FfnPromptReferenceIdeal.Value.run (F := Ideal) m ρ)

end Cert.FfnPromptHand
end
-- ==== Proof.MlstmMath.lean ====
/- The mLSTM's end state from its gates, which are real numbers, and its keys and values, which need not be: in one sum over all tokens, and chunk by chunk as the kernel carries it. -/
module

public import Idealize.ShloMosaic.PureOps.Ideal

@[expose] public section

noncomputable section

namespace Cert.MlstmHand

open Idealize.ShloMosaic

/-- A sum of real numbers is the same taken among the extended reals. -/
theorem coe_sum {ι : Type} (S : Finset ι) (f : ι → ℝ) : ∑ i ∈ S, (f i : EReal) = ((∑ i ∈ S, f i : ℝ) : EReal) := by
  classical
  refine Finset.induction_on S (by simp) fun a S ha h => ?_
  rw [Finset.sum_insert ha, Finset.sum_insert ha, h, EReal.coe_add]

/-- The greatest of the values at finitely many indices. -/
def top {n : ℕ} (u : Fin (n + 1) → ℝ) : ℝ := Finset.univ.sup' Finset.univ_nonempty u

theorem top_le {n : ℕ} (u : Fin (n + 1) → ℝ) (c : ℝ) : top u ≤ c ↔ ∀ i, u i ≤ c := by
  unfold top
  rw [Finset.sup'_le_iff]
  simp

theorem le_top {n : ℕ} (u : Fin (n + 1) → ℝ) (i : Fin (n + 1)) : u i ≤ top u := (top_le u _).1 le_rfl i

/-- The maximum among the extended reals, started from minus infinity. -/
theorem fold_top {n : ℕ} (u : Fin (n + 1) → ℝ) (b : EReal) (hb : b = ⊥) (f : Fin (n + 1) → EReal) (hf : ∀ i, f i = (u i : EReal)) :
    Finset.univ.fold max b f = (top u : EReal) := by
  apply le_antisymm
  · rw [Finset.fold_max_le]
    refine ⟨hb ▸ bot_le, fun i _ => ?_⟩
    rw [hf]
    exact EReal.coe_le_coe_iff.2 (le_top u i)
  · obtain ⟨i, -, hi⟩ := Finset.exists_mem_eq_sup' Finset.univ_nonempty u
    rw [Finset.le_fold_max]
    refine .inr ⟨i, Finset.mem_univ i, ?_⟩
    rw [hf]
    exact EReal.coe_le_coe_iff.2 (le_of_eq hi)

/-- The log weight's new bound after a chunk whose decays' logarithms add up to `L`, token `s` of it having the log weight `u s + L`. -/
def mNew (L : ℝ) (u : Fin 128 → ℝ) (mp : ℝ) : ℝ := max (L + mp) (top fun s => u s + L)

/-- An entry of the state after that chunk. -/
def cNew (L : ℝ) (u : Fin 128 → ℝ) (mp : ℝ) (vt : Fin 128 → EReal) (ct : EReal) (k : Fin 128 → EReal) : EReal :=
  (Real.exp (L + mp - mNew L u mp) : EReal) * ct + ∑ s, vt s * (k s * (Real.exp (u s + L - mNew L u mp) : EReal))

/-- A number that is not negative may be multiplied into a sum of extended reals. -/
theorem mul_sum_coe {ι : Type} (S : Finset ι) (c : ℝ) (hc : 0 ≤ c) (f : ι → EReal) : (c : EReal) * ∑ i ∈ S, f i = ∑ i ∈ S, (c : EReal) * f i := by
  classical
  refine Finset.induction_on S (by simp) fun a S ha h => ?_
  rw [Finset.sum_insert ha, Finset.sum_insert ha, ← h]
  exact EReal.left_distrib_of_nonneg_of_ne_top (EReal.coe_nonneg.2 hc) (EReal.coe_ne_top c) _ _

/-- Token `s` of the first chunk. -/
def lo (s : Fin 128) : Fin 256 := ⟨s.val, by omega⟩
/-- Token `s` of the second chunk. -/
def hi (s : Fin 128) : Fin 256 := ⟨128 + s.val, by omega⟩

theorem sum_lohi {M : Type} [AddCommMonoid M] (f : Fin 256 → M) : ∑ s, f s = ∑ s, f (lo s) + ∑ s, f (hi s) := by
  rw [show (Finset.univ.sum f) = ∑ s : Fin (128 + 128), f s from rfl, Fin.sum_univ_add]
  rfl

theorem top_lohi (f : Fin 256 → ℝ) : top (n := 255) f = max (top (n := 127) fun s => f (lo s)) (top (n := 127) fun s => f (hi s)) := by
  refine eq_of_forall_ge_iff fun c => ?_
  rw [top_le, max_le_iff, top_le, top_le]
  constructor
  · exact fun h => ⟨fun s => h _, fun s => h _⟩
  · rintro ⟨h0, h1⟩ i
    by_cases hi' : i.val < 128
    · exact h0 ⟨i.val, hi'⟩
    · have := h1 ⟨i.val - 128, by omega⟩
      rwa [show hi ⟨i.val - 128, by omega⟩ = i from Fin.ext (by show 128 + (i.val - 128) = i.val; omega)] at this

/-- The log weight of token `s` in the end state, the log decays being `l` and the log inputs `i`: what decays after `s`, and its input. -/
def logw (l i : Fin 256 → ℝ) (s : Fin 256) : ℝ := (∑ u, l u) - (∑ u, if u ≤ s then l u else 0) + i s

/-- The bound that the end state is divided by the exponential of. -/
def mEnd (l i : Fin 256 → ℝ) : ℝ := max (∑ u, l u) (top (n := 255) (logw l i))

/-- An entry of the end state. -/
def cEnd (l i : Fin 256 → ℝ) (k v : Fin 256 → EReal) : EReal := ∑ s, (Real.exp (logw l i s - mEnd l i) : EReal) * k s * v s

/-- The first chunk's part of the tokens' log decays up to `s`. -/
theorem upto_lo (l : Fin 256 → ℝ) (s : Fin 128) : (∑ u, if u ≤ lo s then l u else 0) = ∑ u : Fin 128, if u ≤ s then l (lo u) else 0 := by
  rw [sum_lohi]
  have : (∑ u : Fin 128, if hi u ≤ lo s then l (hi u) else 0) = 0 := Finset.sum_eq_zero fun u _ => if_neg (by
    show ¬ (128 + u.val ≤ s.val); omega)
  rw [this, add_zero]
  rfl

theorem upto_hi (l : Fin 256 → ℝ) (s : Fin 128) :
    (∑ u, if u ≤ hi s then l u else 0) = (∑ u, l (lo u)) + ∑ u : Fin 128, if u ≤ s then l (hi u) else 0 := by
  rw [sum_lohi]
  congr 1
  · exact Finset.sum_congr rfl fun u _ => if_pos (by show u.val ≤ 128 + s.val; omega)
  · exact Finset.sum_congr rfl fun u _ => if_congr (by show 128 + u.val ≤ 128 + s.val ↔ u.val ≤ s.val; omega) rfl rfl

/-- Two chunks one after the other, from the zero state, leave the end state: its bound. `uA` and `uZ` are the inputs less the log decays within the chunk. -/
theorem two_m (l i : Fin 256 → ℝ) (uA uZ : Fin 128 → ℝ) (LA LZ : ℝ)
    (hLA : LA = ∑ u, l (lo u)) (hLZ : LZ = ∑ u, l (hi u))
    (hA : ∀ s, uA s = i (lo s) - ∑ u : Fin 128, if u ≤ s then l (lo u) else 0)
    (hZ : ∀ s, uZ s = i (hi s) - ∑ u : Fin 128, if u ≤ s then l (hi u) else 0) :
    mNew LZ uZ (mNew LA uA 0) = mEnd l i := by
  have hlo : ∀ s, logw l i (lo s) = uA s + LA + LZ := fun s => by
    unfold logw; rw [upto_lo, sum_lohi, hA, hLA, hLZ]; ring
  have hhi : ∀ s, logw l i (hi s) = uZ s + LZ := fun s => by
    unfold logw; rw [upto_hi, sum_lohi, hZ, hLZ]; ring
  unfold mNew mEnd
  rw [top_lohi, sum_lohi l, ← hLA, ← hLZ]
  simp only [hlo, hhi]
  refine eq_of_forall_ge_iff fun c => ?_
  simp only [max_le_iff, top_le]
  have e1 : LZ + max (LA + 0) (top fun s => uA s + LA) ≤ c ↔ LA + LZ ≤ c ∧ ∀ s, uA s + LA + LZ ≤ c := by
    rw [← le_sub_iff_add_le', max_le_iff, top_le]
    constructor
    · rintro ⟨h1, h2⟩; exact ⟨by linarith, fun s => by linarith [h2 s]⟩
    · rintro ⟨h1, h2⟩; exact ⟨by linarith, fun s => by linarith [h2 s]⟩
  rw [e1, and_assoc]

/-- And its entries. -/
theorem two_c (l i : Fin 256 → ℝ) (k v : Fin 256 → EReal) (uA uZ : Fin 128 → ℝ) (LA LZ : ℝ)
    (hLA : LA = ∑ u, l (lo u)) (hLZ : LZ = ∑ u, l (hi u))
    (hA : ∀ s, uA s = i (lo s) - ∑ u : Fin 128, if u ≤ s then l (lo u) else 0)
    (hZ : ∀ s, uZ s = i (hi s) - ∑ u : Fin 128, if u ≤ s then l (hi u) else 0) :
    cNew LZ uZ (mNew LA uA 0) (fun s => v (hi s)) (cNew LA uA 0 (fun s => v (lo s)) 0 fun s => k (lo s)) (fun s => k (hi s)) = cEnd l i k v := by
  have hlo : ∀ s, logw l i (lo s) = uA s + LA + LZ := fun s => by
    unfold logw; rw [upto_lo, sum_lohi, hA, hLA, hLZ]; ring
  have hhi : ∀ s, logw l i (hi s) = uZ s + LZ := fun s => by
    unfold logw; rw [upto_hi, sum_lohi, hZ, hLZ]; ring
  unfold cNew cEnd
  rw [two_m l i uA uZ LA LZ hLA hLZ hA hZ, sum_lohi (fun s => (Real.exp (logw l i s - mEnd l i) : EReal) * k s * v s)]
  simp only [hlo, hhi, mul_zero, zero_add]
  congr 1
  · rw [mul_sum_coe _ _ (Real.exp_nonneg _)]
    refine Finset.sum_congr rfl fun s _ => ?_
    rw [show uA s + LA + LZ - mEnd l i = (LZ + mNew LA uA 0 - mEnd l i) + (uA s + LA - mNew LA uA 0) by ring, Real.exp_add, EReal.coe_mul]
    ac_rfl
  · exact Finset.sum_congr rfl fun s _ => by ac_rfl

/-- The same tokens in the opposite order. -/
theorem sum_rev {M : Type} [AddCommMonoid M] (f : Fin 128 → M) : ∑ s : Fin 128, f s.rev = ∑ s : Fin 128, f s := Equiv.sum_comp Fin.revPerm f

theorem top_rev (f : Fin 128 → ℝ) : (top (n := 127) fun s => f s.rev) = top (n := 127) f := by
  refine eq_of_forall_ge_iff fun c => ?_
  rw [top_le, top_le]
  exact ⟨fun h s => by have := h s.rev; rwa [Fin.rev_rev] at this, fun h s => h _⟩

theorem mNew_rev (L : ℝ) (u : Fin 128 → ℝ) (mp : ℝ) : mNew L (fun s => u s.rev) mp = mNew L u mp := by
  unfold mNew
  rw [top_rev (fun s => u s + L)]

theorem cNew_rev (L : ℝ) (u : Fin 128 → ℝ) (mp : ℝ) (vt : Fin 128 → EReal) (ct : EReal) (k : Fin 128 → EReal) :
    cNew L (fun s => u s.rev) mp (fun s => vt s.rev) ct (fun s => k s.rev) = cNew L u mp vt ct k := by
  unfold cNew
  rw [mNew_rev]
  congr 1
  exact sum_rev fun s => vt s * (k s * (Real.exp (u s + L - mNew L u mp) : EReal))

theorem lo_rev (s : Fin 128) : (lo s).rev = hi s.rev := Fin.ext (by show 256 - (s.val + 1) = 128 + (128 - (s.val + 1)); omega)
theorem hi_rev (s : Fin 128) : (hi s).rev = lo s.rev := Fin.ext (by show 256 - (128 + s.val + 1) = 128 - (s.val + 1); omega)

/-- The backward direction's sums within a chunk, read in token order. -/
theorem upto_rev (f : Fin 128 → ℝ) (s : Fin 128) : (∑ u : Fin 128, if u ≤ s.rev then f u.rev else 0) = ∑ u : Fin 128, if s ≤ u then f u else 0 := by
  rw [← sum_rev fun u => if s ≤ u then f u else 0]
  refine Finset.sum_congr rfl fun u _ => if_congr ?_ rfl rfl
  rw [Fin.le_rev_iff]

/-- The backward direction: the second chunk first, each chunk's sums taken from its end. -/
theorem two_back_m (l i : Fin 256 → ℝ) (uA uZ : Fin 128 → ℝ) (LA LZ : ℝ)
    (hLA : LA = ∑ u, l (hi u)) (hLZ : LZ = ∑ u, l (lo u))
    (hA : ∀ s, uA s = i (hi s) - ∑ u : Fin 128, if s ≤ u then l (hi u) else 0)
    (hZ : ∀ s, uZ s = i (lo s) - ∑ u : Fin 128, if s ≤ u then l (lo u) else 0) :
    mNew LZ uZ (mNew LA uA 0) = mEnd (fun s => l s.rev) (fun s => i s.rev) := by
  rw [← two_m (fun s => l s.rev) (fun s => i s.rev) (fun s => uA s.rev) (fun s => uZ s.rev) LA LZ, mNew_rev, mNew_rev]
  · simp only [lo_rev]; rw [hLA]; exact (sum_rev fun u => l (hi u)).symm
  · simp only [hi_rev]; rw [hLZ]; exact (sum_rev fun u => l (lo u)).symm
  · intro s
    simp only [lo_rev]
    rw [hA]
    congr 1
    have := upto_rev (fun u => l (hi u)) s.rev
    rw [Fin.rev_rev] at this
    exact this.symm
  · intro s
    simp only [hi_rev]
    rw [hZ]
    congr 1
    have := upto_rev (fun u => l (lo u)) s.rev
    rw [Fin.rev_rev] at this
    exact this.symm

theorem two_back_c (l i : Fin 256 → ℝ) (k v : Fin 256 → EReal) (uA uZ : Fin 128 → ℝ) (LA LZ : ℝ)
    (hLA : LA = ∑ u, l (hi u)) (hLZ : LZ = ∑ u, l (lo u))
    (hA : ∀ s, uA s = i (hi s) - ∑ u : Fin 128, if s ≤ u then l (hi u) else 0)
    (hZ : ∀ s, uZ s = i (lo s) - ∑ u : Fin 128, if s ≤ u then l (lo u) else 0) :
    cNew LZ uZ (mNew LA uA 0) (fun s => v (lo s)) (cNew LA uA 0 (fun s => v (hi s)) 0 fun s => k (hi s)) (fun s => k (lo s))
      = cEnd (fun s => l s.rev) (fun s => i s.rev) (fun s => k s.rev) (fun s => v s.rev) := by
  rw [← two_c (fun s => l s.rev) (fun s => i s.rev) (fun s => k s.rev) (fun s => v s.rev) (fun s => uA s.rev) (fun s => uZ s.rev) LA LZ, mNew_rev]
  · simp only [lo_rev, hi_rev]
    rw [cNew_rev LA uA 0 (fun s => v (hi s)) 0 (fun s => k (hi s)), cNew_rev LZ uZ _ (fun s => v (lo s)) _ (fun s => k (lo s))]
  · simp only [lo_rev]; rw [hLA]; exact (sum_rev fun u => l (hi u)).symm
  · simp only [hi_rev]; rw [hLZ]; exact (sum_rev fun u => l (lo u)).symm
  · intro s
    simp only [lo_rev]
    rw [hA]
    congr 1
    have := upto_rev (fun u => l (hi u)) s.rev
    rw [Fin.rev_rev] at this
    exact this.symm
  · intro s
    simp only [hi_rev]
    rw [hZ]
    congr 1
    have := upto_rev (fun u => l (lo u)) s.rev
    rw [Fin.rev_rev] at this
    exact this.symm

end Cert.MlstmHand
-- ==== Proof.MlstmBlock.lean ====
/- What one grid point of the mLSTM kernel leaves as its state: the payloads read at an index. -/
module

public import proofs.«01_k».proof.Proof.MlstmMath
public import proofs.«01_k».proof.Proof.Gen.MlstmIdeal.Value
public import Idealize.ShloMosaic.Lib.Pipeline.ValueKit

@[expose] public section

set_option maxRecDepth 16384
set_option Elab.async false

namespace Cert.MlstmIdeal.Hand
open Idealize.ShloMosaic Idealize.ShloMosaic.TcCoe Idealize.SL.Sem
open Cert.MlstmIdeal Cert.MlstmIdeal.Gen Cert.MlstmHand

/-! ## One chunk's step -/

theorem negInf : Ideal.ofBits FTy.f32 4286578688#32 = ⊥ := by simp [Ideal.ofBits, Ideal.ieee]

section
variable (v221 v243 : FVec Ideal S1x128 .f32) (v226 v236 : FVec Ideal S128x128 .f32) (v239 : Vec Ideal S144x128 .bf16) (v241 : FVec Ideal S144x128 .f32)
variable (L mp : ℝ) (u : Fin 128 → ℝ) (k : Fin 128 → Fin 128 → EReal) (vt ct : Fin 144 → Fin 128 → EReal)

/-- The step's new bound. -/
theorem step_m (hL : ∀ d, v221 (ix2 0 d) = (L : EReal)) (hm : ∀ d, v243 (ix2 0 d) = (mp : EReal)) (hu : ∀ s d, v226 (ix2 s d) = (u s : EReal)) (d : Fin 128) :
    k0_pay49 v221 v226 v243 (ix2 0 d) = (mNew L u mp : EReal) := by
  pointwise [k0_pay49, k0_pay48]
  rw [fold_top (n := 127) (fun s => u s + L) _ negInf _ fun s => by
    beta_reduce
    rw [hu, hL, EReal.coe_add]]
  rw [hL, hm, ← EReal.coe_add]
  exact (EReal.coe_strictMono.monotone.map_max).symm

/-- The step's new state. -/
theorem step_c (hL : ∀ d, v221 (ix2 0 d) = (L : EReal)) (hm : ∀ d, v243 (ix2 0 d) = (mp : EReal)) (hu : ∀ s d, v226 (ix2 s d) = (u s : EReal))
    (hk : ∀ s d, v236 (ix2 s d) = k s d) (hv : ∀ r s, v239 (ix2 r s) = vt r s) (hc : ∀ r d, v241 (ix2 r d) = ct r d)
    (r : Fin 144) (d : Fin 128) :
    k0_pay50 v221 v226 v236 v239 v241 v243 (ix3 0 r d) = cNew L u mp (vt r) (ct r d) (fun s => k s d) := by
  have hM := step_m v221 v243 v226 L mp u hL hm hu
  unfold k0_pay50
  generalize k0_pay49 v221 v226 v243 = M at hM ⊢
  pointwise [k0_pay48]
  simp only [hL, hm, hu, hk, hv, hc, hM]
  unfold cNew
  simp only [← EReal.coe_add, ← EReal.coe_sub, Ideal.exp_coe]
end

/-! ## The gates -/

/-- The logarithm of the logistic function. -/
noncomputable def lsig (x : ℝ) : ℝ := min x 0 - Real.log (1 + Real.exp (-|x|))

theorem lsig_coe (x : ℝ) : min (x : EReal) 0 - Ideal.log1p (Ideal.exp (0 - max (x : EReal) (-(x : EReal)))) = (lsig x : EReal) := by
  have e : max (x : EReal) (-(x : EReal)) = ((|x| : ℝ) : EReal) := by
    rw [← EReal.coe_neg, ← EReal.coe_strictMono.monotone.map_max]; rfl
  have e0 : min (x : EReal) 0 = ((min x 0 : ℝ) : EReal) := by
    rw [← EReal.coe_zero, ← EReal.coe_strictMono.monotone.map_min]
  rw [e, e0, ← EReal.coe_zero, ← EReal.coe_sub, Ideal.exp_coe, Ideal.log1p, ← EReal.coe_one, ← EReal.coe_add, Ideal.log_coe,
    if_neg (not_le.2 (by positivity)), ← EReal.coe_sub, zero_sub]
  rfl

section
variable (v : Vec Ideal S1x256 .f32) (b : Elt Ideal .f32) (v50 v66 v74 v82 : FVec Ideal S1x256 .f32) (g : ℝ) (s : Fin 256)

theorem pay8_at (h : v (ix2 0 s) + b = (g : EReal)) : k0_pay8 v b (ix2 0 s) = (g : EReal) := by
  pointwise [k0_pay8]; exact h

theorem pay10_at (h : v (ix2 0 s) + b = (g : EReal)) : k0_pay10 v b (ix2 0 s) = (g : EReal) := by
  pointwise [k0_pay10]; exact h

theorem pay11_at (h : v (ix2 0 s) + b = (g : EReal)) : k0_pay11 v b (ix2 0 s) = (g : EReal) := by
  pointwise [k0_pay11]; exact h

theorem pay9_at (h : v (ix2 0 s) + b = (g : EReal)) : k0_pay9 v b (ix2 0 s) = (lsig g : EReal) := by
  rw [← lsig_coe, ← h]
  pointwise [k0_pay9]
  rfl

theorem pay12_0 : k0_pay12 v50 v66 v74 v82 (ix2 0 s) = v66 (ix2 0 s) := by pointwise [k0_pay12]
theorem pay12_1 : k0_pay12 v50 v66 v74 v82 (ix2 1 s) = v50 (ix2 0 s) := by pointwise [k0_pay12]
theorem pay12_2 (h : v82 (ix2 0 s) = (g : EReal)) : k0_pay12 v50 v66 v74 v82 (ix2 2 s) = (lsig g : EReal) := by
  rw [← lsig_coe, ← h]
  pointwise [k0_pay12]
  rfl
theorem pay12_3 : k0_pay12 v50 v66 v74 v82 (ix2 3 s) = v74 (ix2 0 s) := by pointwise [k0_pay12]
end

/-! ## The sums of the log decays within a chunk -/

theorem le_mask (a b : Fin 128) : (FloatOps.sitofp FTy.f32 (BitVec.setWidth 32 (IntOp.cmpi CmpIPredicate.sle (BitVec.ofNat 32 a.val) (BitVec.ofNat 32 b.val))) : Ideal FTy.f32)
    = ((if a ≤ b then 1 else 0 : ℝ) : EReal) := by
  have h : ∀ a b : Fin 128, (BitVec.setWidth 32 (IntOp.cmpi CmpIPredicate.sle (BitVec.ofNat 32 a.val) (BitVec.ofNat 32 b.val))).toInt = if a ≤ b then 1 else 0 := by decide +kernel
  show (((BitVec.setWidth 32 (IntOp.cmpi CmpIPredicate.sle (BitVec.ofNat 32 a.val) (BitVec.ofNat 32 b.val))).toInt : ℝ) : EReal) = _
  rw [h]
  by_cases hab : a ≤ b <;> simp [hab]

theorem ge_mask (a b : Fin 128) : (FloatOps.sitofp FTy.f32 (BitVec.setWidth 32 (IntOp.cmpi CmpIPredicate.sge (BitVec.ofNat 32 a.val) (BitVec.ofNat 32 b.val))) : Ideal FTy.f32)
    = ((if b ≤ a then 1 else 0 : ℝ) : EReal) := by
  have h : ∀ a b : Fin 128, (BitVec.setWidth 32 (IntOp.cmpi CmpIPredicate.sge (BitVec.ofNat 32 a.val) (BitVec.ofNat 32 b.val))).toInt = if b ≤ a then 1 else 0 := by decide +kernel
  show (((BitVec.setWidth 32 (IntOp.cmpi CmpIPredicate.sge (BitVec.ofNat 32 a.val) (BitVec.ofNat 32 b.val))).toInt : ℝ) : EReal) = _
  rw [h]
  by_cases hab : b ≤ a <;> simp [hab]

section
variable (v : Vec Ideal S8x128 .f32) (l g : Fin 128 → ℝ)

theorem cum_first : k0_pay21 v (k0_pay17 v) (k0_pay18 v) (k0_pay19 v) (k0_pay20 v) = k0_pay22 (F := Ideal) k0_pay13 v := rfl

theorem cum0 (hl : ∀ s, v (ix2 0 s) = (l s : EReal)) (s : Fin 128) :
    k0_pay22 (F := Ideal) k0_pay13 v (ix2 0 s) = ((∑ u : Fin 128, if u ≤ s then l u else 0 : ℝ) : EReal) := by
  pointwise [k0_pay22, k0_pay13]
  simp only [hl, le_mask, ← EReal.coe_sub, ← EReal.coe_mul, sub_self, zero_mul, coe_sum, ← EReal.coe_add, Finset.sum_const_zero, add_zero, mul_ite, mul_one, mul_zero, ite_self]

theorem cum2 (hl : ∀ s, v (ix2 2 s) = (l s : EReal)) (s : Fin 128) :
    k0_pay22 (F := Ideal) k0_pay13 v (ix2 2 s) = ((∑ u : Fin 128, if s ≤ u then l u else 0 : ℝ) : EReal) := by
  pointwise [k0_pay22, k0_pay13]
  simp only [hl, ge_mask, ← EReal.coe_sub, ← EReal.coe_mul, sub_self, zero_mul, coe_sum, ← EReal.coe_add, Finset.sum_const_zero, add_zero, mul_ite, mul_one, mul_zero, ite_self]

theorem cum4 (hl : ∀ s, v (ix2 0 s) = (l s : EReal)) (hg : ∀ s, v (ix2 1 s) = (g s : EReal)) (s : Fin 128) :
    k0_pay22 (F := Ideal) k0_pay13 v (ix2 4 s) = ((g s - ∑ u : Fin 128, if u ≤ s then l u else 0 : ℝ) : EReal) := by
  pointwise [k0_pay22, k0_pay13]
  simp only [hl, hg, le_mask, ← EReal.coe_sub, ← EReal.coe_mul, sub_self, zero_mul, coe_sum, ← EReal.coe_add, Finset.sum_const_zero, add_zero, mul_ite, mul_one, mul_zero, ite_self]

theorem cum5 (hl : ∀ s, v (ix2 2 s) = (l s : EReal)) (hg : ∀ s, v (ix2 3 s) = (g s : EReal)) (s : Fin 128) :
    k0_pay22 (F := Ideal) k0_pay13 v (ix2 5 s) = ((g s - ∑ u : Fin 128, if s ≤ u then l u else 0 : ℝ) : EReal) := by
  pointwise [k0_pay22, k0_pay13]
  simp only [hl, hg, ge_mask, ← EReal.coe_sub, ← EReal.coe_mul, sub_self, zero_mul, coe_sum, ← EReal.coe_add, Finset.sum_const_zero, add_zero, mul_ite, mul_one, mul_zero, ite_self]
end

/-! ## Layouts -/

section
variable (v : Vec Ideal S1x128 .f32) (s d : Fin 128)
theorem pay28_at : k0_pay28 v (ix2 0 d) = v (ix2 0 127) := by pointwise [k0_pay28]
theorem pay40_at : k0_pay40 v (ix2 0 d) = v (ix2 0 0) := by pointwise [k0_pay40]
theorem pay29_at : k0_pay29 v (ix2 s d) = v (ix2 0 s) := by pointwise [k0_pay29]
theorem pay41_at : k0_pay41 v (ix2 s d) = v (ix2 0 s) := by pointwise [k0_pay41]
theorem pay34_at (v : Vec Ideal S1x1x128 .f32) : k0_pay34 v (ix2 0 d) = v (ix3 0 0 d) := by pointwise [k0_pay34]
theorem pay33_at (v : Vec Ideal S1x144x128 .f32) (r : Fin 144) : k0_pay33 v (ix2 r d) = v (ix3 0 r d) := by pointwise [k0_pay33]
theorem pay39_at (v : FVec Ideal S1x128 .f32) : k0_pay39 v (ix3 0 0 d) = v (ix2 0 d) := by pointwise [k0_pay39]
theorem pay24_at (b : Elt Ideal .f32) : k0_pay24 b (ix3 0 0 d) = b := by pointwise [k0_pay24]
theorem pay31_at (v : Vec Ideal S1x128x128 .bf16) : k0_pay31 v (ix2 s d) = v (ix3 0 s d) := by pointwise [k0_pay31, k0_pay30]
theorem pay87_at (v : Vec Ideal S1x128x128 .f32) : k0_pay87 v (ix5 0 0 0 s d) = v (ix3 0 d s) := by pointwise [k0_pay87]
theorem pay88_at (v : Vec Ideal S1x1x128 .f32) : k0_pay88 v (ix5 0 0 0 0 d) = v (ix3 0 0 d) := by pointwise [k0_pay88]
end

/-- The values with a row of ones and rows of zeros under them. -/
noncomputable def ones (V : Fin 256 → Fin 128 → EReal) (r : Fin 144) (s : Fin 256) : EReal :=
  if h : r.val < 128 then V s ⟨r.val, h⟩ else if r.val = 128 then 1 else 0

theorem pay4_at (V : Fin 256 → Fin 128 → EReal) (v : Vec Ideal S1x128x128 .bf16) (f : Fin 128 → Fin 256) (hv : ∀ s d, v (ix3 0 s d) = V (f s) d) (r : Fin 144) (s : Fin 128) :
    k0_pay4 v (ix2 r s) = ones V r (f s) := by
  unfold ones
  pointwise [k0_pay4, k0_pay2]
  by_cases h : r.val < 128
  · rw [dif_pos h, dif_pos h, hv]
  rw [dif_neg h, dif_neg h]
  by_cases h1 : r.val = 128
  · rw [if_pos h1, dif_pos (by omega)]
  · rw [if_neg h1, dif_neg (by omega)]

theorem pay23_zero (a : Vec Ideal S1x1x1x1x128x128 .f32) (b : Vec Ideal S1x1x1x1x1x128 .f32) (ha : ∀ j, a j = 0) (hb : ∀ j, b j = 0) (r : Fin 144) (d : Fin 128) :
    k0_pay23 a b (ix3 0 r d) = 0 := by
  pointwise [k0_pay23]
  simp only [ha, hb, dite_eq_ite, ite_self]

end Cert.MlstmIdeal.Hand
-- ==== Proof.MlstmRun.lean ====
/- The values that one grid point of the mLSTM kernel computes on the way to its state, in the order of the run. -/
module

public import proofs.«01_k».proof.Proof.MlstmBlock
public import Idealize.ShloMosaic.Lib.WholeRead
public import Idealize.ShloMosaic.Lib.Pipeline.ReadBack

@[expose] public section

set_option maxRecDepth 16384
set_option Elab.async false

namespace Cert.MlstmIdeal.Hand
open Idealize.ShloMosaic Idealize.ShloMosaic.TcCoe Idealize.SL.Sem
open Cert.MlstmIdeal Cert.MlstmIdeal.Gen Cert.MlstmHand

/-! ## Reading scratch -/

/-- A row of the last stored chunk. -/
theorem readCov_row {sig : RefSig} {κ : Kind} {sp : Space} (v : View sig κ sp S8x256 .f32) {r o : ℕ}
    (inb : ∀ x, (![0, o] : Fin 2 → ℕ) x + (![8, 128] : Fin 2 → ℕ) x ≤ S8x256.size x)
    (inb' : ∀ x, (![r, o] : Fin 2 → ℕ) x + (![1, 128] : Fin 2 → ℕ) x ≤ S8x256.size x)
    (w : Vec Ideal S8x128 .f32) (L : List (View.Piece (Elt Ideal) S8x256 .f32)) (h : r < 8) (j : S1x128.Idx) :
    v.readCov (⟨Rect.unit (s := S8x256) ![0, o] ![8, 128] inb, w⟩ :: L) (Rect.unit (s := S8x256) ![r, o] ![1, 128] inb').toLoadRect j
      = w (ix2 ⟨r, h⟩ (j 1)) := by
  rw [View.readCov_eq_canon']
  have h0 : (j 0).val = 0 := by have : (j 0).val < 1 := (j 0).isLt; omega
  have e : (Rect.unit (s := S8x256) ![r, o] ![1, 128] inb').toLoadRect.idx j
      = (Rect.unit (s := S8x256) ![0, o] ![8, 128] inb).emb (ix2 ⟨r, h⟩ (j 1)) := by
    funext x
    apply Fin.ext
    match x with
    | ⟨0, _⟩ => show r + 1 * (j 0).val = 0 + 1 * r; omega
    | ⟨1, _⟩ => rfl
  show View.canon _ _ = _
  rw [e]
  exact View.canon_cons_emb (Rect.unit (s := S8x256) ![0, o] ![8, 128] inb) w L _

/-- A chunk's columns of rows that were stored at once. -/
theorem readCov_cols {sig : RefSig} {κ : Kind} {sp : Space} (v : View sig κ sp S8x256 .f32) {o : ℕ} {inb}
    {inb' : ∀ x, (![0, o] : Fin 2 → ℕ) x + (![8, 128] : Fin 2 → ℕ) x ≤ S8x256.size x}
    (w : Vec Ideal S8x256 .f32) (L : List (View.Piece (Elt Ideal) S8x256 .f32)) (r : Fin 8) (s : Fin 128) (y : Fin 256) (hy : y.val = o + s.val) :
    v.readCov (⟨Rect.unit (s := S8x256) ![0, 0] S8x256.size inb, w⟩ :: L) (Rect.unit (s := S8x256) ![0, o] ![8, 128] inb').toLoadRect (ix2 r s) = w (ix2 r y) := by
  rw [View.readCov_fill _ _ _ _ _ (by decide)]
  show w _ = w _
  refine congrArg w (funext fun z => Fin.ext ?_)
  match z with
  | ⟨0, _⟩ => show 0 + 1 * r.val = r.val; omega
  | ⟨1, _⟩ => show o + 1 * s.val = y.val; omega

/-- Rows of the last stored state. -/
theorem readCov_rows {sig : RefSig} {κ : Kind} {sp : Space} (v : View sig κ sp S2x144x128 .f32) {d r n : ℕ}
    (inb : ∀ x, (![d, 0, 0] : Fin 3 → ℕ) x + (![1, 144, 128] : Fin 3 → ℕ) x ≤ S2x144x128.size x)
    (inb' : ∀ x, (![d, r, 0] : Fin 3 → ℕ) x + (![1, n, 128] : Fin 3 → ℕ) x ≤ S2x144x128.size x)
    (w : Vec Ideal S1x144x128 .f32) (L : List (View.Piece (Elt Ideal) S2x144x128 .f32)) (h : r + n ≤ 144) (a : Fin n) (b : Fin 128) :
    v.readCov (⟨Rect.unit (s := S2x144x128) ![d, 0, 0] ![1, 144, 128] inb, w⟩ :: L) (Rect.unit (s := S2x144x128) ![d, r, 0] ![1, n, 128] inb').toLoadRect (ix3 0 a b)
      = w (ix3 0 ⟨r + a.val, by omega⟩ b) := by
  rw [View.readCov_eq_canon']
  have e : (Rect.unit (s := S2x144x128) ![d, r, 0] ![1, n, 128] inb').toLoadRect.idx (ix3 0 a b)
      = (Rect.unit (s := S2x144x128) ![d, 0, 0] ![1, 144, 128] inb).emb (ix3 0 ⟨r + a.val, by omega⟩ b) := by
    funext x
    apply Fin.ext
    match x with
    | ⟨0, _⟩ => rfl
    | ⟨1, _⟩ => show r + 1 * a.val = 0 + 1 * (r + a.val); omega
    | ⟨2, _⟩ => rfl
  show View.canon _ _ = _
  rw [e]
  exact View.canon_cons_emb (Rect.unit (s := S2x144x128) ![d, 0, 0] ![1, 144, 128] inb) w L _

section
variable (c : Dev nD) (i : grid0.Coords) (arg2 : Memref sig .tc .smem S16 .f32) (harg2 : arg2.IsWhole) (arg3 : Memref sig .tc .smem S128 .f32) (harg3 : arg3.IsWhole)
variable (arg5 : Memref sig .tc .vmem S1x256x128 .bf16) (harg5 : arg5.IsWhole) (arg6 : Memref sig .tc .vmem S1x256x128 .bf16) (harg6 : arg6.IsWhole)
variable (arg8 : Memref sig .tc .vmem S1x256x128 .f32) (harg8 : arg8.IsWhole)
variable (arg10 : Memref sig .tc .vmem S1x1x2x1x128x128 .f32) (harg10 : arg10.IsWhole) (arg11 : Memref sig .tc .vmem S1x1x2x1x1x128 .f32) (harg11 : arg11.IsWhole)
variable (arg16 : Memref sig .tc .vmem S128x256 .f32) (arg17 arg18 : Memref sig .tc .vmem S8x256 .f32) (arg19 : Memref sig .tc .vmem S144x256 .bf16)
variable (arg21 : Memref sig .tc .vmem S2x144x128 .f32) (arg22 : Memref sig .tc .vmem S2x1x128 .f32)
variable (x0 : Vec Ideal S16 .f32) (x1 : Vec Ideal S128 .f32) (x3 x4 : Vec Ideal S1x256x128 .bf16) (x6 : Vec Ideal S1x256x128 .f32)
variable (x8 : Vec Ideal S1x1x2x1x128x128 .f32) (x9 : Vec Ideal S1x1x2x1x1x128 .f32)
variable (bias : Fin 16 → ℝ) (G : Fin 256 → Fin 16 → ℝ) (K V : Fin 256 → Fin 128 → EReal)

/-! ## The gates, in rows -/

theorem gt_canon (y : S128x256.Idx) : View.canon (kernelRun0_A.sl.HS0_2 (F := Ideal) c arg8 harg8 x6) y = x6 (ix3 0 (y 1) (y 0)) := by
  refine View.canon_apply_of_pieces (Val := Elt Ideal) (e := .f32) (fun y : S128x256.Idx => x6 (ix3 0 (y 1) (y 0))) _ ?_ y
    (View.cover_of_tiledL (kernelRun0_A.sl.HS0_2 (F := Ideal) c arg8 harg8 x6) S128x128.size (by sl_kernel_rfl) y)
  intro p hp x
  unfold kernelRun0_A.sl.HS0_2 at hp
  simp only [List.mem_cons, List.not_mem_nil, or_false] at hp
  rcases hp with rfl | rfl
  · obtain ⟨a, b, rfl⟩ : ∃ a b, x = ix2 a b := ⟨_, _, eq_ix2 x⟩
    pointwise [k0_pay5]
    rw [Memref.IsWhole.readAt_unread]
    refine congrArg x6 (funext fun z => Fin.ext ?_)
    match z with
    | ⟨0, _⟩ => rfl
    | ⟨1, _⟩ => rfl
    | ⟨2, _⟩ => show 0 + 1 * a.val = 0 + 1 * a.val; rfl
  · obtain ⟨a, b, rfl⟩ : ∃ a b, x = ix2 a b := ⟨_, _, eq_ix2 x⟩
    pointwise [k0_pay3]
    rw [Memref.IsWhole.readAt_unread]
    refine congrArg x6 (funext fun z => Fin.ext ?_)
    match z with
    | ⟨0, _⟩ => rfl
    | ⟨1, _⟩ => rfl
    | ⟨2, _⟩ => show 0 + 1 * a.val = 0 + 1 * a.val; rfl

/-- Row `o` of the gates. -/
theorem gt_row (off : Fin 2 → ℕ) (inb : ∀ x, off x + S1x256.size x ≤ S128x256.size x) (o : ℕ) (ho : o < 128) (h0 : off 0 = o) (h1 : off 1 = 0) (s : Fin 256) :
    View.readAt (Elt Ideal) arg16.view (Rect.unit (s := S128x256) off S1x256.size inb).toLoadRect
      (arg16.view.writes (Elt Ideal) arg16.view.junk (kernelRun0_A.sl.HS0_2 (F := Ideal) c arg8 harg8 x6)) (ix2 0 s) = x6 (ix3 0 s ⟨o, ho⟩) := by
  rw [View.readAt_writes_junk_eq_canon]
  show View.canon _ _ = _
  rw [gt_canon]
  refine congrArg x6 (funext fun z => Fin.ext ?_)
  match z with
  | ⟨0, _⟩ => rfl
  | ⟨1, _⟩ => show off 1 + 1 * s.val = s.val; omega
  | ⟨2, _⟩ => show off 0 + 1 * 0 = o; omega

theorem bias_at (off : Fin 1 → ℕ) (inb : ∀ x, off x + S1.size x ≤ S16.size x) (o : Fin 16) (h0 : off 0 = o.val) (hS) :
    View.readAt (Elt Ideal) arg2.view (Rect.unit (s := S16) off S1.size inb).toLoadRect (harg2.unread x0) (Shape.Idx.first hS) = x0 (ix1 o) := by
  rw [Memref.IsWhole.readAt_unread]
  refine congrArg x0 (funext fun z => Fin.ext ?_)
  match z with
  | ⟨0, _⟩ => show off 0 + 1 * 0 = o.val; omega

/-- Gate row `4 q + h`'s number for this point's head. -/
def gateRow (q : Fin 4) : Fin 16 := ⟨4 * q.val + (i 1).val, by have : (i 1).val < 4 := (i 1).isLt; omega⟩

/-- The gate with its bias. -/
noncomputable def gate (q : Fin 4) (s : Fin 256) : ℝ := G s (gateRow i q) + bias (gateRow i q)

theorem off_nat (h : Fin 4) : (Scalar.indexCast (BitVec.ofNat 32 h.val)).toNat = h.val := by revert h; decide
theorem off_nat4 (h : Fin 4) : (Scalar.indexCast (Scalar.addi 4#32 (BitVec.ofNat 32 h.val))).toNat = 4 + h.val := by revert h; decide
theorem off_nat8 (h : Fin 4) : (Scalar.indexCast (Scalar.addi 8#32 (BitVec.ofNat 32 h.val))).toNat = 8 + h.val := by revert h; decide
theorem off_nat12 (h : Fin 4) : (Scalar.indexCast (Scalar.addi 12#32 (BitVec.ofNat 32 h.val))).toNat = 12 + h.val := by revert h; decide

variable (h0 : ∀ j, x0 (ix1 j) = (bias j : EReal)) (h6 : ∀ s (o : Fin 128) (ho : o.val < 16), x6 (ix3 0 s o) = (G s ⟨o.val, ho⟩ : EReal))
include h0 h6

theorem raw (q : Fin 4) (off : Fin 2 → ℕ) (inb) (off' : Fin 1 → ℕ) (inb') (hS) (e0 : off 0 = 4 * q.val + (i 1).val) (e1 : off 1 = 0) (e2 : off' 0 = 4 * q.val + (i 1).val) (s : Fin 256) :
    (View.readAt (Elt Ideal) arg16.view (Rect.unit (s := S128x256) off S1x256.size inb).toLoadRect
      (arg16.view.writes (Elt Ideal) arg16.view.junk (kernelRun0_A.sl.HS0_2 (F := Ideal) c arg8 harg8 x6)) (ix2 0 s) : EReal)
      + View.readAt (Elt Ideal) arg2.view (Rect.unit (s := S16) off' S1.size inb').toLoadRect (harg2.unread x0) (Shape.Idx.first hS)
      = (gate i bias G q s : EReal) := by
  have hi : (i 1).val < 4 := (i 1).isLt
  rw [gt_row c arg8 harg8 arg16 x6 off inb (4 * q.val + (i 1).val) (by omega) e0 e1, bias_at arg2 harg2 x0 off' inb' (gateRow i q) e2, h0, h6 s _ (by show 4 * q.val + (i 1).val < 16; omega)]
  exact (EReal.coe_add _ _).symm

theorem row1 (s : Fin 256) : kernelRun0_A.sl.r_5 (F := Ideal) c i arg2 harg2 arg8 harg8 arg16 x0 x6 (ix2 0 s) = (gate i bias G 0 s : EReal) := by
  unfold kernelRun0_A.sl.r_5 kernelRun0_A.sl.r_1
  exact pay8_at _ _ _ s (raw c i arg2 harg2 arg8 harg8 arg16 x0 x6 bias G h0 h6 0 _ _ _ _ _ ((off_nat (i 1)).trans (by simp)) rfl ((off_nat (i 1)).trans (by simp)) s)

theorem row0 (s : Fin 256) : kernelRun0_A.sl.r_6 (F := Ideal) c i arg2 harg2 arg8 harg8 arg16 x0 x6 (ix2 0 s) = (lsig (gate i bias G 1 s) : EReal) := by
  unfold kernelRun0_A.sl.r_6 kernelRun0_A.sl.r_2 kernelRun0_A.sl.v53
  exact pay9_at _ _ _ s (raw c i arg2 harg2 arg8 harg8 arg16 x0 x6 bias G h0 h6 1 _ _ _ _ _ (off_nat4 (i 1)) rfl (off_nat4 (i 1)) s)

theorem row3 (s : Fin 256) : kernelRun0_A.sl.r_7 (F := Ideal) c i arg2 harg2 arg8 harg8 arg16 x0 x6 (ix2 0 s) = (gate i bias G 2 s : EReal) := by
  unfold kernelRun0_A.sl.r_7 kernelRun0_A.sl.r_3 kernelRun0_A.sl.v69
  exact pay10_at _ _ _ s (raw c i arg2 harg2 arg8 harg8 arg16 x0 x6 bias G h0 h6 2 _ _ _ _ _ (off_nat8 (i 1)) rfl (off_nat8 (i 1)) s)

theorem row2 (s : Fin 256) : kernelRun0_A.sl.r_8 (F := Ideal) c i arg2 harg2 arg8 harg8 arg16 x0 x6 (ix2 0 s) = (gate i bias G 3 s : EReal) := by
  unfold kernelRun0_A.sl.r_8 kernelRun0_A.sl.r_4 kernelRun0_A.sl.v77
  exact pay11_at _ _ _ s (raw c i arg2 harg2 arg8 harg8 arg16 x0 x6 bias G h0 h6 3 _ _ _ _ _ (off_nat12 (i 1)) rfl (off_nat12 (i 1)) s)

omit h0 h6 in
/-- The rows by chunk: the first chunk's. -/
theorem chunk0 (r : Fin 8) (s : Fin 128) : kernelRun0_A.sl.v112 (F := Ideal) c i arg2 harg2 arg8 harg8 arg16 arg17 x0 x6 (ix2 r s)
    = k0_pay12 (kernelRun0_A.sl.r_5 c i arg2 harg2 arg8 harg8 arg16 x0 x6) (kernelRun0_A.sl.r_6 c i arg2 harg2 arg8 harg8 arg16 x0 x6)
      (kernelRun0_A.sl.r_7 c i arg2 harg2 arg8 harg8 arg16 x0 x6) (kernelRun0_A.sl.r_8 c i arg2 harg2 arg8 harg8 arg16 x0 x6) (ix2 r (lo s)) := by
  unfold kernelRun0_A.sl.v112 kernelRun0_A.sl.HS1_1
  exact readCov_cols _ _ _ r s (lo s) (by show s.val = 0 + s.val; omega)

omit h0 h6 in
/-- The second chunk's. -/
theorem chunk1 (r : Fin 8) (s : Fin 128) : kernelRun0_A.sl.v145 (F := Ideal) c i arg2 harg2 arg8 harg8 arg16 arg17 x0 x6 (ix2 r s)
    = k0_pay12 (kernelRun0_A.sl.r_5 c i arg2 harg2 arg8 harg8 arg16 x0 x6) (kernelRun0_A.sl.r_6 c i arg2 harg2 arg8 harg8 arg16 x0 x6)
      (kernelRun0_A.sl.r_7 c i arg2 harg2 arg8 harg8 arg16 x0 x6) (kernelRun0_A.sl.r_8 c i arg2 harg2 arg8 harg8 arg16 x0 x6) (ix2 r (hi s)) := by
  unfold kernelRun0_A.sl.v145 kernelRun0_A.sl.HS1_1
  exact readCov_cols _ _ _ r s (hi s) rfl

/-! ## The rows of running sums -/

/-- The forward direction's log decays and log inputs. -/
noncomputable abbrev lF (s : Fin 256) : ℝ := lsig (gate i bias G 1 s)
noncomputable abbrev iF (s : Fin 256) : ℝ := gate i bias G 0 s
/-- The backward direction's. -/
noncomputable abbrev lB (s : Fin 256) : ℝ := lsig (gate i bias G 3 s)
noncomputable abbrev iB (s : Fin 256) : ℝ := gate i bias G 2 s

theorem v112_0 (s : Fin 128) : kernelRun0_A.sl.v112 (F := Ideal) c i arg2 harg2 arg8 harg8 arg16 arg17 x0 x6 (ix2 0 s) = (lF i bias G (lo s) : EReal) := by
  rw [chunk0]
  exact (pay12_0 _ _ _ _ _).trans (row0 c i arg2 harg2 arg8 harg8 arg16 x0 x6 bias G h0 h6 _)

theorem v112_1 (s : Fin 128) : kernelRun0_A.sl.v112 (F := Ideal) c i arg2 harg2 arg8 harg8 arg16 arg17 x0 x6 (ix2 1 s) = (iF i bias G (lo s) : EReal) := by
  rw [chunk0]
  exact (pay12_1 _ _ _ _ _).trans (row1 c i arg2 harg2 arg8 harg8 arg16 x0 x6 bias G h0 h6 _)

theorem v112_2 (s : Fin 128) : kernelRun0_A.sl.v112 (F := Ideal) c i arg2 harg2 arg8 harg8 arg16 arg17 x0 x6 (ix2 2 s) = (lB i bias G (lo s) : EReal) := by
  rw [chunk0]
  exact pay12_2 _ _ _ _ _ _ (row2 c i arg2 harg2 arg8 harg8 arg16 x0 x6 bias G h0 h6 _)

theorem v112_3 (s : Fin 128) : kernelRun0_A.sl.v112 (F := Ideal) c i arg2 harg2 arg8 harg8 arg16 arg17 x0 x6 (ix2 3 s) = (iB i bias G (lo s) : EReal) := by
  rw [chunk0]
  exact (pay12_3 _ _ _ _ _).trans (row3 c i arg2 harg2 arg8 harg8 arg16 x0 x6 bias G h0 h6 _)

theorem v145_0 (s : Fin 128) : kernelRun0_A.sl.v145 (F := Ideal) c i arg2 harg2 arg8 harg8 arg16 arg17 x0 x6 (ix2 0 s) = (lF i bias G (hi s) : EReal) := by
  rw [chunk1]
  exact (pay12_0 _ _ _ _ _).trans (row0 c i arg2 harg2 arg8 harg8 arg16 x0 x6 bias G h0 h6 _)

theorem v145_1 (s : Fin 128) : kernelRun0_A.sl.v145 (F := Ideal) c i arg2 harg2 arg8 harg8 arg16 arg17 x0 x6 (ix2 1 s) = (iF i bias G (hi s) : EReal) := by
  rw [chunk1]
  exact (pay12_1 _ _ _ _ _).trans (row1 c i arg2 harg2 arg8 harg8 arg16 x0 x6 bias G h0 h6 _)

theorem v145_2 (s : Fin 128) : kernelRun0_A.sl.v145 (F := Ideal) c i arg2 harg2 arg8 harg8 arg16 arg17 x0 x6 (ix2 2 s) = (lB i bias G (hi s) : EReal) := by
  rw [chunk1]
  exact pay12_2 _ _ _ _ _ _ (row2 c i arg2 harg2 arg8 harg8 arg16 x0 x6 bias G h0 h6 _)

theorem v145_3 (s : Fin 128) : kernelRun0_A.sl.v145 (F := Ideal) c i arg2 harg2 arg8 harg8 arg16 arg17 x0 x6 (ix2 3 s) = (iB i bias G (hi s) : EReal) := by
  rw [chunk1]
  exact (pay12_3 _ _ _ _ _).trans (row3 c i arg2 harg2 arg8 harg8 arg16 x0 x6 bias G h0 h6 _)

theorem r17_at (d : Fin 128) : kernelRun0_A.sl.r_17 (F := Ideal) c i arg2 harg2 arg8 harg8 arg16 arg17 arg18 x0 x6 (ix2 0 d) = ((∑ u, lF i bias G (lo u) : ℝ) : EReal) := by
  unfold kernelRun0_A.sl.r_17 kernelRun0_A.sl.v218 kernelRun0_A.sl.HS2_2 kernelRun0_A.sl.r_9 kernelRun0_A.sl.r_10 kernelRun0_A.sl.r_11 kernelRun0_A.sl.r_12
  refine (pay28_at _ d).trans ?_
  rw [View.readCov_skip _ _ _ _ _ (by decide)]
  refine (readCov_row _ _ _ _ _ (by decide) _).trans ?_
  refine (congrFun (cum_first _) _).trans ?_
  refine (cum0 _ _ (v112_0 c i arg2 harg2 arg8 harg8 arg16 arg17 x0 x6 bias G h0 h6) _).trans ?_
  exact congrArg _ (Finset.sum_congr rfl fun u _ => if_pos (by show u.val ≤ 127; omega))

theorem r18_at (s d : Fin 128) : kernelRun0_A.sl.r_18 (F := Ideal) c i arg2 harg2 arg8 harg8 arg16 arg17 arg18 x0 x6 (ix2 s d)
    = ((iF i bias G (lo s) - ∑ u : Fin 128, if u ≤ s then lF i bias G (lo u) else 0 : ℝ) : EReal) := by
  unfold kernelRun0_A.sl.r_18 kernelRun0_A.sl.v223 kernelRun0_A.sl.HS2_2 kernelRun0_A.sl.r_9 kernelRun0_A.sl.r_10 kernelRun0_A.sl.r_11 kernelRun0_A.sl.r_12
  refine (pay29_at _ s d).trans ?_
  rw [View.readCov_skip _ _ _ _ _ (by decide)]
  refine (readCov_row _ _ _ _ _ (by decide) _).trans ?_
  refine (congrFun (cum_first _) _).trans ?_
  exact cum4 _ _ _ (v112_0 c i arg2 harg2 arg8 harg8 arg16 arg17 x0 x6 bias G h0 h6) (v112_1 c i arg2 harg2 arg8 harg8 arg16 arg17 x0 x6 bias G h0 h6) s

theorem r26_at (d : Fin 128) : kernelRun0_A.sl.r_26 (F := Ideal) c i arg2 harg2 arg8 harg8 arg16 arg17 arg18 x0 x6 (ix2 0 d) = ((∑ u, lB i bias G (hi u) : ℝ) : EReal) := by
  unfold kernelRun0_A.sl.r_26 kernelRun0_A.sl.v309 kernelRun0_A.sl.HS2_2
  refine (pay40_at _ d).trans ?_
  refine (readCov_row _ _ _ _ _ (by decide) _).trans ?_
  refine (cum2 _ _ (v145_2 c i arg2 harg2 arg8 harg8 arg16 arg17 x0 x6 bias G h0 h6) _).trans ?_
  exact congrArg _ (Finset.sum_congr rfl fun u _ => if_pos (by exact Fin.zero_le u))

theorem r27_at (s d : Fin 128) : kernelRun0_A.sl.r_27 (F := Ideal) c i arg2 harg2 arg8 harg8 arg16 arg17 arg18 x0 x6 (ix2 s d)
    = ((iB i bias G (hi s) - ∑ u : Fin 128, if s ≤ u then lB i bias G (hi u) else 0 : ℝ) : EReal) := by
  unfold kernelRun0_A.sl.r_27 kernelRun0_A.sl.v314 kernelRun0_A.sl.HS2_2
  refine (pay41_at _ s d).trans ?_
  refine (readCov_row _ _ _ _ _ (by decide) _).trans ?_
  exact cum5 _ _ _ (v145_2 c i arg2 harg2 arg8 harg8 arg16 arg17 x0 x6 bias G h0 h6) (v145_3 c i arg2 harg2 arg8 harg8 arg16 arg17 x0 x6 bias G h0 h6) s

theorem r33_at (d : Fin 128) : kernelRun0_A.sl.r_33 (F := Ideal) c i arg2 harg2 arg8 harg8 arg16 arg17 arg18 x0 x6 (ix2 0 d) = ((∑ u, lF i bias G (hi u) : ℝ) : EReal) := by
  unfold kernelRun0_A.sl.r_33 kernelRun0_A.sl.v399 kernelRun0_A.sl.HS2_2
  refine (pay28_at _ d).trans ?_
  refine (readCov_row _ _ _ _ _ (by decide) _).trans ?_
  refine (cum0 _ _ (v145_0 c i arg2 harg2 arg8 harg8 arg16 arg17 x0 x6 bias G h0 h6) _).trans ?_
  exact congrArg _ (Finset.sum_congr rfl fun u _ => if_pos (by show u.val ≤ 127; omega))

theorem r34_at (s d : Fin 128) : kernelRun0_A.sl.r_34 (F := Ideal) c i arg2 harg2 arg8 harg8 arg16 arg17 arg18 x0 x6 (ix2 s d)
    = ((iF i bias G (hi s) - ∑ u : Fin 128, if u ≤ s then lF i bias G (hi u) else 0 : ℝ) : EReal) := by
  unfold kernelRun0_A.sl.r_34 kernelRun0_A.sl.v404 kernelRun0_A.sl.HS2_2
  refine (pay29_at _ s d).trans ?_
  refine (readCov_row _ _ _ _ _ (by decide) _).trans ?_
  exact cum4 _ _ _ (v145_0 c i arg2 harg2 arg8 harg8 arg16 arg17 x0 x6 bias G h0 h6) (v145_1 c i arg2 harg2 arg8 harg8 arg16 arg17 x0 x6 bias G h0 h6) s

theorem r40_at (d : Fin 128) : kernelRun0_A.sl.r_40 (F := Ideal) c i arg2 harg2 arg8 harg8 arg16 arg17 arg18 x0 x6 (ix2 0 d) = ((∑ u, lB i bias G (lo u) : ℝ) : EReal) := by
  unfold kernelRun0_A.sl.r_40 kernelRun0_A.sl.v490 kernelRun0_A.sl.HS2_2 kernelRun0_A.sl.r_9 kernelRun0_A.sl.r_10 kernelRun0_A.sl.r_11 kernelRun0_A.sl.r_12
  refine (pay40_at _ d).trans ?_
  rw [View.readCov_skip _ _ _ _ _ (by decide)]
  refine (readCov_row _ _ _ _ _ (by decide) _).trans ?_
  refine (congrFun (cum_first _) _).trans ?_
  refine (cum2 _ _ (v112_2 c i arg2 harg2 arg8 harg8 arg16 arg17 x0 x6 bias G h0 h6) _).trans ?_
  exact congrArg _ (Finset.sum_congr rfl fun u _ => if_pos (by exact Fin.zero_le u))

theorem r41_at (s d : Fin 128) : kernelRun0_A.sl.r_41 (F := Ideal) c i arg2 harg2 arg8 harg8 arg16 arg17 arg18 x0 x6 (ix2 s d)
    = ((iB i bias G (lo s) - ∑ u : Fin 128, if s ≤ u then lB i bias G (lo u) else 0 : ℝ) : EReal) := by
  unfold kernelRun0_A.sl.r_41 kernelRun0_A.sl.v495 kernelRun0_A.sl.HS2_2 kernelRun0_A.sl.r_9 kernelRun0_A.sl.r_10 kernelRun0_A.sl.r_11 kernelRun0_A.sl.r_12
  refine (pay41_at _ s d).trans ?_
  rw [View.readCov_skip _ _ _ _ _ (by decide)]
  refine (readCov_row _ _ _ _ _ (by decide) _).trans ?_
  refine (congrFun (cum_first _) _).trans ?_
  exact cum5 _ _ _ (v112_2 c i arg2 harg2 arg8 harg8 arg16 arg17 x0 x6 bias G h0 h6) (v112_3 c i arg2 harg2 arg8 harg8 arg16 arg17 x0 x6 bias G h0 h6) s

/-! ## The bounds, step by step -/

/-- The forward direction's bound after the first chunk, and after both. -/
noncomputable abbrev uA : Fin 128 → ℝ := fun s => iF i bias G (lo s) - ∑ u : Fin 128, if u ≤ s then lF i bias G (lo u) else 0
noncomputable abbrev uZ : Fin 128 → ℝ := fun s => iF i bias G (hi s) - ∑ u : Fin 128, if u ≤ s then lF i bias G (hi u) else 0
noncomputable abbrev wA : Fin 128 → ℝ := fun s => iB i bias G (hi s) - ∑ u : Fin 128, if s ≤ u then lB i bias G (hi u) else 0
noncomputable abbrev wZ : Fin 128 → ℝ := fun s => iB i bias G (lo s) - ∑ u : Fin 128, if s ≤ u then lB i bias G (lo u) else 0
noncomputable abbrev mF1 : ℝ := mNew (∑ u, lF i bias G (lo u)) (uA i bias G) 0
noncomputable abbrev mB1 : ℝ := mNew (∑ u, lB i bias G (hi u)) (wA i bias G) 0

variable (h1 : ∀ j, x1 j = (0 : EReal))
include h1

omit h0 h6 in
theorem v242_at (d : Fin 128) : kernelRun0_A.sl.v242 (F := Ideal) c i arg3 harg3 arg22 x1 (ix3 0 0 d) = ((0 : ℝ) : EReal) := by
  unfold kernelRun0_A.sl.v242 kernelRun0_A.sl.HS6_2
  rw [View.readCov_skip _ _ _ _ _ (by decide), View.readCov_cons_toLoadRect]
  refine (pay24_at d _).trans ?_
  unfold kernelRun0_A.sl.r_14
  rw [Memref.IsWhole.readAt_unread]
  exact h1 _

omit h0 h6 in
theorem r23_at (d : Fin 128) : kernelRun0_A.sl.r_23 (F := Ideal) c i arg3 harg3 arg22 x1 (ix2 0 d) = ((0 : ℝ) : EReal) := by
  unfold kernelRun0_A.sl.r_23
  exact (pay34_at d _).trans (v242_at c i arg3 harg3 arg22 x1 h1 d)

theorem r25_at (d : Fin 128) : kernelRun0_A.sl.r_25 (F := Ideal) c i arg2 harg2 arg3 harg3 arg8 harg8 arg16 arg17 arg18 arg22 x0 x1 x6 (ix2 0 d) = (mF1 i bias G : EReal) := by
  unfold kernelRun0_A.sl.r_25
  exact step_m _ (k0_pay34 _) _ _ _ _ (r17_at c i arg2 harg2 arg8 harg8 arg16 arg17 arg18 x0 x6 bias G h0 h6) (r23_at c i arg3 harg3 arg22 x1 h1) (r18_at c i arg2 harg2 arg8 harg8 arg16 arg17 arg18 x0 x6 bias G h0 h6) d

theorem r32_at (d : Fin 128) : kernelRun0_A.sl.r_32 (F := Ideal) c i arg2 harg2 arg3 harg3 arg8 harg8 arg16 arg17 arg18 arg22 x0 x1 x6 (ix2 0 d) = ((0 : ℝ) : EReal) := by
  unfold kernelRun0_A.sl.r_32 kernelRun0_A.sl.v333 kernelRun0_A.sl.HS6_3 kernelRun0_A.sl.HS6_2
  refine (pay34_at d _).trans ?_
  rw [View.readCov_skip _ _ _ _ _ (by decide), View.readCov_cons_toLoadRect]
  refine (pay24_at d _).trans ?_
  unfold kernelRun0_A.sl.r_16
  rw [Memref.IsWhole.readAt_unread]
  exact h1 _

theorem r38_at (d : Fin 128) : kernelRun0_A.sl.r_38 (F := Ideal) c i arg2 harg2 arg3 harg3 arg8 harg8 arg16 arg17 arg18 arg22 x0 x1 x6 (ix2 0 d) = (mF1 i bias G : EReal) := by
  unfold kernelRun0_A.sl.r_38 kernelRun0_A.sl.v423 kernelRun0_A.sl.HS6_4 kernelRun0_A.sl.HS6_3
  refine (pay34_at d _).trans ?_
  rw [View.readCov_skip _ _ _ _ _ (by decide), View.readCov_cons_toLoadRect]
  refine (pay39_at d _).trans ?_
  exact r25_at c i arg2 harg2 arg3 harg3 arg8 harg8 arg16 arg17 arg18 arg22 x0 x1 x6 bias G h0 h6 h1 d

theorem r44_at (d : Fin 128) : kernelRun0_A.sl.r_44 (F := Ideal) c i arg2 harg2 arg3 harg3 arg8 harg8 arg16 arg17 arg18 arg22 x0 x1 x6 (ix2 0 d) = (mB1 i bias G : EReal) := by
  unfold kernelRun0_A.sl.r_44 kernelRun0_A.sl.v514 kernelRun0_A.sl.HS6_5 kernelRun0_A.sl.HS6_4
  refine (pay34_at d _).trans ?_
  rw [View.readCov_skip _ _ _ _ _ (by decide), View.readCov_cons_toLoadRect]
  refine (pay39_at d _).trans ?_
  exact step_m _ _ _ _ _ _ (r26_at c i arg2 harg2 arg8 harg8 arg16 arg17 arg18 x0 x6 bias G h0 h6) (r32_at c i arg2 harg2 arg3 harg3 arg8 harg8 arg16 arg17 arg18 arg22 x0 x1 x6 bias G h0 h6 h1) (r27_at c i arg2 harg2 arg8 harg8 arg16 arg17 arg18 x0 x6 bias G h0 h6) d

/-- The bound that the forward direction ends with. -/
theorem v668_at (d : Fin 128) : kernelRun0_A.sl.v668 (F := Ideal) c i arg2 harg2 arg3 harg3 arg8 harg8 arg16 arg17 arg18 arg22 x0 x1 x6 (ix3 0 0 d) = (mEnd (lF i bias G) (iF i bias G) : EReal) := by
  unfold kernelRun0_A.sl.v668 kernelRun0_A.sl.HS6_6 kernelRun0_A.sl.HS6_5
  rw [View.readCov_skip _ _ _ _ _ (by decide), View.readCov_cons_toLoadRect]
  refine (pay39_at d _).trans ?_
  refine (step_m _ _ _ _ _ _ (r33_at c i arg2 harg2 arg8 harg8 arg16 arg17 arg18 x0 x6 bias G h0 h6) (r38_at c i arg2 harg2 arg3 harg3 arg8 harg8 arg16 arg17 arg18 arg22 x0 x1 x6 bias G h0 h6 h1) (r34_at c i arg2 harg2 arg8 harg8 arg16 arg17 arg18 x0 x6 bias G h0 h6) d).trans ?_
  exact congrArg _ (two_m (lF i bias G) (iF i bias G) _ _ _ _ rfl rfl (fun _ => rfl) fun _ => rfl)

/-- And the backward one. -/
theorem v684_at (d : Fin 128) : kernelRun0_A.sl.v684 (F := Ideal) c i arg2 harg2 arg3 harg3 arg8 harg8 arg16 arg17 arg18 arg22 x0 x1 x6 (ix3 0 0 d) = (mEnd (fun s => lB i bias G s.rev) (fun s => iB i bias G s.rev) : EReal) := by
  unfold kernelRun0_A.sl.v684 kernelRun0_A.sl.HS6_6
  rw [View.readCov_cons_toLoadRect]
  refine (pay39_at d _).trans ?_
  refine (step_m _ _ _ _ _ _ (r40_at c i arg2 harg2 arg8 harg8 arg16 arg17 arg18 x0 x6 bias G h0 h6) (r44_at c i arg2 harg2 arg3 harg3 arg8 harg8 arg16 arg17 arg18 arg22 x0 x1 x6 bias G h0 h6 h1) (r41_at c i arg2 harg2 arg8 harg8 arg16 arg17 arg18 x0 x6 bias G h0 h6) d).trans ?_
  exact congrArg _ (two_back_m (lB i bias G) (iB i bias G) _ _ _ _ rfl rfl (fun _ => rfl) fun _ => rfl)

/-! ## The states, step by step -/

variable (h3 : ∀ s d, x3 (ix3 0 s d) = K s d) (h4 : ∀ s d, x4 (ix3 0 s d) = V s d) (h8 : ∀ j, x8 j = (0 : EReal)) (h9 : ∀ j, x9 j = (0 : EReal))

omit h0 h6 h1 in
include h3 in
theorem k_lo (inb) (s d : Fin 128) : k0_pay31 (View.readAt (Elt Ideal) arg5.view (Rect.unit (s := S1x256x128) ![0, 0, 0] S1x128x128.size inb).toLoadRect (harg5.unread x3)) (ix2 s d) = K (lo s) d := by
  refine (pay31_at s d _).trans ?_
  rw [Memref.IsWhole.readAt_unread, ← h3]
  refine congrArg x3 (funext fun z => Fin.ext ?_)
  match z with
  | ⟨0, _⟩ => rfl
  | ⟨1, _⟩ => show 0 + 1 * s.val = s.val; omega
  | ⟨2, _⟩ => show 0 + 1 * d.val = d.val; omega

omit h0 h6 h1 in
include h3 in
theorem k_hi (inb) (s d : Fin 128) : k0_pay31 (View.readAt (Elt Ideal) arg5.view (Rect.unit (s := S1x256x128) ![0, 128, 0] S1x128x128.size inb).toLoadRect (harg5.unread x3)) (ix2 s d) = K (hi s) d := by
  refine (pay31_at s d _).trans ?_
  rw [Memref.IsWhole.readAt_unread, ← h3]
  refine congrArg x3 (funext fun z => Fin.ext ?_)
  match z with
  | ⟨0, _⟩ => rfl
  | ⟨1, _⟩ => show 128 + 1 * s.val = 128 + s.val; omega
  | ⟨2, _⟩ => show 0 + 1 * d.val = d.val; omega

omit h0 h6 h1 in
include h4 in
theorem v_lo (inb) (s d : Fin 128) : View.readAt (Elt Ideal) arg6.view (Rect.unit (s := S1x256x128) ![0, 0, 0] S1x128x128.size inb).toLoadRect (harg6.unread x4) (ix3 0 s d) = V (lo s) d := by
  rw [Memref.IsWhole.readAt_unread, ← h4]
  refine congrArg x4 (funext fun z => Fin.ext ?_)
  match z with
  | ⟨0, _⟩ => rfl
  | ⟨1, _⟩ => show 0 + 1 * s.val = s.val; omega
  | ⟨2, _⟩ => show 0 + 1 * d.val = d.val; omega

omit h0 h6 h1 in
include h4 in
theorem v_hi (inb) (s d : Fin 128) : View.readAt (Elt Ideal) arg6.view (Rect.unit (s := S1x256x128) ![0, 128, 0] S1x128x128.size inb).toLoadRect (harg6.unread x4) (ix3 0 s d) = V (hi s) d := by
  rw [Memref.IsWhole.readAt_unread, ← h4]
  refine congrArg x4 (funext fun z => Fin.ext ?_)
  match z with
  | ⟨0, _⟩ => rfl
  | ⟨1, _⟩ => show 128 + 1 * s.val = 128 + s.val; omega
  | ⟨2, _⟩ => show 0 + 1 * d.val = d.val; omega

omit h0 h6 h1 in
include h4 in
theorem vt_lo (inb) (r : Fin 144) (s : Fin 128) : arg19.view.readCov (kernelRun0_A.sl.HS3_2 (F := Ideal) c arg6 harg6 x4) (Rect.unit (s := S144x256) ![0, 0] S144x128.size inb).toLoadRect (ix2 r s) = ones V r (lo s) := by
  unfold kernelRun0_A.sl.HS3_2
  rw [View.readCov_skip _ _ _ _ _ rfl, View.readCov_cons_toLoadRect]
  exact pay4_at V _ lo (v_lo arg6 harg6 x4 V h4 _) r s

omit h0 h6 h1 in
include h4 in
theorem vt_hi (inb) (r : Fin 144) (s : Fin 128) : arg19.view.readCov (kernelRun0_A.sl.HS3_2 (F := Ideal) c arg6 harg6 x4) (Rect.unit (s := S144x256) ![0, 128] S144x128.size inb).toLoadRect (ix2 r s) = ones V r (hi s) := by
  unfold kernelRun0_A.sl.HS3_2 kernelRun0_A.sl.r
  rw [View.readCov_cons_toLoadRect]
  exact pay4_at V _ hi (v_hi arg6 harg6 x4 V h4 _) r s

omit h0 h6 h1 in
include h8 h9 in
theorem r22_at (r : Fin 144) (d : Fin 128) : kernelRun0_A.sl.r_22 (F := Ideal) c arg10 harg10 arg11 harg11 arg21 x8 x9 (ix2 r d) = (0 : EReal) := by
  unfold kernelRun0_A.sl.r_22 kernelRun0_A.sl.v240 kernelRun0_A.sl.HS5_2 kernelRun0_A.sl.r_13
  refine (pay33_at d _ r).trans ?_
  rw [View.readCov_skip _ _ _ _ _ (by decide), View.readCov_cons_toLoadRect]
  exact pay23_zero _ _ (fun j => by rw [Memref.IsWhole.readAt_unread]; exact h8 _) (fun j => by rw [Memref.IsWhole.readAt_unread]; exact h9 _) r d

include h8 h9 in
theorem r31_at (r : Fin 144) (d : Fin 128) : kernelRun0_A.sl.r_31 (F := Ideal) c i arg2 harg2 arg3 harg3 arg5 harg5 arg6 harg6 arg8 harg8 arg10 harg10 arg11 harg11 arg16 arg17 arg18 arg19 arg21 arg22 x0 x1 x3 x4 x6 x8 x9 (ix2 r d) = (0 : EReal) := by
  unfold kernelRun0_A.sl.r_31 kernelRun0_A.sl.v331 kernelRun0_A.sl.HS5_3 kernelRun0_A.sl.HS5_2 kernelRun0_A.sl.r_15
  refine (pay33_at d _ r).trans ?_
  rw [View.readCov_skip _ _ _ _ _ (by decide), View.readCov_cons_toLoadRect]
  exact pay23_zero _ _ (fun j => by rw [Memref.IsWhole.readAt_unread]; exact h8 _) (fun j => by rw [Memref.IsWhole.readAt_unread]; exact h9 _) r d

include h3 h4 h8 h9

/-- The forward state after the first chunk. -/
theorem r37_at (r : Fin 144) (d : Fin 128) : kernelRun0_A.sl.r_37 (F := Ideal) c i arg2 harg2 arg3 harg3 arg5 harg5 arg6 harg6 arg8 harg8 arg10 harg10 arg11 harg11 arg16 arg17 arg18 arg19 arg21 arg22 x0 x1 x3 x4 x6 x8 x9 (ix2 r d)
    = cNew (∑ u, lF i bias G (lo u)) (uA i bias G) 0 (fun s => ones V r (lo s)) 0 (fun s => K (lo s) d) := by
  unfold kernelRun0_A.sl.r_37 kernelRun0_A.sl.v421 kernelRun0_A.sl.HS5_4 kernelRun0_A.sl.HS5_3
  refine (pay33_at d _ r).trans ?_
  rw [View.readCov_skip _ _ _ _ _ (by decide), View.readCov_cons_toLoadRect]
  unfold kernelRun0_A.sl.r_20 kernelRun0_A.sl.v239 kernelRun0_A.sl.r_24 kernelRun0_A.sl.r_25
  exact step_c _ _ _ _ _ _ _ _ _ (fun s d => K (lo s) d) (fun r s => ones V r (lo s)) (fun _ _ => 0) (r17_at c i arg2 harg2 arg8 harg8 arg16 arg17 arg18 x0 x6 bias G h0 h6) (r23_at c i arg3 harg3 arg22 x1 h1) (r18_at c i arg2 harg2 arg8 harg8 arg16 arg17 arg18 x0 x6 bias G h0 h6)
    (k_lo arg5 harg5 x3 K h3 _) (vt_lo c arg6 harg6 arg19 x4 V h4 _) (r22_at c arg10 harg10 arg11 harg11 arg21 x8 x9 h8 h9) r d

/-- The backward state after the second chunk, which it takes first. -/
theorem r43_at (r : Fin 144) (d : Fin 128) : kernelRun0_A.sl.r_43 (F := Ideal) c i arg2 harg2 arg3 harg3 arg5 harg5 arg6 harg6 arg8 harg8 arg10 harg10 arg11 harg11 arg16 arg17 arg18 arg19 arg21 arg22 x0 x1 x3 x4 x6 x8 x9 (ix2 r d)
    = cNew (∑ u, lB i bias G (hi u)) (wA i bias G) 0 (fun s => ones V r (hi s)) 0 (fun s => K (hi s) d) := by
  unfold kernelRun0_A.sl.r_43 kernelRun0_A.sl.v512 kernelRun0_A.sl.HS5_5 kernelRun0_A.sl.HS5_4
  refine (pay33_at d _ r).trans ?_
  rw [View.readCov_skip _ _ _ _ _ (by decide), View.readCov_cons_toLoadRect]
  unfold kernelRun0_A.sl.r_29 kernelRun0_A.sl.v330
  exact step_c _ _ _ _ _ _ _ _ _ (fun s d => K (hi s) d) (fun r s => ones V r (hi s)) (fun _ _ => 0) (r26_at c i arg2 harg2 arg8 harg8 arg16 arg17 arg18 x0 x6 bias G h0 h6) (r32_at c i arg2 harg2 arg3 harg3 arg8 harg8 arg16 arg17 arg18 arg22 x0 x1 x6 bias G h0 h6 h1) (r27_at c i arg2 harg2 arg8 harg8 arg16 arg17 arg18 x0 x6 bias G h0 h6)
    (k_hi arg5 harg5 x3 K h3 _) (vt_hi c arg6 harg6 arg19 x4 V h4 _) (r31_at c i arg2 harg2 arg3 harg3 arg5 harg5 arg6 harg6 arg8 harg8 arg10 harg10 arg11 harg11 arg16 arg17 arg18 arg19 arg21 arg22 x0 x1 x3 x4 x6 x8 x9 bias G h0 h6 h1 h8 h9) r d

/-- The state that the forward direction ends with, row by row. -/
theorem fwd_at (n : ℕ) (r : ℕ) (inb) (hn : r + n ≤ 144) (a : Fin n) (d : Fin 128)
    (hd : LoadRect.disj (Rect.unit (s := S2x144x128) ![1, 0, 0] S1x144x128.size inb_S2x144x128_S1x144x128_1_0_0) (Rect.unit (s := S2x144x128) ![0, r, 0] ![1, n, 128] inb).toLoadRect = true) :
    arg21.view.readCov (kernelRun0_A.sl.HS5_6 (F := Ideal) c i arg2 harg2 arg3 harg3 arg5 harg5 arg6 harg6 arg8 harg8 arg10 harg10 arg11 harg11 arg16 arg17 arg18 arg19 arg21 arg22 x0 x1 x3 x4 x6 x8 x9) (Rect.unit (s := S2x144x128) ![0, r, 0] ![1, n, 128] inb).toLoadRect (ix3 0 a d)
    = cEnd (lF i bias G) (iF i bias G) (fun s => K s d) (fun s => ones V ⟨r + a.val, by omega⟩ s) := by
  unfold kernelRun0_A.sl.HS5_6 kernelRun0_A.sl.HS5_5
  rw [View.readCov_skip _ _ _ _ _ hd]
  refine (readCov_rows _ _ _ _ _ hn a d).trans ?_
  unfold kernelRun0_A.sl.r_36 kernelRun0_A.sl.v420
  refine (step_c _ _ _ _ _ _ _ _ _ (fun s d => K (hi s) d) (fun r s => ones V r (hi s)) _ (r33_at c i arg2 harg2 arg8 harg8 arg16 arg17 arg18 x0 x6 bias G h0 h6) (r38_at c i arg2 harg2 arg3 harg3 arg8 harg8 arg16 arg17 arg18 arg22 x0 x1 x6 bias G h0 h6 h1) (r34_at c i arg2 harg2 arg8 harg8 arg16 arg17 arg18 x0 x6 bias G h0 h6)
    (k_hi arg5 harg5 x3 K h3 _) (vt_hi c arg6 harg6 arg19 x4 V h4 _) (r37_at c i arg2 harg2 arg3 harg3 arg5 harg5 arg6 harg6 arg8 harg8 arg10 harg10 arg11 harg11 arg16 arg17 arg18 arg19 arg21 arg22 x0 x1 x3 x4 x6 x8 x9 bias G K V h0 h6 h1 h3 h4 h8 h9) _ d).trans ?_
  exact two_c (lF i bias G) (iF i bias G) (fun s => K s d) (fun s => ones V ⟨r + a.val, by omega⟩ s) _ _ _ _ rfl rfl (fun _ => rfl) fun _ => rfl

/-- The state that the backward direction ends with, row by row. -/
theorem back_at (n : ℕ) (r : ℕ) (inb) (hn : r + n ≤ 144) (a : Fin n) (d : Fin 128) :
    arg21.view.readCov (kernelRun0_A.sl.HS5_6 (F := Ideal) c i arg2 harg2 arg3 harg3 arg5 harg5 arg6 harg6 arg8 harg8 arg10 harg10 arg11 harg11 arg16 arg17 arg18 arg19 arg21 arg22 x0 x1 x3 x4 x6 x8 x9) (Rect.unit (s := S2x144x128) ![1, r, 0] ![1, n, 128] inb).toLoadRect (ix3 0 a d)
    = cEnd (fun s => lB i bias G s.rev) (fun s => iB i bias G s.rev) (fun s => K s.rev d) (fun s => ones V ⟨r + a.val, by omega⟩ s.rev) := by
  unfold kernelRun0_A.sl.HS5_6
  refine (readCov_rows _ _ _ _ _ hn a d).trans ?_
  unfold kernelRun0_A.sl.r_42 kernelRun0_A.sl.v511
  refine (step_c _ _ _ _ _ _ _ _ _ (fun s d => K (lo s) d) (fun r s => ones V r (lo s)) _ (r40_at c i arg2 harg2 arg8 harg8 arg16 arg17 arg18 x0 x6 bias G h0 h6) (r44_at c i arg2 harg2 arg3 harg3 arg8 harg8 arg16 arg17 arg18 arg22 x0 x1 x6 bias G h0 h6 h1) (r41_at c i arg2 harg2 arg8 harg8 arg16 arg17 arg18 x0 x6 bias G h0 h6)
    (k_lo arg5 harg5 x3 K h3 _) (vt_lo c arg6 harg6 arg19 x4 V h4 _) (r43_at c i arg2 harg2 arg3 harg3 arg5 harg5 arg6 harg6 arg8 harg8 arg10 harg10 arg11 harg11 arg16 arg17 arg18 arg19 arg21 arg22 x0 x1 x3 x4 x6 x8 x9 bias G K V h0 h6 h1 h3 h4 h8 h9) _ d).trans ?_
  exact two_back_c (lB i bias G) (iB i bias G) (fun s => K s d) (fun s => ones V ⟨r + a.val, by omega⟩ s) _ _ _ _ rfl rfl (fun _ => rfl) fun _ => rfl
end

end Cert.MlstmIdeal.Hand
-- ==== Proof.MlstmArray.lean ====
/- The mLSTM's state arrays after the run, each as one function of the arguments. -/
module

public import proofs.«01_k».proof.Proof.MlstmRun
public import Idealize.ShloMosaic.Lib.Pipeline.Covers
public import Idealize.ShloMosaic.Lib.StableHlo.RunRead
public import Idealize.ShloMosaic.Lib.IdealHost

@[expose] public section

set_option maxRecDepth 16384

noncomputable section

namespace Cert.MlstmIdeal.Hand

open Cert.MlstmIdeal Cert.MlstmIdeal.Gen Cert.MlstmHand Idealize.ShloMosaic Idealize.ShloMosaic.TcCoe Idealize.SL.Sem

/-- One stored block of a direction, read at its own indices. -/
theorem one_piece {a b : ℕ} (d : Fin 2) (w : Vec Ideal ⟨5, ![1, 1, 1, a, b]⟩ .f32) (F : Fin 2 → Fin a → Fin b → EReal) (hw : ∀ x z, w (ix5 0 0 0 x z) = F d x z)
    (x : (⟨5, ![1, 1, 1, a, b]⟩ : Shape).Idx) (y : (⟨5, ![1, 2, 1, a, b]⟩ : Shape).Idx)
    (e1 : (y 1).val = d.val + 1 * (x 1).val) (e3 : (y 3).val = 0 + 1 * (x 3).val) (e4 : (y 4).val = 0 + 1 * (x 4).val) : w x = F (y 1) (y 3) (y 4) := by
  have x0 : (x 0 : Fin 1) = (0 : Fin 1) := Subsingleton.elim (α := Fin 1) _ _
  have x1 : (x 1 : Fin 1) = (0 : Fin 1) := Subsingleton.elim (α := Fin 1) _ _
  have x2 : (x 2 : Fin 1) = (0 : Fin 1) := Subsingleton.elim (α := Fin 1) _ _
  have ex : x = ix5 0 0 0 (x 3) (x 4) := funext fun z => match z with
    | ⟨0, _⟩ => x0
    | ⟨1, _⟩ => x1
    | ⟨2, _⟩ => x2
    | ⟨3, _⟩ => rfl
    | ⟨4, _⟩ => rfl
  have v1 : (x 1).val = 0 := congrArg Fin.val x1
  have h1 : (y 1 : Fin 2) = d := Fin.ext (by rw [e1, v1]; rfl)
  have h3 : (y 3 : Fin a) = x 3 := Fin.ext (by rw [e3]; omega)
  have h4 : (y 4 : Fin b) = x 4 := Fin.ext (by rw [e4]; omega)
  refine (congrArg w ex).trans ((hw (x 3) (x 4)).trans ?_)
  show F d (x 3) (x 4) = F (y 1) (y 3) (y 4)
  rw [h1, h3, h4]

/-- Two blocks stored one after the other, the second direction's last, read anywhere. -/
theorem two_pieces {a b : ℕ} {o0 o1 : Fin 5 → ℕ} (eo0 : o0 = ![0, 0, 0, 0, 0]) (eo1 : o1 = ![0, 1, 0, 0, 0])
    {inb1 : ∀ x, o1 x + (![1, 1, 1, a, b] : Fin 5 → ℕ) x ≤ (![1, 2, 1, a, b] : Fin 5 → ℕ) x}
    {inb0 : ∀ x, o0 x + (![1, 1, 1, a, b] : Fin 5 → ℕ) x ≤ (![1, 2, 1, a, b] : Fin 5 → ℕ) x}
    (w1 w0 : Vec Ideal ⟨5, ![1, 1, 1, a, b]⟩ .f32) (F : Fin 2 → Fin a → Fin b → EReal)
    (h1 : ∀ x z, w1 (ix5 0 0 0 x z) = F 1 x z) (h0 : ∀ x z, w0 (ix5 0 0 0 x z) = F 0 x z) (y : (⟨5, ![1, 2, 1, a, b]⟩ : Shape).Idx)
    (cover : ∃ p ∈ ([⟨Rect.unit (s := ⟨5, ![1, 2, 1, a, b]⟩) o1 ![1, 1, 1, a, b] inb1, w1⟩, ⟨Rect.unit (s := ⟨5, ![1, 2, 1, a, b]⟩) o0 ![1, 1, 1, a, b] inb0, w0⟩] : List (View.Piece (Elt Ideal) ⟨5, ![1, 2, 1, a, b]⟩ .f32)), y ∈ p.1.set) :
    View.canon ([⟨Rect.unit (s := ⟨5, ![1, 2, 1, a, b]⟩) o1 ![1, 1, 1, a, b] inb1, w1⟩, ⟨Rect.unit (s := ⟨5, ![1, 2, 1, a, b]⟩) o0 ![1, 1, 1, a, b] inb0, w0⟩] : List (View.Piece (Elt Ideal) ⟨5, ![1, 2, 1, a, b]⟩ .f32)) y
      = F (y 1) (y 3) (y 4) := by
  subst eo0 eo1
  refine View.canon_apply_of_pieces (Val := Elt Ideal) (e := .f32) (fun y : (⟨5, ![1, 2, 1, a, b]⟩ : Shape).Idx => F (y 1) (y 3) (y 4)) _ ?_ y cover
  intro p hp
  simp only [List.mem_cons, List.not_mem_nil, or_false] at hp
  rcases hp with rfl | rfl
  · intro x
    exact one_piece 1 w1 F h1 x _ rfl rfl rfl
  · intro x
    exact one_piece 0 w0 F h0 x _ rfl rfl rfl

variable (m : (ℓ : Loc nD τ sig) → Buf (Elt Ideal) ℓ)

theorem idx0 : ∀ t, (cfg0.win 0).index t = ![0] := by decide +kernel
theorem idx1 : ∀ t, (cfg0.win 1).index t = ![0] := by decide +kernel
theorem idx3 : ∀ t, (cfg0.win 3).index t = ![(grid0.coords t 0).val, 0, 28 + (grid0.coords t 1).val] := by decide +kernel
theorem idx4 : ∀ t, (cfg0.win 4).index t = ![(grid0.coords t 0).val, 0, 32 + (grid0.coords t 1).val] := by decide +kernel
theorem idx6 : ∀ t, (cfg0.win 6).index t = ![(grid0.coords t 0).val, 0, 8] := by decide +kernel
theorem idx8 : ∀ t, (cfg0.win 8).index t = ![(grid0.coords t 0).val, 0, 0, (grid0.coords t 1).val, 0, 0] := by decide +kernel
theorem idx9 : ∀ t, (cfg0.win 9).index t = ![(grid0.coords t 0).val, 0, 0, (grid0.coords t 1).val, 0, 0] := by decide +kernel
theorem idx11 : ∀ t, (cfg0.win 11).index t = ![(grid0.coords t 0).val, 0, (grid0.coords t 1).val, 0, 0] := by decide +kernel
theorem idx12 : ∀ t, (cfg0.win 12).index t = ![(grid0.coords t 0).val, 0, (grid0.coords t 1).val, 0, 0] := by decide +kernel
theorem idx13 : ∀ t, (cfg0.win 13).index t = ![(grid0.coords t 0).val, 0, (grid0.coords t 1).val, 0, 0] := by decide +kernel
theorem covers11 : (cfg0.win 11).Covers := by decide +kernel
theorem covers12 : (cfg0.win 12).Covers := by decide +kernel
theorem covers13 : (cfg0.win 13).Covers := by decide +kernel

/-- The projected gates and their biases are real numbers. -/
def Finite (g : Vec Ideal S16x256x1280 .f32) (gb : Vec Ideal S2x2x4 .f32) : Prop :=
  (∀ (b : Fin 16) (r : Fin 256) (j : Fin 16), ∃ a : ℝ, g (ix3 b r ⟨1024 + j.val, by omega⟩) = a)
    ∧ ∀ (d k : Fin 2) (h : Fin 4), ∃ a : ℝ, gb (ix3 d k h) = a

/-- A head's keys: 128 columns of the projection from 3584 on. -/
def kR (p : Vec Ideal S16x256x7680 .bf16) (b : Fin 16) (h : Fin 4) (s : Fin 256) (d : Fin 128) : EReal :=
  p (ix3 b s ⟨3584 + (h.val * 128 + d.val), by omega⟩)

/-- A head's values: 128 columns from 4096 on. -/
def vR (p : Vec Ideal S16x256x7680 .bf16) (b : Fin 16) (h : Fin 4) (s : Fin 256) (d : Fin 128) : EReal :=
  p (ix3 b s ⟨4096 + (h.val * 128 + d.val), by omega⟩)

/-- A head's gate of a direction and kind, with its bias. -/
def gR (g : Vec Ideal S16x256x1280 .f32) (gb : Vec Ideal S2x2x4 .f32) (b : Fin 16) (h : Fin 4) (dir kind : Fin 2) (s : Fin 256) : ℝ :=
  (g (ix3 b s ⟨1024 + (dir.val * 8 + kind.val * 4 + h.val), by omega⟩) : EReal).toReal + (gb (ix3 dir kind h) : EReal).toReal

/-- The token a direction reads at a step. -/
def tm (dir : Fin 2) (s : Fin 256) : Fin 256 := if dir = 0 then s else s.rev

/-- The logarithms of the forget gates, in a direction's order. -/
def lR (g : Vec Ideal S16x256x1280 .f32) (gb : Vec Ideal S2x2x4 .f32) (b : Fin 16) (h : Fin 4) (dir : Fin 2) (s : Fin 256) : ℝ :=
  lsig (gR g gb b h dir 1 (tm dir s))

/-- The input gates, in a direction's order. -/
def iR (g : Vec Ideal S16x256x1280 .f32) (gb : Vec Ideal S2x2x4 .f32) (b : Fin 16) (h : Fin 4) (dir : Fin 2) (s : Fin 256) : ℝ :=
  gR g gb b h dir 0 (tm dir s)

/-- The end state's greatest log weight. -/
def mOf (g : Vec Ideal S16x256x1280 .f32) (gb : Vec Ideal S2x2x4 .f32) (b : Fin 16) (dir : Fin 2) (h : Fin 4) : EReal :=
  (mEnd (lR g gb b h dir) (iR g gb b h dir) : ℝ)

/-- The end state's matrix. -/
def cOf (p : Vec Ideal S16x256x7680 .bf16) (g : Vec Ideal S16x256x1280 .f32) (gb : Vec Ideal S2x2x4 .f32) (b : Fin 16) (dir : Fin 2) (h : Fin 4) (k v : Fin 128) : EReal :=
  cEnd (lR g gb b h dir) (iR g gb b h dir) (fun s => kR p b h (tm dir s) k) (fun s => vR p b h (tm dir s) v)

/-- The end state's normaliser. -/
def nOf (p : Vec Ideal S16x256x7680 .bf16) (g : Vec Ideal S16x256x1280 .f32) (gb : Vec Ideal S2x2x4 .f32) (b : Fin 16) (dir : Fin 2) (h : Fin 4) (k : Fin 128) : EReal :=
  cEnd (lR g gb b h dir) (iR g gb b h dir) (fun s => kR p b h (tm dir s) k) (fun _ => 1)

theorem mOf_congr (g gb) {b b' : Fin 16} {d d' : Fin 2} {h h' : Fin 4} (eb : b = b') (ed : d = d') (eh : h = h') : mOf g gb b d h = mOf g gb b' d' h' := by
  rw [eb, ed, eh]
theorem cOf_congr (p g gb) {b b' : Fin 16} {d d' : Fin 2} {h h' : Fin 4} {k k' v v' : Fin 128} (eb : b = b') (ed : d = d') (eh : h = h') (ek : k = k') (ev : v = v') :
    cOf p g gb b d h k v = cOf p g gb b' d' h' k' v' := by
  rw [eb, ed, eh, ek, ev]
theorem nOf_congr (p g gb) {b b' : Fin 16} {d d' : Fin 2} {h h' : Fin 4} {k k' : Fin 128} (eb : b = b') (ed : d = d') (eh : h = h') (ek : k = k') :
    nOf p g gb b d h k = nOf p g gb b' d' h' k' := by
  rw [eb, ed, eh, ek]

/-- The bias of gate `j` in the flattened order. -/
def bR (gb : Vec Ideal S2x2x4 .f32) (j : Fin 16) : ℝ := (gb (ix3 (⟨j.val / 8, by omega⟩ : Fin 2) (⟨j.val / 4 % 2, by omega⟩ : Fin 2) (⟨j.val % 4, by omega⟩ : Fin 4)) : EReal).toReal
/-- Gate `j` in the flattened order. -/
def pR (g : Vec Ideal S16x256x1280 .f32) (b : Fin 16) (s : Fin 256) (j : Fin 16) : ℝ := (g (ix3 b s ⟨1024 + j.val, by omega⟩) : EReal).toReal

section entries
variable (c : Dev nD)

theorem V3_apply (j : Fin 16) : (V m c main_v3 : Vec Ideal S16 .f32) (ix1 j) = m ((c : Thread nD τ).loc main_arg2) (ix3 (⟨j.val / 8, by omega⟩ : Fin 2) (⟨j.val / 4 % 2, by omega⟩ : Fin 2) (⟨j.val % 4, by omega⟩ : Fin 4)) := by
  entry_read
  pointwise

theorem V2_apply (j : S128.Idx) : (V m c main_v2 : Vec Ideal S128 .f32) j = (0 : EReal) := by
  entry_read
  rw [ValueIdx.broadcastInDim_scalar_apply]
  exact Ideal.ofBits_zero_f32

theorem V0_apply (j : S16x1x2x4x128x128.Idx) : (V m c main_v0 : Vec Ideal S16x1x2x4x128x128 .f32) j = (0 : EReal) := by
  entry_read
  rw [ValueIdx.broadcastInDim_scalar_apply]
  exact Ideal.ofBits_zero_f32

theorem V1_apply (j : S16x1x2x4x1x128.Idx) : (V m c main_v1 : Vec Ideal S16x1x2x4x1x128 .f32) j = (0 : EReal) := by
  entry_read
  rw [ValueIdx.broadcastInDim_scalar_apply]
  exact Ideal.ofBits_zero_f32

end entries

section reads
variable (c : Dev nD) (t : Fin cfg0.N) (b : Fin 16) (h : Fin 4) (hb : (grid0.coords t 0).val = b.val) (hh : (grid0.coords t 1).val = h.val)

theorem of_real {x : EReal} (h : ∃ a : ℝ, x = a) : x = (x.toReal : EReal) := by
  obtain ⟨a, rfl⟩ := h
  rfl

variable (hfin : Finite (m ((c : Thread nD τ).loc main_arg1)) (m ((c : Thread nD τ).loc main_arg2)))

include hfin in
theorem read0 (j : Fin 16) : (iblk m c 0 t : Vec Ideal S16 .f32) (ix1 j) = (bR (m ((c : Thread nD τ).loc main_arg2)) j : EReal) := by
  refine Eq.trans ?_ (of_real (hfin.2 _ _ _))
  rw [← V3_apply m c j]
  unfold iblk
  blk_simp [idx0 t]
  refine congrArg _ ?_
  blk_ext [idx0 t]

theorem read1 (j : S128.Idx) : (iblk m c 1 t : Vec Ideal S128 .f32) j = (0 : EReal) := by
  unfold iblk
  exact V2_apply m c _

theorem read8 (j) : (iblk m c 8 t : Vec Ideal S1x1x2x1x128x128 .f32) j = (0 : EReal) := by
  unfold iblk
  exact V0_apply m c _

theorem read9 (j) : (iblk m c 9 t : Vec Ideal S1x1x2x1x1x128 .f32) j = (0 : EReal) := by
  unfold iblk
  exact V1_apply m c _

include hb

include hfin in
theorem read6 (s : Fin 256) (o : Fin 128) (ho : o.val < 16) : (iblk m c 6 t : Vec Ideal S1x256x128 .f32) (ix3 0 s o) = (pR (m ((c : Thread nD τ).loc main_arg1)) b s ⟨o.val, ho⟩ : EReal) := by
  refine Eq.trans ?_ (of_real (hfin.1 b s ⟨o.val, ho⟩))
  blk_ext [iblk, V, idx6 t]

include hh

theorem read3 (s : Fin 256) (d : Fin 128) : (iblk m c 3 t : Vec Ideal S1x256x128 .bf16) (ix3 0 s d) = kR (m ((c : Thread nD τ).loc main_arg0)) b h s d := by
  unfold kR
  blk_ext [iblk, V, idx3 t]

theorem read4 (s : Fin 256) (d : Fin 128) : (iblk m c 4 t : Vec Ideal S1x256x128 .bf16) (ix3 0 s d) = vR (m ((c : Thread nD τ).loc main_arg0)) b h s d := by
  unfold vR
  blk_ext [iblk, V, idx4 t]

omit hb in
/-- The kernel's row of gates is the head's gate of that direction and kind. -/
theorem gate_eq (g gb) (dir kind : Fin 2) (q : Fin 4) (hq : q.val = dir.val * 2 + kind.val) (s : Fin 256) :
    gate (grid0.coords t) (bR gb) (pR g b) q s = gR g gb b h dir kind s := by
  unfold gate gateRow bR pR gR
  have hd := dir.isLt
  have hk := kind.isLt
  have hl := h.isLt
  refine congrArg₂ (· + ·) (congrArg EReal.toReal (congrArg g ?_)) (congrArg EReal.toReal (congrArg gb ?_))
  · refine congrArg (ix3 b s) (Fin.ext ?_)
    show 1024 + (4 * q.val + (grid0.coords t 1).val) = 1024 + (dir.val * 8 + kind.val * 4 + h.val)
    omega
  · have e0 : (4 * q.val + (grid0.coords t 1).val) / 8 = dir.val := by omega
    have e1 : (4 * q.val + (grid0.coords t 1).val) / 4 % 2 = kind.val := by omega
    have e2 : (4 * q.val + (grid0.coords t 1).val) % 4 = h.val := by omega
    refine funext fun z => Fin.ext ?_
    match z with
    | ⟨0, _⟩ => exact e0
    | ⟨1, _⟩ => exact e1
    | ⟨2, _⟩ => exact e2

end reads

section gates
variable (t : Fin cfg0.N) (b : Fin 16) (h : Fin 4) (hh : (grid0.coords t 1).val = h.val) (g : Vec Ideal S16x256x1280 .f32) (gb : Vec Ideal S2x2x4 .f32)
include hh

theorem lF_eq : lF (grid0.coords t) (bR gb) (pR g b) = lR g gb b h 0 := funext fun s => congrArg lsig (gate_eq t b h hh g gb 0 1 1 rfl s)
theorem iF_eq : iF (grid0.coords t) (bR gb) (pR g b) = iR g gb b h 0 := funext fun s => gate_eq t b h hh g gb 0 0 0 rfl s
theorem lB_eq : (fun s : Fin 256 => lB (grid0.coords t) (bR gb) (pR g b) s.rev) = lR g gb b h 1 := funext fun s => congrArg lsig (gate_eq t b h hh g gb 1 1 3 rfl s.rev)
theorem iB_eq : (fun s : Fin 256 => iB (grid0.coords t) (bR gb) (pR g b) s.rev) = iR g gb b h 1 := funext fun s => gate_eq t b h hh g gb 1 0 2 rfl s.rev

end gates

theorem ones_lt (W : Fin 256 → Fin 128 → EReal) (v : Fin 128) (e) (s : Fin 256) : ones W ⟨0 + v.val, e⟩ s = W s v := by
  unfold ones
  have hv := v.isLt
  rw [dif_pos (show 0 + v.val < 128 by omega)]
  exact congrArg (W s) (Fin.ext (by show 0 + v.val = v.val; omega))

theorem ones_one (W : Fin 256 → Fin 128 → EReal) (v : Fin 1) (e) (s : Fin 256) : ones W ⟨128 + v.val, e⟩ s = 1 := by
  unfold ones
  have hv := v.isLt
  rw [dif_neg (show ¬ 128 + v.val < 128 by omega), if_pos (show 128 + v.val = 128 by omega)]

section arrays
variable (c : Dev nD) (hfin : Finite (m ((c : Thread nD τ).loc main_arg1)) (m ((c : Thread nD τ).loc main_arg2)))
include hfin

/-- The log weights after the run. -/
theorem array13 : (dats m 0 c).arrAt 13 cfg0.N = fun y : S16x2x4x1x128.Idx => mOf (m ((c : Thread nD τ).loc main_arg1)) (m ((c : Thread nD τ).loc main_arg2)) (y 0) (y 1) (y 2) := by
  refine (dats m 0 c).arrAt_eq_of_covers 13 _ covers13 fun t hf y => ?_
  blk_simp
  rw [after0_13]
  have hy1 : (y 1).val < 2 := (y 1).isLt
  have hb : (grid0.coords t 0).val < 16 := (grid0.coords t 0).isLt
  have hh : (grid0.coords t 1).val < 4 := (grid0.coords t 1).isLt
  have hy0 : (y 0).val < 1 := (y 0).isLt
  have hy2 : (y 2).val < 1 := (y 2).isLt
  have e0 : (((cfg0.win 13).blk t).view.emb y 0 : ℕ) = (grid0.coords t 0).val := by blk_simp [idx13 t]
  have e1 : (((cfg0.win 13).blk t).view.emb y 1 : ℕ) = (y 1).val := by blk_simp [idx13 t]
  have e2 : (((cfg0.win 13).blk t).view.emb y 2 : ℕ) = (grid0.coords t 1).val := by blk_simp [idx13 t]
  refine Eq.trans ?_ (mOf_congr _ _ (Fin.ext e0 : _ = ⟨_, hb⟩) (Fin.ext e1 : _ = ⟨_, hy1⟩) (Fin.ext e2 : _ = ⟨_, hh⟩)).symm
  dsimp only [outsAt0]
  unfold out0_A_13 kernelRun0_A
  dsimp only
  refine (View.read_writes_junk_apply_eq_canon _ _ _).trans ?_
  refine two_pieces rfl rfl _ _ (fun d _ _ => mOf (m ((c : Thread nD τ).loc main_arg1)) (m ((c : Thread nD τ).loc main_arg2)) ⟨_, hb⟩ d ⟨_, hh⟩) ?_ ?_ y (cover0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) y)
  · intro x z
    obtain rfl : x = 0 := Subsingleton.elim _ _
    refine (pay88_at z _).trans ?_
    refine (v684_at (bias := bR _) (G := pR _ ⟨_, hb⟩) (h0 := read0 m c t hfin) (h6 := read6 m c t ⟨_, hb⟩ rfl hfin) (h1 := fun j => read1 m c t j) ..).trans ?_
    rw [lB_eq t ⟨_, hb⟩ ⟨_, hh⟩ rfl, iB_eq t ⟨_, hb⟩ ⟨_, hh⟩ rfl]
    rfl
  · intro x z
    obtain rfl : x = 0 := Subsingleton.elim _ _
    refine (pay88_at z _).trans ?_
    refine (v668_at (bias := bR _) (G := pR _ ⟨_, hb⟩) (h0 := read0 m c t hfin) (h6 := read6 m c t ⟨_, hb⟩ rfl hfin) (h1 := fun j => read1 m c t j) ..).trans ?_
    rw [lF_eq t ⟨_, hb⟩ ⟨_, hh⟩ rfl, iF_eq t ⟨_, hb⟩ ⟨_, hh⟩ rfl]
    rfl

/-- The matrices after the run. -/
theorem array11 : (dats m 0 c).arrAt 11 cfg0.N = fun y : S16x2x4x128x128.Idx => cOf (m ((c : Thread nD τ).loc main_arg0)) (m ((c : Thread nD τ).loc main_arg1)) (m ((c : Thread nD τ).loc main_arg2)) (y 0) (y 1) (y 2) (y 3) (y 4) := by
  refine (dats m 0 c).arrAt_eq_of_covers 11 _ covers11 fun t hf y => ?_
  blk_simp
  rw [after0_11]
  have hy1 : (y 1).val < 2 := (y 1).isLt
  have hb : (grid0.coords t 0).val < 16 := (grid0.coords t 0).isLt
  have hh : (grid0.coords t 1).val < 4 := (grid0.coords t 1).isLt
  have hy0 : (y 0).val < 1 := (y 0).isLt
  have hy2 : (y 2).val < 1 := (y 2).isLt
  have hy3 : (y 3).val < 128 := (y 3).isLt
  have hy4 : (y 4).val < 128 := (y 4).isLt
  have e0 : (((cfg0.win 11).blk t).view.emb y 0 : ℕ) = (grid0.coords t 0).val := by blk_simp [idx11 t]
  have e1 : (((cfg0.win 11).blk t).view.emb y 1 : ℕ) = (y 1).val := by blk_simp [idx11 t]
  have e2 : (((cfg0.win 11).blk t).view.emb y 2 : ℕ) = (grid0.coords t 1).val := by blk_simp [idx11 t]
  have e3 : (((cfg0.win 11).blk t).view.emb y 3 : ℕ) = (y 3).val := by blk_simp [idx11 t]
  have e4 : (((cfg0.win 11).blk t).view.emb y 4 : ℕ) = (y 4).val := by blk_simp [idx11 t]
  refine Eq.trans ?_ (cOf_congr _ _ _ (Fin.ext e0 : _ = ⟨_, hb⟩) (Fin.ext e1 : _ = ⟨_, hy1⟩) (Fin.ext e2 : _ = ⟨_, hh⟩) (Fin.ext e3 : _ = ⟨_, hy3⟩) (Fin.ext e4 : _ = ⟨_, hy4⟩)).symm
  dsimp only [outsAt0]
  unfold out0_A_11 kernelRun0_A
  dsimp only
  refine (View.read_writes_junk_apply_eq_canon _ _ _).trans ?_
  refine two_pieces rfl rfl _ _ (fun d k v => cOf (m ((c : Thread nD τ).loc main_arg0)) (m ((c : Thread nD τ).loc main_arg1)) (m ((c : Thread nD τ).loc main_arg2)) ⟨_, hb⟩ d ⟨_, hh⟩ k v) ?_ ?_ y (cover0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) y)
  · intro k v
    refine (pay87_at k v _).trans ?_
    unfold kernelRun0_A.sl.v673
    refine (back_at (bias := bR _) (G := pR _ ⟨_, hb⟩) (K := kR _ ⟨_, hb⟩ ⟨_, hh⟩) (V := vR _ ⟨_, hb⟩ ⟨_, hh⟩) (h0 := read0 m c t hfin) (h6 := read6 m c t ⟨_, hb⟩ rfl hfin) (h1 := fun j => read1 m c t j)
      (h3 := read3 m c t ⟨_, hb⟩ ⟨_, hh⟩ rfl rfl) (h4 := read4 m c t ⟨_, hb⟩ ⟨_, hh⟩ rfl rfl) (h8 := fun j => read8 m c t j) (h9 := fun j => read9 m c t j) (n := 128) (r := 0) (hn := by decide) (a := v) (d := k) ..).trans ?_
    rw [lB_eq t ⟨_, hb⟩ ⟨_, hh⟩ rfl, iB_eq t ⟨_, hb⟩ ⟨_, hh⟩ rfl]
    simp only [ones_lt]
    rfl
  · intro k v
    refine (pay87_at k v _).trans ?_
    unfold kernelRun0_A.sl.v657
    refine (fwd_at (bias := bR _) (G := pR _ ⟨_, hb⟩) (K := kR _ ⟨_, hb⟩ ⟨_, hh⟩) (V := vR _ ⟨_, hb⟩ ⟨_, hh⟩) (h0 := read0 m c t hfin) (h6 := read6 m c t ⟨_, hb⟩ rfl hfin) (h1 := fun j => read1 m c t j)
      (h3 := read3 m c t ⟨_, hb⟩ ⟨_, hh⟩ rfl rfl) (h4 := read4 m c t ⟨_, hb⟩ ⟨_, hh⟩ rfl rfl) (h8 := fun j => read8 m c t j) (h9 := fun j => read9 m c t j) (n := 128) (r := 0) (hn := by decide) (a := v) (d := k) (hd := by decide) ..).trans ?_
    rw [lF_eq t ⟨_, hb⟩ ⟨_, hh⟩ rfl, iF_eq t ⟨_, hb⟩ ⟨_, hh⟩ rfl]
    simp only [ones_lt]
    rfl

/-- The normalisers after the run. -/
theorem array12 : (dats m 0 c).arrAt 12 cfg0.N = fun y : S16x2x4x1x128.Idx => nOf (m ((c : Thread nD τ).loc main_arg0)) (m ((c : Thread nD τ).loc main_arg1)) (m ((c : Thread nD τ).loc main_arg2)) (y 0) (y 1) (y 2) (y 4) := by
  refine (dats m 0 c).arrAt_eq_of_covers 12 _ covers12 fun t hf y => ?_
  blk_simp
  rw [after0_12]
  have hy1 : (y 1).val < 2 := (y 1).isLt
  have hb : (grid0.coords t 0).val < 16 := (grid0.coords t 0).isLt
  have hh : (grid0.coords t 1).val < 4 := (grid0.coords t 1).isLt
  have hy0 : (y 0).val < 1 := (y 0).isLt
  have hy2 : (y 2).val < 1 := (y 2).isLt
  have hy4 : (y 4).val < 128 := (y 4).isLt
  have e0 : (((cfg0.win 12).blk t).view.emb y 0 : ℕ) = (grid0.coords t 0).val := by blk_simp [idx12 t]
  have e1 : (((cfg0.win 12).blk t).view.emb y 1 : ℕ) = (y 1).val := by blk_simp [idx12 t]
  have e2 : (((cfg0.win 12).blk t).view.emb y 2 : ℕ) = (grid0.coords t 1).val := by blk_simp [idx12 t]
  have e4 : (((cfg0.win 12).blk t).view.emb y 4 : ℕ) = (y 4).val := by blk_simp [idx12 t]
  refine Eq.trans ?_ (nOf_congr _ _ _ (Fin.ext e0 : _ = ⟨_, hb⟩) (Fin.ext e1 : _ = ⟨_, hy1⟩) (Fin.ext e2 : _ = ⟨_, hh⟩) (Fin.ext e4 : _ = ⟨_, hy4⟩)).symm
  dsimp only [outsAt0]
  unfold out0_A_12 kernelRun0_A
  dsimp only
  refine (View.read_writes_junk_apply_eq_canon _ _ _).trans ?_
  refine two_pieces rfl rfl _ _ (fun d _ k => nOf (m ((c : Thread nD τ).loc main_arg0)) (m ((c : Thread nD τ).loc main_arg1)) (m ((c : Thread nD τ).loc main_arg2)) ⟨_, hb⟩ d ⟨_, hh⟩ k) ?_ ?_ y (cover0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) y)
  · intro x k
    obtain rfl : x = 0 := Subsingleton.elim _ _
    refine (pay88_at k _).trans ?_
    unfold kernelRun0_A.sl.v679
    refine (back_at (bias := bR _) (G := pR _ ⟨_, hb⟩) (K := kR _ ⟨_, hb⟩ ⟨_, hh⟩) (V := vR _ ⟨_, hb⟩ ⟨_, hh⟩) (h0 := read0 m c t hfin) (h6 := read6 m c t ⟨_, hb⟩ rfl hfin) (h1 := fun j => read1 m c t j)
      (h3 := read3 m c t ⟨_, hb⟩ ⟨_, hh⟩ rfl rfl) (h4 := read4 m c t ⟨_, hb⟩ ⟨_, hh⟩ rfl rfl) (h8 := fun j => read8 m c t j) (h9 := fun j => read9 m c t j) (n := 1) (r := 128) (hn := by decide) (a := 0) (d := k) ..).trans ?_
    rw [lB_eq t ⟨_, hb⟩ ⟨_, hh⟩ rfl, iB_eq t ⟨_, hb⟩ ⟨_, hh⟩ rfl]
    simp only [ones_one]
    rfl
  · intro x k
    obtain rfl : x = 0 := Subsingleton.elim _ _
    refine (pay88_at k _).trans ?_
    unfold kernelRun0_A.sl.v663
    refine (fwd_at (bias := bR _) (G := pR _ ⟨_, hb⟩) (K := kR _ ⟨_, hb⟩ ⟨_, hh⟩) (V := vR _ ⟨_, hb⟩ ⟨_, hh⟩) (h0 := read0 m c t hfin) (h6 := read6 m c t ⟨_, hb⟩ rfl hfin) (h1 := fun j => read1 m c t j)
      (h3 := read3 m c t ⟨_, hb⟩ ⟨_, hh⟩ rfl rfl) (h4 := read4 m c t ⟨_, hb⟩ ⟨_, hh⟩ rfl rfl) (h8 := fun j => read8 m c t j) (h9 := fun j => read9 m c t j) (n := 1) (r := 128) (hn := by decide) (a := 0) (d := k) (hd := by decide) ..).trans ?_
    rw [lF_eq t ⟨_, hb⟩ ⟨_, hh⟩ rfl, iF_eq t ⟨_, hb⟩ ⟨_, hh⟩ rfl]
    simp only [ones_one]
    rfl

end arrays

/-- The run, read at the three results; the arguments end as they were. -/
theorem run_all (ρ : Dev nD → PrngReg) : θ_run defs (onTc (τ := τ) (main (F := Ideal))) ⟨m, fun _ => 0, ρ⟩ fun r => ∀ c : Dev nD,
      r.2.mem ((c.tc : Thread nD τ).loc main_v5_1) = (dats m 0 c).arrAt 11 cfg0.N
      ∧ r.2.mem ((c.tc : Thread nD τ).loc main_v5_2) = (dats m 0 c).arrAt 12 cfg0.N
      ∧ r.2.mem ((c.tc : Thread nD τ).loc main_v5_3) = (dats m 0 c).arrAt 13 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h.1 c).1 11, (h.1 c).1 12, (h.1 c).1 13, h.2.1 c⟩)
    (Idealize.ShloMosaic.θ_run_and (run_main m ρ) (frame m ρ))

end Cert.MlstmIdeal.Hand
end
-- ==== Proof.MlstmRef.lean ====
/- The mLSTM reference's three results, read at an index, and what the precondition says. -/
module

public import proofs.«01_k».proof.Proof.Gen.MlstmReferenceIdeal.Read
public import proofs.«01_k».proof.Proof.Gen.Pre_finite_gates
public import proofs.«01_k».proof.Proof.MlstmArray
public import Idealize.ShloMosaic.Lib.ReduceAll

@[expose] public section

set_option maxRecDepth 16384

noncomputable section

namespace Cert.MlstmReferenceIdeal.Hand

open Cert.MlstmReferenceIdeal Cert.MlstmReferenceIdeal.Gen Cert.MlstmReferenceIdeal.Read Cert.MlstmHand Idealize.ShloMosaic Idealize.ShloMosaic.TcCoe Idealize.SL.Sem
open Cert.MlstmIdeal.Hand (lsig lsig_coe kR vR gR lR iR tm mOf cOf nOf Finite of_real)

/-! ## A running sum -/

/-- A window that ends at `s`, summed with zeros below, is the sum up to `s`. -/
theorem window_sum (l : Fin 256 → EReal) (s : Fin 256) :
    (∑ n : Fin 256, if h : 255 ≤ s.val + n.val then l ⟨s.val + n.val - 255, by omega⟩ else 0) = ∑ u, if u ≤ s then l u else 0 := by
  refine Fintype.sum_equiv (Equiv.addRight (s + 1)) _ _ fun n => ?_
  have e : (n + (s + 1)).val = (n.val + (s.val + 1) % 256) % 256 := by rw [Fin.val_add, Fin.val_add]; rfl
  show _ = if n + (s + 1) ≤ s then l (n + (s + 1)) else 0
  have hn := n.isLt
  have hs := s.isLt
  by_cases h : 255 ≤ s.val + n.val
  · have ev : (n + (s + 1)).val = s.val + n.val - 255 := by rw [e]; omega
    rw [dif_pos h, if_pos (Fin.le_def.2 (by rw [ev]; omega))]
    exact congrArg l (Fin.ext ev.symm)
  · have ev : (n + (s + 1)).val = s.val + n.val + 1 := by rw [e]; omega
    rw [dif_neg h, if_neg fun hle => by have := Fin.le_def.1 hle; rw [ev] at this; omega]

theorem foldl_sum (n : ℕ) (g : Fin n → EReal) : (List.finRange n).foldl (fun r k => r + g k) 0 = ∑ k, g k := by
  rw [Fin.sum_univ_def, List.sum_eq_foldl, List.foldl_map]

theorem window_ix : ∀ n : Fin 256, ((⟨3, ![1, 256, 1]⟩ : Shape).rowMajor.symm n 1).val = n.val := by decide +kernel

/-- The running sum along the tokens. -/
def cums (x : FVec Ideal S16x256x4 .f32) : FVec Ideal S16x256x4 .f32 :=
  Host.reduceWindowAdd (F := Ideal) (φ := .f32) ![1, 256, 1] ![1, 1, 1] ![0, 255, 0] ![0, 0, 0] x (val_main_call1_call0_v0 (F := Ideal)) reduceWindows_S16x256x4_S16x256x4_w1s1p0_0_w256s1p255_0_w1s1p0_0 h_S_

theorem cums_at (x : FVec Ideal S16x256x4 .f32) (b : Fin 16) (h : Fin 4) (s : Fin 256) : cums x (ix3 b s h) = ∑ u : Fin 256, if u ≤ s then (x (ix3 b u h) : EReal) else 0 := by
  rw [← window_sum (fun u => x (ix3 b u h)) s]
  have hv : ∀ j, (val_main_call1_call0_v0 (F := Ideal)) j = (0 : EReal) := fun j => by
    unfold val_main_call1_call0_v0 val_main_call1_call0_cst
    rw [ValueIdx.broadcastInDim_scalar_apply]
    exact Ideal.ofBits_zero_f32
  unfold cums
  show Ideal.hostReduceWindowAdd ![1, 256, 1] ![1, 1, 1] ![0, 255, 0] ![0, 0, 0] reduceWindows_S16x256x4_S16x256x4_w1s1p0_0_w256s1p255_0_w1s1p0_0 x ((val_main_call1_call0_v0 (F := Ideal)) (Shape.Idx.first h_S_)) (ix3 b s h) = _
  rw [hv]
  unfold Ideal.hostReduceWindowAdd Host.reduceWindow
  refine (foldl_sum 256 _).trans (Finset.sum_congr rfl fun n _ => ?_)
  have w1 := window_ix n
  have w0 : ((⟨3, ![1, 256, 1]⟩ : Shape).rowMajor.symm n 0).val = 0 := Nat.lt_one_iff.1 ((⟨3, ![1, 256, 1]⟩ : Shape).rowMajor.symm n 0).isLt
  have w2 : ((⟨3, ![1, 256, 1]⟩ : Shape).rowMajor.symm n 2).val = 0 := Nat.lt_one_iff.1 ((⟨3, ![1, 256, 1]⟩ : Shape).rowMajor.symm n 2).isLt
  have hn := n.isLt
  have hs := s.isLt
  by_cases hc : 255 ≤ s.val + n.val
  · rw [dif_pos hc]
    refine (dif_pos ?_).trans ?_
    · intro a
      match a with
      | ⟨0, _⟩ =>
        show 0 ≤ b.val * 1 + ((⟨3, ![1, 256, 1]⟩ : Shape).rowMajor.symm n 0).val ∧ b.val * 1 + ((⟨3, ![1, 256, 1]⟩ : Shape).rowMajor.symm n 0).val - 0 < 16
        rw [w0]; omega
      | ⟨1, _⟩ =>
        show 255 ≤ s.val * 1 + ((⟨3, ![1, 256, 1]⟩ : Shape).rowMajor.symm n 1).val ∧ s.val * 1 + ((⟨3, ![1, 256, 1]⟩ : Shape).rowMajor.symm n 1).val - 255 < 256
        rw [w1]; omega
      | ⟨2, _⟩ =>
        show 0 ≤ h.val * 1 + ((⟨3, ![1, 256, 1]⟩ : Shape).rowMajor.symm n 2).val ∧ h.val * 1 + ((⟨3, ![1, 256, 1]⟩ : Shape).rowMajor.symm n 2).val - 0 < 4
        rw [w2]; omega
    · refine congrArg x (funext fun a => Fin.ext ?_)
      match a with
      | ⟨0, _⟩ =>
        show b.val * 1 + ((⟨3, ![1, 256, 1]⟩ : Shape).rowMajor.symm n 0).val - 0 = b.val
        rw [w0]; omega
      | ⟨1, _⟩ =>
        show s.val * 1 + ((⟨3, ![1, 256, 1]⟩ : Shape).rowMajor.symm n 1).val - 255 = s.val + n.val - 255
        rw [w1]; omega
      | ⟨2, _⟩ =>
        show h.val * 1 + ((⟨3, ![1, 256, 1]⟩ : Shape).rowMajor.symm n 2).val - 0 = h.val
        rw [w2]; omega
  · rw [dif_neg hc]
    refine dif_neg fun hall => hc ?_
    have h1 : 255 ≤ s.val * 1 + ((⟨3, ![1, 256, 1]⟩ : Shape).rowMajor.symm n 1).val := (hall 1).1
    rw [w1] at h1
    omega

/-! ## The end state, for any gates, keys and values -/

section tail
variable (L I : FVec Ideal S16x256x4 .f32) (K W : FVec Ideal S16x256x4x128 .f32)

/-- The whole log decay. -/
def endB : FVec Ideal S16x4 .f32 := shapeCast S16x4 (extractStridedSlice S16x1x4 ![0, 255, 0] (cums L) slices_S16x256x4_S16x1x4_0_255_0) shapeCasts_S16x1x4_S16x4

/-- The tokens' log weights. -/
def wts : FVec Ideal S16x256x4 .f32 :=
  addf (subf (broadcastInDim S16x256x4 ![0, 1, 2] bcast_S16x1x4_S16x256x4_0_1_2 (broadcastInDim S16x1x4 ![0, 2] bcast_S16x4_S16x1x4_0_2 (endB L))) (cums L)) I

/-- The greatest log weight. -/
def big : FVec Ideal S16x4 .f32 := maximumf (endB L) (Host.reduce FloatOps.maximumf (wts L I) (val_main_cst (F := Ideal)) reducesTo_S16x256x4_S16x4_d1 h_S_)

/-- The weighted keys. -/
def wk : FVec Ideal S16x256x4x128 .f32 :=
  mulf (broadcastInDim S16x256x4x128 ![0, 1, 2, 3] bcast_S16x256x4x1_S16x256x4x128_0_1_2_3 (broadcastInDim S16x256x4x1 ![0, 1, 2] bcast_S16x256x4_S16x256x4x1_0_1_2
    (Host.exp (subf (wts L I) (broadcastInDim S16x256x4 ![0, 1, 2] bcast_S16x1x4_S16x256x4_0_1_2 (broadcastInDim S16x1x4 ![0, 2] bcast_S16x4_S16x1x4_0_2 (big L I))))))) K

/-- The matrix. -/
def mat : FVec Ideal S16x4x128x128 .f32 := Host.dotGeneral dot_S16x256x4x128_S16x256x4x128_S16x4x128x128_1_1_3_3_02_02 none (wk L I K) W

/-- The normaliser. -/
def nrm : FVec Ideal S16x4x128 .f32 := Host.reduceAdd (wk L I K) (val_main_cst_0 (F := Ideal)) reducesTo_S16x256x4x128_S16x4x128_d1 h_S_

variable (b : Fin 16) (h : Fin 4) (l i : Fin 256 → ℝ) (hL : ∀ s, L (ix3 b s h) = (l s : EReal)) (hI : ∀ s, I (ix3 b s h) = (i s : EReal))

include hL

theorem cums_real (s : Fin 256) : cums L (ix3 b s h) = ((∑ u : Fin 256, if u ≤ s then l u else 0 : ℝ) : EReal) := by
  rw [cums_at, ← coe_sum]
  refine Finset.sum_congr rfl fun u _ => ?_
  rw [hL]
  split <;> rfl

theorem endB_at : endB L (ix2 b h) = ((∑ u, l u : ℝ) : EReal) := by
  have e : endB L (ix2 b h) = cums L (ix3 b 255 h) := by
    unfold endB
    generalize cums L = C
    pointwise
  rw [e, cums_real L b h l hL]
  refine congrArg _ (Finset.sum_congr rfl fun u _ => if_pos (Fin.le_def.2 ?_))
  show u.val ≤ 255
  omega

include hI

theorem wts_at (s : Fin 256) : wts L I (ix3 b s h) = (logw l i s : EReal) := by
  have e : wts L I (ix3 b s h) = (endB L (ix2 b h) - cums L (ix3 b s h) : EReal) + I (ix3 b s h) := by
    unfold wts
    generalize cums L = C
    generalize endB L = B
    pointwise
  rw [e, endB_at L b h l hL, cums_real L b h l hL, hI, ← EReal.coe_sub, ← EReal.coe_add]
  rfl

theorem big_at : big L I (ix2 b h) = (mEnd l i : EReal) := by
  have e : big L I (ix2 b h) = max (endB L (ix2 b h) : EReal) (Finset.univ.fold max (Ideal.ofBits .f32 0xFF800000#32) fun s : Fin 256 => wts L I (ix3 b s h)) := by
    unfold big
    generalize wts L I = C
    generalize endB L = B
    pointwise [val_main_cst]
  rw [e, endB_at L b h l hL, fold_top (n := 255) (logw l i) _ (by simp [Ideal.ofBits, Ideal.ieee]) _ (wts_at L I b h l i hL hI), ← EReal.coe_strictMono.monotone.map_max]
  rfl

variable (d : Fin 128) (k : Fin 256 → EReal) (hK : ∀ s, K (ix4 b s h d) = k s)
include hK

theorem wk_at (s : Fin 256) : wk L I K (ix4 b s h d) = (Real.exp (logw l i s - mEnd l i) : EReal) * k s := by
  have e : wk L I K (ix4 b s h d) = Ideal.exp (wts L I (ix3 b s h) - big L I (ix2 b h) : EReal) * K (ix4 b s h d) := by
    unfold wk
    generalize wts L I = C
    generalize big L I = B
    pointwise
  rw [e, wts_at L I b h l i hL hI, big_at L I b h l i hL hI, hK, ← EReal.coe_sub]
  rfl

theorem nrm_at : nrm L I K (ix3 b h d) = cEnd l i k (fun _ => 1) := by
  have e : nrm L I K (ix3 b h d) = ∑ s : Fin 256, (wk L I K (ix4 b s h d) : EReal) := by
    unfold nrm
    generalize wk L I K = C
    pointwise [val_main_cst_0]
  rw [e]
  refine (Finset.sum_congr rfl fun s _ => wk_at L I K b h l i hL hI d k hK s).trans ?_
  unfold cEnd
  exact Finset.sum_congr rfl fun s _ => (mul_one _).symm

theorem mat_at (v : Fin 128) (w : Fin 256 → EReal) (hW : ∀ s, W (ix4 b s h v) = w s) : mat L I K W (ix4 b h d v) = cEnd l i k w := by
  have e : mat L I K W (ix4 b h d v) = ∑ s : Fin 256, (wk L I K (ix4 b s h d) : EReal) * W (ix4 b s h v) := by
    unfold mat
    generalize wk L I K = C
    pointwise
  rw [e]
  exact Finset.sum_congr rfl fun s _ => congrArg₂ (· * ·) (wk_at L I K b h l i hL hI d k hK s) (hW s)

end tail

/-! ## The arguments -/

/-- Minus the softplus of the negated gate is the log of its sigmoid. -/
theorem softplus_coe (a : ℝ) : -(max (-(a : EReal)) 0 + Ideal.log1p (Ideal.exp (-(max (-(a : EReal)) (-(-(a : EReal))))))) = (lsig a : EReal) := by
  have e1 : max (-(a : EReal)) 0 = ((max (-a) 0 : ℝ) : EReal) := by
    rw [← EReal.coe_zero, ← EReal.coe_neg, ← EReal.coe_strictMono.monotone.map_max]
  have e2 : max (-(a : EReal)) (-(-(a : EReal))) = ((|a| : ℝ) : EReal) := by
    rw [neg_neg, max_comm, ← EReal.coe_neg, ← EReal.coe_strictMono.monotone.map_max]
    rfl
  have e3 : max (-a) 0 = -(min a 0) := by rw [← max_neg_neg, neg_zero]
  rw [e1, e2, ← EReal.coe_neg, Ideal.exp_coe, Ideal.log1p, ← EReal.coe_one, ← EReal.coe_add, Ideal.log_coe,
    if_neg (not_le.2 (by positivity)), ← EReal.coe_add, ← EReal.coe_neg]
  refine congrArg _ ?_
  rw [e3, lsig]
  ring

section arguments
variable (p : Vec Ideal S16x256x7680 .bf16) (g : Vec Ideal S16x256x1280 .f32) (gb : Vec Ideal S2x2x4 .f32) (hfin : Finite g gb) (b : Fin 16) (h : Fin 4)

theorem keys_apply (s : Fin 256) (d : Fin 128) : val_main_v2 (F := Ideal) p (ix4 b s h d) = p (ix3 b s ⟨3584 + (h.val * 128 + d.val), by omega⟩) := by
  pointwise [val_main_v2, val_main_v1, val_main_v0]

theorem vals_apply (s : Fin 256) (d : Fin 128) : val_main_v5 (F := Ideal) p (ix4 b s h d) = p (ix3 b s ⟨4096 + (h.val * 128 + d.val), by omega⟩) := by
  pointwise [val_main_v5, val_main_v4, val_main_v3]

theorem gates_apply (s : Fin 256) (dir kind : Fin 2) : val_main_v10 (F := Ideal) g gb (ix5 b s dir kind h)
    = (g (ix3 b s ⟨1024 + (dir.val * 8 + kind.val * 4 + h.val), by omega⟩) + gb (ix3 dir kind h) : EReal) := by
  pointwise [val_main_v10, val_main_v9, val_main_v8, val_main_v7, val_main_v6]

theorem keys_real (s : Fin 256) (d : Fin 128) : val_main_v2 (F := Ideal) p (ix4 b s h d) = kR p b h s d := keys_apply p b h s d

theorem vals_real (s : Fin 256) (d : Fin 128) : val_main_v5 (F := Ideal) p (ix4 b s h d) = vR p b h s d := vals_apply p b h s d

theorem keys_back (s : Fin 256) (d : Fin 128) : val_main_v34 (F := Ideal) p (ix4 b s h d) = kR p b h s.rev d := by
  refine Eq.trans ?_ (keys_real p b h s.rev d)
  pointwise [val_main_v34]
  rfl

theorem vals_back (s : Fin 256) (d : Fin 128) : val_main_v35 (F := Ideal) p (ix4 b s h d) = vR p b h s.rev d := by
  refine Eq.trans ?_ (vals_real p b h s.rev d)
  pointwise [val_main_v35]
  rfl

include hfin

theorem gates_real (s : Fin 256) (dir kind : Fin 2) : val_main_v10 (F := Ideal) g gb (ix5 b s dir kind h) = (gR g gb b h dir kind s : EReal) := by
  rw [gates_apply]
  have h1 := of_real (hfin.1 b s ⟨dir.val * 8 + kind.val * 4 + h.val, by omega⟩)
  have h2 := of_real (hfin.2 dir kind h)
  refine (congrArg₂ (· + ·) h1 h2).trans (EReal.coe_add _ _).symm

theorem in_fwd (s : Fin 256) : val_main_v12 (F := Ideal) g gb (ix3 b s h) = (iR g gb b h 0 s : EReal) := by
  refine Eq.trans ?_ (gates_real g gb hfin b h s 0 0)
  pointwise [val_main_v12, val_main_v11]

theorem forget_fwd (s : Fin 256) : val_main_v14 (F := Ideal) g gb (ix3 b s h) = (gR g gb b h 0 1 s : EReal) := by
  refine Eq.trans ?_ (gates_real g gb hfin b h s 0 1)
  pointwise [val_main_v14, val_main_v13]

theorem in_back (s : Fin 256) : val_main_v38 (F := Ideal) g gb (ix3 b s h) = (iR g gb b h 1 s : EReal) := by
  refine Eq.trans ?_ (gates_real g gb hfin b h s.rev 1 0)
  pointwise [val_main_v38, val_main_v37, val_main_v36]
  rfl

theorem forget_back (s : Fin 256) : val_main_v41 (F := Ideal) g gb (ix3 b s h) = (gR g gb b h 1 1 s.rev : EReal) := by
  refine Eq.trans ?_ (gates_real g gb hfin b h s.rev 1 1)
  pointwise [val_main_v41, val_main_v40, val_main_v39]
  rfl

theorem log_fwd (s : Fin 256) : val_main_v15 (F := Ideal) g gb (ix3 b s h) = (lR g gb b h 0 s : EReal) := by
  have e := forget_fwd g gb hfin b h s
  refine Eq.trans ?_ (softplus_coe (gR g gb b h 0 1 s))
  rw [← e]
  pointwise [val_main_v15, val_main_call0_v1, val_main_call0_call0_v4, val_main_call0_call0_v6, val_main_call0_call0_v11, val_main_call0_call0_v10, val_main_call0_call0_v9, val_main_call0_call0_v8, val_main_call0_call0_v7, val_main_call0_call0_v5,
    val_main_call0_call0_v3, val_main_call0_call0_v2, val_main_call0_call0_v1, val_main_call0_call0_v0, val_main_call0_call0_cst, val_main_call0_v0]
  rw [if_neg (not_not.2 rfl)]
  rfl

theorem log_back (s : Fin 256) : val_main_v42 (F := Ideal) g gb (ix3 b s h) = (lR g gb b h 1 s : EReal) := by
  have e := forget_back g gb hfin b h s
  refine Eq.trans ?_ (softplus_coe (gR g gb b h 1 1 s.rev))
  rw [← e]
  pointwise [val_main_v42, val_main_call6_v1, val_main_call6_call0_v11, val_main_call6_call0_v10, val_main_call6_call0_v9, val_main_call6_call0_v8, val_main_call6_call0_v7, val_main_call6_call0_v6, val_main_call6_call0_v5, val_main_call6_call0_v4, val_main_call6_call0_v3, val_main_call6_call0_v2, val_main_call6_call0_v1, val_main_call6_call0_v0, val_main_call6_call0_cst, val_main_call6_v0]
  rw [if_neg (not_not.2 rfl)]
  rfl

/-! ## The results -/

theorem m_fwd : val_main_v24 (F := Ideal) g gb (ix2 b h) = mOf g gb b 0 h :=
  big_at (val_main_v15 (F := Ideal) g gb) (val_main_v12 (F := Ideal) g gb) b h _ _ (log_fwd g gb hfin b h) (in_fwd g gb hfin b h)

theorem m_back : val_main_v51 (F := Ideal) g gb (ix2 b h) = mOf g gb b 1 h :=
  big_at (val_main_v42 (F := Ideal) g gb) (val_main_v38 (F := Ideal) g gb) b h _ _ (log_back g gb hfin b h) (in_back g gb hfin b h)

theorem n_fwd (d : Fin 128) : val_main_v33 (F := Ideal) p g gb (ix3 b h d) = nOf p g gb b 0 h d :=
  nrm_at (val_main_v15 (F := Ideal) g gb) (val_main_v12 (F := Ideal) g gb) (val_main_v2 (F := Ideal) p) b h _ _ (log_fwd g gb hfin b h) (in_fwd g gb hfin b h)
    d _ (fun s => keys_real p b h s d)

theorem n_back (d : Fin 128) : val_main_v60 (F := Ideal) p g gb (ix3 b h d) = nOf p g gb b 1 h d :=
  nrm_at (val_main_v42 (F := Ideal) g gb) (val_main_v38 (F := Ideal) g gb) (val_main_v34 (F := Ideal) p) b h _ _ (log_back g gb hfin b h) (in_back g gb hfin b h)
    d _ (fun s => keys_back p b h s d)

theorem c_fwd (d v : Fin 128) : val_main_v32 (F := Ideal) p g gb (ix4 b h d v) = cOf p g gb b 0 h d v :=
  mat_at (val_main_v15 (F := Ideal) g gb) (val_main_v12 (F := Ideal) g gb) (val_main_v2 (F := Ideal) p) (val_main_v5 (F := Ideal) p) b h _ _
    (log_fwd g gb hfin b h) (in_fwd g gb hfin b h) d _ (fun s => keys_real p b h s d) v _ (fun s => vals_real p b h s v)

theorem c_back (d v : Fin 128) : val_main_v59 (F := Ideal) p g gb (ix4 b h d v) = cOf p g gb b 1 h d v :=
  mat_at (val_main_v42 (F := Ideal) g gb) (val_main_v38 (F := Ideal) g gb) (val_main_v34 (F := Ideal) p) (val_main_v35 (F := Ideal) p) b h _ _
    (log_back g gb hfin b h) (in_back g gb hfin b h) d _ (fun s => keys_back p b h s d) v _ (fun s => vals_back p b h s v)

/-- The matrix result. -/
theorem result_c (dir : Fin 2) (d v : Fin 128) : val_main_v63 (F := Ideal) p g gb (ix5 b dir h d v) = cOf p g gb b dir h d v := by
  rcases (by omega : dir = 0 ∨ dir = 1) with rfl | rfl
  · rw [← c_fwd p g gb hfin]
    generalize hX : val_main_v32 (F := Ideal) p g gb = X
    pointwise [val_main_v63, val_main_v61]
    rw [hX]
  · rw [← c_back p g gb hfin]
    generalize hX : val_main_v59 (F := Ideal) p g gb = X
    pointwise [val_main_v63, val_main_v62]
    rw [hX]

/-- The normaliser result. -/
theorem result_n (dir : Fin 2) (o : Fin 1) (d : Fin 128) : val_main_v70 (F := Ideal) p g gb (ix5 b dir h o d) = nOf p g gb b dir h d := by
  rcases (by omega : dir = 0 ∨ dir = 1) with rfl | rfl
  · rw [← n_fwd p g gb hfin]
    generalize hX : val_main_v33 (F := Ideal) p g gb = X
    pointwise [val_main_v70, val_main_v66, val_main_v64]
    rw [hX]
  · rw [← n_back p g gb hfin]
    generalize hX : val_main_v60 (F := Ideal) p g gb = X
    pointwise [val_main_v70, val_main_v66, val_main_v65]
    rw [hX]

/-- The result for the greatest log weight. -/
theorem result_m (dir : Fin 2) (o : Fin 1) (j : Fin 128) : val_main_v72 (F := Ideal) g gb (ix5 b dir h o j) = mOf g gb b dir h := by
  rcases (by omega : dir = 0 ∨ dir = 1) with rfl | rfl
  · rw [← m_fwd g gb hfin]
    generalize hX : val_main_v24 (F := Ideal) g gb = X
    pointwise [val_main_v72, val_main_v71, val_main_v69, val_main_v67]
    rw [hX]
  · rw [← m_back g gb hfin]
    generalize hX : val_main_v51 (F := Ideal) g gb = X
    pointwise [val_main_v72, val_main_v71, val_main_v69, val_main_v68]
    rw [hX]

end arguments

/-! ## The precondition -/

/-- A number below infinity in magnitude is real. -/
theorem real_of_lt (x : EReal) (h : Ideal.cmp .olt (max x (-x)) (Ideal.ofBits FTy.f32 0x7F800000#32) = 1#1) : ∃ r : ℝ, x = r := by
  have e : Ideal.ofBits FTy.f32 0x7F800000#32 = ⊤ := by simp [Ideal.ofBits, Ideal.ieee]
  rw [e] at h
  induction x with
  | bot => simp [Ideal.cmp] at h
  | coe r => exact ⟨r, rfl⟩
  | top => simp [Ideal.cmp] at h

/-- Both of two bits are set when their conjunction is. -/
theorem bits (x y : BitVec 1) (h : IntOp.andi x y = 1#1) : x = 1#1 ∧ y = 1#1 := by
  revert x y
  decide

/-- The precondition makes the projected gates and the biases real numbers. -/
theorem finite_of_pre (p : Vec Ideal S16x256x7680 .bf16) (g : Vec Ideal S16x256x1280 .f32) (gb : Vec Ideal S2x2x4 .f32) (ng : Vec Ideal S512 .f32) (j : Cert.Pre_finite_gates.S_.Idx)
    (h : Cert.Pre_finite_gates.fn (F := Ideal) p g gb ng j = 1#1) : Finite g gb := by
  have hsub : Subsingleton Cert.Pre_finite_gates.S_.Idx := ⟨fun a b => funext fun x => x.elim0⟩
  dsimp only [Cert.Pre_finite_gates.fn] at h
  obtain ⟨h2, h3⟩ := bits _ _ h
  refine ⟨fun b r e => ?_, fun d k e => ?_⟩
  · have h1 := Host.reduce_andi_all _ _ _ _ _ h2 (ix3 b r e)
    refine real_of_lt _ ?_
    refine Eq.trans ?_ h1
    pointwise
    rfl
  · have h1 := Host.reduce_andi_all _ _ _ _ _ h3 (ix3 d k e)
    refine real_of_lt _ ?_
    refine Eq.trans ?_ h1
    pointwise
    rfl

end Cert.MlstmReferenceIdeal.Hand
end
-- ==== Proof.MlstmClaim.lean ====
/- The mLSTM end states' value claim: each of the call's three states and the reference's are equal, element by element. -/
module

public import proofs.«01_k».proof.Defs
public import proofs.«01_k».proof.Proof.MlstmRef

@[expose] public section

set_option maxRecDepth 16384

noncomputable section

namespace Cert.MlstmHand

open Idealize.ShloMosaic Idealize.ShloMosaic.TcCoe Idealize.SL.Sem

/-- The value claim. -/
theorem value : Cert.algebraic_MlstmIdeal_MlstmReferenceIdeal_pre_finite_gates := fun m ρ m' ρ' hpre hag =>
  have finite (c : Dev Cert.MlstmIdeal.nD) : Cert.MlstmIdeal.Hand.Finite
      (m ((c : Thread Cert.MlstmIdeal.nD Cert.MlstmIdeal.τ).loc Cert.MlstmIdeal.main_arg1)) (m ((c : Thread Cert.MlstmIdeal.nD Cert.MlstmIdeal.τ).loc Cert.MlstmIdeal.main_arg2)) :=
    Cert.MlstmReferenceIdeal.Hand.finite_of_pre _ _ _ _ (Shape.Idx.first Cert.Pre_finite_gates.Gen.h_S_) (congrFun (hpre c) _)
  ⟨fun c => (Cert.MlstmIdeal.Gen.dats m 0 c).arrAt 11 Cert.MlstmIdeal.cfg0.N, fun c => (Cert.MlstmIdeal.Gen.dats m 0 c).arrAt 12 Cert.MlstmIdeal.cfg0.N,
    fun c => (Cert.MlstmIdeal.Gen.dats m 0 c).arrAt 13 Cert.MlstmIdeal.cfg0.N,
    Cert.MlstmIdeal.Hand.run_all m ρ,
    (θ_run _ _ _).mono (fun r hr c => ⟨((hr c).1.trans (by
      obtain ⟨a0, a1, a2, a3⟩ := hag c
      rw [Cert.MlstmReferenceIdeal.Read.val_main_v63_eq, a0, a1, a2]
      show _ = (Cert.MlstmIdeal.Gen.dats m 0 c).arrAt 11 Cert.MlstmIdeal.cfg0.N
      rw [Cert.MlstmIdeal.Hand.array11 m c (finite c)]
      funext y
      have ey : y = ix5 (y 0) (y 1) (y 2) (y 3) (y 4) := by
        funext a
        match a with
        | ⟨0, _⟩ => rfl
        | ⟨1, _⟩ => rfl
        | ⟨2, _⟩ => rfl
        | ⟨3, _⟩ => rfl
        | ⟨4, _⟩ => rfl
      exact (congrArg _ ey).trans (Cert.MlstmReferenceIdeal.Hand.result_c _ _ _ (finite c) (y 0) (y 2) (y 1) (y 3) (y 4)))),
      ((hr c).2.1.trans (by
      obtain ⟨a0, a1, a2, a3⟩ := hag c
      rw [Cert.MlstmReferenceIdeal.Read.val_main_v70_eq, a0, a1, a2]
      show _ = (Cert.MlstmIdeal.Gen.dats m 0 c).arrAt 12 Cert.MlstmIdeal.cfg0.N
      rw [Cert.MlstmIdeal.Hand.array12 m c (finite c)]
      funext y
      have ey : y = ix5 (y 0) (y 1) (y 2) (y 3) (y 4) := by
        funext a
        match a with
        | ⟨0, _⟩ => rfl
        | ⟨1, _⟩ => rfl
        | ⟨2, _⟩ => rfl
        | ⟨3, _⟩ => rfl
        | ⟨4, _⟩ => rfl
      exact (congrArg _ ey).trans (Cert.MlstmReferenceIdeal.Hand.result_n _ _ _ (finite c) (y 0) (y 2) (y 1) (y 3) (y 4)))),
      ((hr c).2.2.1.trans (by
      obtain ⟨a0, a1, a2, a3⟩ := hag c
      rw [Cert.MlstmReferenceIdeal.Read.val_main_v72_eq, a1, a2]
      show _ = (Cert.MlstmIdeal.Gen.dats m 0 c).arrAt 13 Cert.MlstmIdeal.cfg0.N
      rw [Cert.MlstmIdeal.Hand.array13 m c (finite c)]
      funext y
      have ey : y = ix5 (y 0) (y 1) (y 2) (y 3) (y 4) := by
        funext a
        match a with
        | ⟨0, _⟩ => rfl
        | ⟨1, _⟩ => rfl
        | ⟨2, _⟩ => rfl
        | ⟨3, _⟩ => rfl
        | ⟨4, _⟩ => rfl
      exact (congrArg _ ey).trans (Cert.MlstmReferenceIdeal.Hand.result_m _ _ (finite c) (y 0) (y 2) (y 1) (y 3) (y 4)))),
      (hr c).2.2.2⟩)
      (Cert.MlstmReferenceIdeal.Value.run m' ρ')⟩

/-- The end states' reference leaves its arguments as they were and every semaphore counter at zero, since it declares none. -/
theorem frame_R : Cert.quiescent_MlstmReferenceIdeal := fun m ρ _ =>
  (θ_run _ _ _).mono (fun r h => ⟨fun c => (h c).2.2.2, sem_eq_zero_of_no_sems (by decide) r.2⟩) (Cert.MlstmReferenceIdeal.Value.run (F := Ideal) m ρ)

end Cert.MlstmHand
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_scores
public import proofs.«01_k».proof.Proof.Gen.KernelIdeal.Value
public import proofs.«01_k».proof.Proof.Gen.ReferenceIdeal.Run
public import proofs.«01_k».proof.Proof.Gen.ReferenceIdeal.Read
public import proofs.«01_k».proof.Proof.AttnClaim
public import proofs.«01_k».proof.Proof.FfnClaim
public import proofs.«01_k».proof.Proof.MergeClaim
public import proofs.«01_k».proof.Proof.InProjClaim
public import proofs.«01_k».proof.Proof.InProjFrame
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeReferenceIdeal
public import proofs.«01_k».proof.Proof.Gen.MergeReferenceIdeal.Run
public import proofs.«01_k».proof.Proof.Gen.MergeReferenceIdeal.Read
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjReferenceIdeal
public import proofs.«01_k».proof.Proof.Gen.InProjReferenceIdeal.Run
public import proofs.«01_k».proof.Proof.Gen.InProjReferenceIdeal.Read
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.PrepIdeal.Value
public import proofs.«01_k».proof.Proof.Gen.PrepReferenceIdeal
public import proofs.«01_k».proof.Proof.Gen.PrepReferenceIdeal.Run
public import proofs.«01_k».proof.Proof.Gen.PrepReferenceIdeal.Read
public import proofs.«01_k».proof.Proof.Gen.Pre_finite_proj
public import Idealize.ShloMosaic.Adequacy
public import Idealize.ShloMosaic.Init
public import proofs.«01_k».proof.Proof.PrepClaim
public import proofs.«01_k».proof.Proof.FfnPromptClaim
public import proofs.«01_k».proof.Proof.MlstmClaim
public import proofs.«01_k».proof.Proof.Gen.FfnPrompt
public import proofs.«01_k».proof.Proof.Gen.FfnPrompt.Skeleton
public import proofs.«01_k».proof.Proof.Gen.FfnPrompt.Launch
public import proofs.«01_k».proof.Proof.Gen.FfnPrompt.Points
public import proofs.«01_k».proof.Proof.Gen.FfnPrompt.Frame
public import proofs.«01_k».proof.Proof.Gen.FfnPromptIdeal
public import proofs.«01_k».proof.Proof.Gen.FfnPromptIdeal.Skeleton
public import proofs.«01_k».proof.Proof.Gen.FfnPromptIdeal.Launch
public import proofs.«01_k».proof.Proof.Gen.FfnPromptIdeal.Points
public import proofs.«01_k».proof.Proof.Gen.FfnPromptIdeal.Frame
public import proofs.«01_k».proof.Proof.Gen.FfnPromptIdeal.Value
public import proofs.«01_k».proof.Proof.Gen.FfnPromptReferenceIdeal
public import proofs.«01_k».proof.Proof.Gen.FfnPromptReferenceIdeal.Run
public import proofs.«01_k».proof.Proof.Gen.FfnPromptReferenceIdeal.Read
public import proofs.«01_k».proof.Proof.Gen.Mlstm
public import proofs.«01_k».proof.Proof.Gen.Mlstm.Skeleton
public import proofs.«01_k».proof.Proof.Gen.Mlstm.Launch
public import proofs.«01_k».proof.Proof.Gen.Mlstm.Points
public import proofs.«01_k».proof.Proof.Gen.Mlstm.Frame
public import proofs.«01_k».proof.Proof.Gen.MlstmIdeal
public import proofs.«01_k».proof.Proof.Gen.MlstmIdeal.Skeleton
public import proofs.«01_k».proof.Proof.Gen.MlstmIdeal.Launch
public import proofs.«01_k».proof.Proof.Gen.MlstmIdeal.Points
public import proofs.«01_k».proof.Proof.Gen.MlstmIdeal.Frame
public import proofs.«01_k».proof.Proof.Gen.MlstmIdeal.Value
public import proofs.«01_k».proof.Proof.Gen.MlstmReferenceIdeal
public import proofs.«01_k».proof.Proof.Gen.MlstmReferenceIdeal.Run
public import proofs.«01_k».proof.Proof.Gen.MlstmReferenceIdeal.Read
public import proofs.«01_k».proof.Proof.Gen.Pre_finite_gates

@[expose] public section

noncomputable section

namespace Cert.Proof

open Idealize.ShloMosaic Idealize.SL.Sem Cert.Kernel

/-- The attention reference leaves its arguments as they were and every semaphore counter at zero, since it declares none. -/
theorem frame_R : Cert.quiescent_ReferenceIdeal := fun m ρ _ =>
  (θ_run _ _ _).mono (fun r h => ⟨fun c => (h c).2, sem_eq_zero_of_no_sems (by decide) r.2⟩) (Cert.ReferenceIdeal.Value.run (F := Ideal) m ρ)

/-- All claims of the certificate. -/
theorem claim : Cert.Claim := ⟨Cert.Kernel.Gen.facts, Cert.KernelIdeal.Gen.facts, Cert.ReferenceIdeal.Gen.facts, Cert.Ffn.Gen.facts, Cert.FfnIdeal.Gen.facts, Cert.FfnReferenceIdeal.Gen.facts, Cert.Merge.Gen.facts, Cert.MergeIdeal.Gen.facts, Cert.MergeReferenceIdeal.Gen.facts, Cert.InProj.Gen.facts, Cert.InProjIdeal.Gen.facts, Cert.InProjReferenceIdeal.Gen.facts, Cert.Prep.Gen.facts, Cert.PrepIdeal.Gen.facts, Cert.PrepReferenceIdeal.Gen.facts, Cert.FfnPrompt.Gen.facts, Cert.FfnPromptIdeal.Gen.facts, Cert.FfnPromptReferenceIdeal.Gen.facts, Cert.Mlstm.Gen.facts, Cert.MlstmIdeal.Gen.facts, Cert.MlstmReferenceIdeal.Gen.facts, Cert.Pre_finite_scores.Gen.facts, Cert.Pre_finite_proj.Gen.facts, Cert.Pre_finite_gates.Gen.facts,
  fun m ρ _ => Cert.Kernel.Gen.frame m ρ,
  fun m ρ _ => Cert.KernelIdeal.Gen.frame m ρ,
  fun m ρ _ => Cert.KernelIdeal.Gen.frame m ρ,
  frame_R,
  fun m ρ _ => frame_R m ρ trivial,
  fun m ρ _ => Cert.Ffn.Gen.frame m ρ,
  fun m ρ _ => Cert.FfnIdeal.Gen.frame m ρ,
  Cert.FfnHand.frame_R,
  fun m ρ _ => Cert.Merge.Gen.frame m ρ,
  fun m ρ _ => Cert.MergeIdeal.Gen.frame m ρ,
  Cert.MergeHand.frame_R,
  fun m ρ _ => Cert.InProj.Hand.frame m ρ,
  fun m ρ _ => Cert.InProjIdeal.Hand.frame m ρ,
  Cert.InProjHand.frame_R,
  fun m ρ _ => Cert.Prep.Gen.frame m ρ,
  fun m ρ _ => Cert.PrepIdeal.Gen.frame m ρ,
  fun m ρ _ => Cert.PrepIdeal.Gen.frame m ρ,
  Cert.PrepHand.frame_R,
  fun m ρ _ => Cert.PrepHand.frame_R m ρ trivial,
  fun m ρ _ => Cert.FfnPrompt.Gen.frame m ρ,
  fun m ρ _ => Cert.FfnPromptIdeal.Gen.frame m ρ,
  Cert.FfnPromptHand.frame_R,
  fun m ρ _ => Cert.Mlstm.Gen.frame m ρ,
  fun m ρ _ => Cert.MlstmIdeal.Gen.frame m ρ,
  fun m ρ _ => Cert.MlstmIdeal.Gen.frame m ρ,
  Cert.MlstmHand.frame_R,
  fun m ρ _ => Cert.MlstmHand.frame_R m ρ trivial,
  trivial,
  Cert.Attn.value,
  trivial,
  Cert.FfnHand.value,
  trivial,
  Cert.MergeHand.value,
  trivial,
  Cert.InProjHand.value,
  trivial,
  Cert.PrepHand.value,
  trivial,
  Cert.FfnPromptHand.value,
  trivial,
  Cert.MlstmHand.value⟩

end Cert.Proof

end
